-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)) (v4 : (c : Dev Cert.Kernel2Ideal.nD) → Buf (Elt Ideal) ((c.tc : Thread Cert.Kernel2Ideal.nD Cert.Kernel2Ideal.τ).loc Cert.Kernel2Ideal.main_v4_4)) (v5 : (c : Dev Cert.Kernel2Ideal.nD) → Buf (Elt Ideal) ((c.tc : Thread Cert.Kernel2Ideal.nD Cert.Kernel2Ideal.τ).loc Cert.Kernel2Ideal.main_v4_5)) (v6 : (c : Dev Cert.Kernel2Ideal.nD) → Buf (Elt Ideal) ((c.tc : Thread Cert.Kernel2Ideal.nD Cert.Kernel2Ideal.τ).loc Cert.Kernel2Ideal.main_v4_6)) (v7 : (c : Dev Cert.Kernel2Ideal.nD) → Buf (Elt Ideal) ((c.tc : Thread Cert.Kernel2Ideal.nD Cert.Kernel2Ideal.τ).loc Cert.Kernel2Ideal.main_v4_7)) (v8 : (c : Dev Cert.Kernel2Ideal.nD) → Buf (Elt Ideal) ((c.tc : Thread Cert.Kernel2Ideal.nD Cert.Kernel2Ideal.τ).loc Cert.Kernel2Ideal.main_v4_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_v4_4) = v4 c
          ∧ r.2.mem ((c.tc : Thread Cert.Kernel2Ideal.nD Cert.Kernel2Ideal.τ).loc Cert.Kernel2Ideal.main_v4_5) = v5 c
          ∧ r.2.mem ((c.tc : Thread Cert.Kernel2Ideal.nD Cert.Kernel2Ideal.τ).loc Cert.Kernel2Ideal.main_v4_6) = v6 c
          ∧ r.2.mem ((c.tc : Thread Cert.Kernel2Ideal.nD Cert.Kernel2Ideal.τ).loc Cert.Kernel2Ideal.main_v4_7) = v7 c
          ∧ r.2.mem ((c.tc : Thread Cert.Kernel2Ideal.nD Cert.Kernel2Ideal.τ).loc Cert.Kernel2Ideal.main_v4_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg3) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v9) = v3 c
          ∧ r.2.mem ((c.tc : Thread Cert.Reference2Ideal.nD Cert.Reference2Ideal.τ).loc Cert.Reference2Ideal.main_v15) = v4 c
          ∧ r.2.mem ((c.tc : Thread Cert.Reference2Ideal.nD Cert.Reference2Ideal.τ).loc Cert.Reference2Ideal.main_arg7) = v5 c
          ∧ r.2.mem ((c.tc : Thread Cert.Reference2Ideal.nD Cert.Reference2Ideal.τ).loc Cert.Reference2Ideal.main_v52) = v6 c
          ∧ r.2.mem ((c.tc : Thread Cert.Reference2Ideal.nD Cert.Reference2Ideal.τ).loc Cert.Reference2Ideal.main_v33) = v7 c
          ∧ r.2.mem ((c.tc : Thread Cert.Reference2Ideal.nD Cert.Reference2Ideal.τ).loc Cert.Reference2Ideal.main_v39) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_arg1) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_v10) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_arg1) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg1) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v36) = v0 c
          ∧ r.2.mem ((c.tc : Thread Cert.Reference16Ideal.nD Cert.Reference16Ideal.τ).loc Cert.Reference16Ideal.main_v18) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S4096x4096 : Shape := ⟨2, ![4096, 4096]⟩
abbrev S4096x14336 : Shape := ⟨2, ![4096, 14336]⟩
abbrev S512x2048 : Shape := ⟨2, ![512, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x14336 : S_.BroadcastsInDim S4096x14336 (![] : Fin 0 → Fin S4096x14336.rank)
  reducesTo_S4096x14336_S_d0_1 : S4096x14336.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S4096x4096 .f32) (main_arg1 : FVec F S4096x14336 .bf16) (main_arg2 : FVec F S512x2048 .f32) (main_arg3 : FVec F S4096x14336 .bf16) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x14336 .bf16 := Host.absf main_arg1
  let main_cst_0 : FVec F S_ .bf16 := constant S_ .bf16 0x7F80#16
  let main_v5 : FVec F S4096x14336 .bf16 := broadcastInDim S4096x14336 ![] bcast_S_S4096x14336 main_cst_0
  let main_v6 : IVec S4096x14336 1 := cmpf .olt main_v4 main_v5
  let main_c_1 : IVec S_ 1 := constantI S_ 1 1#1
  let main_v7 : IVec S_ 1 := (fun x v => Host.reduce IntOp.andi x v reducesTo_S4096x14336_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  main_v13
-- ==== Kernel.lean ====
abbrev S4096x4096 : Shape := ⟨2, ![4096, 4096]⟩
abbrev S4096x14336 : Shape := ⟨2, ![4096, 14336]⟩
abbrev S512x2048 : Shape := ⟨2, ![512, 2048]⟩
abbrev S2048 : Shape := ⟨1, ![2048]⟩
abbrev S_ : Shape := ⟨0, ![]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S2048x256 : Shape := ⟨2, ![2048, 256]⟩
abbrev S256 : Shape := ⟨1, ![256]⟩
abbrev S256x1 : Shape := ⟨2, ![256, 1]⟩
abbrev S256x128 : Shape := ⟨2, ![256, 128]⟩
abbrev S256x256 : Shape := ⟨2, ![256, 256]⟩
abbrev S2x2048x14336 : Shape := ⟨3, ![2, 2048, 14336]⟩
abbrev S2x2048x4096 : Shape := ⟨3, ![2, 2048, 4096]⟩
abbrev S2x256x2048 : Shape := ⟨3, ![2, 256, 2048]⟩
abbrev S2x256x1024 : Shape := ⟨3, ![2, 256, 1024]⟩
abbrev S1x1024x256 : Shape := ⟨3, ![1, 1024, 256]⟩
abbrev S1x256x256 : Shape := ⟨3, ![1, 256, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 58
  | .vmem => 23
  | .smem => 0
  | _ => 0

abbrev bufTy : (tb : Table) → Fin (tcTables nBuf tb) → BufTy
  | .hbm, ⟨0, _⟩ => ⟨S4096x4096, .f32⟩
  | .hbm, ⟨1, _⟩ => ⟨S4096x14336, .bf16⟩
  | .hbm, ⟨2, _⟩ => ⟨S512x2048, .f32⟩
  | .hbm, ⟨3, _⟩ => ⟨S4096x14336, .bf16⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S2048, .f32⟩
  | .hbm, ⟨19, _⟩ => ⟨S2048x1, .f32⟩
  | .hbm, ⟨20, _⟩ => ⟨S1x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S2048x256, .f32⟩
  | .hbm, ⟨27, _⟩ => ⟨S2048x128, .f32⟩
  | .hbm, ⟨28, _⟩ => ⟨S2048x256, .f32⟩
  | .hbm, ⟨29, _⟩ => ⟨S256, .i32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S256, .f32⟩
  | .hbm, ⟨41, _⟩ => ⟨S256x1, .f32⟩
  | .hbm, ⟨42, _⟩ => ⟨S1x128, .f32⟩
  | .hbm, ⟨43, _⟩ => ⟨S256x128, .f32⟩
  | .hbm, ⟨44, _⟩ => ⟨S256x128, .f32⟩
  | .hbm, ⟨45, _⟩ => ⟨S256x128, .f32⟩
  | .hbm, ⟨46, _⟩ => ⟨S256x128, .f32⟩
  | .hbm, ⟨47, _⟩ => ⟨S256x128, .f32⟩
  | .hbm, ⟨48, _⟩ => ⟨S256x256, .f32⟩
  | .hbm, ⟨49, _⟩ => ⟨S256x128, .f32⟩
  | .hbm, ⟨50, _⟩ => ⟨S256x256, .f32⟩
  | .hbm, ⟨51, _⟩ => ⟨S2x2048x14336, .bf16⟩
  | .hbm, ⟨52, _⟩ => ⟨S2x2048x14336, .bf16⟩
  | .hbm, ⟨53, _⟩ => ⟨S2x2048x4096, .f32⟩
  | .hbm, ⟨54, _⟩ => ⟨S2x256x2048, .f32⟩
  | .hbm, ⟨55, _⟩ => ⟨S2x2048x14336, .bf16⟩
  | .hbm, ⟨56, _⟩ => ⟨S2x256x1024, .f32⟩
  | .hbm, ⟨57, _⟩ => ⟨S2x256x1024, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S256x256, .f32⟩
  | .local _ .vmem, ⟨15, _⟩ => ⟨S256x256, .f32⟩
  | .local _ .vmem, ⟨16, _⟩ => ⟨S1x1024x256, .bf16⟩
  | .local _ .vmem, ⟨17, _⟩ => ⟨S1x1024x256, .bf16⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44_0 : Ref sig .tc := ⟨.hbm, 55, rfl⟩
abbrev main_v44_1 : Ref sig .tc := ⟨.hbm, 56, rfl⟩
abbrev main_v44_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨4, ![2, 4, 2, 2], ![false, false, false, false]⟩

def k0_cond2 (i : grid0.Coords) : BitVec 1 :=
  let arg3 : BitVec 32 := BitVec.ofNat 32 (i 3).val
  let c0_i32_2 : BitVec 32 := 0#32
  let v5 : BitVec 1 := Scalar.cmpi .eq arg3 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg3 : BitVec 32 := BitVec.ofNat 32 (i 3).val
  let c1_i32 : BitVec 32 := 1#32
  let v8 : BitVec 1 := Scalar.cmpi .eq arg3 c1_i32
  let v9 : BitVec 32 := Scalar.extui v8
  let c0_i32_4 : BitVec 32 := 0#32
  let v10 : BitVec 1 := Scalar.cmpi .ne v9 c0_i32_4
  v10

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let arg3 : BitVec 32 := BitVec.ofNat 32 (i 3).val
  let c0_i32_0 : BitVec 32 := 0#32
  let v1 : BitVec 1 := Scalar.cmpi .eq arg3 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond4 (i : grid0.Coords) : BitVec 1 :=
  let arg2 : BitVec 32 := BitVec.ofNat 32 (i 2).val
  let c1_i32_5 : BitVec 32 := 1#32
  let v11 : BitVec 1 := Scalar.cmpi .eq arg2 c1_i32_5
  let arg3 : BitVec 32 := BitVec.ofNat 32 (i 3).val
  let c1_i32_6 : BitVec 32 := 1#32
  let v12 : BitVec 1 := Scalar.cmpi .eq arg3 c1_i32_6
  let v13 : BitVec 1 := Scalar.andi v11 v12
  let v14 : BitVec 32 := Scalar.extui v13
  let c0_i32_7 : BitVec 32 := 0#32
  let v15 : BitVec 1 := Scalar.cmpi .ne v14 c0_i32_7
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let v4 : BitVec 1 := Scalar.cmpi .sgt arg3 c0_i32
  let c1_i32 : BitVec 32 := 1#32
  let c0_i32_0 : BitVec 32 := 0#32
  let v5 : BitVec 32 := Scalar.select v4 c1_i32 c0_i32_0
  let v6 : BitVec 32 := Scalar.addi v3 v5
  let c15_i32 : BitVec 32 := 15#32
  let v7 : BitVec 32 := Scalar.minsi v6 c15_i32
  let c8_i32 : BitVec 32 := 8#32
  let v8 : BitVec 32 := Scalar.divsi v7 c8_i32
  let c0_i32_1 : BitVec 32 := 0#32
  let v9 : BitVec 1 := Scalar.cmpi .sgt v7 c0_i32_1
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c0_i32_3 : BitVec 32 := 0#32
  let v14 : BitVec 1 := Scalar.cmpi .sgt c8_i32 c0_i32_3
  let v15 : BitVec 32 := Scalar.extui v14
  let c0_i32_4 : BitVec 32 := 0#32
  let v16 : BitVec 1 := Scalar.cmpi .slt c8_i32 c0_i32_4
  let v17 : BitVec 32 := Scalar.extui v16
  let v18 : BitVec 32 := Scalar.subi v15 v17
  let v19 : BitVec 1 := Scalar.cmpi .ne v13 v18
  let v20 : BitVec 32 := Scalar.remsi v7 c8_i32
  let c0_i32_5 : BitVec 32 := 0#32
  let v21 : BitVec 1 := Scalar.cmpi .ne v20 c0_i32_5
  let v22 : BitVec 1 := Scalar.andi v19 v21
  let c1_i32_6 : BitVec 32 := 1#32
  let v23 : BitVec 32 := Scalar.subi v8 c1_i32_6
  let v24 : BitVec 32 := Scalar.select v22 v23 v8
  let c2_i32_7 : BitVec 32 := 2#32
  let v25 : BitVec 32 := Scalar.divsi v7 c2_i32_7
  let c0_i32_8 : BitVec 32 := 0#32
  let v26 : BitVec 1 := Scalar.cmpi .sgt v7 c0_i32_8
  let v27 : BitVec 32 := Scalar.extui v26
  let c0_i32_9 : BitVec 32 := 0#32
  let v28 : BitVec 1 := Scalar.cmpi .slt v7 c0_i32_9
  let v29 : BitVec 32 := Scalar.extui v28
  let v30 : BitVec 32 := Scalar.subi v27 v29
  let c0_i32_10 : BitVec 32 := 0#32
  let v31 : BitVec 1 := Scalar.cmpi .sgt c2_i32_7 c0_i32_10
  let v32 : BitVec 32 := Scalar.extui v31
  let c0_i32_11 : BitVec 32 := 0#32
  let v33 : BitVec 1 := Scalar.cmpi .slt c2_i32_7 c0_i32_11
  let v34 : BitVec 32 := Scalar.extui v33
  let v35 : BitVec 32 := Scalar.subi v32 v34
  let v36 : BitVec 1 := Scalar.cmpi .ne v30 v35
  let v37 : BitVec 32 := Scalar.remsi v7 c2_i32_7
  let c0_i32_12 : BitVec 32 := 0#32
  let v38 : BitVec 1 := Scalar.cmpi .ne v37 c0_i32_12
  let v39 : BitVec 1 := Scalar.andi v36 v38
  let c1_i32_13 : BitVec 32 := 1#32
  let v40 : BitVec 32 := Scalar.subi v25 c1_i32_13
  let v41 : BitVec 32 := Scalar.select v39 v40 v25
  let c4_i32_14 : BitVec 32 := 4#32
  let c0_i32_15 : BitVec 32 := 0#32
  let v42 : BitVec 1 := Scalar.cmpi .eq c4_i32_14 c0_i32_15
  let c1_i32_16 : BitVec 32 := 1#32
  let v43 : BitVec 32 := Scalar.select v42 c1_i32_16 c4_i32_14
  let v44 : BitVec 32 := Scalar.remsi v41 v43
  let c0_i32_17 : BitVec 32 := 0#32
  let v45 : BitVec 1 := Scalar.cmpi .ne v44 c0_i32_17
  let c0_i32_18 : BitVec 32 := 0#32
  let v46 : BitVec 1 := Scalar.cmpi .slt v44 c0_i32_18
  let c0_i32_19 : BitVec 32 := 0#32
  let v47 : BitVec 1 := Scalar.cmpi .slt v43 c0_i32_19
  let v48 : BitVec 1 := Scalar.xori v46 v47
  let v49 : BitVec 1 := Scalar.andi v48 v45
  let v50 : BitVec 32 := Scalar.addi v44 v43
  let v51 : BitVec 32 := Scalar.select v49 v50 v44
  let c2_i32_20 : BitVec 32 := 2#32
  let c0_i32_21 : BitVec 32 := 0#32
  let v52 : BitVec 1 := Scalar.cmpi .eq c2_i32_20 c0_i32_21
  let c1_i32_22 : BitVec 32 := 1#32
  let v53 : BitVec 32 := Scalar.select v52 c1_i32_22 c2_i32_20
  let v54 : BitVec 32 := Scalar.remsi v7 v53
  let c0_i32_23 : BitVec 32 := 0#32
  let v55 : BitVec 1 := Scalar.cmpi .ne v54 c0_i32_23
  let c0_i32_24 : BitVec 32 := 0#32
  let v56 : BitVec 1 := Scalar.cmpi .slt v54 c0_i32_24
  let c0_i32_25 : BitVec 32 := 0#32
  let v57 : BitVec 1 := Scalar.cmpi .slt v53 c0_i32_25
  let v58 : BitVec 1 := Scalar.xori v56 v57
  let v59 : BitVec 1 := Scalar.andi v58 v55
  let v60 : BitVec 32 := Scalar.addi v54 v53
  let v61 : BitVec 32 := Scalar.select v59 v60 v54
  let c12_i32 : BitVec 32 := 12#32
  let v62 : BitVec 32 := Scalar.addi c12_i32 v51
  let c0_i32_26 : BitVec 32 := 0#32
  ![v24.toNat, v61.toNat, v62.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let v4 : BitVec 1 := Scalar.cmpi .sgt arg3 c0_i32
  let c1_i32 : BitVec 32 := 1#32
  let c0_i32_0 : BitVec 32 := 0#32
  let v5 : BitVec 32 := Scalar.select v4 c1_i32 c0_i32_0
  let v6 : BitVec 32 := Scalar.addi v3 v5
  let c15_i32 : BitVec 32 := 15#32
  let v7 : BitVec 32 := Scalar.minsi v6 c15_i32
  let c8_i32 : BitVec 32 := 8#32
  let v8 : BitVec 32 := Scalar.divsi v7 c8_i32
  let c0_i32_1 : BitVec 32 := 0#32
  let v9 : BitVec 1 := Scalar.cmpi .sgt v7 c0_i32_1
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c0_i32_3 : BitVec 32 := 0#32
  let v14 : BitVec 1 := Scalar.cmpi .sgt c8_i32 c0_i32_3
  let v15 : BitVec 32 := Scalar.extui v14
  let c0_i32_4 : BitVec 32 := 0#32
  let v16 : BitVec 1 := Scalar.cmpi .slt c8_i32 c0_i32_4
  let v17 : BitVec 32 := Scalar.extui v16
  let v18 : BitVec 32 := Scalar.subi v15 v17
  let v19 : BitVec 1 := Scalar.cmpi .ne v13 v18
  let v20 : BitVec 32 := Scalar.remsi v7 c8_i32
  let c0_i32_5 : BitVec 32 := 0#32
  let v21 : BitVec 1 := Scalar.cmpi .ne v20 c0_i32_5
  let v22 : BitVec 1 := Scalar.andi v19 v21
  let c1_i32_6 : BitVec 32 := 1#32
  let v23 : BitVec 32 := Scalar.subi v8 c1_i32_6
  let v24 : BitVec 32 := Scalar.select v22 v23 v8
  let c2_i32_7 : BitVec 32 := 2#32
  let v25 : BitVec 32 := Scalar.divsi v7 c2_i32_7
  let c0_i32_8 : BitVec 32 := 0#32
  let v26 : BitVec 1 := Scalar.cmpi .sgt v7 c0_i32_8
  let v27 : BitVec 32 := Scalar.extui v26
  let c0_i32_9 : BitVec 32 := 0#32
  let v28 : BitVec 1 := Scalar.cmpi .slt v7 c0_i32_9
  let v29 : BitVec 32 := Scalar.extui v28
  let v30 : BitVec 32 := Scalar.subi v27 v29
  let c0_i32_10 : BitVec 32 := 0#32
  let v31 : BitVec 1 := Scalar.cmpi .sgt c2_i32_7 c0_i32_10
  let v32 : BitVec 32 := Scalar.extui v31
  let c0_i32_11 : BitVec 32 := 0#32
  let v33 : BitVec 1 := Scalar.cmpi .slt c2_i32_7 c0_i32_11
  let v34 : BitVec 32 := Scalar.extui v33
  let v35 : BitVec 32 := Scalar.subi v32 v34
  let v36 : BitVec 1 := Scalar.cmpi .ne v30 v35
  let v37 : BitVec 32 := Scalar.remsi v7 c2_i32_7
  let c0_i32_12 : BitVec 32 := 0#32
  let v38 : BitVec 1 := Scalar.cmpi .ne v37 c0_i32_12
  let v39 : BitVec 1 := Scalar.andi v36 v38
  let c1_i32_13 : BitVec 32 := 1#32
  let v40 : BitVec 32 := Scalar.subi v25 c1_i32_13
  let v41 : BitVec 32 := Scalar.select v39 v40 v25
  let c4_i32_14 : BitVec 32 := 4#32
  let c0_i32_15 : BitVec 32 := 0#32
  let v42 : BitVec 1 := Scalar.cmpi .eq c4_i32_14 c0_i32_15
  let c1_i32_16 : BitVec 32 := 1#32
  let v43 : BitVec 32 := Scalar.select v42 c1_i32_16 c4_i32_14
  let v44 : BitVec 32 := Scalar.remsi v41 v43
  let c0_i32_17 : BitVec 32 := 0#32
  let v45 : BitVec 1 := Scalar.cmpi .ne v44 c0_i32_17
  let c0_i32_18 : BitVec 32 := 0#32
  let v46 : BitVec 1 := Scalar.cmpi .slt v44 c0_i32_18
  let c0_i32_19 : BitVec 32 := 0#32
  let v47 : BitVec 1 := Scalar.cmpi .slt v43 c0_i32_19
  let v48 : BitVec 1 := Scalar.xori v46 v47
  let v49 : BitVec 1 := Scalar.andi v48 v45
  let v50 : BitVec 32 := Scalar.addi v44 v43
  let v51 : BitVec 32 := Scalar.select v49 v50 v44
  let c2_i32_20 : BitVec 32 := 2#32
  let c0_i32_21 : BitVec 32 := 0#32
  let v52 : BitVec 1 := Scalar.cmpi .eq c2_i32_20 c0_i32_21
  let c1_i32_22 : BitVec 32 := 1#32
  let v53 : BitVec 32 := Scalar.select v52 c1_i32_22 c2_i32_20
  let v54 : BitVec 32 := Scalar.remsi v7 v53
  let c0_i32_23 : BitVec 32 := 0#32
  let v55 : BitVec 1 := Scalar.cmpi .ne v54 c0_i32_23
  let c0_i32_24 : BitVec 32 := 0#32
  let v56 : BitVec 1 := Scalar.cmpi .slt v54 c0_i32_24
  let c0_i32_25 : BitVec 32 := 0#32
  let v57 : BitVec 1 := Scalar.cmpi .slt v53 c0_i32_25
  let v58 : BitVec 1 := Scalar.xori v56 v57
  let v59 : BitVec 1 := Scalar.andi v58 v55
  let v60 : BitVec 32 := Scalar.addi v54 v53
  let v61 : BitVec 32 := Scalar.select v59 v60 v54
  let c48_i32 : BitVec 32 := 48#32
  let v62 : BitVec 32 := Scalar.addi c48_i32 v51
  let c0_i32_26 : BitVec 32 := 0#32
  ![v24.toNat, v61.toNat, v62.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let v4 : BitVec 1 := Scalar.cmpi .sgt arg3 c0_i32
  let c1_i32 : BitVec 32 := 1#32
  let c0_i32_0 : BitVec 32 := 0#32
  let v5 : BitVec 32 := Scalar.select v4 c1_i32 c0_i32_0
  let v6 : BitVec 32 := Scalar.addi v3 v5
  let c15_i32 : BitVec 32 := 15#32
  let v7 : BitVec 32 := Scalar.minsi v6 c15_i32
  let c8_i32 : BitVec 32 := 8#32
  let v8 : BitVec 32 := Scalar.divsi v7 c8_i32
  let c0_i32_1 : BitVec 32 := 0#32
  let v9 : BitVec 1 := Scalar.cmpi .sgt v7 c0_i32_1
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c0_i32_3 : BitVec 32 := 0#32
  let v14 : BitVec 1 := Scalar.cmpi .sgt c8_i32 c0_i32_3
  let v15 : BitVec 32 := Scalar.extui v14
  let c0_i32_4 : BitVec 32 := 0#32
  let v16 : BitVec 1 := Scalar.cmpi .slt c8_i32 c0_i32_4
  let v17 : BitVec 32 := Scalar.extui v16
  let v18 : BitVec 32 := Scalar.subi v15 v17
  let v19 : BitVec 1 := Scalar.cmpi .ne v13 v18
  let v20 : BitVec 32 := Scalar.remsi v7 c8_i32
  let c0_i32_5 : BitVec 32 := 0#32
  let v21 : BitVec 1 := Scalar.cmpi .ne v20 c0_i32_5
  let v22 : BitVec 1 := Scalar.andi v19 v21
  let c1_i32_6 : BitVec 32 := 1#32
  let v23 : BitVec 32 := Scalar.subi v8 c1_i32_6
  let v24 : BitVec 32 := Scalar.select v22 v23 v8
  let c2_i32_7 : BitVec 32 := 2#32
  let v25 : BitVec 32 := Scalar.divsi v7 c2_i32_7
  let c0_i32_8 : BitVec 32 := 0#32
  let v26 : BitVec 1 := Scalar.cmpi .sgt v7 c0_i32_8
  let v27 : BitVec 32 := Scalar.extui v26
  let c0_i32_9 : BitVec 32 := 0#32
  let v28 : BitVec 1 := Scalar.cmpi .slt v7 c0_i32_9
  let v29 : BitVec 32 := Scalar.extui v28
  let v30 : BitVec 32 := Scalar.subi v27 v29
  let c0_i32_10 : BitVec 32 := 0#32
  let v31 : BitVec 1 := Scalar.cmpi .sgt c2_i32_7 c0_i32_10
  let v32 : BitVec 32 := Scalar.extui v31
  let c0_i32_11 : BitVec 32 := 0#32
  let v33 : BitVec 1 := Scalar.cmpi .slt c2_i32_7 c0_i32_11
  let v34 : BitVec 32 := Scalar.extui v33
  let v35 : BitVec 32 := Scalar.subi v32 v34
  let v36 : BitVec 1 := Scalar.cmpi .ne v30 v35
  let v37 : BitVec 32 := Scalar.remsi v7 c2_i32_7
  let c0_i32_12 : BitVec 32 := 0#32
  let v38 : BitVec 1 := Scalar.cmpi .ne v37 c0_i32_12
  let v39 : BitVec 1 := Scalar.andi v36 v38
  let c1_i32_13 : BitVec 32 := 1#32
  let v40 : BitVec 32 := Scalar.subi v25 c1_i32_13
  let v41 : BitVec 32 := Scalar.select v39 v40 v25
  let c4_i32_14 : BitVec 32 := 4#32
  let c0_i32_15 : BitVec 32 := 0#32
  let v42 : BitVec 1 := Scalar.cmpi .eq c4_i32_14 c0_i32_15
  let c1_i32_16 : BitVec 32 := 1#32
  let v43 : BitVec 32 := Scalar.select v42 c1_i32_16 c4_i32_14
  let v44 : BitVec 32 := Scalar.remsi v41 v43
  let c0_i32_17 : BitVec 32 := 0#32
  let v45 : BitVec 1 := Scalar.cmpi .ne v44 c0_i32_17
  let c0_i32_18 : BitVec 32 := 0#32
  let v46 : BitVec 1 := Scalar.cmpi .slt v44 c0_i32_18
  let c0_i32_19 : BitVec 32 := 0#32
  let v47 : BitVec 1 := Scalar.cmpi .slt v43 c0_i32_19
  let v48 : BitVec 1 := Scalar.xori v46 v47
  let v49 : BitVec 1 := Scalar.andi v48 v45
  let v50 : BitVec 32 := Scalar.addi v44 v43
  let v51 : BitVec 32 := Scalar.select v49 v50 v44
  let c2_i32_20 : BitVec 32 := 2#32
  let c0_i32_21 : BitVec 32 := 0#32
  let v52 : BitVec 1 := Scalar.cmpi .eq c2_i32_20 c0_i32_21
  let c1_i32_22 : BitVec 32 := 1#32
  let v53 : BitVec 32 := Scalar.select v52 c1_i32_22 c2_i32_20
  let v54 : BitVec 32 := Scalar.remsi v7 v53
  let c0_i32_23 : BitVec 32 := 0#32
  let v55 : BitVec 1 := Scalar.cmpi .ne v54 c0_i32_23
  let c0_i32_24 : BitVec 32 := 0#32
  let v56 : BitVec 1 := Scalar.cmpi .slt v54 c0_i32_24
  let c0_i32_25 : BitVec 32 := 0#32
  let v57 : BitVec 1 := Scalar.cmpi .slt v53 c0_i32_25
  let v58 : BitVec 1 := Scalar.xori v56 v57
  let v59 : BitVec 1 := Scalar.andi v58 v55
  let v60 : BitVec 32 := Scalar.addi v54 v53
  let v61 : BitVec 32 := Scalar.select v59 v60 v54
  let c52_i32 : BitVec 32 := 52#32
  let v62 : BitVec 32 := Scalar.addi c52_i32 v51
  let c0_i32_26 : BitVec 32 := 0#32
  ![v24.toNat, v61.toNat, v62.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let v4 : BitVec 1 := Scalar.cmpi .sgt arg3 c0_i32
  let c1_i32 : BitVec 32 := 1#32
  let c0_i32_0 : BitVec 32 := 0#32
  let v5 : BitVec 32 := Scalar.select v4 c1_i32 c0_i32_0
  let v6 : BitVec 32 := Scalar.addi v3 v5
  let c15_i32 : BitVec 32 := 15#32
  let v7 : BitVec 32 := Scalar.minsi v6 c15_i32
  let c8_i32 : BitVec 32 := 8#32
  let v8 : BitVec 32 := Scalar.divsi v7 c8_i32
  let c0_i32_1 : BitVec 32 := 0#32
  let v9 : BitVec 1 := Scalar.cmpi .sgt v7 c0_i32_1
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c0_i32_3 : BitVec 32 := 0#32
  let v14 : BitVec 1 := Scalar.cmpi .sgt c8_i32 c0_i32_3
  let v15 : BitVec 32 := Scalar.extui v14
  let c0_i32_4 : BitVec 32 := 0#32
  let v16 : BitVec 1 := Scalar.cmpi .slt c8_i32 c0_i32_4
  let v17 : BitVec 32 := Scalar.extui v16
  let v18 : BitVec 32 := Scalar.subi v15 v17
  let v19 : BitVec 1 := Scalar.cmpi .ne v13 v18
  let v20 : BitVec 32 := Scalar.remsi v7 c8_i32
  let c0_i32_5 : BitVec 32 := 0#32
  let v21 : BitVec 1 := Scalar.cmpi .ne v20 c0_i32_5
  let v22 : BitVec 1 := Scalar.andi v19 v21
  let c1_i32_6 : BitVec 32 := 1#32
  let v23 : BitVec 32 := Scalar.subi v8 c1_i32_6
  let v24 : BitVec 32 := Scalar.select v22 v23 v8
  let c2_i32_7 : BitVec 32 := 2#32
  let v25 : BitVec 32 := Scalar.divsi v7 c2_i32_7
  let c0_i32_8 : BitVec 32 := 0#32
  let v26 : BitVec 1 := Scalar.cmpi .sgt v7 c0_i32_8
  let v27 : BitVec 32 := Scalar.extui v26
  let c0_i32_9 : BitVec 32 := 0#32
  let v28 : BitVec 1 := Scalar.cmpi .slt v7 c0_i32_9
  let v29 : BitVec 32 := Scalar.extui v28
  let v30 : BitVec 32 := Scalar.subi v27 v29
  let c0_i32_10 : BitVec 32 := 0#32
  let v31 : BitVec 1 := Scalar.cmpi .sgt c2_i32_7 c0_i32_10
  let v32 : BitVec 32 := Scalar.extui v31
  let c0_i32_11 : BitVec 32 := 0#32
  let v33 : BitVec 1 := Scalar.cmpi .slt c2_i32_7 c0_i32_11
  let v34 : BitVec 32 := Scalar.extui v33
  let v35 : BitVec 32 := Scalar.subi v32 v34
  let v36 : BitVec 1 := Scalar.cmpi .ne v30 v35
  let v37 : BitVec 32 := Scalar.remsi v7 c2_i32_7
  let c0_i32_12 : BitVec 32 := 0#32
  let v38 : BitVec 1 := Scalar.cmpi .ne v37 c0_i32_12
  let v39 : BitVec 1 := Scalar.andi v36 v38
  let c1_i32_13 : BitVec 32 := 1#32
  let v40 : BitVec 32 := Scalar.subi v25 c1_i32_13
  let v41 : BitVec 32 := Scalar.select v39 v40 v25
  let c4_i32_14 : BitVec 32 := 4#32
  let c0_i32_15 : BitVec 32 := 0#32
  let v42 : BitVec 1 := Scalar.cmpi .eq c4_i32_14 c0_i32_15
  let c1_i32_16 : BitVec 32 := 1#32
  let v43 : BitVec 32 := Scalar.select v42 c1_i32_16 c4_i32_14
  let v44 : BitVec 32 := Scalar.remsi v41 v43
  let c0_i32_17 : BitVec 32 := 0#32
  let v45 : BitVec 1 := Scalar.cmpi .ne v44 c0_i32_17
  let c0_i32_18 : BitVec 32 := 0#32
  let v46 : BitVec 1 := Scalar.cmpi .slt v44 c0_i32_18
  let c0_i32_19 : BitVec 32 := 0#32
  let v47 : BitVec 1 := Scalar.cmpi .slt v43 c0_i32_19
  let v48 : BitVec 1 := Scalar.xori v46 v47
  let v49 : BitVec 1 := Scalar.andi v48 v45
  let v50 : BitVec 32 := Scalar.addi v44 v43
  let v51 : BitVec 32 := Scalar.select v49 v50 v44
  let c2_i32_20 : BitVec 32 := 2#32
  let c0_i32_21 : BitVec 32 := 0#32
  let v52 : BitVec 1 := Scalar.cmpi .eq c2_i32_20 c0_i32_21
  let c1_i32_22 : BitVec 32 := 1#32
  let v53 : BitVec 32 := Scalar.select v52 c1_i32_22 c2_i32_20
  let v54 : BitVec 32 := Scalar.remsi v7 v53
  let c0_i32_23 : BitVec 32 := 0#32
  let v55 : BitVec 1 := Scalar.cmpi .ne v54 c0_i32_23
  let c0_i32_24 : BitVec 32 := 0#32
  let v56 : BitVec 1 := Scalar.cmpi .slt v54 c0_i32_24
  let c0_i32_25 : BitVec 32 := 0#32
  let v57 : BitVec 1 := Scalar.cmpi .slt v53 c0_i32_25
  let v58 : BitVec 1 := Scalar.xori v56 v57
  let v59 : BitVec 1 := Scalar.andi v58 v55
  let v60 : BitVec 32 := Scalar.addi v54 v53
  let v61 : BitVec 32 := Scalar.select v59 v60 v54
  let c0_i32_26 : BitVec 32 := 0#32
  let v62 : BitVec 32 := Scalar.addi c0_i32_26 v51
  let c0_i32_27 : BitVec 32 := 0#32
  let c0_i32_28 : BitVec 32 := 0#32
  ![v24.toNat, c0_i32_27.toNat, v62.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let v4 : BitVec 1 := Scalar.cmpi .sgt arg3 c0_i32
  let c1_i32 : BitVec 32 := 1#32
  let c0_i32_0 : BitVec 32 := 0#32
  let v5 : BitVec 32 := Scalar.select v4 c1_i32 c0_i32_0
  let v6 : BitVec 32 := Scalar.addi v3 v5
  let c15_i32 : BitVec 32 := 15#32
  let v7 : BitVec 32 := Scalar.minsi v6 c15_i32
  let c8_i32 : BitVec 32 := 8#32
  let v8 : BitVec 32 := Scalar.divsi v7 c8_i32
  let c0_i32_1 : BitVec 32 := 0#32
  let v9 : BitVec 1 := Scalar.cmpi .sgt v7 c0_i32_1
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c0_i32_3 : BitVec 32 := 0#32
  let v14 : BitVec 1 := Scalar.cmpi .sgt c8_i32 c0_i32_3
  let v15 : BitVec 32 := Scalar.extui v14
  let c0_i32_4 : BitVec 32 := 0#32
  let v16 : BitVec 1 := Scalar.cmpi .slt c8_i32 c0_i32_4
  let v17 : BitVec 32 := Scalar.extui v16
  let v18 : BitVec 32 := Scalar.subi v15 v17
  let v19 : BitVec 1 := Scalar.cmpi .ne v13 v18
  let v20 : BitVec 32 := Scalar.remsi v7 c8_i32
  let c0_i32_5 : BitVec 32 := 0#32
  let v21 : BitVec 1 := Scalar.cmpi .ne v20 c0_i32_5
  let v22 : BitVec 1 := Scalar.andi v19 v21
  let c1_i32_6 : BitVec 32 := 1#32
  let v23 : BitVec 32 := Scalar.subi v8 c1_i32_6
  let v24 : BitVec 32 := Scalar.select v22 v23 v8
  let c2_i32_7 : BitVec 32 := 2#32
  let v25 : BitVec 32 := Scalar.divsi v7 c2_i32_7
  let c0_i32_8 : BitVec 32 := 0#32
  let v26 : BitVec 1 := Scalar.cmpi .sgt v7 c0_i32_8
  let v27 : BitVec 32 := Scalar.extui v26
  let c0_i32_9 : BitVec 32 := 0#32
  let v28 : BitVec 1 := Scalar.cmpi .slt v7 c0_i32_9
  let v29 : BitVec 32 := Scalar.extui v28
  let v30 : BitVec 32 := Scalar.subi v27 v29
  let c0_i32_10 : BitVec 32 := 0#32
  let v31 : BitVec 1 := Scalar.cmpi .sgt c2_i32_7 c0_i32_10
  let v32 : BitVec 32 := Scalar.extui v31
  let c0_i32_11 : BitVec 32 := 0#32
  let v33 : BitVec 1 := Scalar.cmpi .slt c2_i32_7 c0_i32_11
  let v34 : BitVec 32 := Scalar.extui v33
  let v35 : BitVec 32 := Scalar.subi v32 v34
  let v36 : BitVec 1 := Scalar.cmpi .ne v30 v35
  let v37 : BitVec 32 := Scalar.remsi v7 c2_i32_7
  let c0_i32_12 : BitVec 32 := 0#32
  let v38 : BitVec 1 := Scalar.cmpi .ne v37 c0_i32_12
  let v39 : BitVec 1 := Scalar.andi v36 v38
  let c1_i32_13 : BitVec 32 := 1#32
  let v40 : BitVec 32 := Scalar.subi v25 c1_i32_13
  let v41 : BitVec 32 := Scalar.select v39 v40 v25
  let c4_i32_14 : BitVec 32 := 4#32
  let c0_i32_15 : BitVec 32 := 0#32
  let v42 : BitVec 1 := Scalar.cmpi .eq c4_i32_14 c0_i32_15
  let c1_i32_16 : BitVec 32 := 1#32
  let v43 : BitVec 32 := Scalar.select v42 c1_i32_16 c4_i32_14
  let v44 : BitVec 32 := Scalar.remsi v41 v43
  let c0_i32_17 : BitVec 32 := 0#32
  let v45 : BitVec 1 := Scalar.cmpi .ne v44 c0_i32_17
  let c0_i32_18 : BitVec 32 := 0#32
  let v46 : BitVec 1 := Scalar.cmpi .slt v44 c0_i32_18
  let c0_i32_19 : BitVec 32 := 0#32
  let v47 : BitVec 1 := Scalar.cmpi .slt v43 c0_i32_19
  let v48 : BitVec 1 := Scalar.xori v46 v47
  let v49 : BitVec 1 := Scalar.andi v48 v45
  let v50 : BitVec 32 := Scalar.addi v44 v43
  let v51 : BitVec 32 := Scalar.select v49 v50 v44
  let c2_i32_20 : BitVec 32 := 2#32
  let c0_i32_21 : BitVec 32 := 0#32
  let v52 : BitVec 1 := Scalar.cmpi .eq c2_i32_20 c0_i32_21
  let c1_i32_22 : BitVec 32 := 1#32
  let v53 : BitVec 32 := Scalar.select v52 c1_i32_22 c2_i32_20
  let v54 : BitVec 32 := Scalar.remsi v7 v53
  let c0_i32_23 : BitVec 32 := 0#32
  let v55 : BitVec 1 := Scalar.cmpi .ne v54 c0_i32_23
  let c0_i32_24 : BitVec 32 := 0#32
  let v56 : BitVec 1 := Scalar.cmpi .slt v54 c0_i32_24
  let c0_i32_25 : BitVec 32 := 0#32
  let v57 : BitVec 1 := Scalar.cmpi .slt v53 c0_i32_25
  let v58 : BitVec 1 := Scalar.xori v56 v57
  let v59 : BitVec 1 := Scalar.andi v58 v55
  let v60 : BitVec 32 := Scalar.addi v54 v53
  let v61 : BitVec 32 := Scalar.select v59 v60 v54
  let c4_i32_26 : BitVec 32 := 4#32
  let v62 : BitVec 32 := Scalar.addi c4_i32_26 v51
  let c0_i32_27 : BitVec 32 := 0#32
  let c0_i32_28 : BitVec 32 := 0#32
  ![v24.toNat, c0_i32_27.toNat, v62.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let v4 : BitVec 1 := Scalar.cmpi .sgt arg3 c0_i32
  let c1_i32 : BitVec 32 := 1#32
  let c0_i32_0 : BitVec 32 := 0#32
  let v5 : BitVec 32 := Scalar.select v4 c1_i32 c0_i32_0
  let v6 : BitVec 32 := Scalar.addi v3 v5
  let c15_i32 : BitVec 32 := 15#32
  let v7 : BitVec 32 := Scalar.minsi v6 c15_i32
  let c8_i32 : BitVec 32 := 8#32
  let v8 : BitVec 32 := Scalar.divsi v7 c8_i32
  let c0_i32_1 : BitVec 32 := 0#32
  let v9 : BitVec 1 := Scalar.cmpi .sgt v7 c0_i32_1
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c0_i32_3 : BitVec 32 := 0#32
  let v14 : BitVec 1 := Scalar.cmpi .sgt c8_i32 c0_i32_3
  let v15 : BitVec 32 := Scalar.extui v14
  let c0_i32_4 : BitVec 32 := 0#32
  let v16 : BitVec 1 := Scalar.cmpi .slt c8_i32 c0_i32_4
  let v17 : BitVec 32 := Scalar.extui v16
  let v18 : BitVec 32 := Scalar.subi v15 v17
  let v19 : BitVec 1 := Scalar.cmpi .ne v13 v18
  let v20 : BitVec 32 := Scalar.remsi v7 c8_i32
  let c0_i32_5 : BitVec 32 := 0#32
  let v21 : BitVec 1 := Scalar.cmpi .ne v20 c0_i32_5
  let v22 : BitVec 1 := Scalar.andi v19 v21
  let c1_i32_6 : BitVec 32 := 1#32
  let v23 : BitVec 32 := Scalar.subi v8 c1_i32_6
  let v24 : BitVec 32 := Scalar.select v22 v23 v8
  let c2_i32_7 : BitVec 32 := 2#32
  let v25 : BitVec 32 := Scalar.divsi v7 c2_i32_7
  let c0_i32_8 : BitVec 32 := 0#32
  let v26 : BitVec 1 := Scalar.cmpi .sgt v7 c0_i32_8
  let v27 : BitVec 32 := Scalar.extui v26
  let c0_i32_9 : BitVec 32 := 0#32
  let v28 : BitVec 1 := Scalar.cmpi .slt v7 c0_i32_9
  let v29 : BitVec 32 := Scalar.extui v28
  let v30 : BitVec 32 := Scalar.subi v27 v29
  let c0_i32_10 : BitVec 32 := 0#32
  let v31 : BitVec 1 := Scalar.cmpi .sgt c2_i32_7 c0_i32_10
  let v32 : BitVec 32 := Scalar.extui v31
  let c0_i32_11 : BitVec 32 := 0#32
  let v33 : BitVec 1 := Scalar.cmpi .slt c2_i32_7 c0_i32_11
  let v34 : BitVec 32 := Scalar.extui v33
  let v35 : BitVec 32 := Scalar.subi v32 v34
  let v36 : BitVec 1 := Scalar.cmpi .ne v30 v35
  let v37 : BitVec 32 := Scalar.remsi v7 c2_i32_7
  let c0_i32_12 : BitVec 32 := 0#32
  let v38 : BitVec 1 := Scalar.cmpi .ne v37 c0_i32_12
  let v39 : BitVec 1 := Scalar.andi v36 v38
  let c1_i32_13 : BitVec 32 := 1#32
  let v40 : BitVec 32 := Scalar.subi v25 c1_i32_13
  let v41 : BitVec 32 := Scalar.select v39 v40 v25
  let c4_i32_14 : BitVec 32 := 4#32
  let c0_i32_15 : BitVec 32 := 0#32
  let v42 : BitVec 1 := Scalar.cmpi .eq c4_i32_14 c0_i32_15
  let c1_i32_16 : BitVec 32 := 1#32
  let v43 : BitVec 32 := Scalar.select v42 c1_i32_16 c4_i32_14
  let v44 : BitVec 32 := Scalar.remsi v41 v43
  let c0_i32_17 : BitVec 32 := 0#32
  let v45 : BitVec 1 := Scalar.cmpi .ne v44 c0_i32_17
  let c0_i32_18 : BitVec 32 := 0#32
  let v46 : BitVec 1 := Scalar.cmpi .slt v44 c0_i32_18
  let c0_i32_19 : BitVec 32 := 0#32
  let v47 : BitVec 1 := Scalar.cmpi .slt v43 c0_i32_19
  let v48 : BitVec 1 := Scalar.xori v46 v47
  let v49 : BitVec 1 := Scalar.andi v48 v45
  let v50 : BitVec 32 := Scalar.addi v44 v43
  let v51 : BitVec 32 := Scalar.select v49 v50 v44
  let c2_i32_20 : BitVec 32 := 2#32
  let c0_i32_21 : BitVec 32 := 0#32
  let v52 : BitVec 1 := Scalar.cmpi .eq c2_i32_20 c0_i32_21
  let c1_i32_22 : BitVec 32 := 1#32
  let v53 : BitVec 32 := Scalar.select v52 c1_i32_22 c2_i32_20
  let v54 : BitVec 32 := Scalar.remsi v7 v53
  let c0_i32_23 : BitVec 32 := 0#32
  let v55 : BitVec 1 := Scalar.cmpi .ne v54 c0_i32_23
  let c0_i32_24 : BitVec 32 := 0#32
  let v56 : BitVec 1 := Scalar.cmpi .slt v54 c0_i32_24
  let c0_i32_25 : BitVec 32 := 0#32
  let v57 : BitVec 1 := Scalar.cmpi .slt v53 c0_i32_25
  let v58 : BitVec 1 := Scalar.xori v56 v57
  let v59 : BitVec 1 := Scalar.andi v58 v55
  let v60 : BitVec 32 := Scalar.addi v54 v53
  let v61 : BitVec 32 := Scalar.select v59 v60 v54
  let c0_i32_26 : BitVec 32 := 0#32
  let c0_i32_27 : BitVec 32 := 0#32
  ![v61.toNat, c0_i32_26.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let v4 : BitVec 1 := Scalar.cmpi .sgt arg3 c0_i32
  let c1_i32 : BitVec 32 := 1#32
  let c0_i32_0 : BitVec 32 := 0#32
  let v5 : BitVec 32 := Scalar.select v4 c1_i32 c0_i32_0
  let v6 : BitVec 32 := Scalar.addi v3 v5
  let c15_i32 : BitVec 32 := 15#32
  let v7 : BitVec 32 := Scalar.minsi v6 c15_i32
  let c8_i32 : BitVec 32 := 8#32
  let v8 : BitVec 32 := Scalar.divsi v7 c8_i32
  let c0_i32_1 : BitVec 32 := 0#32
  let v9 : BitVec 1 := Scalar.cmpi .sgt v7 c0_i32_1
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c0_i32_3 : BitVec 32 := 0#32
  let v14 : BitVec 1 := Scalar.cmpi .sgt c8_i32 c0_i32_3
  let v15 : BitVec 32 := Scalar.extui v14
  let c0_i32_4 : BitVec 32 := 0#32
  let v16 : BitVec 1 := Scalar.cmpi .slt c8_i32 c0_i32_4
  let v17 : BitVec 32 := Scalar.extui v16
  let v18 : BitVec 32 := Scalar.subi v15 v17
  let v19 : BitVec 1 := Scalar.cmpi .ne v13 v18
  let v20 : BitVec 32 := Scalar.remsi v7 c8_i32
  let c0_i32_5 : BitVec 32 := 0#32
  let v21 : BitVec 1 := Scalar.cmpi .ne v20 c0_i32_5
  let v22 : BitVec 1 := Scalar.andi v19 v21
  let c1_i32_6 : BitVec 32 := 1#32
  let v23 : BitVec 32 := Scalar.subi v8 c1_i32_6
  let v24 : BitVec 32 := Scalar.select v22 v23 v8
  let c2_i32_7 : BitVec 32 := 2#32
  let v25 : BitVec 32 := Scalar.divsi v7 c2_i32_7
  let c0_i32_8 : BitVec 32 := 0#32
  let v26 : BitVec 1 := Scalar.cmpi .sgt v7 c0_i32_8
  let v27 : BitVec 32 := Scalar.extui v26
  let c0_i32_9 : BitVec 32 := 0#32
  let v28 : BitVec 1 := Scalar.cmpi .slt v7 c0_i32_9
  let v29 : BitVec 32 := Scalar.extui v28
  let v30 : BitVec 32 := Scalar.subi v27 v29
  let c0_i32_10 : BitVec 32 := 0#32
  let v31 : BitVec 1 := Scalar.cmpi .sgt c2_i32_7 c0_i32_10
  let v32 : BitVec 32 := Scalar.extui v31
  let c0_i32_11 : BitVec 32 := 0#32
  let v33 : BitVec 1 := Scalar.cmpi .slt c2_i32_7 c0_i32_11
  let v34 : BitVec 32 := Scalar.extui v33
  let v35 : BitVec 32 := Scalar.subi v32 v34
  let v36 : BitVec 1 := Scalar.cmpi .ne v30 v35
  let v37 : BitVec 32 := Scalar.remsi v7 c2_i32_7
  let c0_i32_12 : BitVec 32 := 0#32
  let v38 : BitVec 1 := Scalar.cmpi .ne v37 c0_i32_12
  let v39 : BitVec 1 := Scalar.andi v36 v38
  let c1_i32_13 : BitVec 32 := 1#32
  let v40 : BitVec 32 := Scalar.subi v25 c1_i32_13
  let v41 : BitVec 32 := Scalar.select v39 v40 v25
  let c4_i32_14 : BitVec 32 := 4#32
  let c0_i32_15 : BitVec 32 := 0#32
  let v42 : BitVec 1 := Scalar.cmpi .eq c4_i32_14 c0_i32_15
  let c1_i32_16 : BitVec 32 := 1#32
  let v43 : BitVec 32 := Scalar.select v42 c1_i32_16 c4_i32_14
  let v44 : BitVec 32 := Scalar.remsi v41 v43
  let c0_i32_17 : BitVec 32 := 0#32
  let v45 : BitVec 1 := Scalar.cmpi .ne v44 c0_i32_17
  let c0_i32_18 : BitVec 32 := 0#32
  let v46 : BitVec 1 := Scalar.cmpi .slt v44 c0_i32_18
  let c0_i32_19 : BitVec 32 := 0#32
  let v47 : BitVec 1 := Scalar.cmpi .slt v43 c0_i32_19
  let v48 : BitVec 1 := Scalar.xori v46 v47
  let v49 : BitVec 1 := Scalar.andi v48 v45
  let v50 : BitVec 32 := Scalar.addi v44 v43
  let v51 : BitVec 32 := Scalar.select v49 v50 v44
  let c2_i32_20 : BitVec 32 := 2#32
  let c0_i32_21 : BitVec 32 := 0#32
  let v52 : BitVec 1 := Scalar.cmpi .eq c2_i32_20 c0_i32_21
  let c1_i32_22 : BitVec 32 := 1#32
  let v53 : BitVec 32 := Scalar.select v52 c1_i32_22 c2_i32_20
  let v54 : BitVec 32 := Scalar.remsi v7 v53
  let c0_i32_23 : BitVec 32 := 0#32
  let v55 : BitVec 1 := Scalar.cmpi .ne v54 c0_i32_23
  let c0_i32_24 : BitVec 32 := 0#32
  let v56 : BitVec 1 := Scalar.cmpi .slt v54 c0_i32_24
  let c0_i32_25 : BitVec 32 := 0#32
  let v57 : BitVec 1 := Scalar.cmpi .slt v53 c0_i32_25
  let v58 : BitVec 1 := Scalar.xori v56 v57
  let v59 : BitVec 1 := Scalar.andi v58 v55
  let v60 : BitVec 32 := Scalar.addi v54 v53
  let v61 : BitVec 32 := Scalar.select v59 v60 v54
  let c0_i32_26 : BitVec 32 := 0#32
  let c0_i32_27 : BitVec 32 := 0#32
  ![v61.toNat, c0_i32_26.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1024_i32 : BitVec 32 := 1024#32
  let v0 : BitVec 32 := Scalar.muli arg3 c1024_i32
  let c12288_i32 : BitVec 32 := 12288#32
  let v1 : BitVec 32 := Scalar.addi c12288_i32 v0
  let c256_i32 : BitVec 32 := 256#32
  let v2 : BitVec 32 := Scalar.divsi v1 c256_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg1
  let c0_i32_4 : BitVec 32 := 0#32
  ![arg0.toNat, arg2.toNat, v19.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false, false]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false, false]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false, false]
-- ==== ReferenceIdeal.lean ====
abbrev S4096x4096 : Shape := ⟨2, ![4096, 4096]⟩
abbrev S4096x14336 : Shape := ⟨2, ![4096, 14336]⟩
abbrev S512x2048 : Shape := ⟨2, ![512, 2048]⟩
abbrev S2x2048x4096 : Shape := ⟨3, ![2, 2048, 4096]⟩
abbrev S2x2048x1024 : Shape := ⟨3, ![2, 2048, 1024]⟩
abbrev S2x2048x14336 : Shape := ⟨3, ![2, 2048, 14336]⟩
abbrev S2x256x2048 : Shape := ⟨3, ![2, 256, 2048]⟩
abbrev S2x256x1024 : Shape := ⟨3, ![2, 256, 1024]⟩
abbrev S2x256x4x256 : Shape := ⟨4, ![2, 256, 4, 256]⟩
abbrev S256 : Shape := ⟨1, ![256]⟩
abbrev S128 : Shape := ⟨1, ![128]⟩
abbrev S_ : Shape := ⟨0, ![]⟩
abbrev S256x1 : Shape := ⟨2, ![256, 1]⟩
abbrev S1x128 : Shape := ⟨2, ![1, 128]⟩
abbrev S256x128 : Shape := ⟨2, ![256, 128]⟩
abbrev S256x1x128 : Shape := ⟨3, ![256, 1, 128]⟩
abbrev S2x256x4x128 : Shape := ⟨4, ![2, 256, 4, 128]⟩
abbrev S1x256x1x128 : Shape := ⟨4, ![1, 256, 1, 128]⟩
abbrev S2x2048x4x256 : Shape := ⟨4, ![2, 2048, 4, 256]⟩
abbrev S2048 : Shape := ⟨1, ![2048]⟩
abbrev S2048x1 : Shape := ⟨2, ![2048, 1]⟩
abbrev S2048x128 : Shape := ⟨2, ![2048, 128]⟩
abbrev S2048x1x128 : Shape := ⟨3, ![2048, 1, 128]⟩
abbrev S2x2048x4x128 : Shape := ⟨4, ![2, 2048, 4, 128]⟩
abbrev S1x2048x1x128 : Shape := ⟨4, ![1, 2048, 1, 128]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩
abbrev S2x2048x2048 : Shape := ⟨3, ![2, 2048, 2048]⟩
abbrev S2x2048x12288 : Shape := ⟨3, ![2, 2048, 12288]⟩

abbrev nBuf : Space → Nat
  | .hbm => 230
  | .vmem => 0
  | .smem => 0
  | _ => 0

abbrev hbmTy0_0 (i : Nat) : BufTy := match i % 128 with
  | 0 => ⟨S4096x4096, .f32⟩
  | 1 => ⟨S4096x14336, .bf16⟩
  | 2 => ⟨S512x2048, .f32⟩
  | 3 => ⟨S4096x14336, .bf16⟩
  | 4 => ⟨S2x2048x4096, .f32⟩
  | 5 => ⟨S2x2048x1024, .f32⟩
  | 6 => ⟨S4096x14336, .f32⟩
  | 7 => ⟨S2x2048x14336, .f32⟩
  | 8 => ⟨S2x256x2048, .f32⟩
  | 9 => ⟨S2x2048x1024, .f32⟩
  | 10 => ⟨S2x2048x1024, .f32⟩
  | 11 => ⟨S2x256x1024, .f32⟩
  | 12 => ⟨S2x256x1024, .f32⟩
  | 13 => ⟨S2x256x4x256, .f32⟩
  | 14 => ⟨S256, .i32⟩
  | 15 => ⟨S128, .f32⟩
  | 16 => ⟨S_, .f32⟩
  | 17 => ⟨S128, .f32⟩
  | 18 => ⟨S128, .f32⟩
  | 19 => ⟨S_, .f32⟩
  | 20 => ⟨S128, .f32⟩
  | 21 => ⟨S128, .f32⟩
  | 22 => ⟨S_, .f32⟩
  | 23 => ⟨S128, .f32⟩
  | 24 => ⟨S128, .f32⟩
  | 25 => ⟨S256, .f32⟩
  | 26 => ⟨S256x1, .f32⟩
  | 27 => ⟨S1x128, .f32⟩
  | 28 => ⟨S256x128, .f32⟩
  | 29 => ⟨S256x128, .f32⟩
  | 30 => ⟨S256x128, .f32⟩
  | 31 => ⟨S256x128, .f32⟩
  | 32 => ⟨S256x1x128, .f32⟩
  | 33 => ⟨S256x128, .f32⟩
  | 34 => ⟨S256x1x128, .f32⟩
  | 35 => ⟨S2x256x4x128, .f32⟩
  | 36 => ⟨S2x256x4x128, .f32⟩
  | 37 => ⟨S1x256x1x128, .f32⟩
  | 38 => ⟨S2x256x4x128, .f32⟩
  | 39 => ⟨S2x256x4x128, .f32⟩
  | 40 => ⟨S1x256x1x128, .f32⟩
  | 41 => ⟨S2x256x4x128, .f32⟩
  | 42 => ⟨S2x256x4x128, .f32⟩
  | 43 => ⟨S2x256x4x128, .f32⟩
  | 44 => ⟨S1x256x1x128, .f32⟩
  | 45 => ⟨S2x256x4x128, .f32⟩
  | 46 => ⟨S2x256x4x128, .f32⟩
  | 47 => ⟨S1x256x1x128, .f32⟩
  | 48 => ⟨S2x256x4x128, .f32⟩
  | 49 => ⟨S2x256x4x128, .f32⟩
  | 50 => ⟨S2x256x4x128, .f32⟩
  | 51 => ⟨S2x256x4x256, .f32⟩
  | 52 => ⟨S2x256x4x256, .f32⟩
  | 53 => ⟨S2x2048x4x256, .f32⟩
  | 54 => ⟨S2048, .i32⟩
  | 55 => ⟨S_, .i32⟩
  | 56 => ⟨S2048, .i32⟩
  | 57 => ⟨S2048, .i32⟩
  | 58 => ⟨S128, .f32⟩
  | 59 => ⟨S_, .f32⟩
  | 60 => ⟨S128, .f32⟩
  | 61 => ⟨S128, .f32⟩
  | 62 => ⟨S_, .f32⟩
  | 63 => ⟨S128, .f32⟩
  | 64 => ⟨S128, .f32⟩
  | 65 => ⟨S_, .f32⟩
  | 66 => ⟨S128, .f32⟩
  | 67 => ⟨S128, .f32⟩
  | 68 => ⟨S2048, .f32⟩
  | 69 => ⟨S2048x1, .f32⟩
  | 70 => ⟨S1x128, .f32⟩
  | 71 => ⟨S2048x128, .f32⟩
  | 72 => ⟨S2048x128, .f32⟩
  | 73 => ⟨S2048x128, .f32⟩
  | 74 => ⟨S2048x128, .f32⟩
  | 75 => ⟨S2048x1x128, .f32⟩
  | 76 => ⟨S2048x128, .f32⟩
  | 77 => ⟨S2048x1x128, .f32⟩
  | 78 => ⟨S2x2048x4x128, .f32⟩
  | 79 => ⟨S2x2048x4x128, .f32⟩
  | 80 => ⟨S1x2048x1x128, .f32⟩
  | 81 => ⟨S2x2048x4x128, .f32⟩
  | 82 => ⟨S2x2048x4x128, .f32⟩
  | 83 => ⟨S1x2048x1x128, .f32⟩
  | 84 => ⟨S2x2048x4x128, .f32⟩
  | 85 => ⟨S2x2048x4x128, .f32⟩
  | 86 => ⟨S2x2048x4x128, .f32⟩
  | 87 => ⟨S1x2048x1x128, .f32⟩
  | 88 => ⟨S2x2048x4x128, .f32⟩
  | 89 => ⟨S2x2048x4x128, .f32⟩
  | 90 => ⟨S1x2048x1x128, .f32⟩
  | 91 => ⟨S2x2048x4x128, .f32⟩
  | 92 => ⟨S2x2048x4x128, .f32⟩
  | 93 => ⟨S2x2048x4x128, .f32⟩
  | 94 => ⟨S2x2048x4x256, .f32⟩
  | 95 => ⟨S2x4x2048x256, .f32⟩
  | 96 => ⟨S_, .f32⟩
  | 97 => ⟨S2x4x2048x256, .f32⟩
  | 98 => ⟨S2x4x2048x256, .f32⟩
  | 99 => ⟨S_, .f32⟩
  | 100 => ⟨S2x4x2048, .f32⟩
  | 101 => ⟨S2x4x2048x1, .f32⟩
  | 102 => ⟨S2x4x2048x256, .f32⟩
  | 103 => ⟨S2x4x2048x256, .i1⟩
  | 104 => ⟨S2x4x2048x256, .f32⟩
  | 105 => ⟨S_, .f32⟩
  | 106 => ⟨S2x4x2048, .f32⟩
  | 107 => ⟨S_, .f32⟩
  | 108 => ⟨S2x4x2048, .f32⟩
  | 109 => ⟨S2x4x2048, .f32⟩
  | 110 => ⟨S_, .f32⟩
  | 111 => ⟨S2x4x2048, .f32⟩
  | 112 => ⟨S2x4x2048, .i1⟩
  | 113 => ⟨S_, .f32⟩
  | 114 => ⟨S2x4x2048, .f32⟩
  | 115 => ⟨S2x4x2048, .i1⟩
  | 116 => ⟨S_, .f32⟩
  | 117 => ⟨S2x4x2048, .f32⟩
  | 118 => ⟨S_, .f32⟩
  | 119 => ⟨S2x4x2048, .f32⟩
  | 120 => ⟨S_, .f32⟩
  | 121 => ⟨S2x4x2048, .f32⟩
  | 122 => ⟨S2x4x2048, .f32⟩
  | 123 => ⟨S2x4x2048, .f32⟩
  | 124 => ⟨S2x4x2048x1, .f32⟩
  | 125 => ⟨S2x4x2048x256, .f32⟩
  | 126 => ⟨S2x4x2048x256, .f32⟩
  | 127 => ⟨S2x4x2048x256, .f32⟩
  | _ => ⟨S4096x4096, .f32⟩

abbrev hbmTy0_1 (i : Nat) : BufTy := match i % 128 with
  | 0 => ⟨S_, .f32⟩
  | 1 => ⟨S2x4x2048, .f32⟩
  | 2 => ⟨S2x4x2048x1, .f32⟩
  | 3 => ⟨S2x4x2048x256, .f32⟩
  | 4 => ⟨S2x4x2048x256, .f32⟩
  | 5 => ⟨S2x4x2048x1, .f32⟩
  | 6 => ⟨S_, .f32⟩
  | 7 => ⟨S2x4x2048x1, .f32⟩
  | 8 => ⟨S2x4x2048x1, .f32⟩
  | 9 => ⟨S2x4x256x2048, .f32⟩
  | 10 => ⟨S2x2048x4x256, .f32⟩
  | 11 => ⟨S2x2048x1024, .f32⟩
  | 12 => ⟨S2x2048x1024, .f32⟩
  | 13 => ⟨S2x2048x1024, .f32⟩
  | 14 => ⟨S_, .f32⟩
  | 15 => ⟨S2x2048x1024, .f32⟩
  | 16 => ⟨S2x2048x1024, .f32⟩
  | 17 => ⟨S_, .f32⟩
  | 18 => ⟨S2x2048x1024, .f32⟩
  | 19 => ⟨S2x2048x1024, .f32⟩
  | 20 => ⟨S_, .f32⟩
  | 21 => ⟨S2x2048x1024, .f32⟩
  | 22 => ⟨S2x2048x1024, .f32⟩
  | 23 => ⟨S2x2048x1024, .f32⟩
  | 24 => ⟨S2x2048x1024, .f32⟩
  | 25 => ⟨S2x2048x1024, .f32⟩
  | 26 => ⟨S2x2048x1024, .f32⟩
  | 27 => ⟨S2x2048x1024, .f32⟩
  | 28 => ⟨S2x2048x1024, .f32⟩
  | 29 => ⟨S2x2048x1024, .f32⟩
  | 30 => ⟨S2x2048x1024, .f32⟩
  | 31 => ⟨S2x2048x1024, .f32⟩
  | 32 => ⟨S2x2048x4x256, .f32⟩
  | 33 => ⟨S2x4x256x2048, .f32⟩
  | 34 => ⟨S2x4x2048x256, .f32⟩
  | 35 => ⟨S2x4x256x256, .f32⟩
  | 36 => ⟨S2x256x4x256, .f32⟩
  | 37 => ⟨S2x4x2048x256, .f32⟩
  | 38 => ⟨S2x4x2048x256, .f32⟩
  | 39 => ⟨S2x4x2048x256, .f32⟩
  | 40 => ⟨S_, .f32⟩
  | 41 => ⟨S2x4x2048, .f32⟩
  | 42 => ⟨S2x4x2048x1, .f32⟩
  | 43 => ⟨S2x4x2048x1, .f32⟩
  | 44 => ⟨S2x4x2048x256, .f32⟩
  | 45 => ⟨S2x4x2048x256, .f32⟩
  | 46 => ⟨S_, .f32⟩
  | 47 => ⟨S2x4x2048, .f32⟩
  | 48 => ⟨S2x4x2048x256, .f32⟩
  | 49 => ⟨S2x4x2048x256, .f32⟩
  | 50 => ⟨S2x4x2048x256, .f32⟩
  | 51 => ⟨S_, .f32⟩
  | 52 => ⟨S2x4x2048x256, .f32⟩
  | 53 => ⟨S2x4x2048x256, .f32⟩
  | 54 => ⟨S2x4x256x256, .f32⟩
  | 55 => ⟨S2x256x4x256, .f32⟩
  | 56 => ⟨S2x4x2048x256, .f32⟩
  | 57 => ⟨S2x2048x4x256, .f32⟩
  | 58 => ⟨S2x2048x4x128, .f32⟩
  | 59 => ⟨S2x2048x4x128, .f32⟩
  | 60 => ⟨S2x2048x4x128, .f32⟩
  | 61 => ⟨S2x2048x4x128, .f32⟩
  | 62 => ⟨S2x2048x4x128, .f32⟩
  | 63 => ⟨S2x2048x4x128, .f32⟩
  | 64 => ⟨S2x2048x4x128, .f32⟩
  | 65 => ⟨S2x2048x4x128, .f32⟩
  | 66 => ⟨S2x2048x4x128, .f32⟩
  | 67 => ⟨S2x2048x4x128, .f32⟩
  | 68 => ⟨S2x2048x4x128, .f32⟩
  | 69 => ⟨S2x2048x4x128, .f32⟩
  | 70 => ⟨S2x2048x4x128, .f32⟩
  | 71 => ⟨S_, .f32⟩
  | 72 => ⟨S2x2048x4x256, .f32⟩
  | 73 => ⟨S_, .f32⟩
  | 74 => ⟨S2x2048x4x256, .f32⟩
  | 75 => ⟨S2x2048x4x256, .f32⟩
  | 76 => ⟨S2x2048x1024, .f32⟩
  | 77 => ⟨S2x256x1024, .f32⟩
  | 78 => ⟨S2x256x4x128, .f32⟩
  | 79 => ⟨S2x256x4x128, .f32⟩
  | 80 => ⟨S2x256x4x128, .f32⟩
  | 81 => ⟨S2x256x4x128, .f32⟩
  | 82 => ⟨S2x256x4x128, .f32⟩
  | 83 => ⟨S2x256x4x128, .f32⟩
  | 84 => ⟨S2x256x4x128, .f32⟩
  | 85 => ⟨S2x256x4x128, .f32⟩
  | 86 => ⟨S2x256x4x128, .f32⟩
  | 87 => ⟨S2x256x4x128, .f32⟩
  | 88 => ⟨S2x256x4x128, .f32⟩
  | 89 => ⟨S2x256x4x128, .f32⟩
  | 90 => ⟨S2x256x4x128, .f32⟩
  | 91 => ⟨S_, .f32⟩
  | 92 => ⟨S2x256x4x256, .f32⟩
  | 93 => ⟨S_, .f32⟩
  | 94 => ⟨S2x256x4x256, .f32⟩
  | 95 => ⟨S2x256x4x256, .f32⟩
  | 96 => ⟨S2x256x1024, .f32⟩
  | 97 => ⟨S2x2048x2048, .f32⟩
  | 98 => ⟨S2x2048x2048, .bf16⟩
  | 99 => ⟨S2x2048x14336, .bf16⟩
  | 100 => ⟨S2x2048x12288, .bf16⟩
  | 101 => ⟨S2x2048x14336, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_c : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_2 : Ref sig .tc := ⟨.hbm, 59, rfl⟩
abbrev main_v51 : Ref sig .tc := ⟨.hbm, 60, rfl⟩
abbrev main_v52 : Ref sig .tc := ⟨.hbm, 61, rfl⟩
abbrev main_cst_3 : Ref sig .tc := ⟨.hbm, 62, rfl⟩
abbrev main_v53 : Ref sig .tc := ⟨.hbm, 63, rfl⟩
abbrev main_v54 : Ref sig .tc := ⟨.hbm, 64, rfl⟩
abbrev main_cst_4 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_cst_5 : Ref sig .tc := ⟨.hbm, 96, rfl⟩
abbrev main_v85 : Ref sig .tc := ⟨.hbm, 97, rfl⟩
abbrev main_v86 : Ref sig .tc := ⟨.hbm, 98, rfl⟩
abbrev main_cst_6 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_cst_7 : Ref sig .tc := ⟨.hbm, 105, rfl⟩
abbrev main_v92 : Ref sig .tc := ⟨.hbm, 106, rfl⟩
abbrev main_cst_8 : Ref sig .tc := ⟨.hbm, 107, rfl⟩
abbrev main_v93 : Ref sig .tc := ⟨.hbm, 108, rfl⟩
abbrev main_v94 : Ref sig .tc := ⟨.hbm, 109, rfl⟩
abbrev main_cst_9 : Ref sig .tc := ⟨.hbm, 110, rfl⟩
abbrev main_v95 : Ref sig .tc := ⟨.hbm, 111, rfl⟩
abbrev main_v96 : Ref sig .tc := ⟨.hbm, 112, rfl⟩
abbrev main_cst_10 : Ref sig .tc := ⟨.hbm, 113, rfl⟩
abbrev main_v97 : Ref sig .tc := ⟨.hbm, 114, rfl⟩
abbrev main_v98 : Ref sig .tc := ⟨.hbm, 115, rfl⟩
abbrev main_cst_11 : Ref sig .tc := ⟨.hbm, 116, rfl⟩
abbrev main_v99 : Ref sig .tc := ⟨.hbm, 117, rfl⟩
abbrev main_cst_12 : Ref sig .tc := ⟨.hbm, 118, rfl⟩
abbrev main_v100 : Ref sig .tc := ⟨.hbm, 119, rfl⟩
abbrev main_cst_13 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_14 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_cst_15 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_call0_v0 : Ref sig .tc := ⟨.hbm, 140, rfl⟩
abbrev main_call0_v1 : Ref sig .tc := ⟨.hbm, 141, rfl⟩
abbrev main_call0_cst : Ref sig .tc := ⟨.hbm, 142, rfl⟩
abbrev main_call0_v2 : Ref sig .tc := ⟨.hbm, 143, rfl⟩
abbrev main_call0_v3 : Ref sig .tc := ⟨.hbm, 144, rfl⟩
abbrev main_call0_cst_0 : Ref sig .tc := ⟨.hbm, 145, rfl⟩
abbrev main_call0_v4 : Ref sig .tc := ⟨.hbm, 146, rfl⟩
abbrev main_v118_2 : Ref sig .tc := ⟨.hbm, 147, rfl⟩
abbrev main_call0_cst_1 : Ref sig .tc := ⟨.hbm, 148, rfl⟩
abbrev main_call0_v6 : Ref sig .tc := ⟨.hbm, 149, rfl⟩
abbrev main_call0_v7 : Ref sig .tc := ⟨.hbm, 150, rfl⟩
abbrev main_v118_1 : Ref sig .tc := ⟨.hbm, 151, rfl⟩
abbrev main_v118_0 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_call1_v0 : Ref sig .tc := ⟨.hbm, 156, rfl⟩
abbrev main_call1_v1 : Ref sig .tc := ⟨.hbm, 157, rfl⟩
abbrev main_call1_v2 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_16 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_17 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_18 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_cst_19 : Ref sig .tc := ⟨.hbm, 199, rfl⟩
abbrev main_v159 : Ref sig .tc := ⟨.hbm, 200, rfl⟩
abbrev main_cst_20 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_cst_21 : Ref sig .tc := ⟨.hbm, 219, rfl⟩
abbrev main_v177 : Ref sig .tc := ⟨.hbm, 220, rfl⟩
abbrev main_cst_22 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩

abbrev nD : Nat := 1
abbrev τ : Topo := Topo.v7x

variable {F : FTy → Type} [FloatOps F]
-- ==== Kernel2.lean ====
abbrev S4096x14336 : Shape := ⟨2, ![4096, 14336]⟩
abbrev S1024x4096 : Shape := ⟨2, ![1024, 4096]⟩
abbrev S1024x2048 : Shape := ⟨2, ![1024, 2048]⟩
abbrev S4096x4x3584 : Shape := ⟨3, ![4096, 4, 3584]⟩
abbrev S4x4096x3584 : Shape := ⟨3, ![4, 4096, 3584]⟩
abbrev S16384x3584 : Shape := ⟨2, ![16384, 3584]⟩
abbrev S4096x4096 : Shape := ⟨2, ![4096, 4096]⟩
abbrev S1024x1792 : Shape := ⟨2, ![1024, 1792]⟩
abbrev S2048x1792 : Shape := ⟨2, ![2048, 1792]⟩
abbrev S16x4096 : Shape := ⟨2, ![16, 4096]⟩
abbrev S16x2048 : Shape := ⟨2, ![16, 2048]⟩

abbrev nBuf : Space → Nat
  | .hbm => 23
  | .vmem => 39
  | .smem => 0
  | _ => 0

abbrev bufTy : (tb : Table) → Fin (tcTables nBuf tb) → BufTy
  | .hbm, ⟨0, _⟩ => ⟨S4096x14336, .bf16⟩
  | .hbm, ⟨1, _⟩ => ⟨S4096x14336, .f32⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S4096x14336, .bf16⟩
  | .hbm, ⟨11, _⟩ => ⟨S4096x4x3584, .bf16⟩
  | .hbm, ⟨12, _⟩ => ⟨S4x4096x3584, .bf16⟩
  | .hbm, ⟨13, _⟩ => ⟨S16384x3584, .bf16⟩
  | .hbm, ⟨14, _⟩ => ⟨S4096x4096, .bf16⟩
  | .hbm, ⟨15, _⟩ => ⟨S1024x4096, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S1024x2048, .f32⟩
  | .local _ .vmem, ⟨0, _⟩ => ⟨S1024x1792, .bf16⟩
  | .local _ .vmem, ⟨1, _⟩ => ⟨S1024x1792, .bf16⟩
  | .local _ .vmem, ⟨2, _⟩ => ⟨S2048x1792, .bf16⟩
  | .local _ .vmem, ⟨3, _⟩ => ⟨S2048x1792, .bf16⟩
  | .local _ .vmem, ⟨4, _⟩ => ⟨S16x4096, .f32⟩
  | .local _ .vmem, ⟨5, _⟩ => ⟨S16x4096, .f32⟩
  | .local _ .vmem, ⟨6, _⟩ => ⟨S16x4096, .f32⟩
  | .local _ .vmem, ⟨7, _⟩ => ⟨S16x4096, .f32⟩
  | .local _ .vmem, ⟨8, _⟩ => ⟨S16x4096, .f32⟩
  | .local _ .vmem, ⟨9, _⟩ => ⟨S16x4096, .f32⟩
  | .local _ .vmem, ⟨10, _⟩ => ⟨S16x4096, .f32⟩
  | .local _ .vmem, ⟨11, _⟩ => ⟨S16x4096, .f32⟩
  | .local _ .vmem, ⟨12, _⟩ => ⟨S16x2048, .f32⟩
  | .local _ .vmem, ⟨13, _⟩ => ⟨S16x2048, .f32⟩
  | .local _ .vmem, ⟨14, _⟩ => ⟨S16x2048, .f32⟩
  | .local _ .vmem, ⟨15, _⟩ => ⟨S16x2048, .f32⟩
  | .local _ .vmem, ⟨16, _⟩ => ⟨S16x2048, .f32⟩
  | .local _ .vmem, ⟨17, _⟩ => ⟨S16x2048, .f32⟩
  | .local _ .vmem, ⟨18, _⟩ => ⟨S16x2048, .f32⟩
  | .local _ .vmem, ⟨19, _⟩ => ⟨S16x2048, .f32⟩
  | .local _ .vmem, ⟨20, _⟩ => ⟨S1024x2048, .bf16⟩
  | .local _ .vmem, ⟨21, _⟩ => ⟨S1024x2048, .bf16⟩
  | .local _ .vmem, ⟨22, _⟩ => ⟨S16x4096, .f32⟩
  | .local _ .vmem, ⟨23, _⟩ => ⟨S16x4096, .f32⟩
  | .local _ .vmem, ⟨24, _⟩ => ⟨S16x4096, .f32⟩
  | .local _ .vmem, ⟨25, _⟩ => ⟨S16x4096, .f32⟩
  | .local _ .vmem, ⟨26, _⟩ => ⟨S16x4096, .f32⟩
  | .local _ .vmem, ⟨27, _⟩ => ⟨S16x4096, .f32⟩
  | .local _ .vmem, ⟨28, _⟩ => ⟨S16x4096, .f32⟩
  | .local _ .vmem, ⟨29, _⟩ => ⟨S16x4096, .f32⟩
  | .local _ .vmem, ⟨30, _⟩ => ⟨S16x2048, .f32⟩
  | .local _ .vmem, ⟨31, _⟩ => ⟨S16x2048, .f32⟩
  | .local _ .vmem, ⟨32, _⟩ => ⟨S16x2048, .f32⟩
  | .local _ .vmem, ⟨33, _⟩ => ⟨S16x2048, .f32⟩
  | .local _ .vmem, ⟨34, _⟩ => ⟨S16x2048, .f32⟩
  | .local _ .vmem, ⟨35, _⟩ => ⟨S16x2048, .f32⟩
  | .local _ .vmem, ⟨36, _⟩ => ⟨S16x2048, .f32⟩
  | .local _ .vmem, ⟨37, _⟩ => ⟨S16x2048, .f32⟩
  | .local _ .vmem, ⟨38, _⟩ => ⟨S1024x2048, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev main_v4_8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli v16 c2_i32_4
  let v18 : BitVec 32 := Scalar.addi v17 arg1
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi arg2 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1024x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S16x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S16x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S16x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S16x4096 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S16x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S16x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S16x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S16x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]
-- ==== Reference2Ideal.lean ====
abbrev S4096x14336 : Shape := ⟨2, ![4096, 14336]⟩
abbrev S1024x4096 : Shape := ⟨2, ![1024, 4096]⟩
abbrev S1024x2048 : Shape := ⟨2, ![1024, 2048]⟩
abbrev S_ : Shape := ⟨0, ![]⟩
abbrev S4096x4096 : Shape := ⟨2, ![4096, 4096]⟩

abbrev nBuf : Space → Nat
  | .hbm => 82
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S4096x14336, .f32⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S4096x4096, .f32⟩
  | .hbm, ⟨12, _⟩ => ⟨S4096x14336, .f32⟩
  | .hbm, ⟨13, _⟩ => ⟨S4096x14336, .f32⟩
  | .hbm, ⟨14, _⟩ => ⟨S4096x4096, .f32⟩
  | .hbm, ⟨15, _⟩ => ⟨S4096x4096, .bf16⟩
  | .hbm, ⟨16, _⟩ => ⟨S_, .f32⟩
  | .hbm, ⟨17, _⟩ => ⟨S1024x4096, .f32⟩
  | .hbm, ⟨18, _⟩ => ⟨S1024x4096, .f32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S1024x4096, .f32⟩
  | .hbm, ⟨23, _⟩ => ⟨S_, .f32⟩
  | .hbm, ⟨24, _⟩ => ⟨S1024x4096, .f32⟩
  | .hbm, ⟨25, _⟩ => ⟨S1024x4096, .f32⟩
  | .hbm, ⟨26, _⟩ => ⟨S1024x4096, .f32⟩
  | .hbm, ⟨27, _⟩ => ⟨S_, .f32⟩
  | .hbm, ⟨28, _⟩ => ⟨S1024x4096, .f32⟩
  | .hbm, ⟨29, _⟩ => ⟨S1024x4096, .f32⟩
  | .hbm, ⟨30, _⟩ => ⟨S1024x4096, .f32⟩
  | .hbm, ⟨31, _⟩ => ⟨S_, .f32⟩
  | .hbm, ⟨32, _⟩ => ⟨S1024x4096, .f32⟩
  | .hbm, ⟨33, _⟩ => ⟨S1024x4096, .f32⟩
  | .hbm, ⟨34, _⟩ => ⟨S_, .f32⟩
  | .hbm, ⟨35, _⟩ => ⟨S1024x4096, .f32⟩
  | .hbm, ⟨36, _⟩ => ⟨S1024x4096, .f32⟩
  | .hbm, ⟨37, _⟩ => ⟨S1024x4096, .f32⟩
  | .hbm, ⟨38, _⟩ => ⟨S_, .f32⟩
  | .hbm, ⟨39, _⟩ => ⟨S1024x4096, .f32⟩
  | .hbm, ⟨40, _⟩ => ⟨S1024x4096, .f32⟩
  | .hbm, ⟨41, _⟩ => ⟨S1024x4096, .f32⟩
  | .hbm, ⟨42, _⟩ => ⟨S_, .f32⟩
  | .hbm, ⟨43, _⟩ => ⟨S1024x4096, .f32⟩
  | .hbm, ⟨44, _⟩ => ⟨S1024x4096, .f32⟩
  | .hbm, ⟨45, _⟩ => ⟨S1024x4096, .f32⟩
  | .hbm, ⟨46, _⟩ => ⟨S_, .f32⟩
  | .hbm, ⟨47, _⟩ => ⟨S1024x4096, .f32⟩
  | .hbm, ⟨48, _⟩ => ⟨S1024x4096, .f32⟩
  | .hbm, ⟨49, _⟩ => ⟨S_, .f32⟩
  | .hbm, ⟨50, _⟩ => ⟨S1024x2048, .f32⟩
  | .hbm, ⟨51, _⟩ => ⟨S1024x2048, .f32⟩
  | .hbm, ⟨52, _⟩ => ⟨S_, .f32⟩
  | .hbm, ⟨53, _⟩ => ⟨S1024x2048, .f32⟩
  | .hbm, ⟨54, _⟩ => ⟨S1024x2048, .f32⟩
  | .hbm, ⟨55, _⟩ => ⟨S1024x2048, .f32⟩
  | .hbm, ⟨56, _⟩ => ⟨S_, .f32⟩
  | .hbm, ⟨57, _⟩ => ⟨S1024x2048, .f32⟩
  | .hbm, ⟨58, _⟩ => ⟨S1024x2048, .f32⟩
  | .hbm, ⟨59, _⟩ => ⟨S1024x2048, .f32⟩
  | .hbm, ⟨60, _⟩ => ⟨S_, .f32⟩
  | .hbm, ⟨61, _⟩ => ⟨S1024x2048, .f32⟩
  | .hbm, ⟨62, _⟩ => ⟨S1024x2048, .f32⟩
  | .hbm, ⟨63, _⟩ => ⟨S1024x2048, .f32⟩
  | .hbm, ⟨64, _⟩ => ⟨S_, .f32⟩
  | .hbm, ⟨65, _⟩ => ⟨S1024x2048, .f32⟩
  | .hbm, ⟨66, _⟩ => ⟨S1024x2048, .f32⟩
  | .hbm, ⟨67, _⟩ => ⟨S_, .f32⟩
  | .hbm, ⟨68, _⟩ => ⟨S1024x2048, .f32⟩
  | .hbm, ⟨69, _⟩ => ⟨S1024x2048, .f32⟩
  | .hbm, ⟨70, _⟩ => ⟨S1024x2048, .f32⟩
  | .hbm, ⟨71, _⟩ => ⟨S_, .f32⟩
  | .hbm, ⟨72, _⟩ => ⟨S1024x2048, .f32⟩
  | .hbm, ⟨73, _⟩ => ⟨S1024x2048, .f32⟩
  | .hbm, ⟨74, _⟩ => ⟨S1024x2048, .f32⟩
  | .hbm, ⟨75, _⟩ => ⟨S_, .f32⟩
  | .hbm, ⟨76, _⟩ => ⟨S1024x2048, .f32⟩
  | .hbm, ⟨77, _⟩ => ⟨S1024x2048, .f32⟩
  | .hbm, ⟨78, _⟩ => ⟨S1024x2048, .f32⟩
  | .hbm, ⟨79, _⟩ => ⟨S_, .f32⟩
  | .hbm, ⟨80, _⟩ => ⟨S1024x2048, .f32⟩
  | .hbm, ⟨81, _⟩ => ⟨S1024x2048, .f32⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_cst_10 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_11 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_12 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_v41 : Ref sig .tc := ⟨.hbm, 66, rfl⟩
abbrev main_cst_14 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_15 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_16 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_17 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]
-- ==== Kernel3.lean ====
abbrev S4096x4096 : Shape := ⟨2, ![4096, 4096]⟩
abbrev S4096x14336 : Shape := ⟨2, ![4096, 14336]⟩
abbrev S_ : Shape := ⟨0, ![]⟩
abbrev S1 : Shape := ⟨1, ![1]⟩
abbrev S8192x3584 : Shape := ⟨2, ![8192, 3584]⟩
abbrev S2048x1024 : Shape := ⟨2, ![2048, 1024]⟩
abbrev S2048x1792 : Shape := ⟨2, ![2048, 1792]⟩
abbrev S1024x1792 : Shape := ⟨2, ![1024, 1792]⟩

abbrev nBuf : Space → Nat
  | .hbm => 5
  | .vmem => 7
  | .smem => 1
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S_, .i32⟩
  | .hbm, ⟨3, _⟩ => ⟨S1, .i32⟩
  | .hbm, ⟨4, _⟩ => ⟨S8192x3584, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v2 : Ref sig .tc := ⟨.hbm, 4, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let c0_i32 : BitVec 32 := 0#32
  let v2 : BitVec 32 := Scalar.addi v1 c0_i32
  let v3 : BitVec 32 := Scalar.addi v2 arg0
  let c0_i32_0 : BitVec 32 := 0#32
  ![arg2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli v16 c2_i32_4
  let c0_i32_5 : BitVec 32 := 0#32
  let v18 : BitVec 32 := Scalar.addi v17 c0_i32_5
  let v19 : BitVec 32 := Scalar.addi v18 arg0
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v19.toNat, v29.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x14336 : Shape := ⟨2, ![4096, 14336]⟩
abbrev S_ : Shape := ⟨0, ![]⟩
abbrev S14336x4096 : Shape := ⟨2, ![14336, 4096]⟩
abbrev S2048x14336 : Shape := ⟨2, ![2048, 14336]⟩
abbrev S2048x4x3584 : Shape := ⟨3, ![2048, 4, 3584]⟩
abbrev S4x2048x3584 : Shape := ⟨3, ![4, 2048, 3584]⟩
abbrev S8192x3584 : Shape := ⟨2, ![8192, 3584]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S_, .f32⟩
  | .hbm, ⟨3, _⟩ => ⟨S4096x14336, .f32⟩
  | .hbm, ⟨4, _⟩ => ⟨S4096x4096, .f32⟩
  | .hbm, ⟨5, _⟩ => ⟨S4096x14336, .f32⟩
  | .hbm, ⟨6, _⟩ => ⟨S4096x14336, .f32⟩
  | .hbm, ⟨7, _⟩ => ⟨S14336x4096, .f32⟩
  | .hbm, ⟨8, _⟩ => ⟨S4096x14336, .f32⟩
  | .hbm, ⟨9, _⟩ => ⟨S2048x14336, .f32⟩
  | .hbm, ⟨10, _⟩ => ⟨S2048x4x3584, .f32⟩
  | .hbm, ⟨11, _⟩ => ⟨S4x2048x3584, .f32⟩
  | .hbm, ⟨12, _⟩ => ⟨S8192x3584, .f32⟩
  | .hbm, ⟨13, _⟩ => ⟨S8192x3584, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S4096x4096 : Shape := ⟨2, ![4096, 4096]⟩
abbrev S1024x2048 : Shape := ⟨2, ![1024, 2048]⟩
abbrev S2048x2048 : Shape := ⟨2, ![2048, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .bf16⟩
  | .hbm, ⟨3, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S4096x4096 : Shape := ⟨2, ![4096, 4096]⟩
abbrev S1024x2048 : Shape := ⟨2, ![1024, 2048]⟩
abbrev S2048x2048 : Shape := ⟨2, ![2048, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .bf16⟩
  | .hbm, ⟨3, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x4096 : Shape := ⟨2, ![4096, 4096]⟩
abbrev S_ : Shape := ⟨0, ![]⟩
abbrev S1 : Shape := ⟨1, ![1]⟩
abbrev S2048x4096 : Shape := ⟨2, ![2048, 4096]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 5
  | .vmem => 7
  | .smem => 1
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .i32⟩
  | .hbm, ⟨3, _⟩ => ⟨S1, .i32⟩
  | .hbm, ⟨4, _⟩ => ⟨S2048x4096, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v2 : Ref sig .tc := ⟨.hbm, 4, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4096 : Shape := ⟨2, ![4096, 4096]⟩
abbrev S_ : Shape := ⟨0, ![]⟩
abbrev S4x1024x4096 : Shape := ⟨3, ![4, 1024, 4096]⟩
abbrev S4x512x4096 : Shape := ⟨3, ![4, 512, 4096]⟩
abbrev S2048x4096 : Shape := ⟨2, ![2048, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4x1024x4096, .f32⟩
  | .hbm, ⟨10, _⟩ => ⟨S4x512x4096, .f32⟩
  | .hbm, ⟨11, _⟩ => ⟨S2048x4096, .f32⟩
  | .hbm, ⟨12, _⟩ => ⟨S2048x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel7.lean ====
abbrev S4096x4096 : Shape := ⟨2, ![4096, 4096]⟩
abbrev S_ : Shape := ⟨0, ![]⟩
abbrev S1 : Shape := ⟨1, ![1]⟩
abbrev S2048x4096 : Shape := ⟨2, ![2048, 4096]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 5
  | .vmem => 7
  | .smem => 1
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .i32⟩
  | .hbm, ⟨3, _⟩ => ⟨S1, .i32⟩
  | .hbm, ⟨4, _⟩ => ⟨S2048x4096, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v2 : Ref sig .tc := ⟨.hbm, 4, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x4096 : Shape := ⟨2, ![4096, 4096]⟩
abbrev S_ : Shape := ⟨0, ![]⟩
abbrev S4x1024x4096 : Shape := ⟨3, ![4, 1024, 4096]⟩
abbrev S4x512x4096 : Shape := ⟨3, ![4, 512, 4096]⟩
abbrev S2048x4096 : Shape := ⟨2, ![2048, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4x1024x4096, .f32⟩
  | .hbm, ⟨10, _⟩ => ⟨S4x512x4096, .f32⟩
  | .hbm, ⟨11, _⟩ => ⟨S2048x4096, .f32⟩
  | .hbm, ⟨12, _⟩ => ⟨S2048x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel8.lean ====
abbrev S4096x4096 : Shape := ⟨2, ![4096, 4096]⟩
abbrev S4096x14336 : Shape := ⟨2, ![4096, 14336]⟩
abbrev S_ : Shape := ⟨0, ![]⟩
abbrev S1 : Shape := ⟨1, ![1]⟩
abbrev S8192x3584 : Shape := ⟨2, ![8192, 3584]⟩
abbrev S2048x1024 : Shape := ⟨2, ![2048, 1024]⟩
abbrev S2048x1792 : Shape := ⟨2, ![2048, 1792]⟩
abbrev S1024x1792 : Shape := ⟨2, ![1024, 1792]⟩
abbrev S4x2048x3584 : Shape := ⟨3, ![4, 2048, 3584]⟩
abbrev S4x1024x3584 : Shape := ⟨3, ![4, 1024, 3584]⟩

abbrev nBuf : Space → Nat
  | .hbm => 7
  | .vmem => 7
  | .smem => 1
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S_, .i32⟩
  | .hbm, ⟨3, _⟩ => ⟨S1, .i32⟩
  | .hbm, ⟨4, _⟩ => ⟨S8192x3584, .bf16⟩
  | .hbm, ⟨5, _⟩ => ⟨S4x2048x3584, .bf16⟩
  | .hbm, ⟨6, _⟩ => ⟨S4x1024x3584, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let c0_i32 : BitVec 32 := 0#32
  let v2 : BitVec 32 := Scalar.addi v1 c0_i32
  let v3 : BitVec 32 := Scalar.addi v2 arg0
  let c0_i32_0 : BitVec 32 := 0#32
  ![arg2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli v16 c2_i32_4
  let c0_i32_5 : BitVec 32 := 0#32
  let v18 : BitVec 32 := Scalar.addi v17 c0_i32_5
  let v19 : BitVec 32 := Scalar.addi v18 arg0
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v19.toNat, v29.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x4096 : Shape := ⟨2, ![4096, 4096]⟩
abbrev S4096x14336 : Shape := ⟨2, ![4096, 14336]⟩
abbrev S_ : Shape := ⟨0, ![]⟩
abbrev S14336x4096 : Shape := ⟨2, ![14336, 4096]⟩
abbrev S1024x14336 : Shape := ⟨2, ![1024, 14336]⟩
abbrev S1024x4x3584 : Shape := ⟨3, ![1024, 4, 3584]⟩
abbrev S4x1024x3584 : Shape := ⟨3, ![4, 1024, 3584]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S_, .f32⟩
  | .hbm, ⟨3, _⟩ => ⟨S4096x14336, .f32⟩
  | .hbm, ⟨4, _⟩ => ⟨S4096x4096, .f32⟩
  | .hbm, ⟨5, _⟩ => ⟨S4096x14336, .f32⟩
  | .hbm, ⟨6, _⟩ => ⟨S4096x14336, .f32⟩
  | .hbm, ⟨7, _⟩ => ⟨S14336x4096, .f32⟩
  | .hbm, ⟨8, _⟩ => ⟨S4096x14336, .f32⟩
  | .hbm, ⟨9, _⟩ => ⟨S1024x14336, .f32⟩
  | .hbm, ⟨10, _⟩ => ⟨S1024x4x3584, .f32⟩
  | .hbm, ⟨11, _⟩ => ⟨S4x1024x3584, .f32⟩
  | .hbm, ⟨12, _⟩ => ⟨S4x1024x3584, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel9.lean ====
abbrev S4096x4096 : Shape := ⟨2, ![4096, 4096]⟩
abbrev S4096x14336 : Shape := ⟨2, ![4096, 14336]⟩
abbrev S8192x3584 : Shape := ⟨2, ![8192, 3584]⟩
abbrev S_ : Shape := ⟨0, ![]⟩
abbrev S1 : Shape := ⟨1, ![1]⟩
abbrev S2048x1024 : Shape := ⟨2, ![2048, 1024]⟩
abbrev S2048x1792 : Shape := ⟨2, ![2048, 1792]⟩
abbrev S1024x1792 : Shape := ⟨2, ![1024, 1792]⟩

abbrev nBuf : Space → Nat
  | .hbm => 7
  | .vmem => 9
  | .smem => 1
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S8192x3584, .bf16⟩
  | .hbm, ⟨3, _⟩ => ⟨S8192x3584, .bf16⟩
  | .hbm, ⟨4, _⟩ => ⟨S_, .i32⟩
  | .hbm, ⟨5, _⟩ => ⟨S1, .i32⟩
  | .hbm, ⟨6, _⟩ => ⟨S8192x3584, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .bf16⟩
  | .local _ .vmem, ⟨7, _⟩ => ⟨S1024x1792, .bf16⟩
  | .local _ .vmem, ⟨8, _⟩ => ⟨S1024x1792, .f32⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v2 : Ref sig .tc := ⟨.hbm, 6, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 2], ![false, false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let c1_i32 : BitVec 32 := 1#32
  let v2 : BitVec 32 := Scalar.addi v1 c1_i32
  let v3 : BitVec 32 := Scalar.addi v2 arg0
  let c0_i32 : BitVec 32 := 0#32
  ![arg2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli v16 c2_i32_4
  let c1_i32_5 : BitVec 32 := 1#32
  let v18 : BitVec 32 := Scalar.addi v17 c1_i32_5
  let v19 : BitVec 32 := Scalar.addi v18 arg0
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v19.toNat, v29.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli v16 c2_i32_4
  let c1_i32_5 : BitVec 32 := 1#32
  let v18 : BitVec 32 := Scalar.addi v17 c1_i32_5
  let v19 : BitVec 32 := Scalar.addi v18 arg0
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v19.toNat, v29.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x4096 : Shape := ⟨2, ![4096, 4096]⟩
abbrev S4096x14336 : Shape := ⟨2, ![4096, 14336]⟩
abbrev S8192x3584 : Shape := ⟨2, ![8192, 3584]⟩
abbrev S_ : Shape := ⟨0, ![]⟩
abbrev S14336x4096 : Shape := ⟨2, ![14336, 4096]⟩
abbrev S1024x14336 : Shape := ⟨2, ![1024, 14336]⟩
abbrev S1024x4x3584 : Shape := ⟨3, ![1024, 4, 3584]⟩
abbrev S4x1024x3584 : Shape := ⟨3, ![4, 1024, 3584]⟩
abbrev S4x2048x3584 : Shape := ⟨3, ![4, 2048, 3584]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S8192x3584, .bf16⟩
  | .hbm, ⟨3, _⟩ => ⟨S8192x3584, .bf16⟩
  | .hbm, ⟨4, _⟩ => ⟨S_, .f32⟩
  | .hbm, ⟨5, _⟩ => ⟨S4096x14336, .f32⟩
  | .hbm, ⟨6, _⟩ => ⟨S4096x4096, .f32⟩
  | .hbm, ⟨7, _⟩ => ⟨S4096x14336, .f32⟩
  | .hbm, ⟨8, _⟩ => ⟨S4096x14336, .f32⟩
  | .hbm, ⟨9, _⟩ => ⟨S14336x4096, .f32⟩
  | .hbm, ⟨10, _⟩ => ⟨S4096x14336, .f32⟩
  | .hbm, ⟨11, _⟩ => ⟨S1024x14336, .f32⟩
  | .hbm, ⟨12, _⟩ => ⟨S1024x4x3584, .f32⟩
  | .hbm, ⟨13, _⟩ => ⟨S4x1024x3584, .f32⟩
  | .hbm, ⟨14, _⟩ => ⟨S8192x3584, .f32⟩
  | .hbm, ⟨15, _⟩ => ⟨S4x2048x3584, .f32⟩
  | .hbm, ⟨16, _⟩ => ⟨S4x1024x3584, .f32⟩
  | .hbm, ⟨17, _⟩ => ⟨S4x1024x3584, .f32⟩
  | .hbm, ⟨18, _⟩ => ⟨S4x1024x3584, .bf16⟩
  | .hbm, ⟨19, _⟩ => ⟨S4x2048x3584, .bf16⟩
  | .hbm, ⟨20, _⟩ => ⟨S4x1024x3584, .bf16⟩
  | .hbm, ⟨21, _⟩ => ⟨S4x2048x3584, .bf16⟩
  | .hbm, ⟨22, _⟩ => ⟨S8192x3584, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel10.lean ====
abbrev S4096x3584 : Shape := ⟨2, ![4096, 3584]⟩
abbrev S512x896 : Shape := ⟨2, ![512, 896]⟩

abbrev nBuf : Space → Nat
  | .hbm => 8
  | .vmem => 16
  | .smem => 0
  | _ => 0

abbrev bufTy : (tb : Table) → Fin (tcTables nBuf tb) → BufTy
  | .hbm, ⟨0, _⟩ => ⟨S4096x3584, .f32⟩
  | .hbm, ⟨1, _⟩ => ⟨S4096x3584, .f32⟩
  | .hbm, ⟨2, _⟩ => ⟨S4096x3584, .f32⟩
  | .hbm, ⟨3, _⟩ => ⟨S4096x3584, .f32⟩
  | .hbm, ⟨4, _⟩ => ⟨S4096x3584, .f32⟩
  | .hbm, ⟨5, _⟩ => ⟨S4096x3584, .f32⟩
  | .hbm, ⟨6, _⟩ => ⟨S4096x3584, .f32⟩
  | .hbm, ⟨7, _⟩ => ⟨S4096x3584, .f32⟩
  | .local _ .vmem, ⟨0, _⟩ => ⟨S512x896, .f32⟩
  | .local _ .vmem, ⟨1, _⟩ => ⟨S512x896, .f32⟩
  | .local _ .vmem, ⟨2, _⟩ => ⟨S512x896, .f32⟩
  | .local _ .vmem, ⟨3, _⟩ => ⟨S512x896, .f32⟩
  | .local _ .vmem, ⟨4, _⟩ => ⟨S512x896, .f32⟩
  | .local _ .vmem, ⟨5, _⟩ => ⟨S512x896, .f32⟩
  | .local _ .vmem, ⟨6, _⟩ => ⟨S512x896, .f32⟩
  | .local _ .vmem, ⟨7, _⟩ => ⟨S512x896, .f32⟩
  | .local _ .vmem, ⟨8, _⟩ => ⟨S512x896, .f32⟩
  | .local _ .vmem, ⟨9, _⟩ => ⟨S512x896, .f32⟩
  | .local _ .vmem, ⟨10, _⟩ => ⟨S512x896, .f32⟩
  | .local _ .vmem, ⟨11, _⟩ => ⟨S512x896, .f32⟩
  | .local _ .vmem, ⟨12, _⟩ => ⟨S512x896, .f32⟩
  | .local _ .vmem, ⟨13, _⟩ => ⟨S512x896, .f32⟩
  | .local _ .vmem, ⟨14, _⟩ => ⟨S512x896, .f32⟩
  | .local _ .vmem, ⟨15, _⟩ => ⟨S512x896, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference10Ideal.lean ====
abbrev S4096x3584 : Shape := ⟨2, ![4096, 3584]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S4096x3584, .f32⟩
  | .hbm, ⟨2, _⟩ => ⟨S4096x3584, .f32⟩
  | .hbm, ⟨3, _⟩ => ⟨S4096x3584, .f32⟩
  | .hbm, ⟨4, _⟩ => ⟨S_, .f32⟩
  | .hbm, ⟨5, _⟩ => ⟨S4096x3584, .f32⟩
  | .hbm, ⟨6, _⟩ => ⟨S4096x3584, .f32⟩
  | .hbm, ⟨7, _⟩ => ⟨S_, .f32⟩
  | .hbm, ⟨8, _⟩ => ⟨S4096x3584, .f32⟩
  | .hbm, ⟨9, _⟩ => ⟨S4096x3584, .f32⟩
  | .hbm, ⟨10, _⟩ => ⟨S4096x3584, .f32⟩
  | .hbm, ⟨11, _⟩ => ⟨S_, .f32⟩
  | .hbm, ⟨12, _⟩ => ⟨S4096x3584, .f32⟩
  | .hbm, ⟨13, _⟩ => ⟨S4096x3584, .f32⟩
  | .hbm, ⟨14, _⟩ => ⟨S4096x3584, .f32⟩
  | .hbm, ⟨15, _⟩ => ⟨S_, .f32⟩
  | .hbm, ⟨16, _⟩ => ⟨S4096x3584, .f32⟩
  | .hbm, ⟨17, _⟩ => ⟨S4096x3584, .f32⟩
  | .hbm, ⟨18, _⟩ => ⟨S4096x3584, .f32⟩
  | .hbm, ⟨19, _⟩ => ⟨S_, .f32⟩
  | .hbm, ⟨20, _⟩ => ⟨S4096x3584, .f32⟩
  | .hbm, ⟨21, _⟩ => ⟨S4096x3584, .f32⟩
  | .hbm, ⟨22, _⟩ => ⟨S_, .f32⟩
  | .hbm, ⟨23, _⟩ => ⟨S4096x3584, .f32⟩
  | .hbm, ⟨24, _⟩ => ⟨S4096x3584, .f32⟩
  | .hbm, ⟨25, _⟩ => ⟨S4096x3584, .f32⟩
  | .hbm, ⟨26, _⟩ => ⟨S_, .f32⟩
  | .hbm, ⟨27, _⟩ => ⟨S4096x3584, .f32⟩
  | .hbm, ⟨28, _⟩ => ⟨S4096x3584, .f32⟩
  | .hbm, ⟨29, _⟩ => ⟨S4096x3584, .f32⟩
  | .hbm, ⟨30, _⟩ => ⟨S_, .f32⟩
  | .hbm, ⟨31, _⟩ => ⟨S4096x3584, .f32⟩
  | .hbm, ⟨32, _⟩ => ⟨S4096x3584, .f32⟩
  | .hbm, ⟨33, _⟩ => ⟨S4096x3584, .f32⟩
  | .hbm, ⟨34, _⟩ => ⟨S_, .f32⟩
  | .hbm, ⟨35, _⟩ => ⟨S4096x3584, .f32⟩
  | .hbm, ⟨36, _⟩ => ⟨S4096x3584, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S3x384 : Shape := ⟨2, ![3, 384]⟩

abbrev nBuf : Space → Nat
  | .hbm => 8
  | .vmem => 8
  | .smem => 0
  | _ => 0

abbrev bufTy : (tb : Table) → Fin (tcTables nBuf tb) → BufTy
  | .hbm, ⟨0, _⟩ => ⟨S3x384, .f32⟩
  | .hbm, ⟨1, _⟩ => ⟨S3x384, .f32⟩
  | .hbm, ⟨2, _⟩ => ⟨S3x384, .f32⟩
  | .hbm, ⟨3, _⟩ => ⟨S3x384, .f32⟩
  | .hbm, ⟨4, _⟩ => ⟨S3x384, .f32⟩
  | .hbm, ⟨5, _⟩ => ⟨S3x384, .f32⟩
  | .hbm, ⟨6, _⟩ => ⟨S3x384, .f32⟩
  | .hbm, ⟨7, _⟩ => ⟨S3x384, .f32⟩
  | .local _ .vmem, ⟨0, _⟩ => ⟨S3x384, .f32⟩
  | .local _ .vmem, ⟨1, _⟩ => ⟨S3x384, .f32⟩
  | .local _ .vmem, ⟨2, _⟩ => ⟨S3x384, .f32⟩
  | .local _ .vmem, ⟨3, _⟩ => ⟨S3x384, .f32⟩
  | .local _ .vmem, ⟨4, _⟩ => ⟨S3x384, .f32⟩
  | .local _ .vmem, ⟨5, _⟩ => ⟨S3x384, .f32⟩
  | .local _ .vmem, ⟨6, _⟩ => ⟨S3x384, .f32⟩
  | .local _ .vmem, ⟨7, _⟩ => ⟨S3x384, .f32⟩
  | _, _ => ⟨S3x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S3x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S3x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S3x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S3x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S3x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S3x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S3x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference11Ideal.lean ====
abbrev S3x384 : Shape := ⟨2, ![3, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x384, .f32⟩
  | .hbm, ⟨1, _⟩ => ⟨S3x384, .f32⟩
  | .hbm, ⟨2, _⟩ => ⟨S3x384, .f32⟩
  | .hbm, ⟨3, _⟩ => ⟨S3x384, .f32⟩
  | .hbm, ⟨4, _⟩ => ⟨S_, .f32⟩
  | .hbm, ⟨5, _⟩ => ⟨S3x384, .f32⟩
  | .hbm, ⟨6, _⟩ => ⟨S3x384, .f32⟩
  | .hbm, ⟨7, _⟩ => ⟨S_, .f32⟩
  | .hbm, ⟨8, _⟩ => ⟨S3x384, .f32⟩
  | .hbm, ⟨9, _⟩ => ⟨S3x384, .f32⟩
  | .hbm, ⟨10, _⟩ => ⟨S3x384, .f32⟩
  | .hbm, ⟨11, _⟩ => ⟨S_, .f32⟩
  | .hbm, ⟨12, _⟩ => ⟨S3x384, .f32⟩
  | .hbm, ⟨13, _⟩ => ⟨S3x384, .f32⟩
  | .hbm, ⟨14, _⟩ => ⟨S3x384, .f32⟩
  | .hbm, ⟨15, _⟩ => ⟨S_, .f32⟩
  | .hbm, ⟨16, _⟩ => ⟨S3x384, .f32⟩
  | .hbm, ⟨17, _⟩ => ⟨S3x384, .f32⟩
  | .hbm, ⟨18, _⟩ => ⟨S3x384, .f32⟩
  | .hbm, ⟨19, _⟩ => ⟨S_, .f32⟩
  | .hbm, ⟨20, _⟩ => ⟨S3x384, .f32⟩
  | .hbm, ⟨21, _⟩ => ⟨S3x384, .f32⟩
  | .hbm, ⟨22, _⟩ => ⟨S_, .f32⟩
  | .hbm, ⟨23, _⟩ => ⟨S3x384, .f32⟩
  | .hbm, ⟨24, _⟩ => ⟨S3x384, .f32⟩
  | .hbm, ⟨25, _⟩ => ⟨S3x384, .f32⟩
  | .hbm, ⟨26, _⟩ => ⟨S_, .f32⟩
  | .hbm, ⟨27, _⟩ => ⟨S3x384, .f32⟩
  | .hbm, ⟨28, _⟩ => ⟨S3x384, .f32⟩
  | .hbm, ⟨29, _⟩ => ⟨S3x384, .f32⟩
  | .hbm, ⟨30, _⟩ => ⟨S_, .f32⟩
  | .hbm, ⟨31, _⟩ => ⟨S3x384, .f32⟩
  | .hbm, ⟨32, _⟩ => ⟨S3x384, .f32⟩
  | .hbm, ⟨33, _⟩ => ⟨S3x384, .f32⟩
  | .hbm, ⟨34, _⟩ => ⟨S_, .f32⟩
  | .hbm, ⟨35, _⟩ => ⟨S3x384, .f32⟩
  | .hbm, ⟨36, _⟩ => ⟨S3x384, .f32⟩
  | _, _ => ⟨S3x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S1x4096 : Shape := ⟨2, ![1, 4096]⟩
abbrev S1x1024 : Shape := ⟨2, ![1, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference12Ideal.lean ====
abbrev S1x4096 : Shape := ⟨2, ![1, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S_, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S_, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S_, .f32⟩
  | .hbm, ⟨20, _⟩ => ⟨S1x4096, .f32⟩
  | .hbm, ⟨21, _⟩ => ⟨S1x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S_, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S1x4096, .f32⟩
  | .hbm, ⟨36, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S4096x4096 : Shape := ⟨2, ![4096, 4096]⟩
abbrev S16384x3584 : Shape := ⟨2, ![16384, 3584]⟩
abbrev S4096x14336 : Shape := ⟨2, ![4096, 14336]⟩
abbrev S_ : Shape := ⟨0, ![]⟩
abbrev S1 : Shape := ⟨1, ![1]⟩
abbrev S1024x2048 : Shape := ⟨2, ![1024, 2048]⟩
abbrev S2048x1792 : Shape := ⟨2, ![2048, 1792]⟩
abbrev S1024x1792 : Shape := ⟨2, ![1024, 1792]⟩

abbrev nBuf : Space → Nat
  | .hbm => 6
  | .vmem => 7
  | .smem => 1
  | _ => 0

abbrev bufTy : (tb : Table) → Fin (tcTables nBuf tb) → BufTy
  | .hbm, ⟨0, _⟩ => ⟨S4096x4096, .bf16⟩
  | .hbm, ⟨1, _⟩ => ⟨S16384x3584, .bf16⟩
  | .hbm, ⟨2, _⟩ => ⟨S4096x14336, .bf16⟩
  | .hbm, ⟨3, _⟩ => ⟨S_, .i32⟩
  | .hbm, ⟨4, _⟩ => ⟨S1, .i32⟩
  | .hbm, ⟨5, _⟩ => ⟨S4096x14336, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v2 : Ref sig .tc := ⟨.hbm, 5, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c1_i32_5 : BitVec 32 := 1#32
  let c2_i32_6 : BitVec 32 := 2#32
  let v18 : BitVec 32 := Scalar.select v17 c1_i32_5 c2_i32_6
  let c0 : Index := 0#32
  let v19 : BitVec 32 := pf.at 0 (Rect.unit (s := S1) ![0] S1.size inb_S1_S1_0) numel1_S1
  let v20 : BitVec 32 := Scalar.xori v19 v18
  let c2_i32_7 : BitVec 32 := 2#32
  let v21 : BitVec 32 := Scalar.muli v20 c2_i32_7
  let v22 : BitVec 32 := Scalar.addi v21 arg2
  let c2_i32_8 : BitVec 32 := 2#32
  let c0_i32_9 : BitVec 32 := 0#32
  let v23 : BitVec 1 := Scalar.cmpi .eq c2_i32_8 c0_i32_9
  let c1_i32_10 : BitVec 32 := 1#32
  let v24 : BitVec 32 := Scalar.select v23 c1_i32_10 c2_i32_8
  let v25 : BitVec 32 := Scalar.remsi arg1 v24
  let c0_i32_11 : BitVec 32 := 0#32
  let v26 : BitVec 1 := Scalar.cmpi .ne v25 c0_i32_11
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let v30 : BitVec 1 := Scalar.andi v29 v26
  let v31 : BitVec 32 := Scalar.addi v25 v24
  let v32 : BitVec 32 := Scalar.select v30 v31 v25
  let c0_i32_14 : BitVec 32 := 0#32
  ![v22.toNat, v32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c1_i32_5 : BitVec 32 := 1#32
  let c2_i32_6 : BitVec 32 := 2#32
  let v18 : BitVec 32 := Scalar.select v17 c1_i32_5 c2_i32_6
  let c0 : Index := 0#32
  let v19 : BitVec 32 := pf.at 0 (Rect.unit (s := S1) ![0] S1.size inb_S1_S1_0) numel1_S1
  let v20 : BitVec 32 := Scalar.xori v19 v18
  let c2_i32_7 : BitVec 32 := 2#32
  let v21 : BitVec 32 := Scalar.muli v20 c2_i32_7
  let c2_i32_8 : BitVec 32 := 2#32
  let c0_i32_9 : BitVec 32 := 0#32
  let v22 : BitVec 1 := Scalar.cmpi .eq c2_i32_8 c0_i32_9
  let c1_i32_10 : BitVec 32 := 1#32
  let v23 : BitVec 32 := Scalar.select v22 c1_i32_10 c2_i32_8
  let v24 : BitVec 32 := Scalar.remsi arg1 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c0_i32_14 : BitVec 32 := 0#32
  ![arg0.toNat, v32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x4096 : Shape := ⟨2, ![4096, 4096]⟩
abbrev S16384x3584 : Shape := ⟨2, ![16384, 3584]⟩
abbrev S4096x14336 : Shape := ⟨2, ![4096, 14336]⟩
abbrev S4096x3584 : Shape := ⟨2, ![4096, 3584]⟩
abbrev S4x4096x3584 : Shape := ⟨3, ![4, 4096, 3584]⟩
abbrev S4096x4x3584 : Shape := ⟨3, ![4096, 4, 3584]⟩
abbrev S4096x7168 : Shape := ⟨2, ![4096, 7168]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16384x3584, .bf16⟩
  | .hbm, ⟨2, _⟩ => ⟨S4096x14336, .bf16⟩
  | .hbm, ⟨3, _⟩ => ⟨S4096x3584, .bf16⟩
  | .hbm, ⟨4, _⟩ => ⟨S4x4096x3584, .bf16⟩
  | .hbm, ⟨5, _⟩ => ⟨S4096x4x3584, .bf16⟩
  | .hbm, ⟨6, _⟩ => ⟨S4096x14336, .bf16⟩
  | .hbm, ⟨7, _⟩ => ⟨S4096x14336, .f32⟩
  | .hbm, ⟨8, _⟩ => ⟨S4096x4096, .f32⟩
  | .hbm, ⟨9, _⟩ => ⟨S4096x14336, .f32⟩
  | .hbm, ⟨10, _⟩ => ⟨S4096x14336, .bf16⟩
  | .hbm, ⟨11, _⟩ => ⟨S4096x7168, .bf16⟩
  | .hbm, ⟨12, _⟩ => ⟨S4096x3584, .bf16⟩
  | .hbm, ⟨13, _⟩ => ⟨S4096x14336, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel14.lean ====
abbrev S4096x4096 : Shape := ⟨2, ![4096, 4096]⟩
abbrev S16384x3584 : Shape := ⟨2, ![16384, 3584]⟩
abbrev S4096x14336 : Shape := ⟨2, ![4096, 14336]⟩
abbrev S_ : Shape := ⟨0, ![]⟩
abbrev S1 : Shape := ⟨1, ![1]⟩
abbrev S1024x2048 : Shape := ⟨2, ![1024, 2048]⟩
abbrev S2048x1792 : Shape := ⟨2, ![2048, 1792]⟩
abbrev S1024x1792 : Shape := ⟨2, ![1024, 1792]⟩

abbrev nBuf : Space → Nat
  | .hbm => 6
  | .vmem => 7
  | .smem => 1
  | _ => 0

abbrev bufTy : (tb : Table) → Fin (tcTables nBuf tb) → BufTy
  | .hbm, ⟨0, _⟩ => ⟨S4096x4096, .bf16⟩
  | .hbm, ⟨1, _⟩ => ⟨S16384x3584, .bf16⟩
  | .hbm, ⟨2, _⟩ => ⟨S4096x14336, .bf16⟩
  | .hbm, ⟨3, _⟩ => ⟨S_, .i32⟩
  | .hbm, ⟨4, _⟩ => ⟨S1, .i32⟩
  | .hbm, ⟨5, _⟩ => ⟨S4096x14336, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v2 : Ref sig .tc := ⟨.hbm, 5, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c2_i32 : BitVec 32 := 2#32
  let v2 : BitVec 32 := Scalar.muli v1 c2_i32
  let v3 : BitVec 32 := Scalar.addi v2 arg2
  let c2_i32_0 : BitVec 32 := 2#32
  let c0_i32 : BitVec 32 := 0#32
  let v4 : BitVec 1 := Scalar.cmpi .eq c2_i32_0 c0_i32
  let c1_i32 : BitVec 32 := 1#32
  let v5 : BitVec 32 := Scalar.select v4 c1_i32 c2_i32_0
  let v6 : BitVec 32 := Scalar.remsi arg1 v5
  let c0_i32_1 : BitVec 32 := 0#32
  let v7 : BitVec 1 := Scalar.cmpi .ne v6 c0_i32_1
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let v11 : BitVec 1 := Scalar.andi v10 v7
  let v12 : BitVec 32 := Scalar.addi v6 v5
  let v13 : BitVec 32 := Scalar.select v11 v12 v6
  let c0_i32_4 : BitVec 32 := 0#32
  ![v3.toNat, v13.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c2_i32 : BitVec 32 := 2#32
  let v2 : BitVec 32 := Scalar.muli v1 c2_i32
  let c2_i32_0 : BitVec 32 := 2#32
  let c0_i32 : BitVec 32 := 0#32
  let v3 : BitVec 1 := Scalar.cmpi .eq c2_i32_0 c0_i32
  let c1_i32 : BitVec 32 := 1#32
  let v4 : BitVec 32 := Scalar.select v3 c1_i32 c2_i32_0
  let v5 : BitVec 32 := Scalar.remsi arg1 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let v13 : BitVec 32 := Scalar.addi v2 v12
  let c0_i32_4 : BitVec 32 := 0#32
  ![arg0.toNat, v13.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x4096 : Shape := ⟨2, ![4096, 4096]⟩
abbrev S16384x3584 : Shape := ⟨2, ![16384, 3584]⟩
abbrev S4096x14336 : Shape := ⟨2, ![4096, 14336]⟩
abbrev S4096x10752 : Shape := ⟨2, ![4096, 10752]⟩
abbrev S4x4096x3584 : Shape := ⟨3, ![4, 4096, 3584]⟩
abbrev S4096x4x3584 : Shape := ⟨3, ![4096, 4, 3584]⟩
abbrev S4096x3584 : Shape := ⟨2, ![4096, 3584]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16384x3584, .bf16⟩
  | .hbm, ⟨2, _⟩ => ⟨S4096x14336, .bf16⟩
  | .hbm, ⟨3, _⟩ => ⟨S4096x10752, .bf16⟩
  | .hbm, ⟨4, _⟩ => ⟨S4x4096x3584, .bf16⟩
  | .hbm, ⟨5, _⟩ => ⟨S4096x4x3584, .bf16⟩
  | .hbm, ⟨6, _⟩ => ⟨S4096x14336, .bf16⟩
  | .hbm, ⟨7, _⟩ => ⟨S4096x14336, .f32⟩
  | .hbm, ⟨8, _⟩ => ⟨S4096x4096, .f32⟩
  | .hbm, ⟨9, _⟩ => ⟨S4096x14336, .f32⟩
  | .hbm, ⟨10, _⟩ => ⟨S4096x14336, .bf16⟩
  | .hbm, ⟨11, _⟩ => ⟨S4096x3584, .bf16⟩
  | .hbm, ⟨12, _⟩ => ⟨S4096x14336, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel15.lean ====
abbrev S4096x4096 : Shape := ⟨2, ![4096, 4096]⟩
abbrev S16384x3584 : Shape := ⟨2, ![16384, 3584]⟩
abbrev S_ : Shape := ⟨0, ![]⟩
abbrev S1 : Shape := ⟨1, ![1]⟩
abbrev S4096x14336 : Shape := ⟨2, ![4096, 14336]⟩
abbrev S1024x2048 : Shape := ⟨2, ![1024, 2048]⟩
abbrev S2048x1792 : Shape := ⟨2, ![2048, 1792]⟩
abbrev S1024x1792 : Shape := ⟨2, ![1024, 1792]⟩
abbrev S4096x3584 : Shape := ⟨2, ![4096, 3584]⟩

abbrev nBuf : Space → Nat
  | .hbm => 6
  | .vmem => 7
  | .smem => 1
  | _ => 0

abbrev bufTy : (tb : Table) → Fin (tcTables nBuf tb) → BufTy
  | .hbm, ⟨0, _⟩ => ⟨S4096x4096, .bf16⟩
  | .hbm, ⟨1, _⟩ => ⟨S16384x3584, .bf16⟩
  | .hbm, ⟨2, _⟩ => ⟨S_, .i32⟩
  | .hbm, ⟨3, _⟩ => ⟨S1, .i32⟩
  | .hbm, ⟨4, _⟩ => ⟨S4096x14336, .bf16⟩
  | .hbm, ⟨5, _⟩ => ⟨S4096x3584, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v2 : Ref sig .tc := ⟨.hbm, 4, rfl⟩
abbrev main_v3 : Ref sig .tc := ⟨.hbm, 5, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c2_i32 : BitVec 32 := 2#32
  let v2 : BitVec 32 := Scalar.muli v1 c2_i32
  let v3 : BitVec 32 := Scalar.addi v2 arg2
  let c2_i32_0 : BitVec 32 := 2#32
  let c0_i32_1 : BitVec 32 := 0#32
  let v4 : BitVec 1 := Scalar.cmpi .eq c2_i32_0 c0_i32_1
  let c1_i32 : BitVec 32 := 1#32
  let v5 : BitVec 32 := Scalar.select v4 c1_i32 c2_i32_0
  let v6 : BitVec 32 := Scalar.remsi arg1 v5
  let c0_i32_2 : BitVec 32 := 0#32
  let v7 : BitVec 1 := Scalar.cmpi .ne v6 c0_i32_2
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let v11 : BitVec 1 := Scalar.andi v10 v7
  let v12 : BitVec 32 := Scalar.addi v6 v5
  let v13 : BitVec 32 := Scalar.select v11 v12 v6
  let c0_i32_5 : BitVec 32 := 0#32
  ![v3.toNat, v13.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c2_i32 : BitVec 32 := 2#32
  let v2 : BitVec 32 := Scalar.muli v1 c2_i32
  let c2_i32_0 : BitVec 32 := 2#32
  let c0_i32_1 : BitVec 32 := 0#32
  let v3 : BitVec 1 := Scalar.cmpi .eq c2_i32_0 c0_i32_1
  let c1_i32 : BitVec 32 := 1#32
  let v4 : BitVec 32 := Scalar.select v3 c1_i32 c2_i32_0
  let v5 : BitVec 32 := Scalar.remsi arg1 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let v13 : BitVec 32 := Scalar.addi v2 v12
  let c0_i32_5 : BitVec 32 := 0#32
  ![arg0.toNat, v13.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x4096 : Shape := ⟨2, ![4096, 4096]⟩
abbrev S16384x3584 : Shape := ⟨2, ![16384, 3584]⟩
abbrev S4x4096x3584 : Shape := ⟨3, ![4, 4096, 3584]⟩
abbrev S4096x4x3584 : Shape := ⟨3, ![4096, 4, 3584]⟩
abbrev S4096x14336 : Shape := ⟨2, ![4096, 14336]⟩
abbrev S4096x3584 : Shape := ⟨2, ![4096, 3584]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16384x3584, .bf16⟩
  | .hbm, ⟨2, _⟩ => ⟨S4x4096x3584, .bf16⟩
  | .hbm, ⟨3, _⟩ => ⟨S4096x4x3584, .bf16⟩
  | .hbm, ⟨4, _⟩ => ⟨S4096x14336, .bf16⟩
  | .hbm, ⟨5, _⟩ => ⟨S4096x14336, .f32⟩
  | .hbm, ⟨6, _⟩ => ⟨S4096x4096, .f32⟩
  | .hbm, ⟨7, _⟩ => ⟨S4096x14336, .f32⟩
  | .hbm, ⟨8, _⟩ => ⟨S4096x14336, .bf16⟩
  | .hbm, ⟨9, _⟩ => ⟨S4096x3584, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel16.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S1x4096, .f32⟩
  | .hbm, ⟨3, _⟩ => ⟨S4096x4096, .bf16⟩
  | .hbm, ⟨4, _⟩ => ⟨S4096x4096, .f32⟩
  | .hbm, ⟨5, _⟩ => ⟨S1x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | .local _ .vmem, ⟨7, _⟩ => ⟨S256x4096, .f32⟩
  | .local _ .vmem, ⟨8, _⟩ => ⟨S256x4096, .f32⟩
  | .local _ .vmem, ⟨9, _⟩ => ⟨S1x4096, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference16Ideal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S1x4096, .f32⟩
  | .hbm, ⟨3, _⟩ => ⟨S4096x4096, .bf16⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Cross.Body.lean ====
/- What one call of the kernel body does to its blocks, case by case of the grid point, for any carrier of values. -/
module

public import proofs.«01_k».proof.Proof.Gen.KernelIdeal.Frame
public import proofs.«01_k».proof.Proof.Gen.KernelIdeal.Skeleton
public import Idealize.ShloMosaic.Lib.VecWindow
public import Idealize.ShloMosaic.Lib.Pipeline.TableIdle

@[expose] public section

set_option maxRecDepth 16384

noncomputable section

namespace Cert.Cross

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The shifted scores exponentiated, of one row block of queries against the memory. -/
def eAt (x1 : Vec F S1x1024x256 .bf16) (x3 : Vec F S1x256x256 .f32) (x5 x6 : Vec F S1024x256 .f32) (x7 x8 : Vec F S256x256 .f32) : FVec F S1024x256 .f32 :=
  k0_pay11 x3 x7 x8 x1 x5 x6

/-- Their row sums, along every column. -/
def lAt (x1 : Vec F S1x1024x256 .bf16) (x3 : Vec F S1x256x256 .f32) (x5 x6 : Vec F S1024x256 .f32) (x7 x8 : Vec F S256x256 .f32) : FVec F S1024x256 .f32 :=
  k0_pay12 x3 x7 x8 x1 x5 x6

/-- The block of query gradients that one step stores. -/
def dqOut (x0 : Vec F S1x1024x256 .f32) (x1 x2 : Vec F S1x1024x256 .bf16) (x3 x4 : Vec F S1x256x256 .f32) (x5 x6 : Vec F S1024x256 .f32) (x7 x8 : Vec F S256x256 .f32) : Vec F S1x1024x256 .bf16 :=
  k0_pay3 (k0_pay21 (k0_pay8 x3 x7 x8) (k0_pay9 x4) (eAt x1 x3 x5 x6 x7 x8) (lAt x1 x3 x5 x6 x7 x8) x2 x0) x5 x6

/-- The key gradient after one step over what it held, `y`. -/
def dmkStep (x0 : Vec F S1x1024x256 .f32) (x1 x2 : Vec F S1x1024x256 .bf16) (x3 x4 : Vec F S1x256x256 .f32) (x5 x6 : Vec F S1024x256 .f32) (x7 x8 : Vec F S256x256 .f32) (y : Vec F S1x256x256 .f32) : Vec F S1x256x256 .f32 :=
  k0_pay4 (k0_pay10 x1 x5 x6) (k0_pay20 (k0_pay9 x4) (eAt x1 x3 x5 x6 x7 x8) (lAt x1 x3 x5 x6 x7 x8) x2 x0) y

/-- The value gradient after one step over what it held, `y`. -/
def dmvStep (x0 : Vec F S1x1024x256 .f32) (x1 x2 : Vec F S1x1024x256 .bf16) (x3 x4 : Vec F S1x256x256 .f32) (x5 x6 : Vec F S1024x256 .f32) (x7 x8 : Vec F S256x256 .f32) (y : Vec F S1x256x256 .f32) : Vec F S1x256x256 .f32 :=
  k0_pay5 (k0_pay14 (eAt x1 x3 x5 x6 x7 x8) (lAt x1 x3 x5 x6 x7 x8)) (k0_pay19 x2 x0) y

/-- The gate's gradient of one step, kept in the scratch. -/
def dzOf (x0 : Vec F S1x1024x256 .f32) (x1 x2 : Vec F S1x1024x256 .bf16) (x3 x4 : Vec F S1x256x256 .f32) (x5 x6 : Vec F S1024x256 .f32) (x7 x8 : Vec F S256x256 .f32) : Vec F S1024x256 .f32 :=
  k0_pay18 (k0_pay9 x4) (eAt x1 x3 x5 x6 x7 x8) (lAt x1 x3 x5 x6 x7 x8) x2 x0

/-! ## Loads of a whole block -/

variable {κ : Kind} {sp : Space} {e : EltTy}

theorem load_S1x1024x256 (v : View sig κ sp S1x1024x256 e) (f : v.ty.Contents (Elt F)) (inb : ∀ a, (![0, 0, 0] : Fin S1x1024x256.rank → ℕ) a + (![1, 1024, 256] : Fin S1x1024x256.rank → ℕ) a ≤ S1x1024x256.size a) :
    v.readAt (Elt F) (Rect.unit (s := S1x1024x256) ![0, 0, 0] ![1, 1024, 256] inb).toLoadRect f = v.read (Elt F) f := v.readAt_full f inb

theorem reload_S1x1024x256 (v : View sig κ sp S1x1024x256 e) (f : v.ty.Contents (Elt F)) (inb inb' : ∀ a, (![0, 0, 0] : Fin S1x1024x256.rank → ℕ) a + (![1, 1024, 256] : Fin S1x1024x256.rank → ℕ) a ≤ S1x1024x256.size a)
    (w : (Rect.unit (s := S1x1024x256) ![0, 0, 0] ![1, 1024, 256] inb').shape.Idx → Elt F e) (L : List (View.Piece (Elt F) S1x1024x256 e)) :
    v.readAt (Elt F) (Rect.unit (s := S1x1024x256) ![0, 0, 0] ![1, 1024, 256] inb).toLoadRect (v.writes (Elt F) f (⟨Rect.unit (s := S1x1024x256) ![0, 0, 0] ![1, 1024, 256] inb', w⟩ :: L)) = w :=
  v.readAt_writes_full f inb inb' w L

theorem recov_S1x1024x256 [∀ e, Nonempty (Elt F e)] (v : View sig κ sp S1x1024x256 e) (inb inb' : ∀ a, (![0, 0, 0] : Fin S1x1024x256.rank → ℕ) a + (![1, 1024, 256] : Fin S1x1024x256.rank → ℕ) a ≤ S1x1024x256.size a)
    (w : (Rect.unit (s := S1x1024x256) ![0, 0, 0] ![1, 1024, 256] inb').shape.Idx → Elt F e) (L : List (View.Piece (Elt F) S1x1024x256 e)) :
    v.readCov (⟨Rect.unit (s := S1x1024x256) ![0, 0, 0] ![1, 1024, 256] inb', w⟩ :: L) (Rect.unit (s := S1x1024x256) ![0, 0, 0] ![1, 1024, 256] inb).toLoadRect = w :=
  v.readCov_full inb inb' w L

theorem load_S1x256x256 (v : View sig κ sp S1x256x256 e) (f : v.ty.Contents (Elt F)) (inb : ∀ a, (![0, 0, 0] : Fin S1x256x256.rank → ℕ) a + (![1, 256, 256] : Fin S1x256x256.rank → ℕ) a ≤ S1x256x256.size a) :
    v.readAt (Elt F) (Rect.unit (s := S1x256x256) ![0, 0, 0] ![1, 256, 256] inb).toLoadRect f = v.read (Elt F) f := v.readAt_full f inb

theorem reload_S1x256x256 (v : View sig κ sp S1x256x256 e) (f : v.ty.Contents (Elt F)) (inb inb' : ∀ a, (![0, 0, 0] : Fin S1x256x256.rank → ℕ) a + (![1, 256, 256] : Fin S1x256x256.rank → ℕ) a ≤ S1x256x256.size a)
    (w : (Rect.unit (s := S1x256x256) ![0, 0, 0] ![1, 256, 256] inb').shape.Idx → Elt F e) (L : List (View.Piece (Elt F) S1x256x256 e)) :
    v.readAt (Elt F) (Rect.unit (s := S1x256x256) ![0, 0, 0] ![1, 256, 256] inb).toLoadRect (v.writes (Elt F) f (⟨Rect.unit (s := S1x256x256) ![0, 0, 0] ![1, 256, 256] inb', w⟩ :: L)) = w :=
  v.readAt_writes_full f inb inb' w L

theorem recov_S1x256x256 [∀ e, Nonempty (Elt F e)] (v : View sig κ sp S1x256x256 e) (inb inb' : ∀ a, (![0, 0, 0] : Fin S1x256x256.rank → ℕ) a + (![1, 256, 256] : Fin S1x256x256.rank → ℕ) a ≤ S1x256x256.size a)
    (w : (Rect.unit (s := S1x256x256) ![0, 0, 0] ![1, 256, 256] inb').shape.Idx → Elt F e) (L : List (View.Piece (Elt F) S1x256x256 e)) :
    v.readCov (⟨Rect.unit (s := S1x256x256) ![0, 0, 0] ![1, 256, 256] inb', w⟩ :: L) (Rect.unit (s := S1x256x256) ![0, 0, 0] ![1, 256, 256] inb).toLoadRect = w :=
  v.readCov_full inb inb' w L

theorem load_S1024x256 (v : View sig κ sp S1024x256 e) (f : v.ty.Contents (Elt F)) (inb : ∀ a, (![0, 0] : Fin S1024x256.rank → ℕ) a + (![1024, 256] : Fin S1024x256.rank → ℕ) a ≤ S1024x256.size a) :
    v.readAt (Elt F) (Rect.unit (s := S1024x256) ![0, 0] ![1024, 256] inb).toLoadRect f = v.read (Elt F) f := v.readAt_full f inb

theorem reload_S1024x256 (v : View sig κ sp S1024x256 e) (f : v.ty.Contents (Elt F)) (inb inb' : ∀ a, (![0, 0] : Fin S1024x256.rank → ℕ) a + (![1024, 256] : Fin S1024x256.rank → ℕ) a ≤ S1024x256.size a)
    (w : (Rect.unit (s := S1024x256) ![0, 0] ![1024, 256] inb').shape.Idx → Elt F e) (L : List (View.Piece (Elt F) S1024x256 e)) :
    v.readAt (Elt F) (Rect.unit (s := S1024x256) ![0, 0] ![1024, 256] inb).toLoadRect (v.writes (Elt F) f (⟨Rect.unit (s := S1024x256) ![0, 0] ![1024, 256] inb', w⟩ :: L)) = w :=
  v.readAt_writes_full f inb inb' w L

theorem recov_S1024x256 [∀ e, Nonempty (Elt F e)] (v : View sig κ sp S1024x256 e) (inb inb' : ∀ a, (![0, 0] : Fin S1024x256.rank → ℕ) a + (![1024, 256] : Fin S1024x256.rank → ℕ) a ≤ S1024x256.size a)
    (w : (Rect.unit (s := S1024x256) ![0, 0] ![1024, 256] inb').shape.Idx → Elt F e) (L : List (View.Piece (Elt F) S1024x256 e)) :
    v.readCov (⟨Rect.unit (s := S1024x256) ![0, 0] ![1024, 256] inb', w⟩ :: L) (Rect.unit (s := S1024x256) ![0, 0] ![1024, 256] inb).toLoadRect = w :=
  v.readCov_full inb inb' w L

theorem load_S256x256 (v : View sig κ sp S256x256 e) (f : v.ty.Contents (Elt F)) (inb : ∀ a, (![0, 0] : Fin S256x256.rank → ℕ) a + (![256, 256] : Fin S256x256.rank → ℕ) a ≤ S256x256.size a) :
    v.readAt (Elt F) (Rect.unit (s := S256x256) ![0, 0] ![256, 256] inb).toLoadRect f = v.read (Elt F) f := v.readAt_full f inb

theorem reload_S256x256 (v : View sig κ sp S256x256 e) (f : v.ty.Contents (Elt F)) (inb inb' : ∀ a, (![0, 0] : Fin S256x256.rank → ℕ) a + (![256, 256] : Fin S256x256.rank → ℕ) a ≤ S256x256.size a)
    (w : (Rect.unit (s := S256x256) ![0, 0] ![256, 256] inb').shape.Idx → Elt F e) (L : List (View.Piece (Elt F) S256x256 e)) :
    v.readAt (Elt F) (Rect.unit (s := S256x256) ![0, 0] ![256, 256] inb).toLoadRect (v.writes (Elt F) f (⟨Rect.unit (s := S256x256) ![0, 0] ![256, 256] inb', w⟩ :: L)) = w :=
  v.readAt_writes_full f inb inb' w L

theorem recov_S256x256 [∀ e, Nonempty (Elt F e)] (v : View sig κ sp S256x256 e) (inb inb' : ∀ a, (![0, 0] : Fin S256x256.rank → ℕ) a + (![256, 256] : Fin S256x256.rank → ℕ) a ≤ S256x256.size a)
    (w : (Rect.unit (s := S256x256) ![0, 0] ![256, 256] inb').shape.Idx → Elt F e) (L : List (View.Piece (Elt F) S256x256 e)) :
    v.readCov (⟨Rect.unit (s := S256x256) ![0, 0] ![256, 256] inb', w⟩ :: L) (Rect.unit (s := S256x256) ![0, 0] ![256, 256] inb).toLoadRect = w :=
  v.readCov_full inb inb' w L

set_option maxHeartbeats 1000000 in
/-- The body at the first point of a head: the accumulators are zeroed, then the step is computed. -/
theorem runA (c : Dev nD) (i : grid0.Coords) (arg4 : Memref sig .tc .vmem S1x1024x256 .f32) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S256x256 .f32) (harg11 : arg11.IsWhole) (arg12 : Memref sig .tc .vmem S256x256 .f32) (harg12 : arg12.IsWhole) (arg14 : Memref sig .tc .vmem S1x1024x256 .bf16) (harg14 : arg14.IsWhole) (arg15 : Memref sig .tc .vmem S1x256x256 .f32) (harg15 : arg15.IsWhole) (arg16 : Memref sig .tc .vmem S1x256x256 .f32) (harg16 : arg16.IsWhole) (arg17 : Memref sig .tc .vmem S1024x256 .f32) (harg17 : arg17.IsWhole) (hc0 : k0_cond1 i = 1#1) (hc1 : k0_cond2 i = 1#1) (hc2 : ¬ k0_cond3 i = 1#1) (hc3 : ¬ k0_cond4 i = 1#1)
    (x0 : Vec F S1x1024x256 .f32) (x1 : Vec F S1x1024x256 .bf16) (x2 : Vec F S1x1024x256 .bf16) (x3 : Vec F S1x256x256 .f32) (x4 : Vec F S1x256x256 .f32) (x5 : Vec F S1024x256 .f32) (x6 : Vec F S1024x256 .f32) (x7 : Vec F S256x256 .f32) (x8 : Vec F S256x256 .f32)  (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg14 fullShare (dqOut x0 x1 x2 x3 x4 x5 x6 x7 x8) ∗ owns (c : Thread nD τ) arg15 fullShare (dmkStep x0 x1 x2 x3 x4 x5 x6 x7 x8 k0_pay1) ∗ owns (c : Thread nD τ) arg16 fullShare (dmvStep x0 x1 x2 x3 x4 x5 x6 x7 x8 k0_pay2) ∗ owns (c : Thread nD τ) arg17 fullShare (dzOf x0 x1 x2 x3 x4 x5 x6 x7 x8)) -∗ K ⟨⟩))
      ⊢ wp frame (wpE (defs₀ (F := F)) Variants.none c none) E (cc0_cross_bwd i arg4 harg4 arg5 harg5 arg6 harg6 arg7 harg7 arg8 harg8 arg9 harg9 arg10 harg10 arg11 harg11 arg12 harg12 (Memref.whole main_v41) (Memref.isWhole_whole _) arg14 harg14 arg15 harg15 arg16 harg16 arg17 harg17) K := by
  simp only [cc0_cross_bwd_eq_skeleton]; unfold cc0_cross_bwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; · ipureintro; exact harg11.read_unread _
    iexact H7
  isplitl [H8]
  · iexists _; isplitr; · ipureintro; exact harg12.read_unread _
    iexact H8
  isplitl [H9]
  · iexists _; isplitr; swap; · iexact H9
    ipureintro
    refine (View.read_writes_full _ _ _ _ _).trans ?_
    delta runA.sl.r runA.sl.r_1 runA.sl.r_2 runA.sl.r_3 runA.sl.r_4 runA.sl.r_5 runA.sl.r_6 runA.sl.r_7 runA.sl.r_8 runA.sl.v105 runA.sl.v112 runA.sl.H10_1 runA.sl.H11_1
    simp only [load_S1x1024x256, reload_S1x1024x256, recov_S1x1024x256, load_S1x256x256, reload_S1x256x256, recov_S1x256x256, load_S1024x256, reload_S1024x256, recov_S1024x256, load_S256x256, reload_S256x256, recov_S256x256, Memref.IsWhole.read_unread, dqOut, dmkStep, dmvStep, dzOf, eAt, lAt]
  isplitl [H10]
  · iexists _; isplitr; swap; · iexact H10
    ipureintro
    refine (View.read_writes_full _ _ _ _ _).trans ?_
    delta runA.sl.r runA.sl.r_1 runA.sl.r_2 runA.sl.r_3 runA.sl.r_4 runA.sl.r_5 runA.sl.r_6 runA.sl.r_7 runA.sl.r_8 runA.sl.v105 runA.sl.v112 runA.sl.H10_1 runA.sl.H11_1
    simp only [load_S1x1024x256, reload_S1x1024x256, recov_S1x1024x256, load_S1x256x256, reload_S1x256x256, recov_S1x256x256, load_S1024x256, reload_S1024x256, recov_S1024x256, load_S256x256, reload_S256x256, recov_S256x256, Memref.IsWhole.read_unread, dqOut, dmkStep, dmvStep, dzOf, eAt, lAt]
  isplitl [H11]
  · iexists _; isplitr; swap; · iexact H11
    ipureintro
    refine (View.read_writes_full _ _ _ _ _).trans ?_
    delta runA.sl.r runA.sl.r_1 runA.sl.r_2 runA.sl.r_3 runA.sl.r_4 runA.sl.r_5 runA.sl.r_6 runA.sl.r_7 runA.sl.r_8 runA.sl.v105 runA.sl.v112 runA.sl.H10_1 runA.sl.H11_1
    simp only [load_S1x1024x256, reload_S1x1024x256, recov_S1x1024x256, load_S1x256x256, reload_S1x256x256, recov_S1x256x256, load_S1024x256, reload_S1024x256, recov_S1024x256, load_S256x256, reload_S256x256, recov_S256x256, Memref.IsWhole.read_unread, dqOut, dmkStep, dmvStep, dzOf, eAt, lAt]
  · iexists _; isplitr; swap; · iexact H12
    ipureintro
    refine (View.read_writes_full _ _ _ _ _).trans ?_
    delta runA.sl.r runA.sl.r_1 runA.sl.r_2 runA.sl.r_3 runA.sl.r_4 runA.sl.r_5 runA.sl.r_6 runA.sl.r_7 runA.sl.r_8 runA.sl.v105 runA.sl.v112 runA.sl.H10_1 runA.sl.H11_1
    simp only [load_S1x1024x256, reload_S1x1024x256, recov_S1x1024x256, load_S1x256x256, reload_S1x256x256, recov_S1x256x256, load_S1024x256, reload_S1024x256, recov_S1024x256, load_S256x256, reload_S256x256, recov_S256x256, Memref.IsWhole.read_unread, dqOut, dmkStep, dmvStep, dzOf, eAt, lAt]

set_option maxHeartbeats 1000000 in
/-- The body at the second row block's first point: the step is computed over the accumulators as they stand. -/
theorem runC (c : Dev nD) (i : grid0.Coords) (arg4 : Memref sig .tc .vmem S1x1024x256 .f32) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S256x256 .f32) (harg11 : arg11.IsWhole) (arg12 : Memref sig .tc .vmem S256x256 .f32) (harg12 : arg12.IsWhole) (arg14 : Memref sig .tc .vmem S1x1024x256 .bf16) (harg14 : arg14.IsWhole) (arg15 : Memref sig .tc .vmem S1x256x256 .f32) (harg15 : arg15.IsWhole) (arg16 : Memref sig .tc .vmem S1x256x256 .f32) (harg16 : arg16.IsWhole) (arg17 : Memref sig .tc .vmem S1024x256 .f32) (harg17 : arg17.IsWhole) (hc0 : ¬ k0_cond1 i = 1#1) (hc1 : k0_cond2 i = 1#1) (hc2 : ¬ k0_cond3 i = 1#1) (hc3 : ¬ k0_cond4 i = 1#1)
    (x0 : Vec F S1x1024x256 .f32) (x1 : Vec F S1x1024x256 .bf16) (x2 : Vec F S1x1024x256 .bf16) (x3 : Vec F S1x256x256 .f32) (x4 : Vec F S1x256x256 .f32) (x5 : Vec F S1024x256 .f32) (x6 : Vec F S1024x256 .f32) (x7 : Vec F S256x256 .f32) (x8 : Vec F S256x256 .f32) (y10 : Vec F S1x256x256 .f32) (y11 : Vec F S1x256x256 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg14 fullShare d) ∗ owns (c : Thread nD τ) arg15 fullShare y10 ∗ owns (c : Thread nD τ) arg16 fullShare y11 ∗ (∃ d, owns (c : Thread nD τ) arg17 fullShare d)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg14 fullShare (dqOut x0 x1 x2 x3 x4 x5 x6 x7 x8) ∗ owns (c : Thread nD τ) arg15 fullShare (dmkStep x0 x1 x2 x3 x4 x5 x6 x7 x8 y10) ∗ owns (c : Thread nD τ) arg16 fullShare (dmvStep x0 x1 x2 x3 x4 x5 x6 x7 x8 y11) ∗ owns (c : Thread nD τ) arg17 fullShare (dzOf x0 x1 x2 x3 x4 x5 x6 x7 x8)) -∗ K ⟨⟩))
      ⊢ wp frame (wpE (defs₀ (F := F)) Variants.none c none) E (cc0_cross_bwd i arg4 harg4 arg5 harg5 arg6 harg6 arg7 harg7 arg8 harg8 arg9 harg9 arg10 harg10 arg11 harg11 arg12 harg12 (Memref.whole main_v41) (Memref.isWhole_whole _) arg14 harg14 arg15 harg15 arg16 harg16 arg17 harg17) K := by
  simp only [cc0_cross_bwd_eq_skeleton]; unfold cc0_cross_bwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg15.eq_unread hf10; obtain rfl := harg16.eq_unread hf11
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; · ipureintro; exact harg11.read_unread _
    iexact H7
  isplitl [H8]
  · iexists _; isplitr; · ipureintro; exact harg12.read_unread _
    iexact H8
  isplitl [H9]
  · iexists _; isplitr; swap; · iexact H9
    ipureintro
    refine (View.read_writes_full _ _ _ _ _).trans ?_
    delta runC.sl.r runC.sl.r_1 runC.sl.r_2 runC.sl.r_3 runC.sl.r_4 runC.sl.r_5 runC.sl.r_6 runC.sl.r_7 runC.sl.r_8
    simp only [load_S1x1024x256, reload_S1x1024x256, recov_S1x1024x256, load_S1x256x256, reload_S1x256x256, recov_S1x256x256, load_S1024x256, reload_S1024x256, recov_S1024x256, load_S256x256, reload_S256x256, recov_S256x256, Memref.IsWhole.read_unread, dqOut, dmkStep, dmvStep, dzOf, eAt, lAt]
  isplitl [H10]
  · iexists _; isplitr; swap; · iexact H10
    ipureintro
    refine (View.read_writes_full _ _ _ _ _).trans ?_
    delta runC.sl.r runC.sl.r_1 runC.sl.r_2 runC.sl.r_3 runC.sl.r_4 runC.sl.r_5 runC.sl.r_6 runC.sl.r_7 runC.sl.r_8
    simp only [load_S1x1024x256, reload_S1x1024x256, recov_S1x1024x256, load_S1x256x256, reload_S1x256x256, recov_S1x256x256, load_S1024x256, reload_S1024x256, recov_S1024x256, load_S256x256, reload_S256x256, recov_S256x256, Memref.IsWhole.read_unread, dqOut, dmkStep, dmvStep, dzOf, eAt, lAt]
  isplitl [H11]
  · iexists _; isplitr; swap; · iexact H11
    ipureintro
    refine (View.read_writes_full _ _ _ _ _).trans ?_
    delta runC.sl.r runC.sl.r_1 runC.sl.r_2 runC.sl.r_3 runC.sl.r_4 runC.sl.r_5 runC.sl.r_6 runC.sl.r_7 runC.sl.r_8
    simp only [load_S1x1024x256, reload_S1x1024x256, recov_S1x1024x256, load_S1x256x256, reload_S1x256x256, recov_S1x256x256, load_S1024x256, reload_S1024x256, recov_S1024x256, load_S256x256, reload_S256x256, recov_S256x256, Memref.IsWhole.read_unread, dqOut, dmkStep, dmvStep, dzOf, eAt, lAt]
  · iexists _; isplitr; swap; · iexact H12
    ipureintro
    refine (View.read_writes_full _ _ _ _ _).trans ?_
    delta runC.sl.r runC.sl.r_1 runC.sl.r_2 runC.sl.r_3 runC.sl.r_4 runC.sl.r_5 runC.sl.r_6 runC.sl.r_7 runC.sl.r_8
    simp only [load_S1x1024x256, reload_S1x1024x256, recov_S1x1024x256, load_S1x256x256, reload_S1x256x256, recov_S1x256x256, load_S1024x256, reload_S1024x256, recov_S1024x256, load_S256x256, reload_S256x256, recov_S256x256, Memref.IsWhole.read_unread, dqOut, dmkStep, dmvStep, dzOf, eAt, lAt]

set_option maxHeartbeats 1000000 in
/-- The body at the first row block's second point: only the gate's gradient is stored, from the scratch. -/
theorem runB (c : Dev nD) (i : grid0.Coords) (arg4 : Memref sig .tc .vmem S1x1024x256 .f32) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S256x256 .f32) (harg11 : arg11.IsWhole) (arg12 : Memref sig .tc .vmem S256x256 .f32) (harg12 : arg12.IsWhole) (arg14 : Memref sig .tc .vmem S1x1024x256 .bf16) (harg14 : arg14.IsWhole) (arg15 : Memref sig .tc .vmem S1x256x256 .f32) (harg15 : arg15.IsWhole) (arg16 : Memref sig .tc .vmem S1x256x256 .f32) (harg16 : arg16.IsWhole) (arg17 : Memref sig .tc .vmem S1024x256 .f32) (harg17 : arg17.IsWhole) (hc0 : ¬ k0_cond1 i = 1#1) (hc1 : ¬ k0_cond2 i = 1#1) (hc2 : k0_cond3 i = 1#1) (hc3 : ¬ k0_cond4 i = 1#1)
    (x0 : Vec F S1x1024x256 .f32) (x1 : Vec F S1x1024x256 .bf16) (x2 : Vec F S1x1024x256 .bf16) (x3 : Vec F S1x256x256 .f32) (x4 : Vec F S1x256x256 .f32) (x5 : Vec F S1024x256 .f32) (x6 : Vec F S1024x256 .f32) (x7 : Vec F S256x256 .f32) (x8 : Vec F S256x256 .f32) (y10 : Vec F S1x256x256 .f32) (y11 : Vec F S1x256x256 .f32) (s : Vec F S1024x256 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg14 fullShare d) ∗ owns (c : Thread nD τ) arg15 fullShare y10 ∗ owns (c : Thread nD τ) arg16 fullShare y11 ∗ owns (c : Thread nD τ) arg17 fullShare s
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg14 fullShare (k0_pay6 s) ∗ owns (c : Thread nD τ) arg15 fullShare y10 ∗ owns (c : Thread nD τ) arg16 fullShare y11 ∗ owns (c : Thread nD τ) arg17 fullShare s) -∗ K ⟨⟩))
      ⊢ wp frame (wpE (defs₀ (F := F)) Variants.none c none) E (cc0_cross_bwd i arg4 harg4 arg5 harg5 arg6 harg6 arg7 harg7 arg8 harg8 arg9 harg9 arg10 harg10 arg11 harg11 arg12 harg12 (Memref.whole main_v41) (Memref.isWhole_whole _) arg14 harg14 arg15 harg15 arg16 harg16 arg17 harg17) K := by
  simp only [cc0_cross_bwd_eq_skeleton]; unfold cc0_cross_bwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg15.eq_unread hf10; obtain rfl := harg16.eq_unread hf11; obtain rfl := harg17.eq_unread hf12
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; · ipureintro; exact harg11.read_unread _
    iexact H7
  isplitl [H8]
  · iexists _; isplitr; · ipureintro; exact harg12.read_unread _
    iexact H8
  isplitl [H9]
  · iexists _; isplitr; swap; · iexact H9
    ipureintro
    refine (View.read_writes_full _ _ _ _ _).trans ?_
    simp only [load_S1x1024x256, reload_S1x1024x256, recov_S1x1024x256, load_S1x256x256, reload_S1x256x256, recov_S1x256x256, load_S1024x256, reload_S1024x256, recov_S1024x256, load_S256x256, reload_S256x256, recov_S256x256, Memref.IsWhole.read_unread, dqOut, dmkStep, dmvStep, dzOf, eAt, lAt]
  isplitl [H10]
  · iexists _; isplitr; swap; · iexact H10
    ipureintro
    exact harg15.read_unread _
  isplitl [H11]
  · iexists _; isplitr; swap; · iexact H11
    ipureintro
    exact harg16.read_unread _
  · iexists _; isplitr; swap; · iexact H12
    ipureintro
    exact harg17.read_unread _

set_option maxHeartbeats 1000000 in
/-- The body at the last point of a head: the gate's gradient is stored and the key gradient is turned back. -/
theorem runD (c : Dev nD) (i : grid0.Coords) (arg4 : Memref sig .tc .vmem S1x1024x256 .f32) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S256x256 .f32) (harg11 : arg11.IsWhole) (arg12 : Memref sig .tc .vmem S256x256 .f32) (harg12 : arg12.IsWhole) (arg14 : Memref sig .tc .vmem S1x1024x256 .bf16) (harg14 : arg14.IsWhole) (arg15 : Memref sig .tc .vmem S1x256x256 .f32) (harg15 : arg15.IsWhole) (arg16 : Memref sig .tc .vmem S1x256x256 .f32) (harg16 : arg16.IsWhole) (arg17 : Memref sig .tc .vmem S1024x256 .f32) (harg17 : arg17.IsWhole) (hc0 : ¬ k0_cond1 i = 1#1) (hc1 : ¬ k0_cond2 i = 1#1) (hc2 : k0_cond3 i = 1#1) (hc3 : k0_cond4 i = 1#1)
    (x0 : Vec F S1x1024x256 .f32) (x1 : Vec F S1x1024x256 .bf16) (x2 : Vec F S1x1024x256 .bf16) (x3 : Vec F S1x256x256 .f32) (x4 : Vec F S1x256x256 .f32) (x5 : Vec F S1024x256 .f32) (x6 : Vec F S1024x256 .f32) (x7 : Vec F S256x256 .f32) (x8 : Vec F S256x256 .f32) (y10 : Vec F S1x256x256 .f32) (y11 : Vec F S1x256x256 .f32) (s : Vec F S1024x256 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg14 fullShare d) ∗ owns (c : Thread nD τ) arg15 fullShare y10 ∗ owns (c : Thread nD τ) arg16 fullShare y11 ∗ owns (c : Thread nD τ) arg17 fullShare s
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg14 fullShare (k0_pay6 s) ∗ owns (c : Thread nD τ) arg15 fullShare (k0_pay7 y10 x7 x8) ∗ owns (c : Thread nD τ) arg16 fullShare y11 ∗ owns (c : Thread nD τ) arg17 fullShare s) -∗ K ⟨⟩))
      ⊢ wp frame (wpE (defs₀ (F := F)) Variants.none c none) E (cc0_cross_bwd i arg4 harg4 arg5 harg5 arg6 harg6 arg7 harg7 arg8 harg8 arg9 harg9 arg10 harg10 arg11 harg11 arg12 harg12 (Memref.whole main_v41) (Memref.isWhole_whole _) arg14 harg14 arg15 harg15 arg16 harg16 arg17 harg17) K := by
  simp only [cc0_cross_bwd_eq_skeleton]; unfold cc0_cross_bwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg15.eq_unread hf10; obtain rfl := harg16.eq_unread hf11; obtain rfl := harg17.eq_unread hf12
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; · ipureintro; exact harg11.read_unread _
    iexact H7
  isplitl [H8]
  · iexists _; isplitr; · ipureintro; exact harg12.read_unread _
    iexact H8
  isplitl [H9]
  · iexists _; isplitr; swap; · iexact H9
    ipureintro
    refine (View.read_writes_full _ _ _ _ _).trans ?_
    simp only [load_S1x1024x256, reload_S1x1024x256, recov_S1x1024x256, load_S1x256x256, reload_S1x256x256, recov_S1x256x256, load_S1024x256, reload_S1024x256, recov_S1024x256, load_S256x256, reload_S256x256, recov_S256x256, Memref.IsWhole.read_unread, dqOut, dmkStep, dmvStep, dzOf, eAt, lAt]
  isplitl [H10]
  · iexists _; isplitr; swap; · iexact H10
    ipureintro
    refine (View.read_writes_full _ _ _ _ _).trans ?_
    simp only [load_S1x1024x256, reload_S1x1024x256, recov_S1x1024x256, load_S1x256x256, reload_S1x256x256, recov_S1x256x256, load_S1024x256, reload_S1024x256, recov_S1024x256, load_S256x256, reload_S256x256, recov_S256x256, Memref.IsWhole.read_unread, dqOut, dmkStep, dmvStep, dzOf, eAt, lAt]
  isplitl [H11]
  · iexists _; isplitr; swap; · iexact H11
    ipureintro
    exact harg16.read_unread _
  · iexists _; isplitr; swap; · iexact H12
    ipureintro
    exact harg17.read_unread _

end Cert.Cross

end
-- ==== Proof.Cross.Run.lean ====
/- The kernel's run over its whole grid, with what every block holds after each point: the query-gradient and
   gate-gradient blocks, the key and value gradients gathered over a head's row blocks, and the scratch. -/
module

public import proofs.«01_k».proof.Proof.Cross.Body
public import Idealize.ShloMosaic.Lib.Claim

@[expose] public section

set_option maxRecDepth 16384

noncomputable section

namespace Cert.Cross

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the body's conditions hold -/

theorem coords_facts (t : Fin cfg0.N) : t.val < 32 ∧ (grid0.coords t 0).val = t.val / 16 % 2
    ∧ (grid0.coords t 1).val = t.val / 4 % 4 ∧ (grid0.coords t 2).val = t.val / 2 % 2 ∧ (grid0.coords t 3).val = t.val / 1 % 2 :=
  ⟨Nat.lt_of_lt_of_eq t.isLt N_0, Pipeline.Grid.coords_val t 0 (by decide) rfl, Pipeline.Grid.coords_val t 1 (by decide) rfl,
    Pipeline.Grid.coords_val t 2 (by decide) rfl, Pipeline.Grid.coords_val t 3 (by decide) rfl⟩

/-- The accumulators are zeroed at a head's first point. -/
theorem cond1_iff (t : Fin cfg0.N) : k0_cond1 (grid0.coords t) = 1#1 ↔ t.val % 4 = 0 := by
  obtain ⟨ht, e0, e1, e2, e3⟩ := coords_facts t
  simp only [k0_cond1, e0, e1, e2, e3]
  word_cmp
/-- The step is computed at the even points. -/
theorem cond2_iff (t : Fin cfg0.N) : k0_cond2 (grid0.coords t) = 1#1 ↔ t.val % 2 = 0 := by
  obtain ⟨ht, e0, e1, e2, e3⟩ := coords_facts t
  simp only [k0_cond2, e0, e1, e2, e3]
  word_cmp
/-- The gate's gradient is stored at the odd points. -/
theorem cond3_iff (t : Fin cfg0.N) : k0_cond3 (grid0.coords t) = 1#1 ↔ t.val % 2 = 1 := by
  obtain ⟨ht, e0, e1, e2, e3⟩ := coords_facts t
  simp only [k0_cond3, e0, e1, e2, e3]
  word_cmp
/-- The key gradient is turned back at a head's last point. -/
theorem cond4_iff (t : Fin cfg0.N) : k0_cond4 (grid0.coords t) = 1#1 ↔ t.val % 4 = 3 := by
  obtain ⟨ht, e0, e1, e2, e3⟩ := coords_facts t
  simp only [k0_cond4, e0, e1, e2, e3]
  word_cmp

/-! ## What every block holds after each point -/

/-- The grid's point of a number (taken round the grid, so that it is one always). -/
def pt (n : ℕ) : Fin cfg0.N := ⟨n % 32, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

/-- The query gradients stored at an even point. -/
def dqAt (c : Dev nD) (t : Fin cfg0.N) : Vec F S1x1024x256 .bf16 :=
  dqOut (iblk m c 0 t) (iblk m c 1 t) (iblk m c 2 t) (iblk m c 3 t) (iblk m c 4 t) (iblk m c 5 t) (iblk m c 6 t) (iblk m c 7 t) (iblk m c 8 t)

/-- The gate's gradient computed at an even point. -/
def dzAt (c : Dev nD) (t : Fin cfg0.N) : Vec F S1024x256 .f32 :=
  dzOf (iblk m c 0 t) (iblk m c 1 t) (iblk m c 2 t) (iblk m c 3 t) (iblk m c 4 t) (iblk m c 5 t) (iblk m c 6 t) (iblk m c 7 t) (iblk m c 8 t)

/-- One even point's step of the key gradient. -/
def kStep (c : Dev nD) (t : Fin cfg0.N) (y : Vec F S1x256x256 .f32) : Vec F S1x256x256 .f32 :=
  dmkStep (iblk m c 0 t) (iblk m c 1 t) (iblk m c 2 t) (iblk m c 3 t) (iblk m c 4 t) (iblk m c 5 t) (iblk m c 6 t) (iblk m c 7 t) (iblk m c 8 t) y

/-- One even point's step of the value gradient. -/
def vStep (c : Dev nD) (t : Fin cfg0.N) (y : Vec F S1x256x256 .f32) : Vec F S1x256x256 .f32 :=
  dmvStep (iblk m c 0 t) (iblk m c 1 t) (iblk m c 2 t) (iblk m c 3 t) (iblk m c 4 t) (iblk m c 5 t) (iblk m c 6 t) (iblk m c 7 t) (iblk m c 8 t) y

/-- The scratch after point `n`: the gate's gradient of the last even point. -/
def scAt (c : Dev nD) (n : ℕ) : Vec F S1024x256 .f32 := dzAt m c (pt (n / 2 * 2))

/-- The block of the third result after point `n`: query gradients at an even point, the gate's at an odd one. -/
def oAt (c : Dev nD) (n : ℕ) : Vec F S1x1024x256 .bf16 :=
  if n % 2 = 0 then dqAt m c (pt n) else k0_pay6 (scAt m c n)

/-- The key gradient after point `n`. -/
def kAt (c : Dev nD) (n : ℕ) : Vec F S1x256x256 .f32 :=
  if n % 4 < 2 then kStep m c (pt (n / 4 * 4)) k0_pay1
  else if n % 4 = 2 then kStep m c (pt (n / 4 * 4 + 2)) (kStep m c (pt (n / 4 * 4)) k0_pay1)
  else k0_pay7 (kStep m c (pt (n / 4 * 4 + 2)) (kStep m c (pt (n / 4 * 4)) k0_pay1)) (iblk m c 7 (pt n)) (iblk m c 8 (pt n))

/-- The value gradient after point `n`. -/
def vAt (c : Dev nD) (n : ℕ) : Vec F S1x256x256 .f32 :=
  if n % 4 < 2 then vStep m c (pt (n / 4 * 4)) k0_pay2
  else vStep m c (pt (n / 4 * 4 + 2)) (vStep m c (pt (n / 4 * 4)) k0_pay2)

theorem scAt_even (c : Dev nD) {n : ℕ} (h : n % 2 = 0) : scAt m c n = dzAt m c (pt n) := by
  rw [scAt, show n / 2 * 2 = n by omega]
theorem scAt_odd (c : Dev nD) {n : ℕ} (h : n % 2 = 1) : scAt m c n = scAt m c (n - 1) := by
  rw [scAt, scAt, show n / 2 * 2 = (n - 1) / 2 * 2 by omega]
theorem oAt_even (c : Dev nD) {n : ℕ} (h : n % 2 = 0) : oAt m c n = dqAt m c (pt n) := by rw [oAt, if_pos h]
theorem oAt_odd (c : Dev nD) {n : ℕ} (h : n % 2 = 1) : oAt m c n = k0_pay6 (scAt m c (n - 1)) := by
  rw [oAt, if_neg (by omega), scAt_odd m c h]
theorem kAt_0 (c : Dev nD) {n : ℕ} (h : n % 4 = 0) : kAt m c n = kStep m c (pt n) k0_pay1 := by
  rw [kAt, if_pos (by omega), show n / 4 * 4 = n by omega]
theorem kAt_1 (c : Dev nD) {n : ℕ} (h : n % 4 = 1) : kAt m c n = kAt m c (n - 1) := by
  rw [kAt, if_pos (by omega), kAt, if_pos (by omega), show n / 4 * 4 = (n - 1) / 4 * 4 by omega]
theorem kAt_2 (c : Dev nD) {n : ℕ} (h : n % 4 = 2) : kAt m c n = kStep m c (pt n) (kAt m c (n - 1)) := by
  rw [kAt, if_neg (by omega), if_pos h, kAt, if_pos (by omega), show n / 4 * 4 + 2 = n by omega, show n / 4 * 4 = (n - 1) / 4 * 4 by omega]
theorem kAt_3 (c : Dev nD) {n : ℕ} (h : n % 4 = 3) : kAt m c n = k0_pay7 (kAt m c (n - 1)) (iblk m c 7 (pt n)) (iblk m c 8 (pt n)) := by
  rw [kAt, if_neg (by omega), if_neg (by omega), kAt, if_neg (by omega), if_pos (by omega), show n / 4 * 4 = (n - 1) / 4 * 4 by omega]
theorem vAt_0 (c : Dev nD) {n : ℕ} (h : n % 4 = 0) : vAt m c n = vStep m c (pt n) k0_pay2 := by
  rw [vAt, if_pos (by omega), show n / 4 * 4 = n by omega]
theorem vAt_1 (c : Dev nD) {n : ℕ} (h : n % 4 = 1) : vAt m c n = vAt m c (n - 1) := by
  rw [vAt, if_pos (by omega), vAt, if_pos (by omega), show n / 4 * 4 = (n - 1) / 4 * 4 by omega]
theorem vAt_2 (c : Dev nD) {n : ℕ} (h : n % 4 = 2) : vAt m c n = vStep m c (pt n) (vAt m c (n - 1)) := by
  rw [vAt, if_neg (by omega), vAt, if_pos (by omega), show n / 4 * 4 + 2 = n by omega, show n / 4 * 4 = (n - 1) / 4 * 4 by omega]
theorem vAt_3 (c : Dev nD) {n : ℕ} (h : n % 4 = 3) : vAt m c n = vAt m c (n - 1) := by
  rw [vAt, if_neg (by omega), vAt, if_neg (by omega), show n / 4 * 4 = (n - 1) / 4 * 4 by omega]

/-! ## The proof data -/

/-- The scratch operand, whole. -/
abbrev scM : Memref sig .tc .vmem S1024x256 .f32 := Memref.whole cc0_scratch0

/-- What is carried beside the blocks before position `n`: anything in the scratch at first, then `scAt`. -/
def Phi (c : Dev nD) : ℕ → sProp 𝕄
  | 0 => Pipeline.ΦA spec0 c
  | n + 1 => iprop(owns (c : Thread nD τ) scM fullShare (scAt m c n) ∗ (∃ r, prngReg c r))

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- At every position the scratch holds something. -/
theorem Phi_out (c : Dev nD) (n : ℕ) : Phi m c n ⊢ (iprop((∃ d, owns (c : Thread nD τ) scM fullShare d) ∗ (∃ r, prngReg c r)) : sProp 𝕄) := by
  cases n with
  | zero => rw [← PhiA_eq]; exact .rfl
  | succ n =>
    unfold Phi
    iintro ⟨H, Hg⟩
    isplitl [H]
    · iexists _; iexact H
    iexact Hg

theorem Phi_pos (c : Dev nD) {n : ℕ} (h : n ≠ 0) :
    Phi m c n = iprop(owns (c : Thread nD τ) scM fullShare (scAt m c (n - 1)) ∗ (∃ r, prngReg c r)) := by
  cases n with
  | zero => exact absurd rfl h
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => oAt m c t.val
    | ⟨10, _⟩ => kAt m c t.val
    | ⟨11, _⟩ => vAt m c t.val
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = oAt m c t.val := by dsimp only [dats]
theorem after_10 (c : Dev nD) (t : Fin cfg0.N) : (dats m 0 c).after 10 t = kAt m c t.val := by dsimp only [dats]
theorem after_11 (c : Dev nD) (t : Fin cfg0.N) : (dats m 0 c).after 11 t = vAt m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ### Where the output windows are idle -/

theorem idle9 (t : Fin cfg0.N) : cfg0.idle 9 (grid0.coords t) = false := by
  show (!(k0_cond2 (grid0.coords t) == 1#1) && !(k0_cond3 (grid0.coords t) == 1#1)) = false
  rcases Nat.mod_two_eq_zero_or_one t.val with h | h
  · rw [(cond2_iff t).mpr h]; rfl
  · rw [(cond3_iff t).mpr h]; simp
theorem idle10_live (t : Fin cfg0.N) (h : t.val % 4 ≠ 1) : cfg0.idle 10 (grid0.coords t) = false := by
  show (!(k0_cond1 (grid0.coords t) == 1#1) && !(k0_cond2 (grid0.coords t) == 1#1) && !(k0_cond4 (grid0.coords t) == 1#1)) = false
  rcases (by omega : t.val % 2 = 0 ∨ t.val % 4 = 3) with h | h
  · rw [(cond2_iff t).mpr h]; simp
  · rw [(cond4_iff t).mpr h]; simp
theorem idle11_live (t : Fin cfg0.N) (h : t.val % 2 = 0) : cfg0.idle 11 (grid0.coords t) = false := by
  show (!(k0_cond1 (grid0.coords t) == 1#1) && !(k0_cond2 (grid0.coords t) == 1#1)) = false
  rw [(cond2_iff t).mpr h]; simp
theorem idle10_idle (t : Fin cfg0.N) (h : t.val % 4 = 1) : cfg0.idle 10 (grid0.coords t) = true := by
  show (!(k0_cond1 (grid0.coords t) == 1#1) && !(k0_cond2 (grid0.coords t) == 1#1) && !(k0_cond4 (grid0.coords t) == 1#1)) = true
  have a : ¬ k0_cond1 (grid0.coords t) = 1#1 := fun e => by have := (cond1_iff t).mp e; omega
  have b : ¬ k0_cond2 (grid0.coords t) = 1#1 := fun e => by have := (cond2_iff t).mp e; omega
  have d : ¬ k0_cond4 (grid0.coords t) = 1#1 := fun e => by have := (cond4_iff t).mp e; omega
  simp [a, b, d]
theorem idle11_idle (t : Fin cfg0.N) (h : t.val % 2 = 1) : cfg0.idle 11 (grid0.coords t) = true := by
  show (!(k0_cond1 (grid0.coords t) == 1#1) && !(k0_cond2 (grid0.coords t) == 1#1)) = true
  have a : ¬ k0_cond1 (grid0.coords t) = 1#1 := fun e => by have := (cond1_iff t).mp e; omega
  have b : ¬ k0_cond2 (grid0.coords t) = 1#1 := fun e => by have := (cond2_iff t).mp e; omega
  simp [a, b]

theorem flush10_false (t : Fin cfg0.N) (h : t.val % 4 ≠ 3) : (cfg0.win 10).flush t = false :=
  Bool.eq_false_iff.mpr fun e => h ((flush0_10 t).mp e)
theorem flush11_false (t : Fin cfg0.N) (h : t.val % 4 ≠ 3) : (cfg0.win 11).flush t = false :=
  Bool.eq_false_iff.mpr fun e => h ((flush0_11 t).mp e)

/-- The key gradient's block holds nothing stored exactly at a head's first point. -/
theorem fresh10 (n : ℕ) (h : n ≤ cfg0.N) : cfg0.fresh 10 n = decide (n % 4 = 0) :=
  Cfg.fresh_tab cfg0 10 (fun n => decide (n % 4 = 0)) rfl (fun t => by
    by_cases h3 : t.val % 4 = 3
    · rw [(flush0_10 t).mpr h3, Bool.true_or]; simp; omega
    · rw [flush10_false t h3, Bool.false_or]
      by_cases h1 : t.val % 4 = 1
      · rw [idle10_idle t h1, Bool.true_and, decide_eq_decide]; omega
      · rw [idle10_live t h1, Bool.false_and]; simp; omega) n h
theorem fresh11 (n : ℕ) (h : n ≤ cfg0.N) : cfg0.fresh 11 n = decide (n % 4 = 0) :=
  Cfg.fresh_tab cfg0 11 (fun n => decide (n % 4 = 0)) rfl (fun t => by
    by_cases h3 : t.val % 4 = 3
    · rw [(flush0_11 t).mpr h3, Bool.true_or]; simp; omega
    · rw [flush11_false t h3, Bool.false_or]
      by_cases h1 : t.val % 2 = 1
      · rw [idle11_idle t h1, Bool.true_and, decide_eq_decide]; omega
      · rw [idle11_live t (by omega), Bool.false_and]; simp; omega) n h

/-- Within a head the key gradient's block holds what the point before left. -/
theorem before_10 (c : Dev nD) (t : Fin cfg0.N) (h : t.val % 4 ≠ 0) (d) : (dats m 0 c).before 10 t d = kAt m c (t.val - 1) := by
  rw [(dats m 0 c).before_out_traj 10 rfl (fun _ _ => rfl) (fun t h0 hi hf => by
    rw [after_10, after_10]
    have h1 : t.val % 4 = 1 := by
      by_contra h1
      rw [show cfg0.grid.coords t = grid0.coords t from rfl, idle10_live t h1] at hi
      exact Bool.false_ne_true hi
    exact kAt_1 m c h1) t.val t rfl d, fresh10 _ (Nat.le_of_lt t.isLt), if_neg (by simpa using h), after_10]
theorem before_11 (c : Dev nD) (t : Fin cfg0.N) (h : t.val % 4 ≠ 0) (d) : (dats m 0 c).before 11 t d = vAt m c (t.val - 1) := by
  rw [(dats m 0 c).before_out_traj 11 rfl (fun _ _ => rfl) (fun t h0 hi hf => by
    rw [after_11, after_11]
    have h1 : t.val % 2 = 1 := by
      by_contra h1
      rw [show cfg0.grid.coords t = grid0.coords t from rfl, idle11_live t (by omega)] at hi
      exact Bool.false_ne_true hi
    rcases (by omega : t.val % 4 = 1 ∨ t.val % 4 = 3) with h | h
    · exact vAt_1 m c h
    · exact vAt_3 m c h) t.val t rfl d, fresh11 _ (Nat.le_of_lt t.isLt), if_neg (by simpa using h), after_11]

/-! ## The body obligation -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)
abbrev ms11 (t : Fin cfg0.N) := win0_11.stage (cfg0.slots t 11)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem leaves_0 (c : Dev nD) (t : Fin cfg0.N) : (dats m 0 c).leavesExact 0 t = owns (c : Thread nD τ) (ms0 t) fullShare ((dats m 0 c).after 0 t) := by
  unfold Dat.leavesExact; rw [show cfg0.idle 0 (cfg0.grid.coords t) = false from rfl]
theorem leaves_1 (c : Dev nD) (t : Fin cfg0.N) : (dats m 0 c).leavesExact 1 t = owns (c : Thread nD τ) (ms1 t) fullShare ((dats m 0 c).after 1 t) := by
  unfold Dat.leavesExact; rw [show cfg0.idle 1 (cfg0.grid.coords t) = false from rfl]
theorem leaves_2 (c : Dev nD) (t : Fin cfg0.N) : (dats m 0 c).leavesExact 2 t = owns (c : Thread nD τ) (ms2 t) fullShare ((dats m 0 c).after 2 t) := by
  unfold Dat.leavesExact; rw [show cfg0.idle 2 (cfg0.grid.coords t) = false from rfl]
theorem leaves_3 (c : Dev nD) (t : Fin cfg0.N) : (dats m 0 c).leavesExact 3 t = owns (c : Thread nD τ) (ms3 t) fullShare ((dats m 0 c).after 3 t) := by
  unfold Dat.leavesExact; rw [show cfg0.idle 3 (cfg0.grid.coords t) = false from rfl]
theorem leaves_4 (c : Dev nD) (t : Fin cfg0.N) : (dats m 0 c).leavesExact 4 t = owns (c : Thread nD τ) (ms4 t) fullShare ((dats m 0 c).after 4 t) := by
  unfold Dat.leavesExact; rw [show cfg0.idle 4 (cfg0.grid.coords t) = false from rfl]
theorem leaves_5 (c : Dev nD) (t : Fin cfg0.N) : (dats m 0 c).leavesExact 5 t = owns (c : Thread nD τ) (ms5 t) fullShare ((dats m 0 c).after 5 t) := by
  unfold Dat.leavesExact; rw [show cfg0.idle 5 (cfg0.grid.coords t) = false from rfl]
theorem leaves_6 (c : Dev nD) (t : Fin cfg0.N) : (dats m 0 c).leavesExact 6 t = owns (c : Thread nD τ) (ms6 t) fullShare ((dats m 0 c).after 6 t) := by
  unfold Dat.leavesExact; rw [show cfg0.idle 6 (cfg0.grid.coords t) = false from rfl]
theorem leaves_7 (c : Dev nD) (t : Fin cfg0.N) : (dats m 0 c).leavesExact 7 t = owns (c : Thread nD τ) (ms7 t) fullShare ((dats m 0 c).after 7 t) := by
  unfold Dat.leavesExact; rw [show cfg0.idle 7 (cfg0.grid.coords t) = false from rfl]
theorem leaves_8 (c : Dev nD) (t : Fin cfg0.N) : (dats m 0 c).leavesExact 8 t = owns (c : Thread nD τ) (ms8 t) fullShare ((dats m 0 c).after 8 t) := by
  unfold Dat.leavesExact; rw [show cfg0.idle 8 (cfg0.grid.coords t) = false from rfl]
theorem leaves_9 (c : Dev nD) (t : Fin cfg0.N) : (dats m 0 c).leavesExact 9 t = owns (c : Thread nD τ) (ms9 t) fullShare ((dats m 0 c).after 9 t) := by
  unfold Dat.leavesExact; rw [show cfg0.idle 9 (cfg0.grid.coords t) = false from idle9 t]
theorem pre_weaken {P P' R W : sProp 𝕄} (h : P ⊢ P') (h' : iprop(P' ∗ R) ⊢ W) : iprop(P ∗ R) ⊢ W := (sep_mono_l h).trans h'

theorem leaves_10 (c : Dev nD) (t : Fin cfg0.N) (h : t.val % 4 ≠ 1) : (dats m 0 c).leavesExact 10 t = owns (c : Thread nD τ) (ms10 t) fullShare ((dats m 0 c).after 10 t) := by
  unfold Dat.leavesExact; rw [show cfg0.idle 10 (cfg0.grid.coords t) = false from idle10_live t h]
theorem leaves_11 (c : Dev nD) (t : Fin cfg0.N) (h : t.val % 2 = 0) : (dats m 0 c).leavesExact 11 t = owns (c : Thread nD τ) (ms11 t) fullShare ((dats m 0 c).after 11 t) := by
  unfold Dat.leavesExact; rw [show cfg0.idle 11 (cfg0.grid.coords t) = false from idle11_live t h]
theorem leaves_10_kept (c : Dev nD) (t : Fin cfg0.N) (h : t.val % 4 = 1) : (dats m 0 c).leavesExact 10 t = iprop(∃ d, owns (c : Thread nD τ) (ms10 t) fullShare ((dats m 0 c).before 10 t d)) :=
  (dats m 0 c).leavesExact_idle 10 t (idle10_idle t h) (flush10_false t (by omega))
theorem leaves_11_kept (c : Dev nD) (t : Fin cfg0.N) (h : t.val % 4 = 1) : (dats m 0 c).leavesExact 11 t = iprop(∃ d, owns (c : Thread nD τ) (ms11 t) fullShare ((dats m 0 c).before 11 t d)) :=
  (dats m 0 c).leavesExact_idle 11 t (idle11_idle t (by omega)) (flush11_false t (by omega))
theorem leaves_11_last (c : Dev nD) (t : Fin cfg0.N) (h : t.val % 4 = 3) : (dats m 0 c).leavesExact 11 t = owns (c : Thread nD τ) (ms11 t) fullShare ((dats m 0 c).after 11 t) := by
  unfold Dat.leavesExact
  rw [show cfg0.idle 11 (cfg0.grid.coords t) = true from idle11_idle t (by omega), (flush0_11 t).mpr h]

theorem owes_eq (c : Dev nD) (t : Fin cfg0.N) : (dats m 0 c).owesAt () t.castSucc = (dats m 0 c).owesAt () t.succ := rfl

theorem Phi_castSucc (c : Dev nD) (t : Fin cfg0.N) : (dats m 0 c).Φ t.castSucc = Phi m c t.val := by dsimp only [dats, Fin.val_castSucc]
theorem Phi_succ (c : Dev nD) (t : Fin cfg0.N) : (dats m 0 c).Φ t.succ = iprop(owns (c : Thread nD τ) scM fullShare (scAt m c t.val) ∗ (∃ r, prngReg c r)) := by
  dsimp only [dats, Fin.val_succ]; rfl

set_option maxHeartbeats 1000000 in
theorem soundA (c : Dev nD) (t : Fin cfg0.N) (h : t.val % 4 = 0) :
    bodyPre m c t ⊢ wp frame (wpE (defs₀ (F := F)) Variants.none c none) Set.univ (bodyAt0 t) fun _ => bodyPost m c t := by
  unfold bodyPre bodyPost
  simp only [before_0, before_1, before_2, before_3, before_4, before_5, before_6, before_7, before_8]
  rw [Phi_castSucc, Phi_succ, leaves_0, after_0, leaves_1, after_1, leaves_2, after_2, leaves_3, after_3, leaves_4, after_4, leaves_5, after_5, leaves_6, after_6, leaves_7, after_7, leaves_8, after_8, leaves_9, after_9]
  rw [leaves_10 m c t (by omega), leaves_11 m c t (by omega), after_10, after_11]
  rw [oAt_even m c (by omega : t.val % 2 = 0), kAt_0 m c h, vAt_0 m c h, scAt_even m c (by omega : t.val % 2 = 0)]
  rw [pt_val]
  refine pre_weaken (Phi_out m c t.val) ?_
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runA c (grid0.coords t) _ _ _ _ _ _ _ _ _ _ _ _ _ _ _ _ _ _ _ _ _ _ _ _ _ _ ((cond1_iff t).mpr (by omega)) ((cond2_iff t).mpr (by omega)) (fun e => by have := (cond3_iff t).mp e; omega) (fun e => by have := (cond4_iff t).mp e; omega) (iblk m c 0 t) (iblk m c 1 t) (iblk m c 2 t) (iblk m c 3 t) (iblk m c 4 t) (iblk m c 5 t) (iblk m c 6 t) (iblk m c 7 t) (iblk m c 8 t)   Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1000000 in
theorem soundC (c : Dev nD) (t : Fin cfg0.N) (h : t.val % 4 = 2) :
    bodyPre m c t ⊢ wp frame (wpE (defs₀ (F := F)) Variants.none c none) Set.univ (bodyAt0 t) fun _ => bodyPost m c t := by
  unfold bodyPre bodyPost
  simp only [before_0, before_1, before_2, before_3, before_4, before_5, before_6, before_7, before_8, before_10 m c t (by omega), before_11 m c t (by omega)]
  rw [Phi_castSucc, Phi_succ, leaves_0, after_0, leaves_1, after_1, leaves_2, after_2, leaves_3, after_3, leaves_4, after_4, leaves_5, after_5, leaves_6, after_6, leaves_7, after_7, leaves_8, after_8, leaves_9, after_9]
  rw [leaves_10 m c t (by omega), leaves_11 m c t (by omega), after_10, after_11]
  rw [oAt_even m c (by omega : t.val % 2 = 0), kAt_2 m c h, vAt_2 m c h, scAt_even m c (by omega : t.val % 2 = 0)]
  rw [pt_val]
  refine pre_weaken (Phi_out m c t.val) ?_
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runC c (grid0.coords t) _ _ _ _ _ _ _ _ _ _ _ _ _ _ _ _ _ _ _ _ _ _ _ _ _ _ (fun e => by have := (cond1_iff t).mp e; omega) ((cond2_iff t).mpr (by omega)) (fun e => by have := (cond3_iff t).mp e; omega) (fun e => by have := (cond4_iff t).mp e; omega) (iblk m c 0 t) (iblk m c 1 t) (iblk m c 2 t) (iblk m c 3 t) (iblk m c 4 t) (iblk m c 5 t) (iblk m c 6 t) (iblk m c 7 t) (iblk m c 8 t) (kAt m c (t.val - 1)) (vAt m c (t.val - 1))  Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1000000 in
theorem soundB (c : Dev nD) (t : Fin cfg0.N) (h : t.val % 4 = 1) :
    bodyPre m c t ⊢ wp frame (wpE (defs₀ (F := F)) Variants.none c none) Set.univ (bodyAt0 t) fun _ => bodyPost m c t := by
  unfold bodyPre bodyPost
  simp only [before_0, before_1, before_2, before_3, before_4, before_5, before_6, before_7, before_8, before_10 m c t (by omega), before_11 m c t (by omega)]
  rw [Phi_castSucc, Phi_succ, leaves_0, after_0, leaves_1, after_1, leaves_2, after_2, leaves_3, after_3, leaves_4, after_4, leaves_5, after_5, leaves_6, after_6, leaves_7, after_7, leaves_8, after_8, leaves_9, after_9]
  rw [leaves_10_kept m c t h, leaves_11_kept m c t h]
  simp only [before_10 m c t (by omega), before_11 m c t (by omega)]
  rw [oAt_odd m c (by omega : t.val % 2 = 1), scAt_odd m c (by omega : t.val % 2 = 1)]
  rw [Phi_pos m c (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runB c (grid0.coords t) _ _ _ _ _ _ _ _ _ _ _ _ _ _ _ _ _ _ _ _ _ _ _ _ _ _ (fun e => by have := (cond1_iff t).mp e; omega) (fun e => by have := (cond2_iff t).mp e; omega) ((cond3_iff t).mpr (by omega)) (fun e => by have := (cond4_iff t).mp e; omega) (iblk m c 0 t) (iblk m c 1 t) (iblk m c 2 t) (iblk m c 3 t) (iblk m c 4 t) (iblk m c 5 t) (iblk m c 6 t) (iblk m c 7 t) (iblk m c 8 t) (kAt m c (t.val - 1)) (vAt m c (t.val - 1)) (scAt m c (t.val - 1)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists d10; iexact H10
  iexists d11; iexact H11

set_option maxHeartbeats 1000000 in
theorem soundD (c : Dev nD) (t : Fin cfg0.N) (h : t.val % 4 = 3) :
    bodyPre m c t ⊢ wp frame (wpE (defs₀ (F := F)) Variants.none c none) Set.univ (bodyAt0 t) fun _ => bodyPost m c t := by
  unfold bodyPre bodyPost
  simp only [before_0, before_1, before_2, before_3, before_4, before_5, before_6, before_7, before_8, before_10 m c t (by omega), before_11 m c t (by omega)]
  rw [Phi_castSucc, Phi_succ, leaves_0, after_0, leaves_1, after_1, leaves_2, after_2, leaves_3, after_3, leaves_4, after_4, leaves_5, after_5, leaves_6, after_6, leaves_7, after_7, leaves_8, after_8, leaves_9, after_9]
  rw [leaves_10 m c t (by omega), leaves_11_last m c t h, after_10, after_11]
  rw [oAt_odd m c (by omega : t.val % 2 = 1), kAt_3 m c h, vAt_3 m c h, scAt_odd m c (by omega : t.val % 2 = 1)]
  rw [pt_val]
  rw [Phi_pos m c (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runD c (grid0.coords t) _ _ _ _ _ _ _ _ _ _ _ _ _ _ _ _ _ _ _ _ _ _ _ _ _ _ (fun e => by have := (cond1_iff t).mp e; omega) (fun e => by have := (cond2_iff t).mp e; omega) ((cond3_iff t).mpr (by omega)) ((cond4_iff t).mpr (by omega)) (iblk m c 0 t) (iblk m c 1 t) (iblk m c 2 t) (iblk m c 3 t) (iblk m c 4 t) (iblk m c 5 t) (iblk m c 6 t) (iblk m c 7 t) (iblk m c 8 t) (kAt m c (t.val - 1)) (vAt m c (t.val - 1)) (scAt m c (t.val - 1)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body's triple at every point. -/
theorem sound (c : Dev nD) (t : Fin cfg0.N) :
    bodyPre m c t ⊢ wp frame (wpE (defs₀ (F := F)) Variants.none c none) Set.univ (bodyAt0 t) fun _ => bodyPost m c t := by
  rcases (by omega : t.val % 4 = 0 ∨ t.val % 4 = 1 ∨ t.val % 4 = 2 ∨ t.val % 4 = 3) with h | h | h | h
  · exact soundA m c t h
  · exact soundB m c t h
  · exact soundC m c t h
  · exact soundD m c t h

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (sound m c t) rfl .rfl fun _ => .rfl

/-! ## The run -/

theorem Phi_in (c : Dev nD) : Pipeline.ΦA spec0 c ⊢ (dats m 0 c).Φ 0 := by
  rw [show (dats m 0 c).Φ 0 = Phi m c 0 by dsimp only [dats]; rfl]; exact .rfl

theorem Phi_end (c : Dev nD) : (dats m 0 c).Φ (Fin.last cfg0.N) ⊢ Pipeline.ΦA spec0 c := by
  rw [show (dats m 0 c).Φ (Fin.last cfg0.N) = Phi m c cfg0.N by dsimp only [dats]; rfl, PhiA_eq]
  exact Phi_out m c _

set_option backward.isDefEq.respectTransparency.types false in
/-- From any memory every execution ends, with every array of the pipeline at what the write-backs left and every
    semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m)
    (hin := Phi_in m) (hout := Phi_end m)

theorem run_main : θ_run defs (onTc (τ := τ) (main (F := F))) (s₀ m ρ) (Pipeline.FramePost cfgs (dats m) 0 (V m)) :=
  (θ_run defs _ _).mono (fun _ h => h.1) (run_quiet m ρ)

/-- The frame: the argument arrays end as they began, and every semaphore at zero. -/
theorem unmoved : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.Cross

end
-- ==== Proof.Cross.Math.lean ====
/- The gradient of one row of a softmax attention, over the extended reals: the row's scores, their softmax, and two ways
   to write the gradient of the scores, which agree where every entry is a real number. -/
module

public import Idealize.ShloMosaic.PureOps.Ideal.Laws
public import Idealize.ShloMosaic.Lib.Pointwise

@[expose] public section

noncomputable section

namespace Cert.Cross

open Idealize.ShloMosaic

/-! ## Real entries -/

/-- An extended real that is a real number. -/
def IsReal (x : EReal) : Prop := ∃ r : ℝ, x = (r : EReal)

theorem IsReal.coe (r : ℝ) : IsReal (r : EReal) := ⟨r, rfl⟩
theorem IsReal.zero : IsReal 0 := ⟨0, by norm_cast⟩
theorem IsReal.one : IsReal 1 := ⟨1, by norm_cast⟩
theorem IsReal.add {x y : EReal} (hx : IsReal x) (hy : IsReal y) : IsReal (x + y) := by
  obtain ⟨a, rfl⟩ := hx; obtain ⟨b, rfl⟩ := hy; exact ⟨a + b, by norm_cast⟩
theorem IsReal.mul {x y : EReal} (hx : IsReal x) (hy : IsReal y) : IsReal (x * y) := by
  obtain ⟨a, rfl⟩ := hx; obtain ⟨b, rfl⟩ := hy; exact ⟨a * b, by norm_cast⟩
theorem IsReal.neg {x : EReal} (hx : IsReal x) : IsReal (-x) := by
  obtain ⟨a, rfl⟩ := hx; exact ⟨-a, by norm_cast⟩
theorem IsReal.sub {x y : EReal} (hx : IsReal x) (hy : IsReal y) : IsReal (x - y) := by
  rw [sub_eq_add_neg]; exact hx.add hy.neg
theorem IsReal.exp {x : EReal} (hx : IsReal x) : IsReal (Ideal.exp x) := by
  obtain ⟨a, rfl⟩ := hx; exact ⟨Real.exp a, by simp⟩
theorem IsReal.cos {x : EReal} (hx : IsReal x) : IsReal (Ideal.cos x) := by
  obtain ⟨a, rfl⟩ := hx; exact ⟨Real.cos a, rfl⟩
theorem IsReal.sin {x : EReal} (hx : IsReal x) : IsReal (Ideal.sin x) := by
  obtain ⟨a, rfl⟩ := hx; exact ⟨Real.sin a, rfl⟩
theorem IsReal.div {x : EReal} (hx : IsReal x) {r : ℝ} (hr : r ≠ 0) : IsReal (Ideal.div x (r : EReal)) := by
  rw [Ideal.div_coe hr]; exact hx.mul ⟨_, rfl⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem IsReal.of_ne {x : EReal} (h1 : x ≠ ⊤) (h2 : x ≠ ⊥) : IsReal x := by
  induction x with
  | bot => exact absurd rfl h2
  | top => exact absurd rfl h1
  | coe r => exact ⟨r, rfl⟩

/-- The pattern of minus infinity. -/
theorem ofBits_bot : Ideal.ofBits .f32 4286578688#32 = ⊥ := by simp [Ideal.ofBits, Ideal.ieee]
/-- The pattern of a sixteenth. -/
theorem ofBits_sixteenth : Ideal.ofBits .f32 1031798784#32 = (((1 : ℝ) / 16 : ℝ) : EReal) := by
  simp [Ideal.ofBits, Ideal.ieee, -EReal.coe_mul]; norm_num

/-- The greatest of a family of real numbers is one. -/
theorem IsReal.max {n : ℕ} {f : Fin (n + 1) → EReal} (h : ∀ i, IsReal (f i)) :
    IsReal (Finset.fold max ⊥ f Finset.univ) := by
  refine .of_ne (ne_of_lt ?_) (ne_of_gt ?_)
  · rw [Finset.fold_max_lt]
    refine ⟨bot_lt_top, fun x _ => ?_⟩
    obtain ⟨r, hr⟩ := h x
    rw [hr]; exact EReal.coe_lt_top r
  · rw [Finset.lt_fold_max]
    obtain ⟨r, hr⟩ := h 0
    exact .inr ⟨0, Finset.mem_univ _, by rw [hr]; exact EReal.bot_lt_coe r⟩

/-! ## One row of the attention -/

/-- The scale of the scores. -/
abbrev c16 : EReal := Ideal.ofBits .f32 1031798784#32

section Row
variable (q u : Fin 256 → EReal) (K V : Fin 256 → Fin 256 → EReal) (j : Fin 256)

/-- The score of key `j`. -/
def score : EReal := (∑ d, q d * K j d) * c16
/-- The row's greatest score. -/
def top : EReal := Finset.fold max (Ideal.ofBits .f32 4286578688#32) (fun k => score q K k) Finset.univ
/-- The exponential of a score below the greatest. -/
def ex : EReal := Ideal.exp (score q K j - top q K)
/-- The sum of the row's exponentials. -/
def tot : EReal := ∑ k, ex q K k
/-- The probability of key `j`. -/
def pr : EReal := Ideal.div (ex q K j) (tot q K)
/-- The gradient of probability `j`, from the gradient `u` of the row's output. -/
def dp : EReal := ∑ d, u d * V j d
/-- The gradient of score `j`, by the row's probabilities. -/
def ds : EReal := pr q K j * (dp u V j - ∑ k, dp u V k * pr q K k) * c16
/-- The gradient of score `j`, by the quotient rule on the exponentials and their sum. -/
def dsQuot : EReal :=
  (Ideal.div (dp u V j) (tot q K) + -(∑ k, dp u V k * Ideal.div 1 (tot q K * tot q K) * ex q K k)) * ex q K j * c16
end Row

theorem ex_pos {q : Fin 256 → EReal} {K : Fin 256 → Fin 256 → EReal} (hq : ∀ d, IsReal (q d)) (hK : ∀ j d, IsReal (K j d))
    (j : Fin 256) : ∃ r : ℝ, 0 < r ∧ ex q K j = (r : EReal) := by
  have hs : ∀ j, IsReal (score q K j) := fun j => by
    unfold score c16
    rw [ofBits_sixteenth]
    exact (IsReal.sum _ fun d => (hq d).mul (hK j d)).mul ⟨_, rfl⟩
  have ht : IsReal (top q K) := by
    unfold top
    rw [ofBits_bot]
    exact IsReal.max hs
  obtain ⟨r, hr⟩ := (hs j).sub ht
  exact ⟨Real.exp r, Real.exp_pos r, by rw [ex, hr]; simp⟩

theorem tot_pos {q : Fin 256 → EReal} {K : Fin 256 → Fin 256 → EReal} (hq : ∀ d, IsReal (q d)) (hK : ∀ j d, IsReal (K j d)) :
    ∃ r : ℝ, 0 < r ∧ tot q K = (r : EReal) := by
  choose e he using ex_pos hq hK
  refine ⟨∑ k, e k, Finset.sum_pos (fun k _ => (he k).1) ⟨0, Finset.mem_univ _⟩, ?_⟩
  rw [coe_sum, tot]
  exact Finset.sum_congr rfl fun k _ => (he k).2

theorem pr_real {q : Fin 256 → EReal} {K : Fin 256 → Fin 256 → EReal} (hq : ∀ d, IsReal (q d)) (hK : ∀ j d, IsReal (K j d))
    (j : Fin 256) : IsReal (pr q K j) := by
  obtain ⟨r, hr, h⟩ := tot_pos hq hK
  obtain ⟨e, _, he⟩ := ex_pos hq hK j
  rw [pr, h, he]
  exact (IsReal.coe e).div hr.ne'

/-- The two ways to write the gradient of a score agree on real entries. -/
theorem ds_eq {q u : Fin 256 → EReal} {K V : Fin 256 → Fin 256 → EReal} (hq : ∀ d, IsReal (q d)) (hK : ∀ j d, IsReal (K j d))
    (hu : ∀ d, IsReal (u d)) (hV : ∀ j d, IsReal (V j d)) (j : Fin 256) : ds q u K V j = dsQuot q u K V j := by
  choose e he using ex_pos hq hK
  obtain ⟨l, hl, hL⟩ := tot_pos hq hK
  have hdp : ∀ j, IsReal (dp u V j) := fun j => IsReal.sum _ fun d => (hu d).mul (hV j d)
  choose p hp using hdp
  have hll : l * l ≠ 0 := mul_ne_zero hl.ne' hl.ne'
  unfold ds dsQuot pr c16
  simp only [hL, (he _).2, hp, ofBits_sixteenth, ← EReal.coe_mul, Ideal.div_coe hl.ne', Ideal.div_coe hll, one_mul, ← coe_sum, ← EReal.coe_sub,
    ← EReal.coe_neg, ← EReal.coe_add]
  congr 1
  have : ∑ k, p k * (1 / (l * l)) * e k = (∑ k, p k * (e k * (1 / l))) * (1 / l) := by
    rw [Finset.sum_mul]
    refine Finset.sum_congr rfl fun k _ => ?_
    field_simp
  rw [this]
  ring

/-! ## The gate -/

/-- The logistic function of the gate. -/
def sg (z : EReal) : EReal := Ideal.div 1 (1 + Ideal.exp (0 - z))

theorem sg_real {z : EReal} (hz : IsReal z) : IsReal (sg z) := by
  obtain ⟨r, rfl⟩ := hz
  have h : (1 : EReal) + Ideal.exp (0 - (r : EReal)) = ((1 + Real.exp (0 - r) : ℝ) : EReal) := by
    rw [← EReal.coe_zero, ← EReal.coe_sub, Ideal.exp_coe, ← EReal.coe_one, ← EReal.coe_add]
  rw [sg, h]
  exact IsReal.one.div (by positivity)

/-- The gate's gradient: the derivative of `z` times its logistic, written as one product and as a sum of two. -/
theorem gate_eq {a b z : EReal} (ha : IsReal a) (hb : IsReal b) (hz : IsReal z) :
    a * b * (sg z * (1 + z * (1 - sg z))) = b * a * sg z + z * (b * a) * (sg z * (1 - sg z)) := by
  obtain ⟨s, hs⟩ := sg_real hz
  obtain ⟨a, rfl⟩ := ha; obtain ⟨b, rfl⟩ := hb; obtain ⟨z, rfl⟩ := hz
  rw [hs, ← EReal.coe_one]
  simp only [← EReal.coe_mul, ← EReal.coe_sub, ← EReal.coe_add]
  congr 1
  ring

end Cert.Cross
-- ==== Proof.Cross.Spec.lean ====
/- The gradient of the gated cross-attention as a function of plain arrays: `D` the incoming gradient, `P` the projections,
   `M` the memory's keys and values, and tables of cosines and signed sines for the queries and for the keys. -/
module

public import proofs.«01_k».proof.Proof.Cross.Math

@[expose] public section

noncomputable section

namespace Cert.Cross

/-- The place of the other half's entry. -/
abbrev turn (d : Fin 256) : Fin 256 := ⟨((d : ℕ) + 256 - 128) % 256, Nat.mod_lt _ (by decide)⟩

/-- A row turned by the tables' angles. -/
def rot (x c s : Fin 256 → EReal) (d : Fin 256) : EReal := x d * c d + x (turn d) * s d

/-- The transposed turn. -/
def rotT (g c s : Fin 256 → EReal) (d : Fin 256) : EReal := g d * c d + g (turn d) * s (turn d)

/-- A position of a sequence, as a row. -/
abbrev row (b : Fin 2) (s : Fin 2048) : Fin 4096 := ⟨b * 2048 + s, by have := b.isLt; have := s.isLt; omega⟩
/-- A memory slot, as a row. -/
abbrev slot (b : Fin 2) (j : Fin 256) : Fin 512 := ⟨b * 256 + j, by have := b.isLt; have := j.isLt; omega⟩
/-- An entry of a head, as a column, from column `o` on. -/
abbrev col {n : ℕ} (o : ℕ) (ho : o + 1024 ≤ n) (h : Fin 4) (d : Fin 256) : Fin n :=
  ⟨o + (h * 256 + d), by have := h.isLt; have := d.isLt; omega⟩

/-- The head that a column belongs to. -/
abbrev head {n : ℕ} (c : Fin n) : Fin 4 := ⟨c % 1024 / 256, by omega⟩
/-- A column's entry in its head. -/
abbrev entry {n : ℕ} (c : Fin n) : Fin 256 := ⟨c % 256, Nat.mod_lt _ (by decide)⟩

/-- The gradient of the projections: in its last columns those of the queries and of the gate, elsewhere as it was. -/
def joined (r : Fin 4096 → Fin 14336 → EReal) (x y : Fin 2 → Fin 4 → Fin 2048 → Fin 256 → EReal) (b : Fin 2) (s : Fin 2048) (n : Fin 14336) : EReal :=
  if n.val < 12288 then r (row b s) n else if n.val < 13312 then x b (head n) s (entry n) else y b (head n) s (entry n)

/-- What the gradient is computed from. -/
structure Given where
  D : Fin 4096 → Fin 4096 → EReal
  P : Fin 4096 → Fin 14336 → EReal
  M : Fin 512 → Fin 2048 → EReal
  cq : Fin 2048 → Fin 256 → EReal
  sq : Fin 2048 → Fin 256 → EReal
  cm : Fin 256 → Fin 256 → EReal
  sm : Fin 256 → Fin 256 → EReal

namespace Given
variable (g : Given) (b : Fin 2) (h : Fin 4)

/-- Rotated queries. -/
def q (s : Fin 2048) : Fin 256 → EReal := rot (fun d => g.P (row b s) (col 12288 (by decide) h d)) (g.cq s) (g.sq s)
/-- Rotated keys. -/
def k (j : Fin 256) : Fin 256 → EReal := rot (fun d => g.M (slot b j) (col 0 (by decide) h d)) (g.cm j) (g.sm j)
/-- Values. -/
def v (j d : Fin 256) : EReal := g.M (slot b j) (col 1024 (by decide) h d)
/-- The gate's argument. -/
def z (s : Fin 2048) (d : Fin 256) : EReal := g.P (row b s) (col 13312 (by decide) h d)
/-- The incoming gradient. -/
def ct (s : Fin 2048) (d : Fin 256) : EReal := g.D (row b s) (col 3072 (by decide) h d)
/-- The gradient of the attention's output. -/
def u (s : Fin 2048) (d : Fin 256) : EReal := g.ct b h s d * (g.z b h s d * sg (g.z b h s d))
/-- The attention's output. -/
def o (s : Fin 2048) (d : Fin 256) : EReal := ∑ j, pr (g.q b h s) (g.k b h) j * g.v b h j d
/-- The gradients of the scores, by the probabilities. -/
def e (s : Fin 2048) (j : Fin 256) : EReal := ds (g.q b h s) (g.u b h s) (g.k b h) (g.v b h) j
/-- The gradients of the scores, by the quotient rule. -/
def eQuot (s : Fin 2048) (j : Fin 256) : EReal := dsQuot (g.q b h s) (g.u b h s) (g.k b h) (g.v b h) j

/-- The gradient of the queries, from those of the scores. -/
def dq (E : Fin 2048 → Fin 256 → EReal) (s : Fin 2048) : Fin 256 → EReal :=
  rotT (fun d => ∑ j, E s j * g.k b h j d) (g.cq s) (g.sq s)
/-- The gradient of the keys. -/
def dk (E : Fin 2048 → Fin 256 → EReal) (j : Fin 256) : Fin 256 → EReal :=
  rotT (fun d => ∑ s, E s j * g.q b h s d) (g.cm j) (g.sm j)
/-- The gradient of the values. -/
def dv (j d : Fin 256) : EReal := ∑ s, pr (g.q b h s) (g.k b h) j * g.u b h s d
/-- The gradient of the gate, as one product. -/
def dz (s : Fin 2048) (d : Fin 256) : EReal :=
  g.ct b h s d * g.o b h s d * (sg (g.z b h s d) * (1 + g.z b h s d * (1 - sg (g.z b h s d))))
/-- The gradient of the gate, as a sum of two. -/
def dzSum (s : Fin 2048) (d : Fin 256) : EReal :=
  g.o b h s d * g.ct b h s d * sg (g.z b h s d) + g.z b h s d * (g.o b h s d * g.ct b h s d) * (sg (g.z b h s d) * (1 - sg (g.z b h s d)))

/-- All entries are real numbers. -/
structure Real : Prop where
  D : ∀ r c, IsReal (g.D r c)
  P : ∀ r c, IsReal (g.P r c)
  M : ∀ r c, IsReal (g.M r c)
  cq : ∀ s d, IsReal (g.cq s d)
  sq : ∀ s d, IsReal (g.sq s d)
  cm : ∀ s d, IsReal (g.cm s d)
  sm : ∀ s d, IsReal (g.sm s d)

variable {g}

theorem Real.rot {x c s : Fin 256 → EReal} (hx : ∀ d, IsReal (x d)) (hc : ∀ d, IsReal (c d)) (hs : ∀ d, IsReal (s d)) (d : Fin 256) :
    IsReal (rot x c s d) := ((hx d).mul (hc d)).add ((hx _).mul (hs d))

theorem Real.q (r : g.Real) (s : Fin 2048) (d : Fin 256) : IsReal (g.q b h s d) := Real.rot (fun _ => r.P _ _) (r.cq s) (r.sq s) d
theorem Real.k (r : g.Real) (j d : Fin 256) : IsReal (g.k b h j d) := Real.rot (fun _ => r.M _ _) (r.cm j) (r.sm j) d
theorem Real.u (r : g.Real) (s : Fin 2048) (d : Fin 256) : IsReal (g.u b h s d) :=
  (r.D _ _).mul ((r.P _ _).mul (sg_real (r.P _ _)))
theorem Real.o (r : g.Real) (s : Fin 2048) (d : Fin 256) : IsReal (g.o b h s d) :=
  IsReal.sum _ fun j => (pr_real (r.q b h s) (r.k b h) j).mul (r.M _ _)

theorem Real.e_eq (r : g.Real) : g.e b h = g.eQuot b h := by
  funext s j
  exact ds_eq (r.q b h s) (r.k b h) (r.u b h s) (fun _ _ => r.M _ _) j

theorem Real.dz_eq (r : g.Real) (s : Fin 2048) (d : Fin 256) : g.dz b h s d = g.dzSum b h s d :=
  gate_eq (r.D _ _) (r.o b h s d) (r.P _ _)

end Given

end Cert.Cross
-- ==== Proof.Cross.Row.lean ====
/- What one step of the kernel computes over the extended reals, read row by row: the rotated queries and keys, the
   probabilities, the gradients of the scores, and from them each block that the step stores. -/
module

public import proofs.«01_k».proof.Proof.Cross.Body
public import proofs.«01_k».proof.Proof.Cross.Spec

@[expose] public section

set_option maxRecDepth 16384

noncomputable section

namespace Cert.Cross

open Cert.KernelIdeal Cert.KernelIdeal.Gen
open Idealize.ShloMosaic Idealize.ShloMosaic.TcCoe Idealize.SL.Sem

section
variable (x0 : Vec Ideal S1x1024x256 .f32) (x1 x2 : Vec Ideal S1x1024x256 .bf16) (x3 x4 : Vec Ideal S1x256x256 .f32) (x5 x6 : Vec Ideal S1024x256 .f32)
  (x7 x8 : Vec Ideal S256x256 .f32) (y : Vec Ideal S1x256x256 .f32)

/-- The block's rotated queries. -/
def qB (r : Fin 1024) : Fin 256 → EReal := rot (fun d => x1 (ix3 0 r d)) (fun d => x5 (ix2 r d)) fun d => x6 (ix2 r d)
/-- The block's rotated keys. -/
def kB (j : Fin 256) : Fin 256 → EReal := rot (fun d => x3 (ix3 0 j d)) (fun d => x7 (ix2 j d)) fun d => x8 (ix2 j d)
/-- The block's values. -/
def vB (j d : Fin 256) : EReal := x4 (ix3 0 j d)
/-- The gradients of the block's attention outputs. -/
def uB (r : Fin 1024) (d : Fin 256) : EReal := x0 (ix3 0 r d) * (x2 (ix3 0 r d) * sg (x2 (ix3 0 r d)))

theorem pay10_at (r : Fin 1024) (d : Fin 256) : k0_pay10 (F := Ideal) x1 x5 x6 (ix2 r d) = qB x1 x5 x6 r d := by
  unfold k0_pay10
  pointwise
  rfl

theorem pay8_at (j d : Fin 256) : k0_pay8 (F := Ideal) x3 x7 x8 (ix2 j d) = kB x3 x7 x8 j d := by
  unfold k0_pay8
  pointwise
  rfl

theorem pay9_at (j d : Fin 256) : k0_pay9 (F := Ideal) x4 (ix2 j d) = vB x4 j d := by
  unfold k0_pay9
  pointwise
  rfl

theorem pay17_at (r : Fin 1024) (d : Fin 256) : k0_pay17 (F := Ideal) x2 (ix2 r d) = sg (x2 (ix3 0 r d)) := by
  unfold k0_pay17 k0_pay15
  pointwise
  rfl

theorem pay19_at (r : Fin 1024) (d : Fin 256) : k0_pay19 (F := Ideal) x2 x0 (ix2 r d) = uB x0 x2 r d := by
  unfold k0_pay19 k0_pay16 k0_pay15
  pointwise
  simp only [pay17_at]
  rfl

theorem eAt_at (r : Fin 1024) (j : Fin 256) : eAt (F := Ideal) x1 x3 x5 x6 x7 x8 (ix2 r j) = ex (qB x1 x5 x6 r) (kB x3 x7 x8) j := by
  unfold eAt k0_pay11
  pointwise [dot_S1024x256_S256x256_S1024x256_1_1_0_0_n_n]
  simp only [pay10_at, pay8_at]
  rfl

theorem lAt_at (r : Fin 1024) (j : Fin 256) : lAt (F := Ideal) x1 x3 x5 x6 x7 x8 (ix2 r j) = tot (qB x1 x5 x6 r) (kB x3 x7 x8) := by
  unfold lAt k0_pay12
  pointwise
  exact Finset.sum_congr rfl fun k _ => eAt_at x1 x3 x5 x6 x7 x8 r k

theorem pay13_at (r : Fin 1024) (j : Fin 256) :
    k0_pay13 (F := Ideal) (eAt x1 x3 x5 x6 x7 x8) (lAt x1 x3 x5 x6 x7 x8) (ix2 r j) = pr (qB x1 x5 x6 r) (kB x3 x7 x8) j := by
  unfold k0_pay13
  pointwise
  rw [eAt_at, lAt_at]
  rfl

theorem pay20_at (r : Fin 1024) (j : Fin 256) :
    k0_pay20 (F := Ideal) (k0_pay9 x4) (eAt x1 x3 x5 x6 x7 x8) (lAt x1 x3 x5 x6 x7 x8) x2 x0 (ix2 r j)
      = ds (qB x1 x5 x6 r) (uB x0 x2 r) (kB x3 x7 x8) (vB x4) j := by
  unfold k0_pay20
  pointwise [dot_S1024x256_S256x256_S1024x256_1_1_0_0_n_n]
  simp only [pay13_at, pay19_at, pay9_at]
  rfl

/-- The gate's gradient, of one entry. -/
def dzB (r : Fin 1024) (d : Fin 256) : EReal :=
  x0 (ix3 0 r d) * (∑ j, pr (qB x1 x5 x6 r) (kB x3 x7 x8) j * vB x4 j d)
    * (sg (x2 (ix3 0 r d)) * (1 + x2 (ix3 0 r d) * (1 - sg (x2 (ix3 0 r d)))))

theorem dzOf_at (r : Fin 1024) (d : Fin 256) :
    dzOf (F := Ideal) x0 x1 x2 x3 x4 x5 x6 x7 x8 (ix2 r d) = dzB x0 x1 x2 x3 x4 x5 x6 x7 x8 r d := by
  unfold dzOf k0_pay18 k0_pay16 k0_pay15 k0_pay14
  pointwise [dot_S1024x256_S256x256_S1024x256_1_0_0_1_n_n]
  simp only [pay13_at, pay17_at, pay9_at]
  rfl

theorem pay6_at (v : Vec Ideal S1024x256 .f32) (r : Fin 1024) (d : Fin 256) : k0_pay6 (F := Ideal) v (ix3 0 r d) = v (ix2 r d) := by
  unfold k0_pay6
  pointwise

/-- The query gradient, before it is turned back. -/
def gB (r : Fin 1024) (d : Fin 256) : EReal :=
  ∑ k, ds (qB x1 x5 x6 r) (uB x0 x2 r) (kB x3 x7 x8) (vB x4) k * kB x3 x7 x8 k d

theorem dqOut_at (r : Fin 1024) (d : Fin 256) :
    dqOut (F := Ideal) x0 x1 x2 x3 x4 x5 x6 x7 x8 (ix3 0 r d)
      = rotT (gB x0 x1 x2 x3 x4 x5 x6 x7 x8 r) (fun d => x5 (ix2 r d)) (fun d => x6 (ix2 r d)) d := by
  have h : ∀ d, k0_pay21 (F := Ideal) (k0_pay8 x3 x7 x8) (k0_pay9 x4) (eAt x1 x3 x5 x6 x7 x8) (lAt x1 x3 x5 x6 x7 x8) x2 x0 (ix2 r d)
      = gB x0 x1 x2 x3 x4 x5 x6 x7 x8 r d := fun d => by
    unfold k0_pay21
    pointwise [dot_S1024x256_S256x256_S1024x256_1_0_0_1_n_n]
    simp only [pay20_at, pay8_at]
    rfl
  unfold dqOut k0_pay3
  pointwise
  exact congrArg₂ (· + ·) (congrArg (· * _) (h d)) (congrArg (· * _) (h (turn d)))

theorem dmkStep_at (j d : Fin 256) :
    dmkStep (F := Ideal) x0 x1 x2 x3 x4 x5 x6 x7 x8 y (ix3 0 j d)
      = y (ix3 0 j d) + ∑ r, ds (qB x1 x5 x6 r) (uB x0 x2 r) (kB x3 x7 x8) (vB x4) j * qB x1 x5 x6 r d := by
  unfold dmkStep k0_pay4
  pointwise [dot_S1024x256_S1024x256_S256x256_0_0_1_1_n_n]
  simp only [pay20_at, pay10_at]

theorem dmvStep_at (j d : Fin 256) :
    dmvStep (F := Ideal) x0 x1 x2 x3 x4 x5 x6 x7 x8 y (ix3 0 j d)
      = y (ix3 0 j d) + ∑ r, pr (qB x1 x5 x6 r) (kB x3 x7 x8) j * uB x0 x2 r d := by
  unfold dmvStep k0_pay5 k0_pay14
  pointwise [dot_S1024x256_S1024x256_S256x256_0_0_1_1_n_n]
  simp only [pay13_at, pay19_at]

theorem pay7_at (j d : Fin 256) :
    k0_pay7 (F := Ideal) y x7 x8 (ix3 0 j d) = rotT (fun d => y (ix3 0 j d)) (fun d => x7 (ix2 j d)) (fun d => x8 (ix2 j d)) d := by
  unfold k0_pay7
  pointwise
  rfl

theorem pay1_at (i : S1x256x256.Idx) : k0_pay1 (F := Ideal) i = 0 := by
  unfold k0_pay1
  pointwise
theorem pay2_at (i : S1x256x256.Idx) : k0_pay2 (F := Ideal) i = 0 := by
  unfold k0_pay2
  pointwise
end

end Cert.Cross
-- ==== Proof.Cross.Plain.lean ====
/- The reference, one value at a time, as the gradient of the gated cross-attention. -/
module

public import proofs.«01_k».proof.Proof.Gen.ReferenceIdeal.Read
public import proofs.«01_k».proof.Proof.Cross.Spec

@[expose] public section

set_option maxRecDepth 16384

noncomputable section

namespace Cert.Cross.Plain

open Cert.ReferenceIdeal Cert.ReferenceIdeal.Gen Cert.ReferenceIdeal.Read
open Idealize.ShloMosaic Idealize.ShloMosaic.TcCoe Idealize.SL.Sem

variable (x0 : FVec Ideal S4096x4096 .f32) (x1 x3 : FVec Ideal S4096x14336 .bf16) (x2 : FVec Ideal S512x2048 .f32)

/-- A cosine table over both halves. -/
def cosT {n : ℕ} (a : Fin n → Fin 128 → EReal) (r : Fin n) (d : Fin 256) : EReal := Ideal.cos (a r ⟨d % 128, Nat.mod_lt _ (by decide)⟩)
/-- A sine table over both halves, the first negated. -/
def sinT {n : ℕ} (a : Fin n → Fin 128 → EReal) (r : Fin n) (d : Fin 256) : EReal :=
  if d.val < 128 then -Ideal.sin (a r ⟨d % 128, Nat.mod_lt _ (by decide)⟩) else Ideal.sin (a r ⟨d % 128, Nat.mod_lt _ (by decide)⟩)

/-- The queries' angles. -/
def angQ (s : Fin 2048) (d : Fin 128) : EReal := val_main_v62 (F := Ideal) (ix2 s d)
/-- The keys' angles. -/
def angM (s : Fin 256) (d : Fin 128) : EReal := val_main_v23 (F := Ideal) (ix2 s d)

/-- What the reference computes from. -/
def given : Given where
  D r c := x0 (ix2 r c)
  P r c := x1 (ix2 r c)
  M r c := x2 (ix2 r c)
  cq := cosT angQ
  sq := sinT angQ
  cm := cosT angM
  sm := sinT angM

local notation "g" => given x0 x1 x2

theorem v46_at (b : Fin 2) (s : Fin 2048) (h : Fin 4) (d : Fin 256) :
    val_main_v46 (F := Ideal) x1 (ix4 b s h d) = x1 (ix2 (row b s) (col 12288 (by decide) h d)) := by
  unfold val_main_v46 val_main_v5 val_main_v3 val_main_v2
  pointwise

theorem v9_at (b : Fin 2) (j : Fin 256) (h : Fin 4) (d : Fin 256) :
    val_main_v9 (F := Ideal) x2 (ix4 b j h d) = x2 (ix2 (slot b j) (col 0 (by decide) h d)) := by
  unfold val_main_v9 val_main_v7 val_main_v4
  pointwise
  exact congrArg x2 (congrArg (ix2 _) (Fin.ext (Nat.zero_add _).symm))

theorem v45_at (b : Fin 2) (j : Fin 256) (h : Fin 4) (d : Fin 256) :
    val_main_v45 (F := Ideal) x2 (ix4 b j h d) = (g).v b h j d := by
  unfold val_main_v45 val_main_v8 val_main_v4
  pointwise
  rfl

/-- The turn written half by half. -/
theorem rot_halves {n : ℕ} (x : Fin 256 → EReal) (a : Fin n → Fin 128 → EReal) (r : Fin n) (d : Fin 256) :
    (if h : d.val < 128 then x d * Ideal.cos (a r ⟨d, h⟩) - x ⟨128 + d, by omega⟩ * Ideal.sin (a r ⟨d, h⟩)
      else x ⟨128 + (d - 128), by omega⟩ * Ideal.cos (a r ⟨d - 128, by omega⟩) + x ⟨d - 128, by omega⟩ * Ideal.sin (a r ⟨d - 128, by omega⟩))
      = rot x (cosT a r) (sinT a r) d := by
  have hd := d.isLt
  unfold rot cosT sinT
  split
  · rename_i h
    have e1 : (⟨d % 128, Nat.mod_lt _ (by decide)⟩ : Fin 128) = ⟨d, h⟩ := Fin.ext (Nat.mod_eq_of_lt h)
    have e2 : turn d = ⟨128 + d, by omega⟩ := Fin.ext (by show ((d : ℕ) + 256 - 128) % 256 = 128 + d; omega)
    rw [e1, e2, sub_eq_add_neg, mul_neg]
  · rename_i h
    have e1 : (⟨d % 128, Nat.mod_lt _ (by decide)⟩ : Fin 128) = ⟨d - 128, by omega⟩ := Fin.ext (by show (d : ℕ) % 128 = d - 128; omega)
    have e2 : turn d = ⟨d - 128, by omega⟩ := Fin.ext (by show ((d : ℕ) + 256 - 128) % 256 = d - 128; omega)
    have e3 : (⟨128 + (d - 128), by omega⟩ : Fin 256) = d := Fin.ext (by show 128 + ((d : ℕ) - 128) = d; omega)
    rw [e1, e2, e3]

theorem v83_at (b : Fin 2) (s : Fin 2048) (h : Fin 4) (d : Fin 256) :
    val_main_v83 (F := Ideal) x1 (ix4 b s h d) = (g).q b h s d := by
  unfold val_main_v83 val_main_v75 val_main_v82 val_main_v71 val_main_v74 val_main_v78 val_main_v81 val_main_v67 val_main_v68 val_main_v70 val_main_v73
    val_main_v77 val_main_v80 val_main_v69 val_main_v72 val_main_v76 val_main_v79 val_main_v64 val_main_v66 val_main_v63 val_main_v65
  pointwise
  refine Eq.trans ?_ (rot_halves (fun d => x1 (ix2 (row b s) (col 12288 (by decide) h d))) angQ s d)
  simp only [v46_at]
  rfl

theorem v44_at (b : Fin 2) (j : Fin 256) (h : Fin 4) (d : Fin 256) :
    val_main_v44 (F := Ideal) x2 (ix4 b j h d) = (g).k b h j d := by
  unfold val_main_v44 val_main_v36 val_main_v43 val_main_v32 val_main_v35 val_main_v39 val_main_v42 val_main_v28 val_main_v29 val_main_v31 val_main_v34
    val_main_v38 val_main_v41 val_main_v30 val_main_v33 val_main_v37 val_main_v40 val_main_v25 val_main_v27 val_main_v24 val_main_v26
  pointwise
  refine Eq.trans ?_ (rot_halves (fun d => x2 (ix2 (slot b j) (col 0 (by decide) h d))) angM j d)
  simp only [v9_at]
  rfl

theorem v86_at (b : Fin 2) (h : Fin 4) (s : Fin 2048) (j : Fin 256) :
    val_main_v86 (F := Ideal) x1 x2 (ix4 b h s j) = score ((g).q b h s) ((g).k b h) j := by
  unfold val_main_v86 val_main_v84 val_main_v85 val_main_cst_5
  pointwise [dot_S2x2048x4x256_S2x256x4x256_S2x4x2048x256_3_3_1_1_02_02]
  simp only [v83_at x0 x1 x2, v44_at x0 x1 x2]
  rfl

theorem v87_at (b : Fin 2) (h : Fin 4) (s : Fin 2048) :
    val_main_v87 (F := Ideal) x1 x2 (ix3 b h s) = top ((g).q b h s) ((g).k b h) := by
  unfold val_main_v87
  have e := v86_at x0 x1 x2 b h s
  generalize val_main_v86 (F := Ideal) x1 x2 = A at e
  unfold val_main_cst_6
  pointwise
  simp only [e]
  rfl

theorem v94_at (b : Fin 2) (h : Fin 4) (s : Fin 2048) :
    val_main_v94 (F := Ideal) x1 x2 (ix3 b h s) = top ((g).q b h s) ((g).k b h) := by
  rw [val_main_v94_apply, v87_at x0 x1 x2]
  have e : val_main_v93 (F := Ideal) (ix3 b h s) = ⊥ := by
    unfold val_main_v93 val_main_cst_8
    pointwise
    exact ofBits_bot
  rw [e]
  exact max_eq_right bot_le

theorem v107_at (b : Fin 2) (h : Fin 4) (s : Fin 2048) (j : Fin 256) :
    val_main_v107 (F := Ideal) x1 x2 (ix4 b h s j) = ex ((g).q b h s) ((g).k b h) j := by
  have e := v86_at x0 x1 x2 b h s
  have e' := v94_at x0 x1 x2 b h s
  unfold val_main_v107 val_main_v106 val_main_v105 val_main_v104
  generalize val_main_v86 (F := Ideal) x1 x2 = A at e ⊢
  generalize val_main_v94 (F := Ideal) x1 x2 = B at e' ⊢
  pointwise
  rw [e, e']
  rfl

theorem v108_at (b : Fin 2) (h : Fin 4) (s : Fin 2048) :
    val_main_v108 (F := Ideal) x1 x2 (ix3 b h s) = tot ((g).q b h s) ((g).k b h) := by
  have e := v107_at x0 x1 x2 b h s
  unfold val_main_v108
  generalize val_main_v107 (F := Ideal) x1 x2 = A at e ⊢
  unfold val_main_cst_14
  pointwise
  exact Finset.sum_congr rfl fun j _ => e j

theorem v111_at (b : Fin 2) (h : Fin 4) (s : Fin 2048) (j : Fin 256) :
    val_main_v111 (F := Ideal) x1 x2 (ix4 b h s j) = pr ((g).q b h s) ((g).k b h) j := by
  have e := v107_at x0 x1 x2 b h s
  have e' := v108_at x0 x1 x2 b h s
  unfold val_main_v111 val_main_v110 val_main_v109
  generalize val_main_v107 (F := Ideal) x1 x2 = A at e ⊢
  generalize val_main_v108 (F := Ideal) x1 x2 = B at e' ⊢
  pointwise
  rw [e, e']
  rfl

theorem v116_at (b : Fin 2) (s : Fin 2048) (h : Fin 4) (d : Fin 256) :
    val_main_v116 (F := Ideal) x1 x2 (ix4 b s h d) = (g).o b h s d := by
  unfold val_main_v116 val_main_v115
  pointwise [dot_S2x256x4x256_S2x4x2048x256_S2x4x256x2048_1_3_3_2_02_01]
  simp only [v111_at x0 x1 x2, v45_at x0 x1 x2]
  exact Finset.sum_congr rfl fun j _ => mul_comm _ _

/-- An entry of a head, as a column of the heads laid side by side. -/
abbrev flat (h : Fin 4) (d : Fin 256) : Fin 1024 := ⟨h * 256 + d, by have := h.isLt; have := d.isLt; omega⟩

theorem flat_div (h : Fin 4) (d : Fin 256) : (h * 256 + d : ℕ) / 256 = h := by have := d.isLt; omega
theorem flat_mod (h : Fin 4) (d : Fin 256) : (h * 256 + d : ℕ) % 256 = d := by have := d.isLt; omega

theorem v117_at (b : Fin 2) (s : Fin 2048) (h : Fin 4) (d : Fin 256) :
    val_main_v117 (F := Ideal) x1 x2 (ix3 b s (flat h d)) = (g).o b h s d := by
  have e := v116_at x0 x1 x2 b s h d
  unfold val_main_v117
  generalize val_main_v116 (F := Ideal) x1 x2 = A at e ⊢
  pointwise
  rw [← e]
  exact congrArg A (congrArg₂ (ix4 b s) (Fin.ext (flat_div h d)) (Fin.ext (flat_mod h d)))

theorem v6_at (b : Fin 2) (s : Fin 2048) (h : Fin 4) (d : Fin 256) :
    val_main_v6 (F := Ideal) x1 (ix3 b s (flat h d)) = (g).z b h s d := by
  unfold val_main_v6 val_main_v3 val_main_v2
  pointwise
  rfl

theorem v1_at (b : Fin 2) (s : Fin 2048) (h : Fin 4) (d : Fin 256) :
    val_main_v1 (F := Ideal) x0 (ix3 b s (flat h d)) = (g).ct b h s d := by
  unfold val_main_v1 val_main_v0
  pointwise
  rfl

theorem sg_at (b : Fin 2) (s : Fin 2048) (h : Fin 4) (d : Fin 256) :
    val_main_v118_2 (F := Ideal) x1 (ix3 b s (flat h d)) = sg ((g).z b h s d) := by
  have e := v6_at x0 x1 x2 b s h d
  unfold val_main_v118_2 val_main_call0_v4 val_main_call0_v3 val_main_call0_v2 val_main_call0_v1 val_main_call0_v0 val_main_call0_cst val_main_call0_cst_0
  generalize val_main_v6 (F := Ideal) x1 = A at e ⊢
  pointwise
  rw [e]
  rw [sg, zero_sub]

theorem v122_at (b : Fin 2) (s : Fin 2048) (h : Fin 4) (d : Fin 256) :
    val_main_v122 (F := Ideal) x0 x1 x2 (ix3 b s (flat h d)) = (g).dzSum b h s d := by
  have e1 := v6_at x0 x1 x2 b s h d
  have e2 := v1_at x0 x1 x2 b s h d
  have e3 := sg_at x0 x1 x2 b s h d
  have e4 := v117_at x0 x1 x2 b s h d
  unfold val_main_v122 val_main_call1_v1 val_main_call1_v2 val_main_call1_v0 val_main_v120 val_main_v118_1 val_main_call0_v7 val_main_call0_v6 val_main_call0_cst_1
  generalize val_main_v6 (F := Ideal) x1 = A at e1 ⊢
  generalize val_main_v1 (F := Ideal) x0 = B at e2 ⊢
  generalize val_main_v118_2 (F := Ideal) x1 = C at e3 ⊢
  generalize val_main_v117 (F := Ideal) x1 x2 = D at e4 ⊢
  pointwise
  rw [e1, e2, e3, e4]
  rfl

theorem v121_at (b : Fin 2) (s : Fin 2048) (h : Fin 4) (d : Fin 256) :
    val_main_v121 (F := Ideal) x0 x1 (ix3 b s (flat h d)) = (g).u b h s d := by
  have e1 := v6_at x0 x1 x2 b s h d
  have e2 := v1_at x0 x1 x2 b s h d
  have e3 := sg_at x0 x1 x2 b s h d
  unfold val_main_v121 val_main_v118_0
  generalize val_main_v6 (F := Ideal) x1 = A at e1 ⊢
  generalize val_main_v1 (F := Ideal) x0 = B at e2 ⊢
  generalize val_main_v118_2 (F := Ideal) x1 = C at e3 ⊢
  pointwise
  rw [e1, e2, e3]
  rfl

theorem v124_at (b : Fin 2) (h : Fin 4) (d : Fin 256) (s : Fin 2048) :
    val_main_v124 (F := Ideal) x0 x1 (ix4 b h d s) = (g).u b h s d := by
  have e := v121_at x0 x1 x2 b s h d
  unfold val_main_v124 val_main_v123
  generalize val_main_v121 (F := Ideal) x0 x1 = A at e ⊢
  pointwise
  exact e

theorem v125_at (b : Fin 2) (h : Fin 4) (s : Fin 2048) (j : Fin 256) :
    val_main_v125 (F := Ideal) x0 x1 x2 (ix4 b h s j) = dp ((g).u b h s) ((g).v b h) j := by
  unfold val_main_v125
  pointwise [dot_S2x4x256x2048_S2x256x4x256_S2x4x2048x256_2_3_3_1_01_02]
  simp only [v124_at x0 x1 x2, v45_at x0 x1 x2]
  rfl

theorem v127_at (b : Fin 2) (j : Fin 256) (h : Fin 4) (d : Fin 256) :
    val_main_v127 (F := Ideal) x0 x1 x2 (ix4 b j h d) = (g).dv b h j d := by
  unfold val_main_v127 val_main_v126
  pointwise [dot_S2x4x256x2048_S2x4x2048x256_S2x4x256x256_3_2_2_3_01_01]
  simp only [v124_at x0 x1 x2, v111_at x0 x1 x2]
  exact Finset.sum_congr rfl fun j _ => mul_comm _ _

theorem v141_at (b : Fin 2) (h : Fin 4) (s : Fin 2048) (j : Fin 256) :
    val_main_v141 (F := Ideal) x0 x1 x2 (ix4 b h s j) = (g).eQuot b h s j := by
  have e1 := v125_at x0 x1 x2 b h s
  have e2 := v107_at x0 x1 x2 b h s
  have e3 := v108_at x0 x1 x2 b h s
  unfold val_main_v141 val_main_v139 val_main_v140 val_main_v138 val_main_v137 val_main_v136 val_main_v135 val_main_v134 val_main_v133 val_main_v132
    val_main_v131 val_main_v130 val_main_v129 val_main_v128 val_main_v114 val_main_v113 val_main_v112 val_main_v109 val_main_cst_15 val_main_cst_16
    val_main_cst_17 val_main_cst_18
  generalize val_main_v125 (F := Ideal) x0 x1 x2 = A at e1 ⊢
  generalize val_main_v107 (F := Ideal) x1 x2 = B at e2 ⊢
  generalize val_main_v108 (F := Ideal) x1 x2 = C at e3 ⊢
  pointwise
  simp only [e1, e2, e3]
  rw [Fin.sum_univ_one]
  rfl

theorem v143_at (b : Fin 2) (j : Fin 256) (h : Fin 4) (d : Fin 256) :
    val_main_v143 (F := Ideal) x0 x1 x2 (ix4 b j h d) = ∑ s, (g).eQuot b h s j * (g).q b h s d := by
  unfold val_main_v143 val_main_v142
  pointwise [dot_S2x4x2048x256_S2x2048x4x256_S2x4x256x256_2_1_3_3_01_02]
  simp only [v141_at x0 x1 x2, v83_at x0 x1 x2]

theorem v145_at (b : Fin 2) (s : Fin 2048) (h : Fin 4) (d : Fin 256) :
    val_main_v145 (F := Ideal) x0 x1 x2 (ix4 b s h d) = ∑ j, (g).eQuot b h s j * (g).k b h j d := by
  unfold val_main_v145 val_main_v144
  pointwise [dot_S2x4x2048x256_S2x256x4x256_S2x4x2048x256_3_1_2_3_01_02]
  simp only [v141_at x0 x1 x2, v44_at x0 x1 x2]

/-- The transposed turn written half by half. -/
theorem rotT_halves {n : ℕ} (x : Fin 256 → EReal) (a : Fin n → Fin 128 → EReal) (r : Fin n) (d : Fin 256) :
    ((if h : 128 ≤ d.val ∧ d.val - 128 < 128 then
        x ⟨128 + (d - 128), by omega⟩ * Ideal.cos (a r ⟨d - 128, h.2⟩) + -x ⟨d - 128, by omega⟩ * Ideal.sin (a r ⟨d - 128, h.2⟩) else 0)
      + if h : d.val < 128 then x ⟨128 + d, by omega⟩ * Ideal.sin (a r ⟨d, h⟩) + x d * Ideal.cos (a r ⟨d, h⟩) else 0)
      = rotT x (cosT a r) (sinT a r) d := by
  have hd := d.isLt
  unfold rotT cosT sinT
  by_cases h : d.val < 128
  · have e1 : (⟨d % 128, Nat.mod_lt _ (by decide)⟩ : Fin 128) = ⟨d, h⟩ := Fin.ext (Nat.mod_eq_of_lt h)
    have e2 : turn d = ⟨128 + d, by omega⟩ := Fin.ext (by show ((d : ℕ) + 256 - 128) % 256 = 128 + d; omega)
    have e3 : (⟨(⟨128 + d, by omega⟩ : Fin 256).val % 128, Nat.mod_lt _ (by decide)⟩ : Fin 128) = ⟨d, h⟩ :=
      Fin.ext (by show (128 + (d : ℕ)) % 128 = d; omega)
    rw [dif_neg (by omega), dif_pos h, e2, if_neg (by show ¬ (128 + (d : ℕ) < 128); omega), e1, e3, zero_add, add_comm]
  · have e1 : (⟨d % 128, Nat.mod_lt _ (by decide)⟩ : Fin 128) = ⟨d - 128, by omega⟩ := Fin.ext (by show (d : ℕ) % 128 = d - 128; omega)
    have e2 : turn d = ⟨d - 128, by omega⟩ := Fin.ext (by show ((d : ℕ) + 256 - 128) % 256 = d - 128; omega)
    have e3 : (⟨(⟨d - 128, by omega⟩ : Fin 256).val % 128, Nat.mod_lt _ (by decide)⟩ : Fin 128) = ⟨d - 128, by omega⟩ :=
      Fin.ext (by show ((d : ℕ) - 128) % 128 = d - 128; omega)
    have e4 : (⟨128 + (d - 128), by omega⟩ : Fin 256) = d := Fin.ext (by show 128 + ((d : ℕ) - 128) = d; omega)
    rw [dif_pos (by omega), dif_neg h, e2, if_pos (by show (d : ℕ) - 128 < 128; omega), e1, e3, e4, add_zero, mul_neg, neg_mul]

theorem v161_at (b : Fin 2) (s : Fin 2048) (h : Fin 4) (d : Fin 256) :
    val_main_v161 (F := Ideal) x0 x1 x2 (ix4 b s h d) = (g).dq b h ((g).eQuot b h) s d := by
  have e := v145_at x0 x1 x2 b s h
  unfold val_main_v161 val_main_v159 val_main_v160 val_main_v155 val_main_v158 val_main_v151 val_main_v154 val_main_v149 val_main_v157 val_main_v152
    val_main_v146 val_main_v147 val_main_v148 val_main_v150 val_main_v153 val_main_v156 val_main_v69 val_main_v72 val_main_v76 val_main_v79 val_main_v64
    val_main_v66 val_main_v63 val_main_v65 val_main_cst_19 val_main_cst_20
  generalize val_main_v145 (F := Ideal) x0 x1 x2 = A at e ⊢
  pointwise
  simp only [e]
  exact rotT_halves (fun d => ∑ j, (g).eQuot b h s j * (g).k b h j d) angQ s d

theorem v179_at (b : Fin 2) (j : Fin 256) (h : Fin 4) (d : Fin 256) :
    val_main_v179 (F := Ideal) x0 x1 x2 (ix4 b j h d) = (g).dk b h ((g).eQuot b h) j d := by
  have e := v143_at x0 x1 x2 b j h
  unfold val_main_v179 val_main_v177 val_main_v178 val_main_v173 val_main_v176 val_main_v169 val_main_v172 val_main_v167 val_main_v175 val_main_v170
    val_main_v164 val_main_v165 val_main_v166 val_main_v168 val_main_v171 val_main_v174 val_main_v30 val_main_v33 val_main_v37 val_main_v40 val_main_v25
    val_main_v27 val_main_v24 val_main_v26 val_main_cst_21 val_main_cst_22
  generalize val_main_v143 (F := Ideal) x0 x1 x2 = A at e ⊢
  pointwise
  simp only [e]
  exact rotT_halves (fun d => ∑ s, (g).eQuot b h s j * (g).q b h s d) angM j d

/-! ## The three results -/

theorem result_0 (b : Fin 2) (s : Fin 2048) (n : Fin 14336) :
    val_main_v185 (F := Ideal) x0 x1 x2 x3 (ix3 b s n)
      = joined (fun r c => x3 (ix2 r c)) (fun b h => (g).dq b h ((g).eQuot b h)) (g).dzSum b s n := by
  have e1 := v161_at x0 x1 x2 b s
  have e2 := v122_at x0 x1 x2 b s
  unfold val_main_v185 val_main_v184 val_main_v183 val_main_v182 val_main_v181 val_main_v162
  generalize val_main_v161 (F := Ideal) x0 x1 x2 = A at e1 ⊢
  generalize val_main_v122 (F := Ideal) x0 x1 x2 = B at e2 ⊢
  pointwise
  unfold joined
  have hn := n.isLt
  by_cases c1 : n.val < 12288
  · exact (dif_pos c1).trans (if_pos c1).symm
  rw [if_neg c1]
  refine (dif_neg c1).trans ?_
  by_cases c2 : n.val < 13312
  · rw [if_pos c2]
    refine Eq.trans ?_ (e1 (head n) (entry n))
    exact (dif_pos (show (n : ℕ) - 12288 < 1024 by omega)).trans (congrArg A (congrArg₂ (ix4 b s)
      (Fin.ext (by show ((n : ℕ) - 12288) / 256 = n % 1024 / 256; omega)) (Fin.ext (by show ((n : ℕ) - 12288) % 256 = n % 256; omega))))
  · rw [if_neg c2]
    refine Eq.trans ?_ (e2 (head n) (entry n))
    exact (dif_neg (show ¬ ((n : ℕ) - 12288 < 1024) by omega)).trans (congrArg B (congrArg (ix3 b s)
      (Fin.ext (by show (n : ℕ) - 12288 - 1024 = n % 1024 / 256 * 256 + n % 256; omega))))

theorem result_1 (b : Fin 2) (j : Fin 256) (n : Fin 1024) :
    val_main_v180 (F := Ideal) x0 x1 x2 (ix3 b j n) = (g).dk b (head n) ((g).eQuot b (head n)) j (entry n) := by
  have e := v179_at x0 x1 x2 b j
  unfold val_main_v180
  generalize val_main_v179 (F := Ideal) x0 x1 x2 = A at e ⊢
  pointwise
  rw [← e]
  exact congrArg A (congrArg₂ (ix4 b j) (Fin.ext (by show (n : ℕ) / 256 = n % 1024 / 256; omega)) rfl)

theorem result_2 (b : Fin 2) (j : Fin 256) (n : Fin 1024) :
    val_main_v163 (F := Ideal) x0 x1 x2 (ix3 b j n) = (g).dv b (head n) j (entry n) := by
  have e := v127_at x0 x1 x2 b j
  unfold val_main_v163
  generalize val_main_v127 (F := Ideal) x0 x1 x2 = A at e ⊢
  pointwise
  rw [← e]
  exact congrArg A (congrArg₂ (ix4 b j) (Fin.ext (by show (n : ℕ) / 256 = n % 1024 / 256; omega)) rfl)

/-! ## Real entries -/

/-- A frequency of the turn. -/
def freq (w : BitVec 32) : EReal := Ideal.div 1 (Ideal.pow (Ideal.ofBits .f32 1176256512#32)
    (Ideal.div (FloatOps.sitofp (F := Ideal) .f32 w) (Ideal.ofBits .f32 1124073472#32)))

theorem freq_real (w : BitVec 32) : IsReal (freq w) := by
  have e1 : Ideal.ofBits .f32 1176256512#32 = ((10000 : ℝ) : EReal) := by simp [Ideal.ofBits, Ideal.ieee, -EReal.coe_mul]; norm_num
  have e2 : Ideal.ofBits .f32 1124073472#32 = ((128 : ℝ) : EReal) := by simp [Ideal.ofBits, Ideal.ieee, -EReal.coe_mul]; norm_num
  have e3 : FloatOps.sitofp (F := Ideal) .f32 w = ((w.toInt : ℝ) : EReal) := rfl
  rw [freq, e1, e2, e3, Ideal.div_coe (by norm_num), ← EReal.coe_mul]
  have e4 : Ideal.pow ((10000 : ℝ) : EReal) (((w.toInt : ℝ) * (1 / 128) : ℝ) : EReal) = ((Real.rpow 10000 ((w.toInt : ℝ) * (1 / 128)) : ℝ) : EReal) := rfl
  rw [e4]
  exact IsReal.one.div (Real.rpow_pos_of_pos (by norm_num) _).ne'

theorem angQ_at (s : Fin 2048) (d : Fin 128) :
    angQ s d = FloatOps.sitofp (F := Ideal) .f32 (IntOp.addi (BitVec.ofNat 32 s) 256#32) * freq (BitVec.ofNat 32 d) := by
  unfold angQ val_main_v62 val_main_v60 val_main_v61 val_main_v58 val_main_v59 val_main_v57 val_main_v56 val_main_v55 val_main_v54 val_main_v53
    val_main_v52 val_main_v51 val_main_v50 val_main_v49 val_main_v48 val_main_v47 val_main_c val_main_cst_2 val_main_cst_3 val_main_cst_4
  pointwise
  rfl

theorem angM_at (s : Fin 256) (d : Fin 128) : angM s d = FloatOps.sitofp (F := Ideal) .f32 (BitVec.ofNat 32 s) * freq (BitVec.ofNat 32 d) := by
  unfold angM val_main_v23 val_main_v21 val_main_v22 val_main_v19 val_main_v20 val_main_v18 val_main_v17 val_main_v16 val_main_v15 val_main_v14
    val_main_v13 val_main_v12 val_main_v11 val_main_v10 val_main_cst val_main_cst_0 val_main_cst_1
  pointwise
  rfl

theorem angQ_real (s : Fin 2048) (d : Fin 128) : IsReal (angQ s d) := by
  rw [angQ_at]
  exact IsReal.mul ⟨_, rfl⟩ (freq_real _)

theorem angM_real (s : Fin 256) (d : Fin 128) : IsReal (angM s d) := by
  rw [angM_at]
  exact IsReal.mul ⟨_, rfl⟩ (freq_real _)

/-- The tables written half by half. -/
theorem cosT_halves {n : ℕ} (a : Fin n → Fin 128 → EReal) (r : Fin n) (d : Fin 256) :
    (if h : d.val < 128 then Ideal.cos (a r ⟨d, h⟩) else Ideal.cos (a r ⟨d - 128, by have := d.isLt; omega⟩)) = cosT a r d := by
  have hd := d.isLt
  unfold cosT
  split
  · exact congrArg (fun x => Ideal.cos (a r x)) (Fin.ext (by show (d : ℕ) = d % 128; omega))
  · exact congrArg (fun x => Ideal.cos (a r x)) (Fin.ext (by show (d : ℕ) - 128 = d % 128; omega))

theorem sinT_halves {n : ℕ} (a : Fin n → Fin 128 → EReal) (r : Fin n) (d : Fin 256) :
    (if h : d.val < 128 then -Ideal.sin (a r ⟨d, h⟩) else Ideal.sin (a r ⟨d - 128, by have := d.isLt; omega⟩)) = sinT a r d := by
  have hd := d.isLt
  unfold sinT
  by_cases h : d.val < 128
  · rw [dif_pos h, if_pos h]
    exact congrArg (fun x => -Ideal.sin (a r x)) (Fin.ext (by show (d : ℕ) = d % 128; omega))
  · rw [dif_neg h, if_neg h]
    exact congrArg (fun x => Ideal.sin (a r x)) (Fin.ext (by show (d : ℕ) - 128 = d % 128; omega))

theorem cosT_real {n : ℕ} {a : Fin n → Fin 128 → EReal} (h : ∀ r d, IsReal (a r d)) (r : Fin n) (d : Fin 256) : IsReal (cosT a r d) := (h r _).cos
theorem sinT_real {n : ℕ} {a : Fin n → Fin 128 → EReal} (h : ∀ r d, IsReal (a r d)) (r : Fin n) (d : Fin 256) : IsReal (sinT a r d) := by
  unfold sinT
  split
  · exact (h r _).sin.neg
  · exact (h r _).sin

theorem given_real (h0 : ∀ i, IsReal (x0 i)) (h1 : ∀ i, IsReal (x1 i)) (h2 : ∀ i, IsReal (x2 i)) : (g).Real where
  D _ _ := h0 _
  P _ _ := h1 _
  M _ _ := h2 _
  cq := cosT_real angQ_real
  sq := sinT_real angQ_real
  cm := cosT_real angM_real
  sm := sinT_real angM_real

end Cert.Cross.Plain
-- ==== Proof.Cross.Blocks.lean ====
/- What the kernel's blocks hold at a grid point: parts of the arguments, and rows of the tables that the host makes. -/
module

public import proofs.«01_k».proof.Proof.Cross.Run
public import proofs.«01_k».proof.Proof.Cross.Row
public import proofs.«01_k».proof.Proof.Cross.Plain
public import Idealize.ShloMosaic.Lib.Pipeline.ValueKit

@[expose] public section

set_option maxRecDepth 16384

noncomputable section

namespace Cert.Cross

open Cert.KernelIdeal Cert.KernelIdeal.Gen
open Idealize.ShloMosaic Idealize.ShloMosaic.TcCoe Idealize.SL.Sem

variable (m : (ℓ : Loc nD τ sig) → Buf (Elt Ideal) ℓ) (c : Dev nD)

abbrev dcat : S4096x4096.Idx → EReal := m ((c : Thread nD τ).loc main_arg0)
abbrev proj : S4096x14336.Idx → EReal := m ((c : Thread nD τ).loc main_arg1)
abbrev mkv : S512x2048.Idx → EReal := m ((c : Thread nD τ).loc main_arg2)
abbrev dproj : S4096x14336.Idx → EReal := m ((c : Thread nD τ).loc main_arg3)

/-! ## The host's arrays -/

theorem host_cq (s : Fin 2048) (d : Fin 256) : (V m c main_v18 : S2048x256.Idx → EReal) (ix2 s d) = Plain.cosT Plain.angQ s d := by
  unfold V
  after_results_simp
  pointwise
  refine Eq.trans ?_ (Plain.cosT_halves Plain.angQ s d)
  simp only [Plain.angQ_at]
  rfl

theorem host_sq (s : Fin 2048) (d : Fin 256) : (V m c main_v20 : S2048x256.Idx → EReal) (ix2 s d) = Plain.sinT Plain.angQ s d := by
  unfold V
  after_results_simp
  pointwise
  refine Eq.trans ?_ (Plain.sinT_halves Plain.angQ s d)
  simp only [Plain.angQ_at]
  rfl

theorem host_cm (s : Fin 256) (d : Fin 256) : (V m c main_v37 : S256x256.Idx → EReal) (ix2 s d) = Plain.cosT Plain.angM s d := by
  unfold V
  after_results_simp
  pointwise
  refine Eq.trans ?_ (Plain.cosT_halves Plain.angM s d)
  simp only [Plain.angM_at]
  rfl

theorem host_sm (s : Fin 256) (d : Fin 256) : (V m c main_v39 : S256x256.Idx → EReal) (ix2 s d) = Plain.sinT Plain.angM s d := by
  unfold V
  after_results_simp
  pointwise
  refine Eq.trans ?_ (Plain.sinT_halves Plain.angM s d)
  simp only [Plain.angM_at]
  rfl

theorem host_proj (b : Fin 2) (s : Fin 2048) (n : Fin 14336) :
    (V m c main_v40 : S2x2048x14336.Idx → EReal) (ix3 b s n) = proj m c (ix2 (row b s) n) := by
  unfold V
  after_results_simp
  pointwise

theorem host_dproj (b : Fin 2) (s : Fin 2048) (n : Fin 14336) :
    (V m c main_v44_0 : S2x2048x14336.Idx → EReal) (ix3 b s n) = dproj m c (ix2 (row b s) n) := by
  unfold V
  after_results_simp
  pointwise
  rfl

theorem host_dcat (b : Fin 2) (s : Fin 2048) (n : Fin 4096) :
    (V m c main_v42 : S2x2048x4096.Idx → EReal) (ix3 b s n) = dcat m c (ix2 (row b s) n) := by
  unfold V
  after_results_simp
  pointwise

theorem host_mkv (b : Fin 2) (j : Fin 256) (n : Fin 2048) :
    (V m c main_v43 : S2x256x2048.Idx → EReal) (ix3 b j n) = mkv m c (ix2 (slot b j) n) := by
  unfold V
  after_results_simp
  pointwise

/-! ## The blocks of an even point -/

/-- The batch row, the head and the first position that a point works on. -/
abbrev bT (t : Fin cfg0.N) : Fin 2 := ⟨t.val / 16 % 2, Nat.mod_lt _ (by decide)⟩
abbrev hT (t : Fin cfg0.N) : Fin 4 := ⟨t.val / 4 % 4, Nat.mod_lt _ (by decide)⟩
abbrev sT (t : Fin cfg0.N) (r : Fin 1024) : Fin 2048 := ⟨t.val / 2 % 2 * 1024 + r, by have := r.isLt; omega⟩

theorem at_0 (t : Fin cfg0.N) (h : t.val % 2 = 0) : win0_0.index t = ![t.val / 16 % 2, t.val / 2 % 2, 12 + t.val / 4 % 4] :=
  (by decide +kernel : ∀ t : Fin grid0.N, t.val % 2 = 0 → win0_0.index t = ![t.val / 16 % 2, t.val / 2 % 2, 12 + t.val / 4 % 4]) t h
theorem at_1 (t : Fin cfg0.N) (h : t.val % 2 = 0) : win0_1.index t = ![t.val / 16 % 2, t.val / 2 % 2, 48 + t.val / 4 % 4] :=
  (by decide +kernel : ∀ t : Fin grid0.N, t.val % 2 = 0 → win0_1.index t = ![t.val / 16 % 2, t.val / 2 % 2, 48 + t.val / 4 % 4]) t h
theorem at_2 (t : Fin cfg0.N) (h : t.val % 2 = 0) : win0_2.index t = ![t.val / 16 % 2, t.val / 2 % 2, 52 + t.val / 4 % 4] :=
  (by decide +kernel : ∀ t : Fin grid0.N, t.val % 2 = 0 → win0_2.index t = ![t.val / 16 % 2, t.val / 2 % 2, 52 + t.val / 4 % 4]) t h
theorem at_3 (t : Fin cfg0.N) (h : t.val % 2 = 0) : win0_3.index t = ![t.val / 16 % 2, 0, t.val / 4 % 4] :=
  (by decide +kernel : ∀ t : Fin grid0.N, t.val % 2 = 0 → win0_3.index t = ![t.val / 16 % 2, 0, t.val / 4 % 4]) t h
theorem at_4 (t : Fin cfg0.N) (h : t.val % 2 = 0) : win0_4.index t = ![t.val / 16 % 2, 0, 4 + t.val / 4 % 4] :=
  (by decide +kernel : ∀ t : Fin grid0.N, t.val % 2 = 0 → win0_4.index t = ![t.val / 16 % 2, 0, 4 + t.val / 4 % 4]) t h
theorem at_5 (t : Fin cfg0.N) (h : t.val % 2 = 0) : win0_5.index t = ![t.val / 2 % 2, 0] :=
  (by decide +kernel : ∀ t : Fin grid0.N, t.val % 2 = 0 → win0_5.index t = ![t.val / 2 % 2, 0]) t h
theorem at_6 (t : Fin cfg0.N) (h : t.val % 2 = 0) : win0_6.index t = ![t.val / 2 % 2, 0] :=
  (by decide +kernel : ∀ t : Fin grid0.N, t.val % 2 = 0 → win0_6.index t = ![t.val / 2 % 2, 0]) t h
theorem at_7 (t : Fin cfg0.N) : win0_7.index t = ![0, 0] := (by decide +kernel : ∀ t : Fin grid0.N, win0_7.index t = ![0, 0]) t
theorem at_8 (t : Fin cfg0.N) : win0_8.index t = ![0, 0] := (by decide +kernel : ∀ t : Fin grid0.N, win0_8.index t = ![0, 0]) t

/-- What the gradient is computed from, on device `c`. -/
abbrev G : Given := Plain.given (dcat m c) (proj m c) (mkv m c)

section
variable (t : Fin cfg0.N) (h : t.val % 2 = 0)
include h

theorem in_0 (r : Fin 1024) (d : Fin 256) : (iblk m c 0 t : S1x1024x256.Idx → EReal) (ix3 0 r d) = (G m c).ct (bT t) (hT t) (sT t r) d := by
  show _ = dcat m c (ix2 (row (bT t) (sT t r)) (col 3072 (by decide) (hT t) d))
  rw [← host_dcat]
  blk_ext [iblk, at_0 t h]

theorem in_1 (r : Fin 1024) (d : Fin 256) : (iblk m c 1 t : S1x1024x256.Idx → EReal) (ix3 0 r d)
    = (G m c).P (row (bT t) (sT t r)) (col 12288 (by decide) (hT t) d) := by
  show _ = proj m c (ix2 (row (bT t) (sT t r)) (col 12288 (by decide) (hT t) d))
  rw [← host_proj]
  blk_ext [iblk, at_1 t h]

theorem in_2 (r : Fin 1024) (d : Fin 256) : (iblk m c 2 t : S1x1024x256.Idx → EReal) (ix3 0 r d) = (G m c).z (bT t) (hT t) (sT t r) d := by
  show _ = proj m c (ix2 (row (bT t) (sT t r)) (col 13312 (by decide) (hT t) d))
  rw [← host_proj]
  blk_ext [iblk, at_2 t h]

theorem in_3 (j d : Fin 256) : (iblk m c 3 t : S1x256x256.Idx → EReal) (ix3 0 j d) = (G m c).M (slot (bT t) j) (col 0 (by decide) (hT t) d) := by
  show _ = mkv m c (ix2 (slot (bT t) j) (col 0 (by decide) (hT t) d))
  rw [← host_mkv]
  blk_ext [iblk, at_3 t h]

theorem in_4 (j d : Fin 256) : (iblk m c 4 t : S1x256x256.Idx → EReal) (ix3 0 j d) = (G m c).v (bT t) (hT t) j d := by
  show _ = mkv m c (ix2 (slot (bT t) j) (col 1024 (by decide) (hT t) d))
  rw [← host_mkv]
  blk_ext [iblk, at_4 t h]

theorem in_5 (r : Fin 1024) (d : Fin 256) : (iblk m c 5 t : S1024x256.Idx → EReal) (ix2 r d) = (G m c).cq (sT t r) d := by
  show _ = Plain.cosT Plain.angQ (sT t r) d
  rw [← host_cq m c]
  blk_ext [iblk, at_5 t h]

theorem in_6 (r : Fin 1024) (d : Fin 256) : (iblk m c 6 t : S1024x256.Idx → EReal) (ix2 r d) = (G m c).sq (sT t r) d := by
  show _ = Plain.sinT Plain.angQ (sT t r) d
  rw [← host_sq m c]
  blk_ext [iblk, at_6 t h]

end

theorem in_7 (t : Fin cfg0.N) (j d : Fin 256) : (iblk m c 7 t : S256x256.Idx → EReal) (ix2 j d) = (G m c).cm j d := by
  show _ = Plain.cosT Plain.angM j d
  rw [← host_cm m c]
  blk_ext [iblk, at_7]

theorem in_8 (t : Fin cfg0.N) (j d : Fin 256) : (iblk m c 8 t : S256x256.Idx → EReal) (ix2 j d) = (G m c).sm j d := by
  show _ = Plain.sinT Plain.angM j d
  rw [← host_sm m c]
  blk_ext [iblk, at_8]

/-! ## What an even point computes -/

section
variable (t : Fin cfg0.N) (h : t.val % 2 = 0)
include h

theorem q_eq (r : Fin 1024) : qB (iblk m c 1 t) (iblk m c 5 t) (iblk m c 6 t) r = (G m c).q (bT t) (hT t) (sT t r) := by
  unfold qB Given.q
  simp only [in_1 m c t h, in_5 m c t h, in_6 m c t h]

theorem k_eq : kB (iblk m c 3 t) (iblk m c 7 t) (iblk m c 8 t) = (G m c).k (bT t) (hT t) := by
  funext j
  unfold kB Given.k
  simp only [in_3 m c t h, in_7 m c t, in_8 m c t]

theorem v_eq : vB (iblk m c 4 t) = (G m c).v (bT t) (hT t) := by
  funext j d
  exact in_4 m c t h j d

theorem u_eq (r : Fin 1024) : uB (iblk m c 0 t) (iblk m c 2 t) r = (G m c).u (bT t) (hT t) (sT t r) := by
  funext d
  unfold uB Given.u
  rw [in_0 m c t h, in_2 m c t h]

theorem dq_eq (r : Fin 1024) (d : Fin 256) :
    dqAt m c t (ix3 0 r d) = (G m c).dq (bT t) (hT t) ((G m c).e (bT t) (hT t)) (sT t r) d := by
  unfold dqAt
  rw [dqOut_at]
  unfold gB
  rw [q_eq m c t h, k_eq m c t h, v_eq m c t h, u_eq m c t h]
  simp only [in_5 m c t h, in_6 m c t h]
  rfl

theorem dz_eq (r : Fin 1024) (d : Fin 256) : dzAt m c t (ix2 r d) = (G m c).dz (bT t) (hT t) (sT t r) d := by
  unfold dzAt
  rw [dzOf_at]
  unfold dzB
  rw [q_eq m c t h, k_eq m c t h, v_eq m c t h, in_0 m c t h, in_2 m c t h]
  rfl

theorem kStep_eq (y : Vec Ideal S1x256x256 .f32) (j d : Fin 256) : kStep m c t y (ix3 0 j d)
    = y (ix3 0 j d) + ∑ r, (G m c).e (bT t) (hT t) (sT t r) j * (G m c).q (bT t) (hT t) (sT t r) d := by
  unfold kStep
  rw [dmkStep_at]
  simp only [q_eq m c t h, k_eq m c t h, v_eq m c t h, u_eq m c t h]
  rfl

theorem vStep_eq (y : Vec Ideal S1x256x256 .f32) (j d : Fin 256) : vStep m c t y (ix3 0 j d)
    = y (ix3 0 j d) + ∑ r, pr ((G m c).q (bT t) (hT t) (sT t r)) ((G m c).k (bT t) (hT t)) j * (G m c).u (bT t) (hT t) (sT t r) d := by
  unfold vStep
  rw [dmvStep_at]
  simp only [q_eq m c t h, k_eq m c t h, u_eq m c t h]

end

/-! ## What a head's points leave -/

/-- A sum over a sequence in two halves. -/
theorem halves (f : Fin 2048 → EReal) (t u : Fin cfg0.N) (ht : t.val % 4 = 0) (hu : u.val % 4 = 2) :
    0 + ∑ r, f (sT t r) + ∑ r, f (sT u r) = ∑ s, f s := by
  rw [zero_add, Fin.sum_univ_tiles 2 1024 (by decide) f, Fin.sum_univ_two]
  refine congrArg₂ (· + ·) (Finset.sum_congr rfl fun r _ => congrArg f (Fin.ext ?_)) (Finset.sum_congr rfl fun r _ => congrArg f (Fin.ext ?_))
  · show t.val / 2 % 2 * 1024 + r.val = 0 * 1024 + r.val
    omega
  · show u.val / 2 % 2 * 1024 + r.val = 1 * 1024 + r.val
    omega

/-- The two even points of a head. -/
theorem pt_facts (t : Fin cfg0.N) (k : ℕ) (hk : k < 4) :
    (pt (t.val / 4 * 4 + k)).val % 4 = k ∧ bT (pt (t.val / 4 * 4 + k)) = bT t ∧ hT (pt (t.val / 4 * 4 + k)) = hT t := by
  have ht : t.val < 32 := Nat.lt_of_lt_of_eq t.isLt N_0
  have e : (pt (t.val / 4 * 4 + k)).val = t.val / 4 * 4 + k := Nat.mod_eq_of_lt (by omega)
  refine ⟨by omega, Fin.ext ?_, Fin.ext ?_⟩
  · show (pt (t.val / 4 * 4 + k)).val / 16 % 2 = t.val / 16 % 2
    omega
  · show (pt (t.val / 4 * 4 + k)).val / 4 % 4 = t.val / 4 % 4
    omega

theorem vAt_eq (t : Fin cfg0.N) (h : t.val % 4 = 3) (j d : Fin 256) : vAt m c t.val (ix3 0 j d) = (G m c).dv (bT t) (hT t) j d := by
  obtain ⟨a0, a1, a2⟩ := pt_facts t 0 (by decide)
  obtain ⟨b0, b1, b2⟩ := pt_facts t 2 (by decide)
  rw [vAt, if_neg (by omega), vStep_eq m c _ (by omega), show pt (t.val / 4 * 4) = pt (t.val / 4 * 4 + 0) from rfl, vStep_eq m c _ (by omega), pay2_at,
    a1, a2, b1, b2]
  exact halves (fun s => pr ((G m c).q (bT t) (hT t) s) ((G m c).k (bT t) (hT t)) j * (G m c).u (bT t) (hT t) s d) _ _ a0 b0

theorem kAt_eq (t : Fin cfg0.N) (h : t.val % 4 = 3) (j d : Fin 256) :
    kAt m c t.val (ix3 0 j d) = (G m c).dk (bT t) (hT t) ((G m c).e (bT t) (hT t)) j d := by
  obtain ⟨a0, a1, a2⟩ := pt_facts t 0 (by decide)
  obtain ⟨b0, b1, b2⟩ := pt_facts t 2 (by decide)
  have e : ∀ d, kStep m c (pt (t.val / 4 * 4 + 2)) (kStep m c (pt (t.val / 4 * 4)) (k0_pay1 (F := Ideal))) (ix3 0 j d)
      = ∑ s, (G m c).e (bT t) (hT t) s j * (G m c).q (bT t) (hT t) s d := fun d => by
    rw [kStep_eq m c _ (by omega), show pt (t.val / 4 * 4) = pt (t.val / 4 * 4 + 0) from rfl, kStep_eq m c _ (by omega), pay1_at,
      a1, a2, b1, b2]
    exact halves (fun s => (G m c).e (bT t) (hT t) s j * (G m c).q (bT t) (hT t) s d) _ _ a0 b0
  rw [kAt, if_neg (by omega), if_neg (by omega), pay7_at]
  simp only [e, in_7, in_8]
  rfl

theorem oAt_even_eq (t : Fin cfg0.N) (h : t.val % 2 = 0) (r : Fin 1024) (d : Fin 256) :
    oAt m c t.val (ix3 0 r d) = (G m c).dq (bT t) (hT t) ((G m c).e (bT t) (hT t)) (sT t r) d := by
  rw [oAt, if_pos h, pt_val, dq_eq m c t h]

theorem oAt_odd_eq (t : Fin cfg0.N) (h : t.val % 2 = 1) (r : Fin 1024) (d : Fin 256) :
    oAt m c t.val (ix3 0 r d) = (G m c).dz (bT t) (hT t) (sT t r) d := by
  have ht : t.val < 32 := Nat.lt_of_lt_of_eq t.isLt N_0
  have e : (pt (t.val / 2 * 2)).val = t.val / 2 * 2 := Nat.mod_eq_of_lt (by omega)
  have e1 : bT (pt (t.val / 2 * 2)) = bT t := Fin.ext (by show (pt (t.val / 2 * 2)).val / 16 % 2 = t.val / 16 % 2; omega)
  have e2 : hT (pt (t.val / 2 * 2)) = hT t := Fin.ext (by show (pt (t.val / 2 * 2)).val / 4 % 4 = t.val / 4 % 4; omega)
  have e3 : sT (pt (t.val / 2 * 2)) r = sT t r := Fin.ext (by
    show (pt (t.val / 2 * 2)).val / 2 % 2 * 1024 + r.val = t.val / 2 % 2 * 1024 + r.val; omega)
  rw [oAt, if_neg (by omega), pay6_at, scAt, dz_eq m c _ (by omega), e1, e2, e3]

end Cert.Cross

end
-- ==== Proof.Cross.Value.lean ====
/- The arrays that the kernel leaves: the joined gradients of the projections, and the gradients of the memory's keys and values. -/
module

public import proofs.«01_k».proof.Proof.Cross.Blocks

@[expose] public section

set_option maxRecDepth 16384

noncomputable section

namespace Cert.Cross

open Cert.KernelIdeal Cert.KernelIdeal.Gen
open Idealize.ShloMosaic Idealize.ShloMosaic.TcCoe Idealize.SL.Sem

variable (m : (ℓ : Loc nD τ sig) → Buf (Elt Ideal) ℓ) (c : Dev nD)

theorem at_9 (t : Fin cfg0.N) : win0_9.index t = ![t.val / 16 % 2, t.val / 2 % 2, 48 + 4 * (t.val % 2) + t.val / 4 % 4] :=
  (by decide +kernel : ∀ t : Fin grid0.N, win0_9.index t = ![t.val / 16 % 2, t.val / 2 % 2, 48 + 4 * (t.val % 2) + t.val / 4 % 4]) t
theorem at_10 (t : Fin cfg0.N) : win0_10.index t = ![t.val / 16 % 2, 0, t.val / 4 % 4] :=
  (by decide +kernel : ∀ t : Fin grid0.N, win0_10.index t = ![t.val / 16 % 2, 0, t.val / 4 % 4]) t
theorem at_11 (t : Fin cfg0.N) : win0_11.index t = ![t.val / 16 % 2, 0, t.val / 4 % 4] :=
  (by decide +kernel : ∀ t : Fin grid0.N, win0_11.index t = ![t.val / 16 % 2, 0, t.val / 4 % 4]) t

/-- The projections' gradient after the run. -/
def whole (i : S2x2048x14336.Idx) : EReal :=
  joined (fun r n => dproj m c (ix2 r n)) (fun b h => (G m c).dq b h ((G m c).e b h)) (G m c).dz (i 0) (i 1) (i 2)

theorem block_9 (t : Fin cfg0.N) (z : S1x1024x256.Idx) (i : S2x2048x14336.Idx) (h0 : (i 0).val = t.val / 16 % 2 + (z 0).val)
    (h1 : (i 1).val = t.val / 2 % 2 * 1024 + (z 1).val) (h2 : (i 2).val = (48 + 4 * (t.val % 2) + t.val / 4 % 4) * 256 + (z 2).val) :
    oAt m c t.val z = whole m c i := by
  have z0 : z 0 = (0 : Fin 1) := Fin.ext (by have : (z 0).val < 1 := (z 0).isLt; show (z 0).val = 0; omega)
  have l2 : (z 2).val < 256 := (z 2).isLt
  have hz : z = ix3 0 (z 1) (z 2) := by funext a; match a with | 0 => exact z0 | 1 => rfl | 2 => rfl
  have hz0 : (z 0).val = 0 := congrArg Fin.val z0
  have e0 : i 0 = bT t := Fin.ext (by show (i 0).val = t.val / 16 % 2; omega)
  have e1 : i 1 = sT t (z 1) := Fin.ext h1
  have e2 : head (i 2) = hT t := Fin.ext (by show (i 2).val % 1024 / 256 = t.val / 4 % 4; omega)
  have e3 : entry (i 2) = z 2 := Fin.ext (by show (i 2).val % 256 = (z 2).val; omega)
  unfold whole joined
  rw [if_neg (by omega), e0, e1, e2, e3, hz]
  rcases Nat.mod_two_eq_zero_or_one t.val with h | h
  · rw [if_pos (by omega)]
    exact oAt_even_eq m c t h (z 1) (z 2)
  · rw [if_neg (by omega)]
    exact oAt_odd_eq m c t h (z 1) (z 2)

theorem final_9 : (dats m 0 c).arrAt 9 cfg0.N = whole m c := by
  have e := (dats m 0 c).arrAt_eq_of_coversWhere 9 (whole m c) (P := fun i : S2x2048x14336.Idx => 48 ≤ (i 2).val / 256)
    (fun β => 48 ≤ β (2 : Fin 3)) (by decide +kernel)
    (fun t hf y => by
      show (dats m 0 c).after 9 t ((cfg0.win 9).xinj (grid0.coords t) y) = _
      rw [after_9]
      exact block_9 m c t _ (((cfg0.win 9).blk t).view.emb y) (by blk_simp [at_9]) (by blk_simp [at_9]) (by blk_simp [at_9]))
    (fun j => Iff.rfl)
  rw [e]
  funext i
  by_cases h : 48 ≤ (i 2).val / 256
  · exact if_pos h
  · refine (if_neg h).trans ?_
    rw [A_eq]
    have hi : i = ix3 (i 0) (i 1) (i 2) := by funext a; match a with | 0 => rfl | 1 => rfl | 2 => rfl
    unfold whole joined
    rw [if_pos (by omega)]
    refine Eq.trans ?_ (host_dproj m c (i 0) (i 1) (i 2))
    exact congrArg (V m c main_v44_0 : S2x2048x14336.Idx → EReal) hi

/-- A block of the memory's gradients in its array. -/
theorem small (t : Fin cfg0.N) (x : Fin 2 → Fin 4 → Fin 256 → Fin 256 → EReal) (v : S1x256x256.Idx → EReal)
    (hv : ∀ j d, v (ix3 0 j d) = x (bT t) (hT t) j d) (z : S1x256x256.Idx) (i : S2x256x1024.Idx) (h0 : (i 0).val = t.val / 16 % 2 + (z 0).val)
    (h1 : (i 1).val = (z 1).val) (h2 : (i 2).val = t.val / 4 % 4 * 256 + (z 2).val) :
    v z = x (i 0) (head (i 2)) (i 1) (entry (i 2)) := by
  have z0 : z 0 = (0 : Fin 1) := Fin.ext (by have : (z 0).val < 1 := (z 0).isLt; show (z 0).val = 0; omega)
  have l2 : (z 2).val < 256 := (z 2).isLt
  have hz : z = ix3 0 (z 1) (z 2) := by funext a; match a with | 0 => exact z0 | 1 => rfl | 2 => rfl
  have hz0 : (z 0).val = 0 := congrArg Fin.val z0
  have e0 : i 0 = bT t := Fin.ext (by show (i 0).val = t.val / 16 % 2; omega)
  have e1 : i 1 = z 1 := Fin.ext h1
  have e2 : head (i 2) = hT t := Fin.ext (by show (i 2).val % 1024 / 256 = t.val / 4 % 4; omega)
  have e3 : entry (i 2) = z 2 := Fin.ext (by show (i 2).val % 256 = (z 2).val; omega)
  rw [e0, e1, e2, e3, hz]
  exact hv (z 1) (z 2)

theorem final_10 : (dats m 0 c).arrAt 10 cfg0.N
    = fun i => (G m c).dk (i 0) (head (i 2)) ((G m c).e (i 0) (head (i 2))) (i 1) (entry (i 2)) := by
  refine (dats m 0 c).arrAt_eq_of_covers 10 _ (by decide +kernel) fun t hf y => ?_
  show (dats m 0 c).after 10 t ((cfg0.win 10).xinj (grid0.coords t) y) = _
  rw [after_10]
  exact small t (fun b h => (G m c).dk b h ((G m c).e b h)) _ (kAt_eq m c t ((flush0_10 t).mp hf)) _ (((cfg0.win 10).blk t).view.emb y)
    (by blk_simp [at_10]) (by blk_simp [at_10]) (by blk_simp [at_10])

theorem final_11 : (dats m 0 c).arrAt 11 cfg0.N = fun i => (G m c).dv (i 0) (head (i 2)) (i 1) (entry (i 2)) := by
  refine (dats m 0 c).arrAt_eq_of_covers 11 _ (by decide +kernel) fun t hf y => ?_
  show (dats m 0 c).after 11 t ((cfg0.win 11).xinj (grid0.coords t) y) = _
  rw [after_11]
  exact small t (G m c).dv _ (vAt_eq m c t ((flush0_11 t).mp hf)) _ (((cfg0.win 11).blk t).view.emb y)
    (by blk_simp [at_11]) (by blk_simp [at_11]) (by blk_simp [at_11])

end Cert.Cross

end
-- ==== Proof.Cross.Claim.lean ====
/- The kernel and the plain gradient of the gated cross-attention agree, on arguments that are real numbers. -/
module

public import proofs.«01_k».proof.Defs
public import proofs.«01_k».proof.Proof.Gen.Pre_finite
public import proofs.«01_k».proof.Proof.Cross.Value
public import Idealize.ShloMosaic.Lib.ReduceAll

@[expose] public section

set_option maxRecDepth 16384

noncomputable section

namespace Cert.Cross

open Cert.KernelIdeal Cert.KernelIdeal.Gen
open Idealize.ShloMosaic Idealize.ShloMosaic.TcCoe Idealize.SL.Sem Idealize.ShloMosaic.StableHlo

/-- What lies below the infinity in size is a real number. -/
theorem real_of_lt {φ : FTy} {x b : EReal} (hb : b = ⊤)
    (h : FloatOps.cmpf (F := Ideal) (φ := φ) .olt (FloatOps.hostAbsf (F := Ideal) (φ := φ) x) b = 1#1) : IsReal x := by
  subst hb
  have h' : max x (-x) < ⊤ := by
    have e : FloatOps.cmpf (F := Ideal) (φ := φ) .olt (FloatOps.hostAbsf (F := Ideal) (φ := φ) x) (⊤ : EReal)
        = BitVec.ofBool (decide (max x (-x) < ⊤)) := rfl
    rw [e] at h
    by_contra hn
    rw [decide_eq_false hn] at h
    exact absurd h (by decide)
  induction x with
  | bot => exact absurd h' (by simp)
  | top => exact absurd h' (by simp)
  | coe r => exact ⟨r, rfl⟩

theorem top_f32 : Ideal.ofBits .f32 2139095040#32 = ⊤ := by simp [Ideal.ofBits, Ideal.ieee]
theorem top_bf16 : Ideal.ofBits .bf16 32640#16 = ⊤ := by simp [Ideal.ofBits, Ideal.ieee]

theorem finite_reals [Cert.Pre_finite.Facts] (m : (ℓ : Loc nD τ sig) → Buf (Elt Ideal) ℓ) (h : Cert.Pre_KernelIdeal_finite m) (c : Dev nD) :
    (∀ i, IsReal (dcat m c i)) ∧ (∀ i, IsReal (proj m c i)) ∧ ∀ i, IsReal (mkv m c i) := by
  have e := congrFun (h c) finZeroElim
  simp only [Pre_finite.fn, andi, IntOp.andi_eq_one] at e
  obtain ⟨⟨e0, e1⟩, e2⟩ := e
  have : Subsingleton Pre_finite.S_.Idx := ⟨fun _ _ => funext fun a => a.elim0⟩
  exact ⟨fun i => real_of_lt top_f32 (Host.reduce_andi_all _ _ _ _ _ e0 i), fun i => real_of_lt top_bf16 (Host.reduce_andi_all _ _ _ _ _ e1 i),
    fun i => real_of_lt top_f32 (Host.reduce_andi_all _ _ _ _ _ e2 i)⟩

theorem ix3_eta {a b d : ℕ} (i : (⟨3, ![a, b, d]⟩ : Shape).Idx) : i = ix3 (i 0) (i 1) (i 2) := by
  funext k
  match k with
  | 0 => rfl
  | 1 => rfl
  | 2 => rfl

section
variable (m : (ℓ : Loc nD τ sig) → Buf (Elt Ideal) ℓ) (c : Dev nD) (r : (G m c).Real)
include r

/-- The plain gradient is what the kernel's arrays end as. -/
theorem plain_9 : Cert.ReferenceIdeal.Read.val_main_v185 (F := Ideal) (dcat m c) (proj m c) (mkv m c) (dproj m c) = whole m c := by
  funext i
  refine (congrArg (Cert.ReferenceIdeal.Read.val_main_v185 (F := Ideal) (dcat m c) (proj m c) (mkv m c) (dproj m c)) (ix3_eta i)).trans
    ((Plain.result_0 _ _ _ _ (i 0) (i 1) (i 2)).trans ?_)
  have e : (fun b h => (G m c).dq b h ((G m c).eQuot b h)) = fun b h => (G m c).dq b h ((G m c).e b h) := by
    funext b h
    rw [r.e_eq]
  have e' : (G m c).dzSum = (G m c).dz := by
    funext b h s d
    exact (r.dz_eq b h s d).symm
  rw [e, e']
  rfl

theorem plain_10 : Cert.ReferenceIdeal.Read.val_main_v180 (F := Ideal) (dcat m c) (proj m c) (mkv m c)
    = fun i : S2x256x1024.Idx => (G m c).dk (i 0) (head (i 2)) ((G m c).e (i 0) (head (i 2))) (i 1) (entry (i 2)) := by
  funext i
  refine (congrArg (Cert.ReferenceIdeal.Read.val_main_v180 (F := Ideal) (dcat m c) (proj m c) (mkv m c)) (ix3_eta i)).trans
    ((Plain.result_1 _ _ _ (i 0) (i 1) (i 2)).trans ?_)
  exact congrArg (fun E => (G m c).dk (i 0) (head (i 2)) E (i 1) (entry (i 2))) (r.e_eq (i 0) (head (i 2))).symm

omit r in
theorem plain_11 : Cert.ReferenceIdeal.Read.val_main_v163 (F := Ideal) (dcat m c) (proj m c) (mkv m c)
    = fun i : S2x256x1024.Idx => (G m c).dv (i 0) (head (i 2)) (i 1) (entry (i 2)) := by
  funext i
  exact (congrArg (Cert.ReferenceIdeal.Read.val_main_v163 (F := Ideal) (dcat m c) (proj m c) (mkv m c)) (ix3_eta i)).trans
    (Plain.result_2 _ _ _ (i 0) (i 1) (i 2))

end

/-- The plain program's run, its results by the stages. -/
theorem plain_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        (r.2.mem ((c.tc : Thread Cert.ReferenceIdeal.nD Cert.ReferenceIdeal.τ).loc Cert.ReferenceIdeal.main_v185)
            = Cert.ReferenceIdeal.Read.val_main_v185 (F := Ideal) (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3)))
          ∧ (r.2.mem ((c.tc : Thread Cert.ReferenceIdeal.nD Cert.ReferenceIdeal.τ).loc Cert.ReferenceIdeal.main_v180)
            = Cert.ReferenceIdeal.Read.val_main_v180 (F := Ideal) (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2)))
          ∧ (r.2.mem ((c.tc : Thread Cert.ReferenceIdeal.nD Cert.ReferenceIdeal.τ).loc Cert.ReferenceIdeal.main_v163)
            = Cert.ReferenceIdeal.Read.val_main_v163 (F := Ideal) (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2)))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun r h c => ⟨(h c).1.trans (Cert.ReferenceIdeal.Read.val_main_v185_eq (F := Ideal) (launchContents m' c)),
      (h c).2.1.trans (Cert.ReferenceIdeal.Read.val_main_v180_eq (F := Ideal) (launchContents m' c)),
      (h c).2.2.1.trans (Cert.ReferenceIdeal.Read.val_main_v163_eq (F := Ideal) (launchContents m' c)), (h c).2.2.2⟩)
    (Cert.ReferenceIdeal.Value.run (F := Ideal) m' g')

theorem value [Cert.Pre_finite.Facts] : Cert.algebraic_KernelIdeal_ReferenceIdeal_pre_finite := by
  intro m g m' g' hp hag
  refine ⟨fun c => (dats m 0 c).arrAt 9 cfg0.N, fun c => (dats m 0 c).arrAt 10 cfg0.N, fun c => (dats m 0 c).arrAt 11 cfg0.N,
    (θ_run defs _ _).mono (fun r h c => ⟨(h.1 c).1 9, (h.1 c).1 10, (h.1 c).1 11, h.2.1 c⟩)
      (θ_run_and (run_main m g) (unmoved m g)), ?_⟩
  refine (θ_run Cert.ReferenceIdeal.defs _ _).mono (fun r h c => ?_) (plain_run m' g')
  obtain ⟨a0, a1, a2, a3⟩ := hag c
  obtain ⟨h0, h1, h2, hr⟩ := h c
  obtain ⟨f0, f1, f2⟩ := finite_reals m hp c
  have hg : (G m c).Real := Plain.given_real _ _ _ f0 f1 f2
  refine ⟨h0.trans ?_, h1.trans ?_, h2.trans ?_, hr⟩
  · exact (congr (congr (congr (congrArg _ a0) a1) a2) a3).trans ((plain_9 m c hg).trans (final_9 m c).symm)
  · exact (congr (congr (congrArg _ a0) a1) a2).trans ((plain_10 m c hg).trans (final_10 m c).symm)
  · exact (congr (congr (congrArg _ a0) a1) a2).trans ((plain_11 m c).trans (final_11 m c).symm)

end Cert.Cross

end
-- ==== Proof.Frames.lean ====
/- The frames: each program's run leaves its arguments as they were and every semaphore at zero. -/
module

public import proofs.«01_k».proof.Defs
public import proofs.«01_k».proof.Proof.Gen.Kernel.Frame
public import proofs.«01_k».proof.Proof.Cross.Run
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import Idealize.ShloMosaic.Lib.Claim

@[expose] public section

set_option maxRecDepth 16384
set_option maxHeartbeats 4000000

noncomputable section

namespace Cert.Frames

open Idealize.ShloMosaic Idealize.SL.Sem

variable {F : FTy → Type} [FloatOps F]

/-- The kernel's body table and its ideal's are one text. -/
theorem table_eq : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => rfl
  | ⟨n + 1, h⟩, _ => exact absurd h (Nat.not_lt.2 (Nat.le_add_left _ _))

theorem defs_eq : Cert.Kernel.defs (F := F) = Cert.KernelIdeal.defs (F := F) := congrArg (Pipeline.defs _) table_eq

/-- So the run of the one text, at any float values, is the frame of both. -/
theorem cross : Cert.quiescent_Kernel := fun m ρ _ => by
  have h := Cert.Cross.unmoved (F := Bits) m ρ
  rw [← defs_eq] at h
  exact h

theorem crossIdeal : Cert.quiescent_KernelIdeal := fun m ρ _ => Cert.Cross.unmoved (F := Ideal) m ρ
theorem crossRef : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The same two on the arguments of the value claim. -/
theorem crossIdealFinite [Cert.Pre_finite.Facts] : Cert.quiescent_KernelIdeal_pre_finite := fun m ρ _ => crossIdeal m ρ trivial
theorem crossRefFinite [Cert.Pre_finite.Facts] : Cert.quiescent_ReferenceIdeal_pre_finite := fun m ρ _ => crossRef m ρ trivial

theorem dh : Cert.quiescent_Kernel2 := fun m ρ _ => Cert.Kernel2.Gen.frame m ρ
theorem dhIdeal : Cert.quiescent_Kernel2Ideal := fun m ρ _ => Cert.Kernel2Ideal.Gen.frame m ρ
theorem dhRef : Cert.quiescent_Reference2Ideal := fun m ρ _ =>
  (θ_run Cert.Reference2Ideal.defs _ _).mono
    (fun r h => ⟨fun c => (h c).2.2.2.2.2.2.2.2.2, sem_eq_zero_of_no_sems (by decide) r.2⟩)
    (Cert.Reference2Ideal.Value.run (F := Ideal) m ρ)

end Cert.Frames

end
-- ==== Proof.Dh.Blocks.lean ====
module

public import proofs.«01_k».proof.Proof.Gen.Kernel2Ideal.Value
public import Idealize.ShloMosaic.Lib.VecWindow
public import Idealize.ShloMosaic.Lib.Pipeline.ReadBack

@[expose] public section

set_option maxRecDepth 16384

noncomputable section

/-! # What each grid point stores

Each output block and the accumulator after a grid point, as the body's own arithmetic of the point's input blocks. -/

namespace Cert.Dh

open Cert.Kernel2Ideal Cert.Kernel2Ideal.Gen
open Idealize.ShloMosaic Idealize.ShloMosaic.TcCoe Idealize.SL.Sem

variable {F : FTy → Type} [FloatOps F]
variable (m : (ℓ : Loc nD τ sig) → Buf (Elt F) ℓ)

/-! ## Whole-block loads and stores -/

section Whole
variable {κ : Kind} {sp : Space} {e : EltTy}

theorem load_S1024x2048 (v : View sig κ sp S1024x2048 e) (f : v.ty.Contents (Elt F)) (inb : ∀ a, (![0, 0] : Fin S1024x2048.rank → ℕ) a + (![1024, 2048] : Fin S1024x2048.rank → ℕ) a ≤ S1024x2048.size a) :
    v.readAt (Elt F) (Rect.unit (s := S1024x2048) ![0, 0] ![1024, 2048] inb).toLoadRect f = v.read (Elt F) f := v.readAt_full f inb

theorem stored_S1024x2048 (v : View sig κ sp S1024x2048 e) (f : v.ty.Contents (Elt F)) (inb : ∀ a, (![0, 0] : Fin S1024x2048.rank → ℕ) a + (![1024, 2048] : Fin S1024x2048.rank → ℕ) a ≤ S1024x2048.size a)
    (w : (Rect.unit (s := S1024x2048) ![0, 0] ![1024, 2048] inb).shape.Idx → Elt F e) (L : List (View.Piece (Elt F) S1024x2048 e)) :
    v.read (Elt F) (v.writes (Elt F) f (⟨(Rect.unit (s := S1024x2048) ![0, 0] ![1024, 2048] inb), w⟩ :: L)) = w := v.read_writes_full f inb w L

theorem recov_S1024x2048 [∀ e, Nonempty (Elt F e)] (v : View sig κ sp S1024x2048 e) (inb inb' : ∀ a, (![0, 0] : Fin S1024x2048.rank → ℕ) a + (![1024, 2048] : Fin S1024x2048.rank → ℕ) a ≤ S1024x2048.size a)
    (w : (Rect.unit (s := S1024x2048) ![0, 0] ![1024, 2048] inb').shape.Idx → Elt F e) (L : List (View.Piece (Elt F) S1024x2048 e)) :
    v.readCov (⟨(Rect.unit (s := S1024x2048) ![0, 0] ![1024, 2048] inb'), w⟩ :: L) (Rect.unit (s := S1024x2048) ![0, 0] ![1024, 2048] inb).toLoadRect = w := v.readCov_full inb inb' w L

theorem load_S16x4096 (v : View sig κ sp S16x4096 e) (f : v.ty.Contents (Elt F)) (inb : ∀ a, (![0, 0] : Fin S16x4096.rank → ℕ) a + (![16, 4096] : Fin S16x4096.rank → ℕ) a ≤ S16x4096.size a) :
    v.readAt (Elt F) (Rect.unit (s := S16x4096) ![0, 0] ![16, 4096] inb).toLoadRect f = v.read (Elt F) f := v.readAt_full f inb

theorem stored_S16x4096 (v : View sig κ sp S16x4096 e) (f : v.ty.Contents (Elt F)) (inb : ∀ a, (![0, 0] : Fin S16x4096.rank → ℕ) a + (![16, 4096] : Fin S16x4096.rank → ℕ) a ≤ S16x4096.size a)
    (w : (Rect.unit (s := S16x4096) ![0, 0] ![16, 4096] inb).shape.Idx → Elt F e) (L : List (View.Piece (Elt F) S16x4096 e)) :
    v.read (Elt F) (v.writes (Elt F) f (⟨(Rect.unit (s := S16x4096) ![0, 0] ![16, 4096] inb), w⟩ :: L)) = w := v.read_writes_full f inb w L

theorem recov_S16x4096 [∀ e, Nonempty (Elt F e)] (v : View sig κ sp S16x4096 e) (inb inb' : ∀ a, (![0, 0] : Fin S16x4096.rank → ℕ) a + (![16, 4096] : Fin S16x4096.rank → ℕ) a ≤ S16x4096.size a)
    (w : (Rect.unit (s := S16x4096) ![0, 0] ![16, 4096] inb').shape.Idx → Elt F e) (L : List (View.Piece (Elt F) S16x4096 e)) :
    v.readCov (⟨(Rect.unit (s := S16x4096) ![0, 0] ![16, 4096] inb'), w⟩ :: L) (Rect.unit (s := S16x4096) ![0, 0] ![16, 4096] inb).toLoadRect = w := v.readCov_full inb inb' w L

theorem load_S16x2048 (v : View sig κ sp S16x2048 e) (f : v.ty.Contents (Elt F)) (inb : ∀ a, (![0, 0] : Fin S16x2048.rank → ℕ) a + (![16, 2048] : Fin S16x2048.rank → ℕ) a ≤ S16x2048.size a) :
    v.readAt (Elt F) (Rect.unit (s := S16x2048) ![0, 0] ![16, 2048] inb).toLoadRect f = v.read (Elt F) f := v.readAt_full f inb

theorem stored_S16x2048 (v : View sig κ sp S16x2048 e) (f : v.ty.Contents (Elt F)) (inb : ∀ a, (![0, 0] : Fin S16x2048.rank → ℕ) a + (![16, 2048] : Fin S16x2048.rank → ℕ) a ≤ S16x2048.size a)
    (w : (Rect.unit (s := S16x2048) ![0, 0] ![16, 2048] inb).shape.Idx → Elt F e) (L : List (View.Piece (Elt F) S16x2048 e)) :
    v.read (Elt F) (v.writes (Elt F) f (⟨(Rect.unit (s := S16x2048) ![0, 0] ![16, 2048] inb), w⟩ :: L)) = w := v.read_writes_full f inb w L

theorem recov_S16x2048 [∀ e, Nonempty (Elt F e)] (v : View sig κ sp S16x2048 e) (inb inb' : ∀ a, (![0, 0] : Fin S16x2048.rank → ℕ) a + (![16, 2048] : Fin S16x2048.rank → ℕ) a ≤ S16x2048.size a)
    (w : (Rect.unit (s := S16x2048) ![0, 0] ![16, 2048] inb').shape.Idx → Elt F e) (L : List (View.Piece (Elt F) S16x2048 e)) :
    v.readCov (⟨(Rect.unit (s := S16x2048) ![0, 0] ![16, 2048] inb'), w⟩ :: L) (Rect.unit (s := S16x2048) ![0, 0] ![16, 2048] inb).toLoadRect = w := v.readCov_full inb inb' w L

theorem load_S1024x1792 (v : View sig κ sp S1024x1792 e) (f : v.ty.Contents (Elt F)) (inb : ∀ a, (![0, 0] : Fin S1024x1792.rank → ℕ) a + (![1024, 1792] : Fin S1024x1792.rank → ℕ) a ≤ S1024x1792.size a) :
    v.readAt (Elt F) (Rect.unit (s := S1024x1792) ![0, 0] ![1024, 1792] inb).toLoadRect f = v.read (Elt F) f := v.readAt_full f inb

theorem load_S2048x1792 (v : View sig κ sp S2048x1792 e) (f : v.ty.Contents (Elt F)) (inb : ∀ a, (![0, 0] : Fin S2048x1792.rank → ℕ) a + (![2048, 1792] : Fin S2048x1792.rank → ℕ) a ≤ S2048x1792.size a) :
    v.readAt (Elt F) (Rect.unit (s := S2048x1792) ![0, 0] ![2048, 1792] inb).toLoadRect f = v.read (Elt F) f := v.readAt_full f inb

end Whole

/-! ## The optimiser's outputs -/

theorem out11 (c : Dev nD) (t : Fin cfg0.N) : (outsAt0 m c t.val t.isLt).2.1 = (iblk m c 3 t) := by
  by_cases h0 : t.val % 8 = 0
  · have h1 : ¬1 ≤ t.val % 8 := by omega
    have h2 : ¬t.val % 8 = 7 := by omega
    rw [outsAt0_A m c t h0 h1 h2]
    dsimp only
    unfold out0_A_11 kernelRun0_A
    dsimp only
    sl_unfold_words
    simp only [load_S1024x2048, stored_S1024x2048, recov_S1024x2048, load_S16x4096, stored_S16x4096, recov_S16x4096, load_S16x2048, stored_S16x2048, recov_S16x2048, load_S1024x1792, load_S2048x1792, Memref.IsWhole.read_unread]
  · have h1 : 1 ≤ t.val % 8 := by omega
    by_cases h2 : t.val % 8 = 7
    · rw [outsAt0_C m c t h0 h1 h2]
      dsimp only
      unfold out0_C_11 kernelRun0_C
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]
    · rw [outsAt0_B m c t h0 h1 h2]
      dsimp only
      unfold out0_B_11 kernelRun0_B
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]

theorem out12 (c : Dev nD) (t : Fin cfg0.N) : (outsAt0 m c t.val t.isLt).2.2.1 = k0_pay8 (k0_pay7 (iblk m c 3 t) (iblk m c 4 t) (iblk m c 5 t)) (iblk m c 2 t) := by
  by_cases h0 : t.val % 8 = 0
  · have h1 : ¬1 ≤ t.val % 8 := by omega
    have h2 : ¬t.val % 8 = 7 := by omega
    rw [outsAt0_A m c t h0 h1 h2]
    dsimp only
    unfold out0_A_12 kernelRun0_A
    dsimp only
    sl_unfold_words
    simp only [load_S1024x2048, stored_S1024x2048, recov_S1024x2048, load_S16x4096, stored_S16x4096, recov_S16x4096, load_S16x2048, stored_S16x2048, recov_S16x2048, load_S1024x1792, load_S2048x1792, Memref.IsWhole.read_unread]
  · have h1 : 1 ≤ t.val % 8 := by omega
    by_cases h2 : t.val % 8 = 7
    · rw [outsAt0_C m c t h0 h1 h2]
      dsimp only
      unfold out0_C_12 kernelRun0_C
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]
    · rw [outsAt0_B m c t h0 h1 h2]
      dsimp only
      unfold out0_B_12 kernelRun0_B
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]

theorem out13 (c : Dev nD) (t : Fin cfg0.N) : (outsAt0 m c t.val t.isLt).2.2.2.1 = k0_pay5 (iblk m c 3 t) (iblk m c 4 t) := by
  by_cases h0 : t.val % 8 = 0
  · have h1 : ¬1 ≤ t.val % 8 := by omega
    have h2 : ¬t.val % 8 = 7 := by omega
    rw [outsAt0_A m c t h0 h1 h2]
    dsimp only
    unfold out0_A_13 kernelRun0_A
    dsimp only
    sl_unfold_words
    simp only [load_S1024x2048, stored_S1024x2048, recov_S1024x2048, load_S16x4096, stored_S16x4096, recov_S16x4096, load_S16x2048, stored_S16x2048, recov_S16x2048, load_S1024x1792, load_S2048x1792, Memref.IsWhole.read_unread]
  · have h1 : 1 ≤ t.val % 8 := by omega
    by_cases h2 : t.val % 8 = 7
    · rw [outsAt0_C m c t h0 h1 h2]
      dsimp only
      unfold out0_C_13 kernelRun0_C
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]
    · rw [outsAt0_B m c t h0 h1 h2]
      dsimp only
      unfold out0_B_13 kernelRun0_B
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]

theorem out14 (c : Dev nD) (t : Fin cfg0.N) : (outsAt0 m c t.val t.isLt).2.2.2.2.1 = k0_pay6 (iblk m c 3 t) (iblk m c 5 t) := by
  by_cases h0 : t.val % 8 = 0
  · have h1 : ¬1 ≤ t.val % 8 := by omega
    have h2 : ¬t.val % 8 = 7 := by omega
    rw [outsAt0_A m c t h0 h1 h2]
    dsimp only
    unfold out0_A_14 kernelRun0_A
    dsimp only
    sl_unfold_words
    simp only [load_S1024x2048, stored_S1024x2048, recov_S1024x2048, load_S16x4096, stored_S16x4096, recov_S16x4096, load_S16x2048, stored_S16x2048, recov_S16x2048, load_S1024x1792, load_S2048x1792, Memref.IsWhole.read_unread]
  · have h1 : 1 ≤ t.val % 8 := by omega
    by_cases h2 : t.val % 8 = 7
    · rw [outsAt0_C m c t h0 h1 h2]
      dsimp only
      unfold out0_C_14 kernelRun0_C
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]
    · rw [outsAt0_B m c t h0 h1 h2]
      dsimp only
      unfold out0_B_14 kernelRun0_B
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]

theorem out15 (c : Dev nD) (t : Fin cfg0.N) : (outsAt0 m c t.val t.isLt).2.2.2.2.2.1 = (iblk m c 7 t) := by
  by_cases h0 : t.val % 8 = 0
  · have h1 : ¬1 ≤ t.val % 8 := by omega
    have h2 : ¬t.val % 8 = 7 := by omega
    rw [outsAt0_A m c t h0 h1 h2]
    dsimp only
    unfold out0_A_15 kernelRun0_A
    dsimp only
    sl_unfold_words
    simp only [load_S1024x2048, stored_S1024x2048, recov_S1024x2048, load_S16x4096, stored_S16x4096, recov_S16x4096, load_S16x2048, stored_S16x2048, recov_S16x2048, load_S1024x1792, load_S2048x1792, Memref.IsWhole.read_unread]
  · have h1 : 1 ≤ t.val % 8 := by omega
    by_cases h2 : t.val % 8 = 7
    · rw [outsAt0_C m c t h0 h1 h2]
      dsimp only
      unfold out0_C_15 kernelRun0_C
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]
    · rw [outsAt0_B m c t h0 h1 h2]
      dsimp only
      unfold out0_B_15 kernelRun0_B
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]

theorem out16 (c : Dev nD) (t : Fin cfg0.N) : (outsAt0 m c t.val t.isLt).2.2.2.2.2.2.1 = k0_pay1 (k0_pay11 (iblk m c 7 t) (iblk m c 8 t)) (k0_pay12 (iblk m c 7 t) (iblk m c 9 t)) (iblk m c 6 t) := by
  by_cases h0 : t.val % 8 = 0
  · have h1 : ¬1 ≤ t.val % 8 := by omega
    have h2 : ¬t.val % 8 = 7 := by omega
    rw [outsAt0_A m c t h0 h1 h2]
    dsimp only
    unfold out0_A_16 kernelRun0_A
    dsimp only
    sl_unfold_words
    simp only [load_S1024x2048, stored_S1024x2048, recov_S1024x2048, load_S16x4096, stored_S16x4096, recov_S16x4096, load_S16x2048, stored_S16x2048, recov_S16x2048, load_S1024x1792, load_S2048x1792, Memref.IsWhole.read_unread]
  · have h1 : 1 ≤ t.val % 8 := by omega
    by_cases h2 : t.val % 8 = 7
    · rw [outsAt0_C m c t h0 h1 h2]
      dsimp only
      unfold out0_C_16 kernelRun0_C
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]
    · rw [outsAt0_B m c t h0 h1 h2]
      dsimp only
      unfold out0_B_16 kernelRun0_B
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]

theorem out17 (c : Dev nD) (t : Fin cfg0.N) : (outsAt0 m c t.val t.isLt).2.2.2.2.2.2.2.1 = k0_pay9 (iblk m c 7 t) (iblk m c 8 t) := by
  by_cases h0 : t.val % 8 = 0
  · have h1 : ¬1 ≤ t.val % 8 := by omega
    have h2 : ¬t.val % 8 = 7 := by omega
    rw [outsAt0_A m c t h0 h1 h2]
    dsimp only
    unfold out0_A_17 kernelRun0_A
    dsimp only
    sl_unfold_words
    simp only [load_S1024x2048, stored_S1024x2048, recov_S1024x2048, load_S16x4096, stored_S16x4096, recov_S16x4096, load_S16x2048, stored_S16x2048, recov_S16x2048, load_S1024x1792, load_S2048x1792, Memref.IsWhole.read_unread]
  · have h1 : 1 ≤ t.val % 8 := by omega
    by_cases h2 : t.val % 8 = 7
    · rw [outsAt0_C m c t h0 h1 h2]
      dsimp only
      unfold out0_C_17 kernelRun0_C
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]
    · rw [outsAt0_B m c t h0 h1 h2]
      dsimp only
      unfold out0_B_17 kernelRun0_B
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]

theorem out18 (c : Dev nD) (t : Fin cfg0.N) : (outsAt0 m c t.val t.isLt).2.2.2.2.2.2.2.2.1 = k0_pay10 (iblk m c 7 t) (iblk m c 9 t) := by
  by_cases h0 : t.val % 8 = 0
  · have h1 : ¬1 ≤ t.val % 8 := by omega
    have h2 : ¬t.val % 8 = 7 := by omega
    rw [outsAt0_A m c t h0 h1 h2]
    dsimp only
    unfold out0_A_18 kernelRun0_A
    dsimp only
    sl_unfold_words
    simp only [load_S1024x2048, stored_S1024x2048, recov_S1024x2048, load_S16x4096, stored_S16x4096, recov_S16x4096, load_S16x2048, stored_S16x2048, recov_S16x2048, load_S1024x1792, load_S2048x1792, Memref.IsWhole.read_unread]
  · have h1 : 1 ≤ t.val % 8 := by omega
    by_cases h2 : t.val % 8 = 7
    · rw [outsAt0_C m c t h0 h1 h2]
      dsimp only
      unfold out0_C_18 kernelRun0_C
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]
    · rw [outsAt0_B m c t h0 h1 h2]
      dsimp only
      unfold out0_B_18 kernelRun0_B
      dsimp only
      sl_unfold_words
      simp only [load_S1024x2048, stored_S1024x2048, recov_S1024x2048, load_S16x4096, stored_S16x4096, recov_S16x4096, load_S16x2048, stored_S16x2048, recov_S16x2048, load_S1024x1792, load_S2048x1792, Memref.IsWhole.read_unread]

/-! ## The accumulator and the product's output -/

theorem acc_start (c : Dev nD) (t : Fin cfg0.N) (h0 : t.val % 8 = 0) :
    (outsAt0 m c t.val t.isLt).2.2.2.2.2.2.2.2.2 = k0_pay2 (iblk m c 0 t) (iblk m c 1 t) := by
  have h1 : ¬1 ≤ t.val % 8 := by omega
  have h2 : ¬t.val % 8 = 7 := by omega
  rw [outsAt0_A m c t h0 h1 h2]
  dsimp only
  unfold sout0_A_0 kernelRun0_A
  dsimp only
  sl_unfold_words
  simp only [load_S1024x2048, stored_S1024x2048, recov_S1024x2048, load_S16x4096, stored_S16x4096, recov_S16x4096, load_S16x2048, stored_S16x2048, recov_S16x2048, load_S1024x1792, load_S2048x1792, Memref.IsWhole.read_unread]

theorem acc_step (c : Dev nD) (t : Fin cfg0.N) (h1 : 1 ≤ t.val % 8) :
    (outsAt0 m c t.val t.isLt).2.2.2.2.2.2.2.2.2 = k0_pay3 (outsAt0 m c (t.val - 1) (Nat.lt_of_le_of_lt (Nat.sub_le _ _) t.isLt)).2.2.2.2.2.2.2.2.2 (iblk m c 0 t) (iblk m c 1 t) := by
  have h0 : ¬t.val % 8 = 0 := by omega
  by_cases h2 : t.val % 8 = 7
  · rw [outsAt0_C m c t h0 h1 h2]
    dsimp only
    unfold sout0_C_0 kernelRun0_C
    dsimp only
    sl_unfold_words
    simp only [load_S1024x2048, stored_S1024x2048, recov_S1024x2048, load_S16x4096, stored_S16x4096, recov_S16x4096, load_S16x2048, stored_S16x2048, recov_S16x2048, load_S1024x1792, load_S2048x1792, read_unread_whole, Memref.IsWhole.read_unread]
  · rw [outsAt0_B m c t h0 h1 h2]
    dsimp only
    unfold sout0_B_0 kernelRun0_B
    dsimp only
    sl_unfold_words
    simp only [load_S1024x2048, stored_S1024x2048, recov_S1024x2048, load_S16x4096, stored_S16x4096, recov_S16x4096, load_S16x2048, stored_S16x2048, recov_S16x2048, load_S1024x1792, load_S2048x1792, read_unread_whole, Memref.IsWhole.read_unread]

theorem out10 (c : Dev nD) (t : Fin cfg0.N) (h2 : t.val % 8 = 7) :
    (outsAt0 m c t.val t.isLt).1 = k0_pay4 ((outsAt0 m c t.val t.isLt).2.2.2.2.2.2.2.2.2) := by
  have h0 : ¬t.val % 8 = 0 := by omega
  have h1 : 1 ≤ t.val % 8 := by omega
  rw [acc_step m c t h1, outsAt0_C m c t h0 h1 h2]
  dsimp only
  unfold out0_C_10 kernelRun0_C
  dsimp only
  sl_unfold_words
  simp only [load_S1024x2048, stored_S1024x2048, recov_S1024x2048, load_S16x4096, stored_S16x4096, recov_S16x4096, load_S16x2048, stored_S16x2048, recov_S16x2048, load_S1024x1792, load_S2048x1792, read_unread_whole, Memref.IsWhole.read_unread]

end Cert.Dh

end
-- ==== Proof.Dh.Opt.lean ====
module

public import proofs.«01_k».proof.Proof.Dh.Blocks
public import Idealize.ShloMosaic.Lib.Pointwise
public import Idealize.ShloMosaic.Lib.Pipeline.ValueKit

@[expose] public section

set_option maxRecDepth 16384

noncomputable section

/-! # What the result arrays hold

Every result of the call as a formula of the argument arrays, index by index: the optimiser's three outputs of each
state, and the product of the incoming gradient with the transposed weight. -/

namespace Cert.Dh

open Cert.Kernel2Ideal Cert.Kernel2Ideal.Gen
open Idealize.ShloMosaic Idealize.ShloMosaic.TcCoe Idealize.SL.Sem

variable (m : (ℓ : Loc nD τ sig) → Buf (Elt Ideal) ℓ)

/-! ## The optimiser at one element -/

/-- A single-precision word as an extended real. -/
abbrev word (b : BitVec 32) : EReal := (Scalar.ofBits .f32 b : Ideal .f32)

/-- The first moment after the step. -/
def mom (g mu : EReal) : EReal := word 0x3F666666#32 * mu + word 0x3DCCCCCD#32 * g

/-- The second moment after the step. -/
def var (g nu : EReal) : EReal := word 0x3F7FBE77#32 * nu + word 0x3A83126F#32 * (g * g)

/-- The weight's change. -/
def delta (w g mu nu : EReal) : EReal :=
  word 0xBA83126F#32 * (Ideal.div (Ideal.div (mom g mu) (word 0x3F26BD02#32))
    (Ideal.sqrt (Ideal.div (var g nu) (word 0x3C231ACC#32)) + word 0x322BCC77#32) + word 0x3C23D70A#32 * w)

theorem at_2 (t : Fin cfg0.N) : win0_2.index t = ![t.val, 0] := (by decide +kernel : ∀ t : Fin grid0.N, win0_2.index t = ![t.val, 0]) t
theorem at_3 (t : Fin cfg0.N) : win0_3.index t = ![t.val, 0] := (by decide +kernel : ∀ t : Fin grid0.N, win0_3.index t = ![t.val, 0]) t
theorem at_4 (t : Fin cfg0.N) : win0_4.index t = ![t.val, 0] := (by decide +kernel : ∀ t : Fin grid0.N, win0_4.index t = ![t.val, 0]) t
theorem at_5 (t : Fin cfg0.N) : win0_5.index t = ![t.val, 0] := (by decide +kernel : ∀ t : Fin grid0.N, win0_5.index t = ![t.val, 0]) t
theorem at_6 (t : Fin cfg0.N) : win0_6.index t = ![t.val, 0] := (by decide +kernel : ∀ t : Fin grid0.N, win0_6.index t = ![t.val, 0]) t
theorem at_7 (t : Fin cfg0.N) : win0_7.index t = ![t.val, 0] := (by decide +kernel : ∀ t : Fin grid0.N, win0_7.index t = ![t.val, 0]) t
theorem at_8 (t : Fin cfg0.N) : win0_8.index t = ![t.val, 0] := (by decide +kernel : ∀ t : Fin grid0.N, win0_8.index t = ![t.val, 0]) t
theorem at_9 (t : Fin cfg0.N) : win0_9.index t = ![t.val, 0] := (by decide +kernel : ∀ t : Fin grid0.N, win0_9.index t = ![t.val, 0]) t
theorem at_11 (t : Fin cfg0.N) : win0_11.index t = ![t.val, 0] := (by decide +kernel : ∀ t : Fin grid0.N, win0_11.index t = ![t.val, 0]) t
theorem at_12 (t : Fin cfg0.N) : win0_12.index t = ![t.val, 0] := (by decide +kernel : ∀ t : Fin grid0.N, win0_12.index t = ![t.val, 0]) t
theorem at_13 (t : Fin cfg0.N) : win0_13.index t = ![t.val, 0] := (by decide +kernel : ∀ t : Fin grid0.N, win0_13.index t = ![t.val, 0]) t
theorem at_14 (t : Fin cfg0.N) : win0_14.index t = ![t.val, 0] := (by decide +kernel : ∀ t : Fin grid0.N, win0_14.index t = ![t.val, 0]) t
theorem at_15 (t : Fin cfg0.N) : win0_15.index t = ![t.val, 0] := (by decide +kernel : ∀ t : Fin grid0.N, win0_15.index t = ![t.val, 0]) t
theorem at_16 (t : Fin cfg0.N) : win0_16.index t = ![t.val, 0] := (by decide +kernel : ∀ t : Fin grid0.N, win0_16.index t = ![t.val, 0]) t
theorem at_17 (t : Fin cfg0.N) : win0_17.index t = ![t.val, 0] := (by decide +kernel : ∀ t : Fin grid0.N, win0_17.index t = ![t.val, 0]) t
theorem at_18 (t : Fin cfg0.N) : win0_18.index t = ![t.val, 0] := (by decide +kernel : ∀ t : Fin grid0.N, win0_18.index t = ![t.val, 0]) t

theorem final_11 (c : Dev nD) : (dats m 0 c).arrAt 11 cfg0.N = fun i => (m ((c : Thread nD τ).loc main_arg3) i) := by
  refine (dats m 0 c).arrAt_eq_of_cover 11 _ (fun t _ => ?_) (fun i => (Value.covered_iff11 i).2 (by
    have h0 := (i 0).isLt; have h1 := (i 1).isLt; exact ⟨Nat.zero_le _, h0, Nat.zero_le _, h1⟩))
  show (cfg0.win 11).cut (grid0.coords t) ((dats m 0 c).after 11 t) = _
  rw [after0_11, out11]
  funext y
  have e3 : iblk m c 3 t ((cfg0.win 11).xinj (grid0.coords t) y) = m ((c : Thread nD τ).loc main_arg3) (((cfg0.win 11).blk t).view.emb y) := by
    rw [← V_main_arg3 m c]
    show V m c main_arg3 (((cfg0.win 3).blk t).view.emb ((cfg0.win 11).xinj (grid0.coords t) y)) = V m c main_arg3 (((cfg0.win 11).blk t).view.emb y)
    congr 1
    blk_ext [at_3, at_11]
  show _ = (fun i => (m ((c : Thread nD τ).loc main_arg3) i)) (((cfg0.win 11).blk t).view.emb y)
  dsimp only
  rw [← e3]

theorem final_12 (c : Dev nD) : (dats m 0 c).arrAt 12 cfg0.N = fun i => delta (m ((c : Thread nD τ).loc main_arg2) i) (m ((c : Thread nD τ).loc main_arg3) i) (m ((c : Thread nD τ).loc main_arg4) i) (m ((c : Thread nD τ).loc main_arg5) i) := by
  refine (dats m 0 c).arrAt_eq_of_cover 12 _ (fun t _ => ?_) (fun i => (Value.covered_iff12 i).2 (by
    have h0 := (i 0).isLt; have h1 := (i 1).isLt; exact ⟨Nat.zero_le _, h0, Nat.zero_le _, h1⟩))
  show (cfg0.win 12).cut (grid0.coords t) ((dats m 0 c).after 12 t) = _
  rw [after0_12, out12]
  funext y
  have e3 : iblk m c 3 t ((cfg0.win 12).xinj (grid0.coords t) y) = m ((c : Thread nD τ).loc main_arg3) (((cfg0.win 12).blk t).view.emb y) := by
    rw [← V_main_arg3 m c]
    show V m c main_arg3 (((cfg0.win 3).blk t).view.emb ((cfg0.win 12).xinj (grid0.coords t) y)) = V m c main_arg3 (((cfg0.win 12).blk t).view.emb y)
    congr 1
    blk_ext [at_3, at_12]
  have e4 : iblk m c 4 t ((cfg0.win 12).xinj (grid0.coords t) y) = m ((c : Thread nD τ).loc main_arg4) (((cfg0.win 12).blk t).view.emb y) := by
    rw [← V_main_arg4 m c]
    show V m c main_arg4 (((cfg0.win 4).blk t).view.emb ((cfg0.win 12).xinj (grid0.coords t) y)) = V m c main_arg4 (((cfg0.win 12).blk t).view.emb y)
    congr 1
    blk_ext [at_4, at_12]
  have e5 : iblk m c 5 t ((cfg0.win 12).xinj (grid0.coords t) y) = m ((c : Thread nD τ).loc main_arg5) (((cfg0.win 12).blk t).view.emb y) := by
    rw [← V_main_arg5 m c]
    show V m c main_arg5 (((cfg0.win 5).blk t).view.emb ((cfg0.win 12).xinj (grid0.coords t) y)) = V m c main_arg5 (((cfg0.win 12).blk t).view.emb y)
    congr 1
    blk_ext [at_5, at_12]
  have e2 : iblk m c 2 t ((cfg0.win 12).xinj (grid0.coords t) y) = m ((c : Thread nD τ).loc main_arg2) (((cfg0.win 12).blk t).view.emb y) := by
    rw [← V_main_arg2 m c]
    show V m c main_arg2 (((cfg0.win 2).blk t).view.emb ((cfg0.win 12).xinj (grid0.coords t) y)) = V m c main_arg2 (((cfg0.win 12).blk t).view.emb y)
    congr 1
    blk_ext [at_2, at_12]
  show _ = (fun i => delta (m ((c : Thread nD τ).loc main_arg2) i) (m ((c : Thread nD τ).loc main_arg3) i) (m ((c : Thread nD τ).loc main_arg4) i) (m ((c : Thread nD τ).loc main_arg5) i)) (((cfg0.win 12).blk t).view.emb y)
  dsimp only
  rw [← e3, ← e4, ← e5, ← e2]
  rfl

theorem final_13 (c : Dev nD) : (dats m 0 c).arrAt 13 cfg0.N = fun i => mom (m ((c : Thread nD τ).loc main_arg3) i) (m ((c : Thread nD τ).loc main_arg4) i) := by
  refine (dats m 0 c).arrAt_eq_of_cover 13 _ (fun t _ => ?_) (fun i => (Value.covered_iff13 i).2 (by
    have h0 := (i 0).isLt; have h1 := (i 1).isLt; exact ⟨Nat.zero_le _, h0, Nat.zero_le _, h1⟩))
  show (cfg0.win 13).cut (grid0.coords t) ((dats m 0 c).after 13 t) = _
  rw [after0_13, out13]
  funext y
  have e3 : iblk m c 3 t ((cfg0.win 13).xinj (grid0.coords t) y) = m ((c : Thread nD τ).loc main_arg3) (((cfg0.win 13).blk t).view.emb y) := by
    rw [← V_main_arg3 m c]
    show V m c main_arg3 (((cfg0.win 3).blk t).view.emb ((cfg0.win 13).xinj (grid0.coords t) y)) = V m c main_arg3 (((cfg0.win 13).blk t).view.emb y)
    congr 1
    blk_ext [at_3, at_13]
  have e4 : iblk m c 4 t ((cfg0.win 13).xinj (grid0.coords t) y) = m ((c : Thread nD τ).loc main_arg4) (((cfg0.win 13).blk t).view.emb y) := by
    rw [← V_main_arg4 m c]
    show V m c main_arg4 (((cfg0.win 4).blk t).view.emb ((cfg0.win 13).xinj (grid0.coords t) y)) = V m c main_arg4 (((cfg0.win 13).blk t).view.emb y)
    congr 1
    blk_ext [at_4, at_13]
  show _ = (fun i => mom (m ((c : Thread nD τ).loc main_arg3) i) (m ((c : Thread nD τ).loc main_arg4) i)) (((cfg0.win 13).blk t).view.emb y)
  dsimp only
  rw [← e3, ← e4]
  rfl

theorem final_14 (c : Dev nD) : (dats m 0 c).arrAt 14 cfg0.N = fun i => var (m ((c : Thread nD τ).loc main_arg3) i) (m ((c : Thread nD τ).loc main_arg5) i) := by
  refine (dats m 0 c).arrAt_eq_of_cover 14 _ (fun t _ => ?_) (fun i => (Value.covered_iff14 i).2 (by
    have h0 := (i 0).isLt; have h1 := (i 1).isLt; exact ⟨Nat.zero_le _, h0, Nat.zero_le _, h1⟩))
  show (cfg0.win 14).cut (grid0.coords t) ((dats m 0 c).after 14 t) = _
  rw [after0_14, out14]
  funext y
  have e3 : iblk m c 3 t ((cfg0.win 14).xinj (grid0.coords t) y) = m ((c : Thread nD τ).loc main_arg3) (((cfg0.win 14).blk t).view.emb y) := by
    rw [← V_main_arg3 m c]
    show V m c main_arg3 (((cfg0.win 3).blk t).view.emb ((cfg0.win 14).xinj (grid0.coords t) y)) = V m c main_arg3 (((cfg0.win 14).blk t).view.emb y)
    congr 1
    blk_ext [at_3, at_14]
  have e5 : iblk m c 5 t ((cfg0.win 14).xinj (grid0.coords t) y) = m ((c : Thread nD τ).loc main_arg5) (((cfg0.win 14).blk t).view.emb y) := by
    rw [← V_main_arg5 m c]
    show V m c main_arg5 (((cfg0.win 5).blk t).view.emb ((cfg0.win 14).xinj (grid0.coords t) y)) = V m c main_arg5 (((cfg0.win 14).blk t).view.emb y)
    congr 1
    blk_ext [at_5, at_14]
  show _ = (fun i => var (m ((c : Thread nD τ).loc main_arg3) i) (m ((c : Thread nD τ).loc main_arg5) i)) (((cfg0.win 14).blk t).view.emb y)
  dsimp only
  rw [← e3, ← e5]
  rfl

theorem final_15 (c : Dev nD) : (dats m 0 c).arrAt 15 cfg0.N = fun i => (m ((c : Thread nD τ).loc main_arg7) i) := by
  refine (dats m 0 c).arrAt_eq_of_cover 15 _ (fun t _ => ?_) (fun i => (Value.covered_iff15 i).2 (by
    have h0 := (i 0).isLt; have h1 := (i 1).isLt; exact ⟨Nat.zero_le _, h0, Nat.zero_le _, h1⟩))
  show (cfg0.win 15).cut (grid0.coords t) ((dats m 0 c).after 15 t) = _
  rw [after0_15, out15]
  funext y
  have e7 : iblk m c 7 t ((cfg0.win 15).xinj (grid0.coords t) y) = m ((c : Thread nD τ).loc main_arg7) (((cfg0.win 15).blk t).view.emb y) := by
    rw [← V_main_arg7 m c]
    show V m c main_arg7 (((cfg0.win 7).blk t).view.emb ((cfg0.win 15).xinj (grid0.coords t) y)) = V m c main_arg7 (((cfg0.win 15).blk t).view.emb y)
    congr 1
    blk_ext [at_7, at_15]
  show _ = (fun i => (m ((c : Thread nD τ).loc main_arg7) i)) (((cfg0.win 15).blk t).view.emb y)
  dsimp only
  rw [← e7]

theorem final_16 (c : Dev nD) : (dats m 0 c).arrAt 16 cfg0.N = fun i => delta (m ((c : Thread nD τ).loc main_arg6) i) (m ((c : Thread nD τ).loc main_arg7) i) (m ((c : Thread nD τ).loc main_arg8) i) (m ((c : Thread nD τ).loc main_arg9) i) := by
  refine (dats m 0 c).arrAt_eq_of_cover 16 _ (fun t _ => ?_) (fun i => (Value.covered_iff16 i).2 (by
    have h0 := (i 0).isLt; have h1 := (i 1).isLt; exact ⟨Nat.zero_le _, h0, Nat.zero_le _, h1⟩))
  show (cfg0.win 16).cut (grid0.coords t) ((dats m 0 c).after 16 t) = _
  rw [after0_16, out16]
  funext y
  have e7 : iblk m c 7 t ((cfg0.win 16).xinj (grid0.coords t) y) = m ((c : Thread nD τ).loc main_arg7) (((cfg0.win 16).blk t).view.emb y) := by
    rw [← V_main_arg7 m c]
    show V m c main_arg7 (((cfg0.win 7).blk t).view.emb ((cfg0.win 16).xinj (grid0.coords t) y)) = V m c main_arg7 (((cfg0.win 16).blk t).view.emb y)
    congr 1
    blk_ext [at_7, at_16]
  have e8 : iblk m c 8 t ((cfg0.win 16).xinj (grid0.coords t) y) = m ((c : Thread nD τ).loc main_arg8) (((cfg0.win 16).blk t).view.emb y) := by
    rw [← V_main_arg8 m c]
    show V m c main_arg8 (((cfg0.win 8).blk t).view.emb ((cfg0.win 16).xinj (grid0.coords t) y)) = V m c main_arg8 (((cfg0.win 16).blk t).view.emb y)
    congr 1
    blk_ext [at_8, at_16]
  have e9 : iblk m c 9 t ((cfg0.win 16).xinj (grid0.coords t) y) = m ((c : Thread nD τ).loc main_arg9) (((cfg0.win 16).blk t).view.emb y) := by
    rw [← V_main_arg9 m c]
    show V m c main_arg9 (((cfg0.win 9).blk t).view.emb ((cfg0.win 16).xinj (grid0.coords t) y)) = V m c main_arg9 (((cfg0.win 16).blk t).view.emb y)
    congr 1
    blk_ext [at_9, at_16]
  have e6 : iblk m c 6 t ((cfg0.win 16).xinj (grid0.coords t) y) = m ((c : Thread nD τ).loc main_arg6) (((cfg0.win 16).blk t).view.emb y) := by
    rw [← V_main_arg6 m c]
    show V m c main_arg6 (((cfg0.win 6).blk t).view.emb ((cfg0.win 16).xinj (grid0.coords t) y)) = V m c main_arg6 (((cfg0.win 16).blk t).view.emb y)
    congr 1
    blk_ext [at_6, at_16]
  show _ = (fun i => delta (m ((c : Thread nD τ).loc main_arg6) i) (m ((c : Thread nD τ).loc main_arg7) i) (m ((c : Thread nD τ).loc main_arg8) i) (m ((c : Thread nD τ).loc main_arg9) i)) (((cfg0.win 16).blk t).view.emb y)
  dsimp only
  rw [← e7, ← e8, ← e9, ← e6]
  rfl

theorem final_17 (c : Dev nD) : (dats m 0 c).arrAt 17 cfg0.N = fun i => mom (m ((c : Thread nD τ).loc main_arg7) i) (m ((c : Thread nD τ).loc main_arg8) i) := by
  refine (dats m 0 c).arrAt_eq_of_cover 17 _ (fun t _ => ?_) (fun i => (Value.covered_iff17 i).2 (by
    have h0 := (i 0).isLt; have h1 := (i 1).isLt; exact ⟨Nat.zero_le _, h0, Nat.zero_le _, h1⟩))
  show (cfg0.win 17).cut (grid0.coords t) ((dats m 0 c).after 17 t) = _
  rw [after0_17, out17]
  funext y
  have e7 : iblk m c 7 t ((cfg0.win 17).xinj (grid0.coords t) y) = m ((c : Thread nD τ).loc main_arg7) (((cfg0.win 17).blk t).view.emb y) := by
    rw [← V_main_arg7 m c]
    show V m c main_arg7 (((cfg0.win 7).blk t).view.emb ((cfg0.win 17).xinj (grid0.coords t) y)) = V m c main_arg7 (((cfg0.win 17).blk t).view.emb y)
    congr 1
    blk_ext [at_7, at_17]
  have e8 : iblk m c 8 t ((cfg0.win 17).xinj (grid0.coords t) y) = m ((c : Thread nD τ).loc main_arg8) (((cfg0.win 17).blk t).view.emb y) := by
    rw [← V_main_arg8 m c]
    show V m c main_arg8 (((cfg0.win 8).blk t).view.emb ((cfg0.win 17).xinj (grid0.coords t) y)) = V m c main_arg8 (((cfg0.win 17).blk t).view.emb y)
    congr 1
    blk_ext [at_8, at_17]
  show _ = (fun i => mom (m ((c : Thread nD τ).loc main_arg7) i) (m ((c : Thread nD τ).loc main_arg8) i)) (((cfg0.win 17).blk t).view.emb y)
  dsimp only
  rw [← e7, ← e8]
  rfl

theorem final_18 (c : Dev nD) : (dats m 0 c).arrAt 18 cfg0.N = fun i => var (m ((c : Thread nD τ).loc main_arg7) i) (m ((c : Thread nD τ).loc main_arg9) i) := by
  refine (dats m 0 c).arrAt_eq_of_cover 18 _ (fun t _ => ?_) (fun i => (Value.covered_iff18 i).2 (by
    have h0 := (i 0).isLt; have h1 := (i 1).isLt; exact ⟨Nat.zero_le _, h0, Nat.zero_le _, h1⟩))
  show (cfg0.win 18).cut (grid0.coords t) ((dats m 0 c).after 18 t) = _
  rw [after0_18, out18]
  funext y
  have e7 : iblk m c 7 t ((cfg0.win 18).xinj (grid0.coords t) y) = m ((c : Thread nD τ).loc main_arg7) (((cfg0.win 18).blk t).view.emb y) := by
    rw [← V_main_arg7 m c]
    show V m c main_arg7 (((cfg0.win 7).blk t).view.emb ((cfg0.win 18).xinj (grid0.coords t) y)) = V m c main_arg7 (((cfg0.win 18).blk t).view.emb y)
    congr 1
    blk_ext [at_7, at_18]
  have e9 : iblk m c 9 t ((cfg0.win 18).xinj (grid0.coords t) y) = m ((c : Thread nD τ).loc main_arg9) (((cfg0.win 18).blk t).view.emb y) := by
    rw [← V_main_arg9 m c]
    show V m c main_arg9 (((cfg0.win 9).blk t).view.emb ((cfg0.win 18).xinj (grid0.coords t) y)) = V m c main_arg9 (((cfg0.win 18).blk t).view.emb y)
    congr 1
    blk_ext [at_9, at_18]
  show _ = (fun i => var (m ((c : Thread nD τ).loc main_arg7) i) (m ((c : Thread nD τ).loc main_arg9) i)) (((cfg0.win 18).blk t).view.emb y)
  dsimp only
  rw [← e7, ← e9]
  rfl

end Cert.Dh

end
-- ==== Proof.Dh.Product.lean ====
module

public import proofs.«01_k».proof.Proof.Dh.Blocks
public import proofs.«01_k».proof.Proof.Gen.Reference2Ideal.Run
public import Idealize.ShloMosaic.Lib.Pointwise
public import Idealize.ShloMosaic.Lib.Pipeline.ValueKit

@[expose] public section

set_option maxRecDepth 16384

noncomputable section

/-! # The product

The accumulator holds the partial sum over the column tiles met so far; after the eighth it is the whole sum over the
14336 columns. The weight reaches the call as four column groups stacked on top of each other; read back through that
layout a block is again a block of the weight itself. -/

namespace Cert.Dh

open Cert.Kernel2Ideal Cert.Kernel2Ideal.Gen
open Idealize.ShloMosaic Idealize.ShloMosaic.TcCoe Idealize.SL.Sem

variable (m : (ℓ : Loc nD τ sig) → Buf (Elt Ideal) ℓ)

theorem at_0 (t : Fin cfg0.N) : win0_0.index t = ![t.val / 16, t.val % 8] :=
  (by decide +kernel : ∀ t : Fin grid0.N, win0_0.index t = ![t.val / 16, t.val % 8]) t
theorem at_1 (t : Fin cfg0.N) : win0_1.index t = ![t.val % 8 / 2 * 2 + t.val / 8 % 2, t.val % 8 % 2] :=
  (by decide +kernel : ∀ t : Fin grid0.N, win0_1.index t = ![t.val % 8 / 2 * 2 + t.val / 8 % 2, t.val % 8 % 2]) t
theorem at_10 (t : Fin cfg0.N) : win0_10.index t = ![t.val / 16, t.val / 8 % 2] :=
  (by decide +kernel : ∀ t : Fin grid0.N, win0_10.index t = ![t.val / 16, t.val / 8 % 2]) t

/-- The incoming gradient. -/
abbrev ct (c : Dev nD) : S4096x14336.Idx → EReal := m ((c : Thread nD τ).loc main_arg0)
/-- The weight. -/
abbrev wt (c : Dev nD) : S4096x14336.Idx → EReal := m ((c : Thread nD τ).loc main_arg1)

/-- The weight as the call receives it: row `r` of group `g` is row `r` of the weight, columns `3584 g` on. -/
theorem stacked (c : Dev nD) (j : S16384x3584.Idx) :
    V m c main_v3 j = wt m c (ix2 ⟨(j 0).val % 4096, Nat.mod_lt _ (by decide)⟩
      ⟨(j 0).val / 4096 * 3584 + (j 1).val, by have h0 : (j 0).val < 16384 := (j 0).isLt; have h1 : (j 1).val < 3584 := (j 1).isLt; omega⟩) := by
  have e : (V m c main_v3 : S16384x3584.Idx → EReal) = shapeCast S16384x3584 (transpose S4x4096x3584 [1, 0, 2]
      (shapeCast S4096x4x3584 (truncf (F := Ideal) (φ := .f32) .bf16 (wt m c) bitsLt_bf16_f32) shapeCasts_S4096x14336_S4096x4x3584)
      transposes_S4096x4x3584_S4x4096x3584_1_0_2) shapeCasts_S4x4096x3584_S16384x3584 := by
    unfold V
    after_results_simp
    rfl
  rw [e]
  have h0 : (j 0).val < 16384 := (j 0).isLt
  have h1 : (j 1).val < 3584 := (j 1).isLt
  pointwise

/-- Point `t`'s block of the incoming gradient. -/
theorem in_0 (c : Dev nD) (t : Fin cfg0.N) (z : S1024x1792.Idx) (i : S4096x14336.Idx)
    (h0 : (i 0).val = t.val / 16 * 1024 + (z 0).val) (h1 : (i 1).val = t.val % 8 * 1792 + (z 1).val) :
    iblk m c 0 t z = ct m c i := by
  have e : ct m c = V m c main_arg0 := (V_main_arg0 m c).symm
  rw [e]
  blk_ext [iblk, at_0]

/-- Point `t`'s block of the weight. -/
theorem in_1 (c : Dev nD) (t : Fin cfg0.N) (z : S2048x1792.Idx) (i : S4096x14336.Idx)
    (h0 : (i 0).val = t.val / 8 % 2 * 2048 + (z 0).val) (h1 : (i 1).val = t.val % 8 * 1792 + (z 1).val) :
    iblk m c 1 t z = wt m c i := by
  have hz0 : (z 0).val < 2048 := (z 0).isLt
  have hz1 : (z 1).val < 1792 := (z 1).isLt
  blk_simp [iblk]
  show V m c main_v3 _ = _
  rw [stacked]
  have a0 : (((win0_1.blk t).view.emb z) 0).val = (t.val % 8 / 2 * 2 + t.val / 8 % 2) * 2048 + (z 0).val := by blk_simp [at_1]
  have a1 : (((win0_1.blk t).view.emb z) 1).val = t.val % 8 % 2 * 1792 + (z 1).val := by blk_simp [at_1]
  congr 1
  funext a
  apply Fin.ext
  match a with
  | ⟨0, _⟩ => show (((win0_1.blk t).view.emb z) 0).val % 4096 = (i 0).val; rw [a0, h0]; omega
  | ⟨1, _⟩ => show (((win0_1.blk t).view.emb z) 0).val / 4096 * 3584 + (((win0_1.blk t).view.emb z) 1).val = (i 1).val; rw [a0, a1, h1]; omega

/-- Column `q` of column tile `p`. -/
abbrev col (p : ℕ) (q : Fin 1792) : Fin 14336 := ⟨(p * 1792 + q.val) % 14336, Nat.mod_lt _ (by decide)⟩

/-- The product's terms at `i` from column tile `p`. -/
def tile (c : Dev nD) (i : S4096x4096.Idx) (p : ℕ) : EReal :=
  ∑ q : Fin 1792, ct m c (ix2 (i 0) (col p q)) * wt m c (ix2 (i 1) (col p q))

theorem start_apply (a : Vec Ideal S1024x1792 .bf16) (b : Vec Ideal S2048x1792 .bf16) (z : S1024x2048.Idx) :
    k0_pay2 a b z = ∑ q : Fin 1792, a (ix2 (z 0) q) * b (ix2 (z 1) q) := by
  unfold k0_pay2
  pointwise [dot_S1024x1792_S2048x1792_S1024x2048_1_1_0_0_n_n]

theorem step_apply (acc : Vec Ideal S1024x2048 .f32) (a : Vec Ideal S1024x1792 .bf16) (b : Vec Ideal S2048x1792 .bf16) (z : S1024x2048.Idx) :
    k0_pay3 acc a b z = acc z + ∑ q : Fin 1792, a (ix2 (z 0) q) * b (ix2 (z 1) q) := by
  unfold k0_pay3
  pointwise [dot_S1024x1792_S2048x1792_S1024x2048_1_1_0_0_n_n]

/-- One point's product of its two blocks is its column tile's terms. -/
theorem tile_eq (c : Dev nD) (t : Fin cfg0.N) (z : S1024x2048.Idx) (i : S4096x4096.Idx)
    (h0 : (i 0).val = t.val / 16 * 1024 + (z 0).val) (h1 : (i 1).val = t.val / 8 % 2 * 2048 + (z 1).val) :
    ∑ q : Fin 1792, (show S1024x1792.Idx → EReal from iblk m c 0 t) (ix2 (z 0) q) * (show S2048x1792.Idx → EReal from iblk m c 1 t) (ix2 (z 1) q) = tile m c i (t.val % 8) := by
  refine Finset.sum_congr rfl fun q _ => ?_
  have hq := q.isLt
  have hc : (col (t.val % 8) q).val = t.val % 8 * 1792 + q.val := Nat.mod_eq_of_lt (by omega)
  exact congrArg₂ (· * ·) (in_0 m c t _ _ h0 hc) (in_1 m c t _ _ h1 hc)

/-- The accumulator after point `t`: the terms of the column tiles up to the point's. -/
theorem acc_at (c : Dev nD) : ∀ (j : ℕ) (t : Fin cfg0.N) (_ : t.val % 8 = j) (z : S1024x2048.Idx) (i : S4096x4096.Idx)
    (_ : (i 0).val = t.val / 16 * 1024 + (z 0).val) (_ : (i 1).val = t.val / 8 % 2 * 2048 + (z 1).val),
    (outsAt0 m c t.val t.isLt).2.2.2.2.2.2.2.2.2 z = ∑ p ∈ Finset.range (j + 1), tile m c i p := by
  intro j
  induction j with
  | zero =>
    intro t ht z i h0 h1
    rw [acc_start m c t ht, start_apply, Finset.sum_range_one]
    have := tile_eq m c t z i h0 h1
    rw [ht] at this
    exact this
  | succ j ih =>
    intro t ht z i h0 h1
    rw [acc_step m c t (by omega), step_apply, Finset.sum_range_succ]
    have e := ih ⟨t.val - 1, Nat.lt_of_le_of_lt (Nat.sub_le _ _) t.isLt⟩ (by show (t.val - 1) % 8 = j; omega) z i
      (by show _ = (t.val - 1) / 16 * 1024 + _; rw [h0]; congr 2; omega) (by show _ = (t.val - 1) / 8 % 2 * 2048 + _; rw [h1]; congr 2; omega)
    have e' := tile_eq m c t z i h0 h1
    rw [ht] at e'
    exact congrArg₂ (· + ·) e e'

/-- The eight column tiles together are the whole sum. -/
theorem tiles_eq (c : Dev nD) (i : S4096x4096.Idx) :
    ∑ p ∈ Finset.range 8, tile m c i p = ∑ k : Fin 14336, ct m c (ix2 (i 0) k) * wt m c (ix2 (i 1) k) := by
  rw [Fin.sum_univ_tiles 8 1792 (by decide), Finset.sum_range]
  refine Finset.sum_congr rfl fun p _ => Finset.sum_congr rfl fun q _ => ?_
  have hp := p.isLt
  have hq := q.isLt
  have hc : col p.val q = ⟨p.val * 1792 + q.val, by omega⟩ := Fin.ext (Nat.mod_eq_of_lt (by omega))
  rw [hc]

theorem final_10 (c : Dev nD) :
    (dats m 0 c).arrAt 10 cfg0.N = fun i => ∑ k : Fin 14336, ct m c (ix2 (i 0) k) * wt m c (ix2 (i 1) k) := by
  refine (dats m 0 c).arrAt_eq_of_cover 10 _ (fun t hf => ?_) (fun i => (Value.covered_iff10 i).2 (by
    have h0 := (i 0).isLt; have h1 := (i 1).isLt; exact ⟨Nat.zero_le _, h0, Nat.zero_le _, h1⟩))
  have ht : t.val % 8 = 7 := (flush0_10 t).mp hf
  show (cfg0.win 10).cut (grid0.coords t) ((dats m 0 c).after 10 t) = _
  rw [after0_10, out10 m c t ht]
  funext y
  show (outsAt0 m c t.val t.isLt).2.2.2.2.2.2.2.2.2 ((cfg0.win 10).xinj (grid0.coords t) y)
    = ∑ k : Fin 14336, ct m c (ix2 ((((cfg0.win 10).blk t).view.emb y) 0) k) * wt m c (ix2 ((((cfg0.win 10).blk t).view.emb y) 1) k)
  rw [acc_at m c 7 t ht _ (((cfg0.win 10).blk t).view.emb y) (by blk_simp [at_10]) (by blk_simp [at_10]), tiles_eq]

/-- The same sum is what the plain product reads. -/
theorem plain_apply (h : FTy.bits .bf16 < FTy.bits .f32) (a : FVec Ideal S4096x14336 .bf16) (b : FVec Ideal S4096x14336 .f32) (i : S4096x4096.Idx) :
    truncf (F := Ideal) (φ := .f32) .bf16 (Host.dotGeneral (F := Ideal) (φ₁ := .f32) (φ₂ := .f32) Cert.Reference2Ideal.dot_S4096x14336_S4096x14336_S4096x4096_1_1_0_0_n_n none
      (extf .f32 a h) b) h i
      = ∑ k : Fin 14336, a (ix2 (i 0) k) * b (ix2 (i 1) k) := by
  pointwise [Cert.Reference2Ideal.dot_S4096x14336_S4096x14336_S4096x4096_1_1_0_0_n_n]

end Cert.Dh

end
-- ==== Proof.Dh.Claim.lean ====
/- The gradient of the projected activations and the optimiser's step beside it: kernel and reference compute the same. -/
module

public import proofs.«01_k».proof.Defs
public import proofs.«01_k».proof.Proof.Dh.Opt
public import proofs.«01_k».proof.Proof.Dh.Product

@[expose] public section

set_option maxRecDepth 16384

noncomputable section

namespace Cert.Dh

open Idealize.ShloMosaic Idealize.SL.Sem

theorem value : Cert.algebraic_Kernel2Ideal_Reference2Ideal := by
  intro m g m' g' _ hag
  refine ⟨_, _, _, _, _, _, _, _, _, Cert.Kernel2Ideal.Value.run_blocks (F := Ideal) m g, ?_⟩
  refine (θ_run Cert.Reference2Ideal.defs _ _).mono (fun r h c => ?_) (Cert.Reference2Ideal.Value.run (F := Ideal) m' g')
  obtain ⟨a0, a1, a2, a3, a4, a5, a6, a7, a8, a9⟩ := hag c
  obtain ⟨h0, h1, h2, h3, h4, h5, h6, h7, h8, hr⟩ := h c
  rw [a0, a1] at h0
  rw [a3] at h1
  rw [a2, a3, a4, a5] at h2
  rw [a3, a4] at h3
  rw [a3, a5] at h4
  rw [a7] at h5
  rw [a6, a7, a8, a9] at h6
  rw [a7, a8] at h7
  rw [a7, a9] at h8
  refine ⟨h0.trans ?_, h1.trans ?_, h2.trans ?_, h3.trans ?_, h4.trans ?_, h5.trans ?_, h6.trans ?_, h7.trans ?_, h8.trans ?_, hr⟩
  · rw [final_10]; funext i; exact plain_apply _ _ _ i
  · rw [final_11]
  · rw [final_12]; rfl
  · rw [final_13]; rfl
  · rw [final_14]; rfl
  · rw [final_15]
  · rw [final_16]; rfl
  · rw [final_17]; rfl
  · rw [final_18]; rfl

end Cert.Dh

end
-- ==== Proof.GradIn.Table.lean ====
module

public import proofs.«01_k».proof.Proof.Gen.Kernel3.Frame
public import proofs.«01_k».proof.Proof.Gen.Kernel3Ideal.Frame
public import Idealize.ShloMosaic.Lib.Pipeline.ValueKit

@[expose] public section

set_option maxRecDepth 16384

noncomputable section

/-! # The half the call works on

The call reads which half of the columns it takes from a table of one word; here that word is one. -/

namespace Cert.GradIn

open Idealize.ShloMosaic Idealize.ShloMosaic.TcCoe Idealize.SL.Sem

variable {F : FTy → Type} [FloatOps F]

section Ideal
open Cert.Kernel3Ideal Cert.Kernel3Ideal.Gen
variable (m : (ℓ : Loc nD τ sig) → Buf (Elt F) ℓ)

theorem word (c : Dev nD) : (V m c main_v1 : S1.Idx → BitVec 32) = fun _ => 1#32 := by
  unfold V
  after_results_simp
  rfl

theorem at_0 (i : grid0.Coords) : cc0_transform_0 inb_S1_S1_0 numel1_S1 (tbl m) i = ![(i 2).val, 2 + (i 0).val] := by
  have e : (tbl m).at 0 (Rect.unit (s := S1) ![0] S1.size inb_S1_S1_0) numel1_S1 = 1#32 := congrFun (word m 0) _
  unfold cc0_transform_0
  rw [e]
  exact (by decide +kernel : ∀ i : grid0.Coords, (![(BitVec.ofNat 32 (i 2).val).toNat,
    (Scalar.addi (Scalar.addi (Scalar.muli (1#32 : BitVec 32) 2#32) 0#32) (BitVec.ofNat 32 (i 0).val)).toNat] : Fin 2 → ℕ) = ![(i 2).val, 2 + (i 0).val]) i

/-! Where a block's positions lie in its array, whatever the table holds. -/

theorem emb_0 (a : (pcfg0 (F := F)).Adm) (t : Fin (cfg0 a).N) (y : S2048x1024.Idx) (x : Fin 2) :
    ((show S4096x4096.Idx from (((cfg0 a).win 0).blk t).view.emb y) x).val = cc0_transform_0 inb_S1_S1_0 numel1_S1 a.1 (grid0.coords t) x * S2048x1024.size x + (y x).val :=
  Pipeline.Window.rect_emb_val ((cfg0 a).win 0) t y x rfl
theorem emb_1 (a : (pcfg0 (F := F)).Adm) (t : Fin (cfg0 a).N) (y : S2048x1792.Idx) (x : Fin 2) :
    ((show S4096x14336.Idx from (((cfg0 a).win 1).blk t).view.emb y) x).val = cc0_transform_1 (grid0.coords t) x * S2048x1792.size x + (y x).val :=
  Pipeline.Window.rect_emb_val ((cfg0 a).win 1) t y x rfl
theorem emb_2 (a : (pcfg0 (F := F)).Adm) (t : Fin (cfg0 a).N) (y : S1024x1792.Idx) (x : Fin 2) :
    ((show S8192x3584.Idx from (((cfg0 a).win 2).blk t).view.emb y) x).val = cc0_transform_2 (grid0.coords t) x * S1024x1792.size x + (y x).val :=
  Pipeline.Window.rect_emb_val ((cfg0 a).win 2) t y x rfl

theorem ok : Ok m := fun i => ⟨fun a => by
  rw [at_0]
  exact (by decide +kernel : ∀ (i : grid0.Coords) (a : Fin 2), ((![(i 2).val, 2 + (i 0).val] : Fin 2 → ℕ) a + 1) * S2048x1024.size a ≤ S4096x4096.size a) i a,
  .inr (Affine.block_words_dvd (of_decide_eq_true rfl) (by decide))⟩

end Ideal

end Cert.GradIn

end
-- ==== Proof.Halves.lean ====
module

public import Idealize.ShloMosaic.Lib.Pointwise
public import Idealize.ShloMosaic.Lib.Pointwise.Sums

@[expose] public section

noncomputable section

/-! # A sum of 4096 terms in two halves -/

namespace Cert.Halves

open Idealize.ShloMosaic

/-- Position `q` of half `p` of an axis of 4096. -/
abbrev mid (p : ℕ) (q : Fin 2048) : Fin 4096 := ⟨(p * 2048 + q.val) % 4096, Nat.mod_lt _ (by decide)⟩

theorem mid_val {p : ℕ} (hp : p < 2) (q : Fin 2048) : (mid p q).val = p * 2048 + q.val :=
  Nat.mod_eq_of_lt (by have := q.isLt; omega)

theorem sum_eq (f : Fin 4096 → EReal) : (∑ q : Fin 2048, f (mid 0 q)) + ∑ q : Fin 2048, f (mid 1 q) = ∑ k : Fin 4096, f k := by
  rw [Fin.sum_univ_tiles 2 2048 (by decide) f, Fin.sum_univ_two]
  exact congrArg₂ (· + ·) (Finset.sum_congr rfl fun q _ => congrArg f (Fin.ext (mid_val (by decide) q)))
    (Finset.sum_congr rfl fun q _ => congrArg f (Fin.ext (mid_val (by decide) q)))

/-- Two products, each over one half of the axis, add up to the product over the whole of it. -/
theorem product {a b a' b' : Fin 2048 → EReal} {f g : Fin 4096 → EReal} (ha : ∀ q, a q = f (mid 0 q)) (hb : ∀ q, b q = g (mid 0 q))
    (ha' : ∀ q, a' q = f (mid 1 q)) (hb' : ∀ q, b' q = g (mid 1 q)) :
    (∑ q, a q * b q) + ∑ q, a' q * b' q = ∑ k, f k * g k :=
  (congrArg₂ (· + ·) (Finset.sum_congr rfl fun q _ => congrArg₂ (· * ·) (ha q) (hb q))
    (Finset.sum_congr rfl fun q _ => congrArg₂ (· * ·) (ha' q) (hb' q))).trans (sum_eq fun k => f k * g k)

end Cert.Halves

end
-- ==== Proof.Whole.lean ====
module

public import Idealize.ShloMosaic.Lib.VecWindow
public import Idealize.ShloMosaic.Lib.Pipeline.ReadBack

@[expose] public section

noncomputable section

/-! # Loads and stores of a whole block

A load of every row and column of a block reads the block; a store of every row and column leaves what it stores. -/

namespace Cert.Whole

open Idealize.ShloMosaic Idealize.SL.Sem

variable {τ : Topo} {sig : RefSig} {κ : Kind} {sp : Space} {e : EltTy} {F : FTy → Type} [FloatOps F] {a b : ℕ}

theorem load (v : View sig κ sp ⟨2, ![a, b]⟩ e) (f : v.ty.Contents (Elt F)) (inb : ∀ x, (![0, 0] : Fin 2 → ℕ) x + (![a, b] : Fin 2 → ℕ) x ≤ (![a, b] : Fin 2 → ℕ) x) :
    v.readAt (Elt F) (Rect.unit (s := ⟨2, ![a, b]⟩) ![0, 0] ![a, b] inb).toLoadRect f = v.read (Elt F) f := v.readAt_full f inb

theorem stored (v : View sig κ sp ⟨2, ![a, b]⟩ e) (f : v.ty.Contents (Elt F)) (inb : ∀ x, (![0, 0] : Fin 2 → ℕ) x + (![a, b] : Fin 2 → ℕ) x ≤ (![a, b] : Fin 2 → ℕ) x)
    (w : (Rect.unit (s := ⟨2, ![a, b]⟩) ![0, 0] ![a, b] inb).shape.Idx → Elt F e) (L : List (View.Piece (Elt F) ⟨2, ![a, b]⟩ e)) :
    v.read (Elt F) (v.writes (Elt F) f (⟨Rect.unit (s := ⟨2, ![a, b]⟩) ![0, 0] ![a, b] inb, w⟩ :: L)) = w := v.read_writes_full f inb w L

theorem recov [∀ e, Nonempty (Elt F e)] (v : View sig κ sp ⟨2, ![a, b]⟩ e) (inb inb' : ∀ x, (![0, 0] : Fin 2 → ℕ) x + (![a, b] : Fin 2 → ℕ) x ≤ (![a, b] : Fin 2 → ℕ) x)
    (w : (Rect.unit (s := ⟨2, ![a, b]⟩) ![0, 0] ![a, b] inb').shape.Idx → Elt F e) (L : List (View.Piece (Elt F) ⟨2, ![a, b]⟩ e)) :
    v.readCov (⟨Rect.unit (s := ⟨2, ![a, b]⟩) ![0, 0] ![a, b] inb', w⟩ :: L) (Rect.unit (s := ⟨2, ![a, b]⟩) ![0, 0] ![a, b] inb).toLoadRect = w := v.readCov_full inb inb' w L

end Cert.Whole

end
-- ==== Proof.GradIn.Product.lean ====
module

public import proofs.«01_k».proof.Proof.GradIn.Table
public import proofs.«01_k».proof.Proof.Gen.Reference3Ideal.Run
public import proofs.«01_k».proof.Proof.Halves
public import proofs.«01_k».proof.Proof.Whole
public import Idealize.ShloMosaic.Lib.Pointwise

@[expose] public section

set_option maxRecDepth 16384

noncomputable section

/-! # The sent half of the projection's gradient

Each block is left by two points: the first stores in the accumulator the product of the first 2048 rows, the second adds
the product of the last 2048 and writes the sum out. Group `g` of 2048 rows of the result holds columns `3584 g` on. -/

namespace Cert.GradIn

open Cert.Kernel3Ideal Cert.Kernel3Ideal.Gen Cert.Halves
open Idealize.ShloMosaic Idealize.ShloMosaic.TcCoe Idealize.SL.Sem

variable (m : (ℓ : Loc nD τ sig) → Buf (Elt Ideal) ℓ)

/-- The two blocks point `t` reads. -/
abbrev left (c : Dev nD) (t : Fin (cfgM m (ok m)).N) : Vec Ideal S2048x1024 .bf16 := iblk m (ok m) c 0 t
abbrev right (c : Dev nD) (t : Fin (cfgM m (ok m)).N) : Vec Ideal S2048x1792 .bf16 := iblk m (ok m) c 1 t

theorem first (c : Dev nD) (t : Fin (cfgM m (ok m)).N) (h0 : t.val % 2 = 0) :
    (outsAt0 m (ok m) c t.val t.isLt).2 = k0_pay1 (left m c t) (right m c t) := by
  rw [outsAt0_A m (ok m) c t h0 (by omega) (by omega)]
  dsimp only
  unfold sout0_A_0 kernelRun0_A
  dsimp only
  sl_unfold_words
  simp only [Whole.load, Whole.stored, Whole.recov, read_unread_whole]
  exact congrArg₂ k0_pay1 (Memref.IsWhole.read_unread _ _) (Memref.IsWhole.read_unread _ _)

theorem second (c : Dev nD) (t : Fin (cfgM m (ok m)).N) (h1 : t.val % 2 = 1) :
    (outsAt0 m (ok m) c t.val t.isLt).1 = k0_pay3 (k0_pay2 (outsAt0 m (ok m) c (t.val - 1) (Nat.lt_of_le_of_lt (Nat.sub_le _ _) t.isLt)).2
      (left m c t) (right m c t)) := by
  rw [outsAt0_B m (ok m) c t (by omega) h1 h1]
  dsimp only
  unfold out0_B_2 kernelRun0_B
  dsimp only
  sl_unfold_words
  simp only [Whole.load, Whole.stored, Whole.recov, read_unread_whole]
  exact congrArg k0_pay3 (congrArg₂ (k0_pay2 _) (Memref.IsWhole.read_unread _ _) (Memref.IsWhole.read_unread _ _))

theorem block_0 (t : Fin grid0.N) : cc0_transform_0 inb_S1_S1_0 numel1_S1 (tbl m) (grid0.coords t) = ![t.val % 2, 2 + t.val / 16] :=
  (at_0 m (grid0.coords t)).trans ((by decide +kernel : ∀ t : Fin grid0.N, (![(grid0.coords t 2).val, 2 + (grid0.coords t 0).val] : Fin 2 → ℕ) = ![t.val % 2, 2 + t.val / 16]) t)
theorem block_1 : ∀ t : Fin grid0.N, cc0_transform_1 (grid0.coords t) = ![t.val % 2, t.val / 2 % 8] := by decide +kernel
theorem block_2 : ∀ t : Fin grid0.N, cc0_transform_2 (grid0.coords t) = ![t.val / 2 % 8 / 2 * 2 + t.val / 16, t.val / 2 % 2] := by decide +kernel

/-- The activations. -/
abbrev act (c : Dev nD) : S4096x4096.Idx → EReal := m ((c : Thread nD τ).loc main_arg0)
/-- The incoming gradient. -/
abbrev ct (c : Dev nD) : S4096x14336.Idx → EReal := m ((c : Thread nD τ).loc main_arg1)

/-- Point `t`'s block of the activations. -/
theorem in_0 (c : Dev nD) (t : Fin (cfgM m (ok m)).N) (z : S2048x1024.Idx) (i : S4096x4096.Idx)
    (h0 : (i 0).val = t.val % 2 * 2048 + (z 0).val) (h1 : (i 1).val = (2 + t.val / 16) * 1024 + (z 1).val) :
    left m c t z = act m c i := by
  have e : act m c = V m c main_arg0 := (V_main_arg0 m c).symm
  rw [e]
  refine congrArg (V m c main_arg0) (funext fun x => Fin.ext ((emb_0 (adm m (ok m)) t z x).trans ?_))
  rw [block_0]
  match x with
  | ⟨0, _⟩ => exact h0.symm
  | ⟨1, _⟩ => exact h1.symm

/-- Point `t`'s block of the incoming gradient. -/
theorem in_1 (c : Dev nD) (t : Fin (cfgM m (ok m)).N) (z : S2048x1792.Idx) (i : S4096x14336.Idx)
    (h0 : (i 0).val = t.val % 2 * 2048 + (z 0).val) (h1 : (i 1).val = t.val / 2 % 8 * 1792 + (z 1).val) :
    right m c t z = ct m c i := by
  have e : ct m c = V m c main_arg1 := (V_main_arg1 m c).symm
  rw [e]
  refine congrArg (V m c main_arg1) (funext fun x => Fin.ext ((emb_1 (adm m (ok m)) t z x).trans ?_))
  rw [block_1]
  match x with
  | ⟨0, _⟩ => exact h0.symm
  | ⟨1, _⟩ => exact h1.symm

theorem first_apply (a : Vec Ideal S2048x1024 .bf16) (b : Vec Ideal S2048x1792 .bf16) (z : S1024x1792.Idx) :
    k0_pay1 a b z = ∑ q : Fin 2048, a (ix2 q (z 0)) * b (ix2 q (z 1)) := by
  unfold k0_pay1
  pointwise [dot_S2048x1024_S2048x1792_S1024x1792_0_0_1_1_n_n]

theorem second_apply (acc : Vec Ideal S1024x1792 .f32) (a : Vec Ideal S2048x1024 .bf16) (b : Vec Ideal S2048x1792 .bf16) (z : S1024x1792.Idx) :
    k0_pay3 (k0_pay2 acc a b) z = acc z + ∑ q : Fin 2048, a (ix2 q (z 0)) * b (ix2 q (z 1)) := by
  unfold k0_pay3 k0_pay2
  pointwise [dot_S2048x1024_S2048x1792_S1024x1792_0_0_1_1_n_n]

/-- The column of the activations that row `r` of the result is about. -/
abbrev row (r : Fin 8192) : Fin 4096 := ⟨2048 + r.val % 2048, by omega⟩
/-- The column of the incoming gradient that column `s` of row `r` of the result is about. -/
abbrev col (r : Fin 8192) (s : Fin 3584) : Fin 14336 := ⟨r.val / 2048 * 3584 + s.val, by omega⟩

/-- One point's product of its two blocks: the terms of its half of the summed axis. -/
theorem half_eq (c : Dev nD) (t : Fin (cfgM m (ok m)).N) (z : S1024x1792.Idx) (i : S8192x3584.Idx)
    (h0 : (i 0).val = (t.val / 2 % 8 / 2 * 2 + t.val / 16) * 1024 + (z 0).val) (h1 : (i 1).val = t.val / 2 % 2 * 1792 + (z 1).val) :
    ∑ q : Fin 2048, left m c t (ix2 q (z 0)) * right m c t (ix2 q (z 1))
      = ∑ q : Fin 2048, act m c (ix2 (mid (t.val % 2) q) (row (i 0))) * ct m c (ix2 (mid (t.val % 2) q) (col (i 0) (i 1))) := by
  refine Finset.sum_congr rfl fun q _ => ?_
  have hz0 : (z 0).val < 1024 := (z 0).isLt
  have ht : t.val < 32 := lt_of_lt_of_eq t.isLt N_0
  have hc := mid_val (Nat.mod_lt t.val (by decide : 0 < 2)) q
  exact congrArg₂ (· * ·) (in_0 m c t _ _ hc (by show 2048 + (i 0).val % 2048 = _ + (z 0).val; omega))
    (in_1 m c t _ _ hc (by show (i 0).val / 2048 * 3584 + (i 1).val = _ + (z 1).val; omega))

/-- What the second point of a block writes out. -/
theorem block_eq (c : Dev nD) (t : Fin (cfgM m (ok m)).N) (ht : t.val % 2 = 1) (z : S1024x1792.Idx) (i : S8192x3584.Idx)
    (h0 : (i 0).val = (t.val / 2 % 8 / 2 * 2 + t.val / 16) * 1024 + (z 0).val) (h1 : (i 1).val = t.val / 2 % 2 * 1792 + (z 1).val) :
    (outsAt0 m (ok m) c t.val t.isLt).1 z = ∑ k : Fin 4096, act m c (ix2 k (row (i 0))) * ct m c (ix2 k (col (i 0) (i 1))) := by
  have e1 := half_eq m c t z i h0 h1
  have e0 := half_eq m c ⟨t.val - 1, Nat.lt_of_le_of_lt (Nat.sub_le _ _) t.isLt⟩ z i
    (by show _ = ((t.val - 1) / 2 % 8 / 2 * 2 + (t.val - 1) / 16) * 1024 + _; rw [h0]; omega) (by show _ = (t.val - 1) / 2 % 2 * 1792 + _; rw [h1]; omega)
  rw [second m c t ht, second_apply, first m c ⟨t.val - 1, Nat.lt_of_le_of_lt (Nat.sub_le _ _) t.isLt⟩ (by show (t.val - 1) % 2 = 0; omega), first_apply]
  refine (congrArg₂ (· + ·) e0 e1).trans ?_
  rw [ht, show (t.val - 1) % 2 = 0 by omega]
  exact sum_eq fun k => act m c (ix2 k (row (i 0))) * ct m c (ix2 k (col (i 0) (i 1)))

/-- Every index lies in a block written back. -/
theorem covered (i : S8192x3584.Idx) : ∃ t : Fin (cfgM m (ok m)).N, ((cfgM m (ok m)).win 2).flush t = true ∧ i ∈ (((cfgM m (ok m)).win 2).blk t).view.set := by
  have h0 : (i 0).val < 8192 := (i 0).isLt
  have h1 : (i 1).val < 3584 := (i 1).isLt
  obtain ⟨s, hs⟩ : ∃ s, (i 0).val / 1024 % 2 * 16 + (i 0).val / 2048 * 4 + (i 1).val / 1792 * 2 + 1 = s := ⟨_, rfl⟩
  have hb : (i 0).val / 1024 = 2 * ((i 0).val / 2048) + (i 0).val / 1024 % 2 := by omega
  have s0 : s / 16 = (i 0).val / 1024 % 2 := by omega
  have s1 : s / 2 % 8 / 2 = (i 0).val / 2048 := by omega
  have s2 : s / 2 % 2 = (i 1).val / 1792 := by omega
  have hN : s < (cfgM m (ok m)).N := lt_of_lt_of_eq (by omega : s < 32) N_0.symm
  refine ⟨⟨s, hN⟩, (flush0_2 _ _).mpr (by show s % 2 = 1; omega), ?_⟩
  have e : i = (((cfgM m (ok m)).win 2).blk ⟨s, hN⟩).view.emb (ix2 ⟨(i 0).val % 1024, by omega⟩ ⟨(i 1).val % 1792, by omega⟩ : S1024x1792.Idx) := by
    funext a
    apply Fin.ext
    match a with
    | ⟨0, _⟩ => refine Eq.trans ?_ ((emb_2 (adm m (ok m)) ⟨s, hN⟩ _ 0).trans (by rw [block_2])).symm; show (i 0).val = (s / 2 % 8 / 2 * 2 + s / 16) * 1024 + (i 0).val % 1024; omega
    | ⟨1, _⟩ => refine Eq.trans ?_ ((emb_2 (adm m (ok m)) ⟨s, hN⟩ _ 1).trans (by rw [block_2])).symm; show (i 1).val = s / 2 % 2 * 1792 + (i 1).val % 1792; omega
  rw [e]
  exact View.emb_mem_set _ _

/-- The result: at row `r` and column `s`, the sum over the 4096 rows. -/
abbrev whole (c : Dev nD) : S8192x3584.Idx → EReal := fun i => ∑ k : Fin 4096, act m c (ix2 k (row (i 0))) * ct m c (ix2 k (col (i 0) (i 1)))

theorem final (c : Dev nD) : (dats m (ok m) 0 c).arrAt 2 (cfgM m (ok m)).N = whole m c := by
  refine (dats m (ok m) 0 c).arrAt_eq_of_emb 2 _ (fun t hf y => ?_) (covered m)
  show (dats m (ok m) 0 c).after 2 t (((cfgM m (ok m)).win 2).xinj (grid0.coords t) y) = _
  rw [after0_2]
  exact block_eq m c t ((flush0_2 _ t).mp hf) y _ ((emb_2 (adm m (ok m)) t y 0).trans (by rw [block_2]; rfl)) ((emb_2 (adm m (ok m)) t y 1).trans (by rw [block_2]; rfl))

/-- The same sum is what the plain gradient reads. -/
theorem plain_apply (h : FTy.bits .bf16 < FTy.bits .f32) (a : FVec Ideal S4096x4096 .bf16) (b : FVec Ideal S4096x14336 .bf16)
    (h1 h2 h3 h4 h5) (i : S8192x3584.Idx) :
    truncf (F := Ideal) (φ := .f32) .bf16 (shapeCast S8192x3584 (transpose Cert.Reference3Ideal.S4x2048x3584 [1, 0, 2] (shapeCast Cert.Reference3Ideal.S2048x4x3584
      (extractStridedSlice Cert.Reference3Ideal.S2048x14336 ![2048, 0] (transpose S4096x14336 [1, 0]
        (Host.dotGeneral (F := Ideal) (φ₁ := .f32) (φ₂ := .f32) Cert.Reference3Ideal.dot_S4096x14336_S4096x4096_S14336x4096_0_0_1_1_n_n none (extf .f32 b h) (extf .f32 a h)) h1) h2) h3) h4) h5) h i
      = ∑ k : Fin 4096, a (ix2 k (row (i 0))) * b (ix2 k (col (i 0) (i 1))) := by
  have i0 : (i 0).val < 8192 := (i 0).isLt
  have i1 : (i 1).val < 3584 := (i 1).isLt
  pointwise [Cert.Reference3Ideal.dot_S4096x14336_S4096x4096_S14336x4096_0_0_1_1_n_n]
  exact Finset.sum_congr rfl fun k _ => mul_comm _ _

end Cert.GradIn

end
-- ==== Proof.Out.Product.lean ====
module

public import proofs.«01_k».proof.Proof.Gen.Kernel4Ideal.Value
public import proofs.«01_k».proof.Proof.Gen.Reference4Ideal.Run
public import proofs.«01_k».proof.Proof.Halves
public import proofs.«01_k».proof.Proof.Whole
public import Idealize.ShloMosaic.Lib.Pointwise
public import Idealize.ShloMosaic.Lib.Pipeline.ValueKit

@[expose] public section

set_option maxRecDepth 16384

noncomputable section

/-! # The output projection

Each block of the product is left by two points: the first stores the product of the first halves of the summed axis, the
second adds the product of the second halves. -/

namespace Cert.Out

open Cert.Kernel4Ideal Cert.Kernel4Ideal.Gen Cert.Halves
open Idealize.ShloMosaic Idealize.ShloMosaic.TcCoe Idealize.SL.Sem

variable (m : (ℓ : Loc nD τ sig) → Buf (Elt Ideal) ℓ)

theorem first (c : Dev nD) (t : Fin cfg0.N) (h0 : t.val % 2 = 0) :
    outsAt0 m c t.val t.isLt = k0_pay1 (iblk m c 0 t) (iblk m c 1 t) := by
  rw [outsAt0_A m c t h0 (by omega)]
  unfold out0_A_2 kernelRun0_A
  dsimp only
  sl_unfold_words
  simp only [Whole.load, Whole.stored, read_unread_whole, Memref.IsWhole.read_unread]

theorem second (c : Dev nD) (t : Fin cfg0.N) (h1 : t.val % 2 = 1) :
    outsAt0 m c t.val t.isLt = k0_pay2 (outsAt0 m c (t.val - 1) (Nat.lt_of_le_of_lt (Nat.sub_le _ _) t.isLt)) (iblk m c 0 t) (iblk m c 1 t) := by
  rw [outsAt0_B m c t (by omega) h1]
  unfold out0_B_2 kernelRun0_B
  dsimp only
  sl_unfold_words
  simp only [Whole.load, Whole.stored, read_unread_whole, Memref.IsWhole.read_unread]

theorem at_0 (t : Fin cfg0.N) : win0_0.index t = ![t.val / 4, t.val % 2] :=
  (by decide +kernel : ∀ t : Fin grid0.N, win0_0.index t = ![t.val / 4, t.val % 2]) t
theorem at_1 (t : Fin cfg0.N) : win0_1.index t = ![t.val % 2, t.val / 2 % 2] :=
  (by decide +kernel : ∀ t : Fin grid0.N, win0_1.index t = ![t.val % 2, t.val / 2 % 2]) t
theorem at_2 (t : Fin cfg0.N) : win0_2.index t = ![t.val / 4, t.val / 2 % 2] :=
  (by decide +kernel : ∀ t : Fin grid0.N, win0_2.index t = ![t.val / 4, t.val / 2 % 2]) t

/-- The joined heads. -/
abbrev cat (c : Dev nD) : S4096x4096.Idx → EReal := m ((c : Thread nD τ).loc main_arg0)
/-- The weight. -/
abbrev wt (c : Dev nD) : S4096x4096.Idx → EReal := m ((c : Thread nD τ).loc main_arg1)

theorem weight (c : Dev nD) : (V m c main_v0 : S4096x4096.Idx → EReal) = wt m c := by
  unfold V
  after_results_simp
  rfl

/-- Point `t`'s block of the joined heads. -/
theorem in_0 (c : Dev nD) (t : Fin cfg0.N) (z : S1024x2048.Idx) (i : S4096x4096.Idx)
    (h0 : (i 0).val = t.val / 4 * 1024 + (z 0).val) (h1 : (i 1).val = t.val % 2 * 2048 + (z 1).val) :
    iblk m c 0 t z = cat m c i := by
  have e : cat m c = V m c main_arg0 := (V_main_arg0 m c).symm
  rw [e]
  blk_ext [iblk, at_0]

/-- Point `t`'s block of the weight. -/
theorem in_1 (c : Dev nD) (t : Fin cfg0.N) (z : S2048x2048.Idx) (i : S4096x4096.Idx)
    (h0 : (i 0).val = t.val % 2 * 2048 + (z 0).val) (h1 : (i 1).val = t.val / 2 % 2 * 2048 + (z 1).val) :
    iblk m c 1 t z = wt m c i := by
  have e : wt m c = (V m c main_v0 : S4096x4096.Idx → EReal) := (weight m c).symm
  rw [e]
  blk_ext [iblk, at_1]

theorem first_apply (a : Vec Ideal S1024x2048 .bf16) (b : Vec Ideal S2048x2048 .bf16) (z : S1024x2048.Idx) :
    k0_pay1 a b z = ∑ q : Fin 2048, a (ix2 (z 0) q) * b (ix2 q (z 1)) := by
  unfold k0_pay1
  pointwise [dot_S1024x2048_S2048x2048_S1024x2048_1_0_0_1_n_n]

theorem second_apply (acc : Vec Ideal S1024x2048 .f32) (a : Vec Ideal S1024x2048 .bf16) (b : Vec Ideal S2048x2048 .bf16) (z : S1024x2048.Idx) :
    k0_pay2 acc a b z = acc z + ∑ q : Fin 2048, a (ix2 (z 0) q) * b (ix2 q (z 1)) := by
  unfold k0_pay2
  pointwise [dot_S1024x2048_S2048x2048_S1024x2048_1_0_0_1_n_n]

/-- One point's product of its two blocks: the terms of its half of the summed axis. -/
theorem half_eq (c : Dev nD) (t : Fin cfg0.N) (z : S1024x2048.Idx) (i : S4096x4096.Idx)
    (h0 : (i 0).val = t.val / 4 * 1024 + (z 0).val) (h1 : (i 1).val = t.val / 2 % 2 * 2048 + (z 1).val) :
    ∑ q : Fin 2048, (show S1024x2048.Idx → EReal from iblk m c 0 t) (ix2 (z 0) q) * (show S2048x2048.Idx → EReal from iblk m c 1 t) (ix2 q (z 1))
      = ∑ q : Fin 2048, cat m c (ix2 (i 0) (mid (t.val % 2) q)) * wt m c (ix2 (mid (t.val % 2) q) (i 1)) := by
  refine Finset.sum_congr rfl fun q _ => ?_
  have hc := mid_val (Nat.mod_lt t.val (by decide : 0 < 2)) q
  exact congrArg₂ (· * ·) (in_0 m c t _ _ h0 hc) (in_1 m c t _ _ hc h1)

/-- What the second point of a block leaves in it. -/
theorem block_eq (c : Dev nD) (t : Fin cfg0.N) (ht : t.val % 2 = 1) (z : S1024x2048.Idx) (i : S4096x4096.Idx)
    (h0 : (i 0).val = t.val / 4 * 1024 + (z 0).val) (h1 : (i 1).val = t.val / 2 % 2 * 2048 + (z 1).val) :
    outsAt0 m c t.val t.isLt z = ∑ k : Fin 4096, cat m c (ix2 (i 0) k) * wt m c (ix2 k (i 1)) := by
  have e1 := half_eq m c t z i h0 h1
  have e0 := half_eq m c ⟨t.val - 1, Nat.lt_of_le_of_lt (Nat.sub_le _ _) t.isLt⟩ z i
    (by show _ = (t.val - 1) / 4 * 1024 + _; rw [h0]; congr 2; omega) (by show _ = (t.val - 1) / 2 % 2 * 2048 + _; rw [h1]; congr 2; omega)
  rw [second m c t ht, second_apply, first m c ⟨t.val - 1, Nat.lt_of_le_of_lt (Nat.sub_le _ _) t.isLt⟩ (by show (t.val - 1) % 2 = 0; omega), first_apply]
  refine (congrArg₂ (· + ·) e0 e1).trans ?_
  rw [ht, show (t.val - 1) % 2 = 0 by omega]
  exact sum_eq fun k => cat m c (ix2 (i 0) k) * wt m c (ix2 k (i 1))

theorem final (c : Dev nD) :
    (dats m 0 c).arrAt 2 cfg0.N = fun i => ∑ k : Fin 4096, cat m c (ix2 (i 0) k) * wt m c (ix2 k (i 1)) := by
  refine (dats m 0 c).arrAt_eq_of_covers 2 _ (by decide +kernel) fun t hf y => ?_
  show (dats m 0 c).after 2 t ((cfg0.win 2).xinj (grid0.coords t) y) = _
  rw [after0_2]
  exact block_eq m c t ((flush0_2 t).mp hf) _ (((cfg0.win 2).blk t).view.emb y) (by blk_simp [at_2]) (by blk_simp [at_2])

/-- The same sum is what the plain product reads. -/
theorem plain_apply (h : FTy.bits .bf16 < FTy.bits .f32) (a : FVec Ideal S4096x4096 .bf16) (b : FVec Ideal S4096x4096 .f32) (i : S4096x4096.Idx) :
    Host.dotGeneral (F := Ideal) (φ₁ := .f32) (φ₂ := .f32) Cert.Reference4Ideal.dot_S4096x4096_S4096x4096_S4096x4096_1_0_0_1_n_n none (extf .f32 a h) b i
      = ∑ k : Fin 4096, a (ix2 (i 0) k) * b (ix2 k (i 1)) := by
  pointwise [Cert.Reference4Ideal.dot_S4096x4096_S4096x4096_S4096x4096_1_0_0_1_n_n]

end Cert.Out

end
-- ==== Proof.Dcat.Product.lean ====
module

public import proofs.«01_k».proof.Proof.Gen.Kernel5Ideal.Value
public import proofs.«01_k».proof.Proof.Gen.Reference5Ideal.Run
public import proofs.«01_k».proof.Proof.Halves
public import proofs.«01_k».proof.Proof.Whole
public import Idealize.ShloMosaic.Lib.Pointwise
public import Idealize.ShloMosaic.Lib.Pipeline.ValueKit

@[expose] public section

set_option maxRecDepth 16384

noncomputable section

/-! # The gradient of the joined heads

Each block of the product is left by two points: the first stores the product of the first halves of the summed axis, the
second adds the product of the second halves. -/

namespace Cert.Dcat

open Cert.Kernel5Ideal Cert.Kernel5Ideal.Gen Cert.Halves
open Idealize.ShloMosaic Idealize.ShloMosaic.TcCoe Idealize.SL.Sem

variable (m : (ℓ : Loc nD τ sig) → Buf (Elt Ideal) ℓ)

theorem first (c : Dev nD) (t : Fin cfg0.N) (h0 : t.val % 2 = 0) :
    outsAt0 m c t.val t.isLt = k0_pay1 (iblk m c 0 t) (iblk m c 1 t) := by
  rw [outsAt0_A m c t h0 (by omega)]
  unfold out0_A_2 kernelRun0_A
  dsimp only
  sl_unfold_words
  simp only [Whole.load, Whole.stored, read_unread_whole, Memref.IsWhole.read_unread]

theorem second (c : Dev nD) (t : Fin cfg0.N) (h1 : t.val % 2 = 1) :
    outsAt0 m c t.val t.isLt = k0_pay2 (outsAt0 m c (t.val - 1) (Nat.lt_of_le_of_lt (Nat.sub_le _ _) t.isLt)) (iblk m c 0 t) (iblk m c 1 t) := by
  rw [outsAt0_B m c t (by omega) h1]
  unfold out0_B_2 kernelRun0_B
  dsimp only
  sl_unfold_words
  simp only [Whole.load, Whole.stored, read_unread_whole, Memref.IsWhole.read_unread]

theorem at_0 (t : Fin cfg0.N) : win0_0.index t = ![t.val / 4, t.val % 2] :=
  (by decide +kernel : ∀ t : Fin grid0.N, win0_0.index t = ![t.val / 4, t.val % 2]) t
theorem at_1 (t : Fin cfg0.N) : win0_1.index t = ![t.val / 2 % 2, t.val % 2] :=
  (by decide +kernel : ∀ t : Fin grid0.N, win0_1.index t = ![t.val / 2 % 2, t.val % 2]) t
theorem at_2 (t : Fin cfg0.N) : win0_2.index t = ![t.val / 4, t.val / 2 % 2] :=
  (by decide +kernel : ∀ t : Fin grid0.N, win0_2.index t = ![t.val / 4, t.val / 2 % 2]) t

/-- The incoming gradient. -/
abbrev dy (c : Dev nD) : S4096x4096.Idx → EReal := m ((c : Thread nD τ).loc main_arg0)
/-- The weight. -/
abbrev wt (c : Dev nD) : S4096x4096.Idx → EReal := m ((c : Thread nD τ).loc main_arg1)

theorem weight (c : Dev nD) : (V m c main_v0 : S4096x4096.Idx → EReal) = wt m c := by
  unfold V
  after_results_simp
  rfl

/-- Point `t`'s block of the incoming gradient. -/
theorem in_0 (c : Dev nD) (t : Fin cfg0.N) (z : S1024x2048.Idx) (i : S4096x4096.Idx)
    (h0 : (i 0).val = t.val / 4 * 1024 + (z 0).val) (h1 : (i 1).val = t.val % 2 * 2048 + (z 1).val) :
    iblk m c 0 t z = dy m c i := by
  have e : dy m c = V m c main_arg0 := (V_main_arg0 m c).symm
  rw [e]
  blk_ext [iblk, at_0]

/-- Point `t`'s block of the weight. -/
theorem in_1 (c : Dev nD) (t : Fin cfg0.N) (z : S2048x2048.Idx) (i : S4096x4096.Idx)
    (h0 : (i 0).val = t.val / 2 % 2 * 2048 + (z 0).val) (h1 : (i 1).val = t.val % 2 * 2048 + (z 1).val) :
    iblk m c 1 t z = wt m c i := by
  have e : wt m c = (V m c main_v0 : S4096x4096.Idx → EReal) := (weight m c).symm
  rw [e]
  blk_ext [iblk, at_1]

theorem first_apply (a : Vec Ideal S1024x2048 .bf16) (b : Vec Ideal S2048x2048 .bf16) (z : S1024x2048.Idx) :
    k0_pay1 a b z = ∑ q : Fin 2048, a (ix2 (z 0) q) * b (ix2 (z 1) q) := by
  unfold k0_pay1
  pointwise [dot_S1024x2048_S2048x2048_S1024x2048_1_1_0_0_n_n]

theorem second_apply (acc : Vec Ideal S1024x2048 .f32) (a : Vec Ideal S1024x2048 .bf16) (b : Vec Ideal S2048x2048 .bf16) (z : S1024x2048.Idx) :
    k0_pay2 acc a b z = acc z + ∑ q : Fin 2048, a (ix2 (z 0) q) * b (ix2 (z 1) q) := by
  unfold k0_pay2
  pointwise [dot_S1024x2048_S2048x2048_S1024x2048_1_1_0_0_n_n]

/-- One point's product of its two blocks: the terms of its half of the summed axis. -/
theorem half_eq (c : Dev nD) (t : Fin cfg0.N) (z : S1024x2048.Idx) (i : S4096x4096.Idx)
    (h0 : (i 0).val = t.val / 4 * 1024 + (z 0).val) (h1 : (i 1).val = t.val / 2 % 2 * 2048 + (z 1).val) :
    ∑ q : Fin 2048, (show S1024x2048.Idx → EReal from iblk m c 0 t) (ix2 (z 0) q) * (show S2048x2048.Idx → EReal from iblk m c 1 t) (ix2 (z 1) q)
      = ∑ q : Fin 2048, dy m c (ix2 (i 0) (mid (t.val % 2) q)) * wt m c (ix2 (i 1) (mid (t.val % 2) q)) := by
  refine Finset.sum_congr rfl fun q _ => ?_
  have hc := mid_val (Nat.mod_lt t.val (by decide : 0 < 2)) q
  exact congrArg₂ (· * ·) (in_0 m c t _ _ h0 hc) (in_1 m c t _ _ h1 hc)

/-- What the second point of a block leaves in it. -/
theorem block_eq (c : Dev nD) (t : Fin cfg0.N) (ht : t.val % 2 = 1) (z : S1024x2048.Idx) (i : S4096x4096.Idx)
    (h0 : (i 0).val = t.val / 4 * 1024 + (z 0).val) (h1 : (i 1).val = t.val / 2 % 2 * 2048 + (z 1).val) :
    outsAt0 m c t.val t.isLt z = ∑ k : Fin 4096, dy m c (ix2 (i 0) k) * wt m c (ix2 (i 1) k) := by
  have e1 := half_eq m c t z i h0 h1
  have e0 := half_eq m c ⟨t.val - 1, Nat.lt_of_le_of_lt (Nat.sub_le _ _) t.isLt⟩ z i
    (by show _ = (t.val - 1) / 4 * 1024 + _; rw [h0]; congr 2; omega) (by show _ = (t.val - 1) / 2 % 2 * 2048 + _; rw [h1]; congr 2; omega)
  rw [second m c t ht, second_apply, first m c ⟨t.val - 1, Nat.lt_of_le_of_lt (Nat.sub_le _ _) t.isLt⟩ (by show (t.val - 1) % 2 = 0; omega), first_apply]
  refine (congrArg₂ (· + ·) e0 e1).trans ?_
  rw [ht, show (t.val - 1) % 2 = 0 by omega]
  exact sum_eq fun k => dy m c (ix2 (i 0) k) * wt m c (ix2 (i 1) k)

theorem final (c : Dev nD) :
    (dats m 0 c).arrAt 2 cfg0.N = fun i => ∑ k : Fin 4096, dy m c (ix2 (i 0) k) * wt m c (ix2 (i 1) k) := by
  refine (dats m 0 c).arrAt_eq_of_covers 2 _ (by decide +kernel) fun t hf y => ?_
  show (dats m 0 c).after 2 t ((cfg0.win 2).xinj (grid0.coords t) y) = _
  rw [after0_2]
  exact block_eq m c t ((flush0_2 t).mp hf) _ (((cfg0.win 2).blk t).view.emb y) (by blk_simp [at_2]) (by blk_simp [at_2])

/-- The same sum is what the plain product reads. -/
theorem plain_apply (h : FTy.bits .bf16 < FTy.bits .f32) (a : FVec Ideal S4096x4096 .bf16) (b : FVec Ideal S4096x4096 .f32) (i : S4096x4096.Idx) :
    Host.dotGeneral (F := Ideal) (φ₁ := .f32) (φ₂ := .f32) Cert.Reference5Ideal.dot_S4096x4096_S4096x4096_S4096x4096_1_1_0_0_n_n none (extf .f32 a h) b i
      = ∑ k : Fin 4096, a (ix2 (i 0) k) * b (ix2 (i 1) k) := by
  pointwise [Cert.Reference5Ideal.dot_S4096x4096_S4096x4096_S4096x4096_1_1_0_0_n_n]

end Cert.Dcat

end
-- ==== Proof.Products.lean ====
/- The three products that are programs of their own: frames, and kernel and reference compute the same. -/
module

public import proofs.«01_k».proof.Defs
public import proofs.«01_k».proof.Proof.Gen.Kernel4.Frame
public import proofs.«01_k».proof.Proof.Gen.Kernel5.Frame
public import proofs.«01_k».proof.Proof.GradIn.Product
public import proofs.«01_k».proof.Proof.Out.Product
public import proofs.«01_k».proof.Proof.Dcat.Product

@[expose] public section

set_option maxRecDepth 16384

noncomputable section

open Idealize.ShloMosaic Idealize.SL.Sem

namespace Cert.GradIn

/-- The table is one text in both programs. -/
theorem wordBits {F : FTy → Type} [FloatOps F] (m : (ℓ : Loc Cert.Kernel3.nD Cert.Kernel3.τ Cert.Kernel3.sig) → Buf (Elt F) ℓ) : Cert.Kernel3.Gen.Ok m := ok m

theorem frame : Cert.quiescent_Kernel3 := fun m ρ _ => Cert.Kernel3.Gen.frame m ρ (wordBits m)
theorem frameIdeal : Cert.quiescent_Kernel3Ideal := fun m ρ _ => Cert.Kernel3Ideal.Gen.frame m ρ (ok m)
theorem frameRef : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem value : Cert.algebraic_Kernel3Ideal_Reference3Ideal := by
  intro m g m' g' _ hag
  refine ⟨fun c => whole m c, (θ_run Cert.Kernel3Ideal.defs _ _).mono (fun r h c => ⟨((h.1 c).1 2).trans (final m c), h.2.1 c⟩)
    (θ_run_and (Cert.Kernel3Ideal.Gen.run_main (F := Ideal) m g (ok m)) (Cert.Kernel3Ideal.Gen.frame m g (ok m))), ?_⟩
  refine (θ_run Cert.Reference3Ideal.defs _ _).mono (fun r h c => ?_) (Cert.Reference3Ideal.Value.run (F := Ideal) m' g')
  obtain ⟨a0, a1⟩ := hag c
  obtain ⟨h0, hr⟩ := h c
  rw [a0, a1] at h0
  exact ⟨h0.trans (funext fun i => plain_apply _ _ _ _ _ _ _ _ i), hr⟩

end Cert.GradIn

namespace Cert.Out

theorem frame : Cert.quiescent_Kernel4 := fun m ρ _ => Cert.Kernel4.Gen.frame m ρ
theorem frameIdeal : Cert.quiescent_Kernel4Ideal := fun m ρ _ => Cert.Kernel4Ideal.Gen.frame m ρ
theorem frameRef : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem value : Cert.algebraic_Kernel4Ideal_Reference4Ideal := by
  intro m g m' g' _ hag
  refine ⟨_, Cert.Kernel4Ideal.Value.run_blocks (F := Ideal) m g, ?_⟩
  refine (θ_run Cert.Reference4Ideal.defs _ _).mono (fun r h c => ?_) (Cert.Reference4Ideal.Value.run (F := Ideal) m' g')
  obtain ⟨a0, a1⟩ := hag c
  obtain ⟨h0, hr⟩ := h c
  rw [a0, a1] at h0
  exact ⟨h0.trans ((funext fun i => plain_apply _ _ _ i).trans (final m c).symm), hr⟩

end Cert.Out

namespace Cert.Dcat

theorem frame : Cert.quiescent_Kernel5 := fun m ρ _ => Cert.Kernel5.Gen.frame m ρ
theorem frameIdeal : Cert.quiescent_Kernel5Ideal := fun m ρ _ => Cert.Kernel5Ideal.Gen.frame m ρ
theorem frameRef : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem value : Cert.algebraic_Kernel5Ideal_Reference5Ideal := by
  intro m g m' g' _ hag
  refine ⟨_, Cert.Kernel5Ideal.Value.run_blocks (F := Ideal) m g, ?_⟩
  refine (θ_run Cert.Reference5Ideal.defs _ _).mono (fun r h c => ?_) (Cert.Reference5Ideal.Value.run (F := Ideal) m' g')
  obtain ⟨a0, a1⟩ := hag c
  obtain ⟨h0, hr⟩ := h c
  rw [a0, a1] at h0
  exact ⟨h0.trans ((funext fun i => plain_apply _ _ _ i).trans (final m c).symm), hr⟩

end Cert.Dcat

end
-- ==== Proof.GradOut.Send.lean ====
module

public import proofs.«01_k».proof.Proof.Gen.Kernel6.Frame
public import proofs.«01_k».proof.Proof.Gen.Kernel6Ideal.Frame
public import proofs.«01_k».proof.Proof.Gen.Reference6Ideal.Run
public import proofs.«01_k».proof.Proof.Halves
public import proofs.«01_k».proof.Proof.Whole
public import Idealize.ShloMosaic.Lib.Pipeline.ValueKit
public import Idealize.ShloMosaic.Lib.Pointwise

@[expose] public section

set_option maxRecDepth 16384

noncomputable section

/-! # The sent half of the output projection's gradient

The call reads which half of each 1024 rows it takes from a table of one word; here that word is one. Each block is left by
two points, as in the projection's gradient. -/

namespace Cert.GradOut.Send

open Cert.Kernel6Ideal Cert.Kernel6Ideal.Gen Cert.Halves
open Idealize.ShloMosaic Idealize.ShloMosaic.TcCoe Idealize.SL.Sem

section Table

variable {F : FTy → Type} [FloatOps F] (m : (ℓ : Loc nD τ sig) → Buf (Elt F) ℓ)

theorem word (c : Dev nD) : (V m c main_v1 : S1.Idx → BitVec 32) = fun _ => 1#32 := by
  unfold V
  after_results_simp
  rfl

theorem at_0 (i : grid0.Coords) : cc0_transform_0 inb_S1_S1_0 numel1_S1 (tbl m) i = ![(i 2).val, 2 * (i 0).val + 1] := by
  have e : (tbl m).at 0 (Rect.unit (s := S1) ![0] S1.size inb_S1_S1_0) numel1_S1 = 1#32 := congrFun (word m 0) _
  unfold cc0_transform_0
  rw [e]
  exact (by decide +kernel : ∀ i : grid0.Coords, (![(BitVec.ofNat 32 (i 2).val).toNat,
    (Scalar.addi (Scalar.muli 2#32 (BitVec.ofNat 32 (i 0).val)) 1#32).toNat] : Fin 2 → ℕ) = ![(i 2).val, 2 * (i 0).val + 1]) i

/-! Where a block's positions lie in its array, whatever the table holds. -/

theorem emb_0 (a : (pcfg0 (F := F)).Adm) (t : Fin (cfg0 a).N) (y : S2048x512.Idx) (x : Fin 2) :
    ((show S4096x4096.Idx from (((cfg0 a).win 0).blk t).view.emb y) x).val = cc0_transform_0 inb_S1_S1_0 numel1_S1 a.1 (grid0.coords t) x * S2048x512.size x + (y x).val :=
  Pipeline.Window.rect_emb_val ((cfg0 a).win 0) t y x rfl
theorem emb_1 (a : (pcfg0 (F := F)).Adm) (t : Fin (cfg0 a).N) (y : S2048x2048.Idx) (x : Fin 2) :
    ((show S4096x4096.Idx from (((cfg0 a).win 1).blk t).view.emb y) x).val = cc0_transform_1 (grid0.coords t) x * S2048x2048.size x + (y x).val :=
  Pipeline.Window.rect_emb_val ((cfg0 a).win 1) t y x rfl
theorem emb_2 (a : (pcfg0 (F := F)).Adm) (t : Fin (cfg0 a).N) (y : S512x2048.Idx) (x : Fin 2) :
    ((show S2048x4096.Idx from (((cfg0 a).win 2).blk t).view.emb y) x).val = cc0_transform_2 (grid0.coords t) x * S512x2048.size x + (y x).val :=
  Pipeline.Window.rect_emb_val ((cfg0 a).win 2) t y x rfl

theorem ok : Ok m := fun i => ⟨fun a => by
  rw [at_0]
  exact (by decide +kernel : ∀ (i : grid0.Coords) (a : Fin 2), ((![(i 2).val, 2 * (i 0).val + 1] : Fin 2 → ℕ) a + 1) * S2048x512.size a ≤ S4096x4096.size a) i a,
  .inr (Affine.block_words_dvd (of_decide_eq_true rfl) (by decide))⟩

end Table

variable (m : (ℓ : Loc nD τ sig) → Buf (Elt Ideal) ℓ)

/-- The two blocks point `t` reads. -/
abbrev left (c : Dev nD) (t : Fin (cfgM m (ok m)).N) : Vec Ideal S2048x512 .bf16 := iblk m (ok m) c 0 t
abbrev right (c : Dev nD) (t : Fin (cfgM m (ok m)).N) : Vec Ideal S2048x2048 .bf16 := iblk m (ok m) c 1 t

theorem first (c : Dev nD) (t : Fin (cfgM m (ok m)).N) (h0 : t.val % 2 = 0) :
    (outsAt0 m (ok m) c t.val t.isLt).2 = k0_pay1 (left m c t) (right m c t) := by
  rw [outsAt0_A m (ok m) c t h0 (by omega) (by omega)]
  dsimp only
  unfold sout0_A_0 kernelRun0_A
  dsimp only
  sl_unfold_words
  simp only [Whole.load, Whole.stored, Whole.recov, read_unread_whole]
  exact congrArg₂ k0_pay1 (Memref.IsWhole.read_unread _ _) (Memref.IsWhole.read_unread _ _)

theorem second (c : Dev nD) (t : Fin (cfgM m (ok m)).N) (h1 : t.val % 2 = 1) :
    (outsAt0 m (ok m) c t.val t.isLt).1 = k0_pay3 (k0_pay2 (outsAt0 m (ok m) c (t.val - 1) (Nat.lt_of_le_of_lt (Nat.sub_le _ _) t.isLt)).2
      (left m c t) (right m c t)) := by
  rw [outsAt0_B m (ok m) c t (by omega) h1 h1]
  dsimp only
  unfold out0_B_2 kernelRun0_B
  dsimp only
  sl_unfold_words
  simp only [Whole.load, Whole.stored, Whole.recov, read_unread_whole]
  exact congrArg k0_pay3 (congrArg₂ (k0_pay2 _) (Memref.IsWhole.read_unread _ _) (Memref.IsWhole.read_unread _ _))

theorem block_0 (t : Fin grid0.N) : cc0_transform_0 inb_S1_S1_0 numel1_S1 (tbl m) (grid0.coords t) = ![t.val % 2, 2 * (t.val / 4) + 1] :=
  (at_0 m (grid0.coords t)).trans ((by decide +kernel : ∀ t : Fin grid0.N, (![(grid0.coords t 2).val, 2 * (grid0.coords t 0).val + 1] : Fin 2 → ℕ) = ![t.val % 2, 2 * (t.val / 4) + 1]) t)
theorem block_1 : ∀ t : Fin grid0.N, cc0_transform_1 (grid0.coords t) = ![t.val % 2, t.val / 2 % 2] := by decide +kernel
theorem block_2 : ∀ t : Fin grid0.N, cc0_transform_2 (grid0.coords t) = ![t.val / 4, t.val / 2 % 2] := by decide +kernel

/-- The projected activations. -/
abbrev act (c : Dev nD) : S4096x4096.Idx → EReal := m ((c : Thread nD τ).loc main_arg0)
/-- The incoming gradient. -/
abbrev ct (c : Dev nD) : S4096x4096.Idx → EReal := m ((c : Thread nD τ).loc main_arg1)

/-- Point `t`'s block of the activations. -/
theorem in_0 (c : Dev nD) (t : Fin (cfgM m (ok m)).N) (z : S2048x512.Idx) (i : S4096x4096.Idx)
    (h0 : (i 0).val = t.val % 2 * 2048 + (z 0).val) (h1 : (i 1).val = (2 * (t.val / 4) + 1) * 512 + (z 1).val) :
    left m c t z = act m c i := by
  have e : act m c = V m c main_arg0 := (V_main_arg0 m c).symm
  rw [e]
  refine congrArg (V m c main_arg0) (funext fun x => Fin.ext ((emb_0 (adm m (ok m)) t z x).trans ?_))
  rw [block_0]
  match x with
  | ⟨0, _⟩ => exact h0.symm
  | ⟨1, _⟩ => exact h1.symm

/-- Point `t`'s block of the incoming gradient. -/
theorem in_1 (c : Dev nD) (t : Fin (cfgM m (ok m)).N) (z : S2048x2048.Idx) (i : S4096x4096.Idx)
    (h0 : (i 0).val = t.val % 2 * 2048 + (z 0).val) (h1 : (i 1).val = t.val / 2 % 2 * 2048 + (z 1).val) :
    right m c t z = ct m c i := by
  have e : ct m c = V m c main_arg1 := (V_main_arg1 m c).symm
  rw [e]
  refine congrArg (V m c main_arg1) (funext fun x => Fin.ext ((emb_1 (adm m (ok m)) t z x).trans ?_))
  rw [block_1]
  match x with
  | ⟨0, _⟩ => exact h0.symm
  | ⟨1, _⟩ => exact h1.symm

theorem first_apply (a : Vec Ideal S2048x512 .bf16) (b : Vec Ideal S2048x2048 .bf16) (z : S512x2048.Idx) :
    k0_pay1 a b z = ∑ q : Fin 2048, a (ix2 q (z 0)) * b (ix2 q (z 1)) := by
  unfold k0_pay1
  pointwise [dot_S2048x512_S2048x2048_S512x2048_0_0_1_1_n_n]

theorem second_apply (acc : Vec Ideal S512x2048 .f32) (a : Vec Ideal S2048x512 .bf16) (b : Vec Ideal S2048x2048 .bf16) (z : S512x2048.Idx) :
    k0_pay3 (k0_pay2 acc a b) z = acc z + ∑ q : Fin 2048, a (ix2 q (z 0)) * b (ix2 q (z 1)) := by
  unfold k0_pay3 k0_pay2
  pointwise [dot_S2048x512_S2048x2048_S512x2048_0_0_1_1_n_n]

/-- The column of the activations that row `r` of the result is about. -/
abbrev row (r : Fin 2048) : Fin 4096 := ⟨r.val / 512 * 1024 + (512 + r.val % 512), by omega⟩

/-- What the second point of a block writes out: the product of the two halves of the summed axis. -/
theorem block_eq (c : Dev nD) (t : Fin (cfgM m (ok m)).N) (ht : t.val % 2 = 1) (z : S512x2048.Idx) (i : S2048x4096.Idx)
    (h0 : (i 0).val = t.val / 4 * 512 + (z 0).val) (h1 : (i 1).val = t.val / 2 % 2 * 2048 + (z 1).val) :
    (outsAt0 m (ok m) c t.val t.isLt).1 z = ∑ k : Fin 4096, act m c (ix2 k (row (i 0))) * ct m c (ix2 k (i 1)) := by
  have hz0 : (z 0).val < 512 := (z 0).isLt
  obtain ⟨u, hu⟩ : ∃ u : Fin (cfgM m (ok m)).N, u.val = t.val - 1 := ⟨⟨_, Nat.lt_of_le_of_lt (Nat.sub_le _ _) t.isLt⟩, rfl⟩
  have m0 := fun q : Fin 2048 => mid_val (by decide : 0 < 2) q
  have m1 := fun q : Fin 2048 => mid_val (by decide : 1 < 2) q
  have e := (second m c t ht).trans (congrArg (fun x => k0_pay3 (k0_pay2 x (left m c t) (right m c t)))
    ((congrArg Prod.snd (by congr 1; exact hu.symm)).trans (first m c u (by omega))))
  rw [e, second_apply, first_apply]
  have hr : (row (i 0)).val = (2 * (t.val / 4) + 1) * 512 + (z 0).val := by show (i 0).val / 512 * 1024 + (512 + (i 0).val % 512) = _; omega
  exact product (f := fun k => act m c (ix2 k (row (i 0)))) (g := fun k => ct m c (ix2 k (i 1)))
    (fun q => in_0 m c u _ _ (by rw [show u.val % 2 = 0 by omega]; exact m0 q) (by rw [show u.val / 4 = t.val / 4 by omega]; exact hr))
    (fun q => in_1 m c u _ _ (by rw [show u.val % 2 = 0 by omega]; exact m0 q) (by rw [show u.val / 2 = t.val / 2 by omega]; exact h1))
    (fun q => in_0 m c t _ _ (by rw [ht]; exact m1 q) hr) (fun q => in_1 m c t _ _ (by rw [ht]; exact m1 q) h1)

/-- Every index lies in a block written back. -/
theorem covered (i : S2048x4096.Idx) : ∃ t : Fin (cfgM m (ok m)).N, ((cfgM m (ok m)).win 2).flush t = true ∧ i ∈ (((cfgM m (ok m)).win 2).blk t).view.set := by
  have h0 : (i 0).val < 2048 := (i 0).isLt
  have h1 : (i 1).val < 4096 := (i 1).isLt
  obtain ⟨s, hs⟩ : ∃ s, (i 0).val / 512 * 4 + (i 1).val / 2048 * 2 + 1 = s := ⟨_, rfl⟩
  have s0 : s / 4 = (i 0).val / 512 := by omega
  have s2 : s / 2 % 2 = (i 1).val / 2048 := by omega
  have hN : s < (cfgM m (ok m)).N := lt_of_lt_of_eq (by omega : s < 16) N_0.symm
  refine ⟨⟨s, hN⟩, (flush0_2 _ _).mpr (by show s % 2 = 1; omega), ?_⟩
  have e : i = (((cfgM m (ok m)).win 2).blk ⟨s, hN⟩).view.emb (ix2 ⟨(i 0).val % 512, by omega⟩ ⟨(i 1).val % 2048, by omega⟩ : S512x2048.Idx) := by
    funext a
    apply Fin.ext
    match a with
    | ⟨0, _⟩ => refine Eq.trans ?_ ((emb_2 (adm m (ok m)) ⟨s, hN⟩ _ 0).trans (by rw [block_2])).symm; show (i 0).val = s / 4 * 512 + (i 0).val % 512; omega
    | ⟨1, _⟩ => refine Eq.trans ?_ ((emb_2 (adm m (ok m)) ⟨s, hN⟩ _ 1).trans (by rw [block_2])).symm; show (i 1).val = s / 2 % 2 * 2048 + (i 1).val % 2048; omega
  rw [e]
  exact View.emb_mem_set _ _

/-- The result: at row `r` and column `s`, the sum over the 4096 rows. -/
abbrev whole (c : Dev nD) : S2048x4096.Idx → EReal := fun i => ∑ k : Fin 4096, act m c (ix2 k (row (i 0))) * ct m c (ix2 k (i 1))

theorem final (c : Dev nD) : (dats m (ok m) 0 c).arrAt 2 (cfgM m (ok m)).N = whole m c := by
  refine (dats m (ok m) 0 c).arrAt_eq_of_emb 2 _ (fun t hf y => ?_) (covered m)
  show (dats m (ok m) 0 c).after 2 t (((cfgM m (ok m)).win 2).xinj (grid0.coords t) y) = _
  rw [after0_2]
  exact block_eq m c t ((flush0_2 _ t).mp hf) y _ ((emb_2 (adm m (ok m)) t y 0).trans (by rw [block_2]; rfl)) ((emb_2 (adm m (ok m)) t y 1).trans (by rw [block_2]; rfl))

/-- The same sum is what the plain gradient reads. -/
theorem plain_apply (h : FTy.bits .bf16 < FTy.bits .f32) (a b : FVec Ideal S4096x4096 .bf16) (h1 h2 h3 h4) (i : S2048x4096.Idx) :
    truncf (F := Ideal) (φ := .f32) .bf16 (shapeCast S2048x4096 (extractStridedSlice Cert.Reference6Ideal.S4x512x4096 ![0, 512, 0] (shapeCast Cert.Reference6Ideal.S4x1024x4096
      (transpose S4096x4096 [1, 0]
        (Host.dotGeneral (F := Ideal) (φ₁ := .f32) (φ₂ := .f32) Cert.Reference6Ideal.dot_S4096x4096_S4096x4096_S4096x4096_0_0_1_1_n_n none (extf .f32 b h) (extf .f32 a h)) h1) h2) h3) h4) h i
      = ∑ k : Fin 4096, a (ix2 k (row (i 0))) * b (ix2 k (i 1)) := by
  have i0 : (i 0).val < 2048 := (i 0).isLt
  have i1 : (i 1).val < 4096 := (i 1).isLt
  pointwise [Cert.Reference6Ideal.dot_S4096x4096_S4096x4096_S4096x4096_0_0_1_1_n_n]
  exact Finset.sum_congr rfl fun k _ => mul_comm _ _

end Cert.GradOut.Send

end
-- ==== Proof.GradOut.Keep.lean ====
module

public import proofs.«01_k».proof.Proof.Gen.Kernel7.Frame
public import proofs.«01_k».proof.Proof.Gen.Kernel7Ideal.Frame
public import proofs.«01_k».proof.Proof.Gen.Reference7Ideal.Run
public import proofs.«01_k».proof.Proof.GradOut.Send
public import Idealize.ShloMosaic.Lib.Pipeline.ValueKit
public import Idealize.ShloMosaic.Lib.Pointwise

@[expose] public section

set_option maxRecDepth 16384

noncomputable section

/-! # The kept half of the output projection's gradient

The call reads which half of each 1024 rows it takes from a table of one word; here that word is zero. The
stores are those of the sent half. -/

namespace Cert.GradOut.Keep

open Cert.Kernel7Ideal Cert.Kernel7Ideal.Gen Cert.Halves
open Idealize.ShloMosaic Idealize.ShloMosaic.TcCoe Idealize.SL.Sem

section Table

variable {F : FTy → Type} [FloatOps F] (m : (ℓ : Loc nD τ sig) → Buf (Elt F) ℓ)

theorem word (c : Dev nD) : (V m c main_v1 : S1.Idx → BitVec 32) = fun _ => 0#32 := by
  unfold V
  after_results_simp
  rfl

theorem at_0 (i : grid0.Coords) : cc0_transform_0 inb_S1_S1_0 numel1_S1 (tbl m) i = ![(i 2).val, 2 * (i 0).val] := by
  have e : (tbl m).at 0 (Rect.unit (s := S1) ![0] S1.size inb_S1_S1_0) numel1_S1 = 0#32 := congrFun (word m 0) _
  unfold cc0_transform_0
  rw [e]
  exact (by decide +kernel : ∀ i : grid0.Coords, (![(BitVec.ofNat 32 (i 2).val).toNat,
    (Scalar.addi (Scalar.muli 2#32 (BitVec.ofNat 32 (i 0).val)) 0#32).toNat] : Fin 2 → ℕ) = ![(i 2).val, 2 * (i 0).val]) i

/-! Where a block's positions lie in its array, whatever the table holds. -/

theorem emb_0 (a : (pcfg0 (F := F)).Adm) (t : Fin (cfg0 a).N) (y : S2048x512.Idx) (x : Fin 2) :
    ((show S4096x4096.Idx from (((cfg0 a).win 0).blk t).view.emb y) x).val = cc0_transform_0 inb_S1_S1_0 numel1_S1 a.1 (grid0.coords t) x * S2048x512.size x + (y x).val :=
  Pipeline.Window.rect_emb_val ((cfg0 a).win 0) t y x rfl
theorem emb_1 (a : (pcfg0 (F := F)).Adm) (t : Fin (cfg0 a).N) (y : S2048x2048.Idx) (x : Fin 2) :
    ((show S4096x4096.Idx from (((cfg0 a).win 1).blk t).view.emb y) x).val = cc0_transform_1 (grid0.coords t) x * S2048x2048.size x + (y x).val :=
  Pipeline.Window.rect_emb_val ((cfg0 a).win 1) t y x rfl
theorem emb_2 (a : (pcfg0 (F := F)).Adm) (t : Fin (cfg0 a).N) (y : S512x2048.Idx) (x : Fin 2) :
    ((show S2048x4096.Idx from (((cfg0 a).win 2).blk t).view.emb y) x).val = cc0_transform_2 (grid0.coords t) x * S512x2048.size x + (y x).val :=
  Pipeline.Window.rect_emb_val ((cfg0 a).win 2) t y x rfl

theorem ok : Ok m := fun i => ⟨fun a => by
  rw [at_0]
  exact (by decide +kernel : ∀ (i : grid0.Coords) (a : Fin 2), ((![(i 2).val, 2 * (i 0).val] : Fin 2 → ℕ) a + 1) * S2048x512.size a ≤ S4096x4096.size a) i a,
  .inr (Affine.block_words_dvd (of_decide_eq_true rfl) (by decide))⟩

end Table

variable (m : (ℓ : Loc nD τ sig) → Buf (Elt Ideal) ℓ)

/-- The two blocks point `t` reads. -/
abbrev left (c : Dev nD) (t : Fin (cfgM m (ok m)).N) : Vec Ideal S2048x512 .bf16 := iblk m (ok m) c 0 t
abbrev right (c : Dev nD) (t : Fin (cfgM m (ok m)).N) : Vec Ideal S2048x2048 .bf16 := iblk m (ok m) c 1 t

theorem first (c : Dev nD) (t : Fin (cfgM m (ok m)).N) (h0 : t.val % 2 = 0) :
    (outsAt0 m (ok m) c t.val t.isLt).2 = k0_pay1 (left m c t) (right m c t) := by
  rw [outsAt0_A m (ok m) c t h0 (by omega) (by omega)]
  dsimp only
  unfold sout0_A_0 kernelRun0_A
  dsimp only
  sl_unfold_words
  simp only [Whole.load, Whole.stored, Whole.recov, read_unread_whole]
  exact congrArg₂ k0_pay1 (Memref.IsWhole.read_unread _ _) (Memref.IsWhole.read_unread _ _)

theorem second (c : Dev nD) (t : Fin (cfgM m (ok m)).N) (h1 : t.val % 2 = 1) :
    (outsAt0 m (ok m) c t.val t.isLt).1 = k0_pay3 (k0_pay2 (outsAt0 m (ok m) c (t.val - 1) (Nat.lt_of_le_of_lt (Nat.sub_le _ _) t.isLt)).2
      (left m c t) (right m c t)) := by
  rw [outsAt0_B m (ok m) c t (by omega) h1 h1]
  dsimp only
  unfold out0_B_2 kernelRun0_B
  dsimp only
  sl_unfold_words
  simp only [Whole.load, Whole.stored, Whole.recov, read_unread_whole]
  exact congrArg k0_pay3 (congrArg₂ (k0_pay2 _) (Memref.IsWhole.read_unread _ _) (Memref.IsWhole.read_unread _ _))

theorem block_0 (t : Fin grid0.N) : cc0_transform_0 inb_S1_S1_0 numel1_S1 (tbl m) (grid0.coords t) = ![t.val % 2, 2 * (t.val / 4)] :=
  (at_0 m (grid0.coords t)).trans ((by decide +kernel : ∀ t : Fin grid0.N, (![(grid0.coords t 2).val, 2 * (grid0.coords t 0).val] : Fin 2 → ℕ) = ![t.val % 2, 2 * (t.val / 4)]) t)
theorem block_1 : ∀ t : Fin grid0.N, cc0_transform_1 (grid0.coords t) = ![t.val % 2, t.val / 2 % 2] := by decide +kernel
theorem block_2 : ∀ t : Fin grid0.N, cc0_transform_2 (grid0.coords t) = ![t.val / 4, t.val / 2 % 2] := by decide +kernel

/-- The projected activations. -/
abbrev act (c : Dev nD) : S4096x4096.Idx → EReal := m ((c : Thread nD τ).loc main_arg0)
/-- The incoming gradient. -/
abbrev ct (c : Dev nD) : S4096x4096.Idx → EReal := m ((c : Thread nD τ).loc main_arg1)

/-- Point `t`'s block of the activations. -/
theorem in_0 (c : Dev nD) (t : Fin (cfgM m (ok m)).N) (z : S2048x512.Idx) (i : S4096x4096.Idx)
    (h0 : (i 0).val = t.val % 2 * 2048 + (z 0).val) (h1 : (i 1).val = (2 * (t.val / 4)) * 512 + (z 1).val) :
    left m c t z = act m c i := by
  have e : act m c = V m c main_arg0 := (V_main_arg0 m c).symm
  rw [e]
  refine congrArg (V m c main_arg0) (funext fun x => Fin.ext ((emb_0 (adm m (ok m)) t z x).trans ?_))
  rw [block_0]
  match x with
  | ⟨0, _⟩ => exact h0.symm
  | ⟨1, _⟩ => exact h1.symm

/-- Point `t`'s block of the incoming gradient. -/
theorem in_1 (c : Dev nD) (t : Fin (cfgM m (ok m)).N) (z : S2048x2048.Idx) (i : S4096x4096.Idx)
    (h0 : (i 0).val = t.val % 2 * 2048 + (z 0).val) (h1 : (i 1).val = t.val / 2 % 2 * 2048 + (z 1).val) :
    right m c t z = ct m c i := by
  have e : ct m c = V m c main_arg1 := (V_main_arg1 m c).symm
  rw [e]
  refine congrArg (V m c main_arg1) (funext fun x => Fin.ext ((emb_1 (adm m (ok m)) t z x).trans ?_))
  rw [block_1]
  match x with
  | ⟨0, _⟩ => exact h0.symm
  | ⟨1, _⟩ => exact h1.symm

/-- The column of the activations that row `r` of the result is about. -/
abbrev row (r : Fin 2048) : Fin 4096 := ⟨r.val / 512 * 1024 + r.val % 512, by omega⟩

/-- What the second point of a block writes out: the product of the two halves of the summed axis. -/
theorem block_eq (c : Dev nD) (t : Fin (cfgM m (ok m)).N) (ht : t.val % 2 = 1) (z : S512x2048.Idx) (i : S2048x4096.Idx)
    (h0 : (i 0).val = t.val / 4 * 512 + (z 0).val) (h1 : (i 1).val = t.val / 2 % 2 * 2048 + (z 1).val) :
    (outsAt0 m (ok m) c t.val t.isLt).1 z = ∑ k : Fin 4096, act m c (ix2 k (row (i 0))) * ct m c (ix2 k (i 1)) := by
  have hz0 : (z 0).val < 512 := (z 0).isLt
  obtain ⟨u, hu⟩ : ∃ u : Fin (cfgM m (ok m)).N, u.val = t.val - 1 := ⟨⟨_, Nat.lt_of_le_of_lt (Nat.sub_le _ _) t.isLt⟩, rfl⟩
  have m0 := fun q : Fin 2048 => mid_val (by decide : 0 < 2) q
  have m1 := fun q : Fin 2048 => mid_val (by decide : 1 < 2) q
  have e := (second m c t ht).trans (congrArg (fun x => k0_pay3 (k0_pay2 x (left m c t) (right m c t)))
    ((congrArg Prod.snd (by congr 1; exact hu.symm)).trans (first m c u (by omega))))
  rw [e]
  refine (Send.second_apply _ _ _ z).trans ((congrArg (· + _) (Send.first_apply _ _ z)).trans ?_)
  have hr : (row (i 0)).val = (2 * (t.val / 4)) * 512 + (z 0).val := by show (i 0).val / 512 * 1024 + (i 0).val % 512 = _; omega
  exact product (f := fun k => act m c (ix2 k (row (i 0)))) (g := fun k => ct m c (ix2 k (i 1)))
    (fun q => in_0 m c u _ _ (by rw [show u.val % 2 = 0 by omega]; exact m0 q) (by rw [show u.val / 4 = t.val / 4 by omega]; exact hr))
    (fun q => in_1 m c u _ _ (by rw [show u.val % 2 = 0 by omega]; exact m0 q) (by rw [show u.val / 2 = t.val / 2 by omega]; exact h1))
    (fun q => in_0 m c t _ _ (by rw [ht]; exact m1 q) hr) (fun q => in_1 m c t _ _ (by rw [ht]; exact m1 q) h1)

/-- Every index lies in a block written back. -/
theorem covered (i : S2048x4096.Idx) : ∃ t : Fin (cfgM m (ok m)).N, ((cfgM m (ok m)).win 2).flush t = true ∧ i ∈ (((cfgM m (ok m)).win 2).blk t).view.set := by
  have h0 : (i 0).val < 2048 := (i 0).isLt
  have h1 : (i 1).val < 4096 := (i 1).isLt
  obtain ⟨s, hs⟩ : ∃ s, (i 0).val / 512 * 4 + (i 1).val / 2048 * 2 + 1 = s := ⟨_, rfl⟩
  have s0 : s / 4 = (i 0).val / 512 := by omega
  have s2 : s / 2 % 2 = (i 1).val / 2048 := by omega
  have hN : s < (cfgM m (ok m)).N := lt_of_lt_of_eq (by omega : s < 16) N_0.symm
  refine ⟨⟨s, hN⟩, (flush0_2 _ _).mpr (by show s % 2 = 1; omega), ?_⟩
  have e : i = (((cfgM m (ok m)).win 2).blk ⟨s, hN⟩).view.emb (ix2 ⟨(i 0).val % 512, by omega⟩ ⟨(i 1).val % 2048, by omega⟩ : S512x2048.Idx) := by
    funext a
    apply Fin.ext
    match a with
    | ⟨0, _⟩ => refine Eq.trans ?_ ((emb_2 (adm m (ok m)) ⟨s, hN⟩ _ 0).trans (by rw [block_2])).symm; show (i 0).val = s / 4 * 512 + (i 0).val % 512; omega
    | ⟨1, _⟩ => refine Eq.trans ?_ ((emb_2 (adm m (ok m)) ⟨s, hN⟩ _ 1).trans (by rw [block_2])).symm; show (i 1).val = s / 2 % 2 * 2048 + (i 1).val % 2048; omega
  rw [e]
  exact View.emb_mem_set _ _

/-- The result: at row `r` and column `s`, the sum over the 4096 rows. -/
abbrev whole (c : Dev nD) : S2048x4096.Idx → EReal := fun i => ∑ k : Fin 4096, act m c (ix2 k (row (i 0))) * ct m c (ix2 k (i 1))

theorem final (c : Dev nD) : (dats m (ok m) 0 c).arrAt 2 (cfgM m (ok m)).N = whole m c := by
  refine (dats m (ok m) 0 c).arrAt_eq_of_emb 2 _ (fun t hf y => ?_) (covered m)
  show (dats m (ok m) 0 c).after 2 t (((cfgM m (ok m)).win 2).xinj (grid0.coords t) y) = _
  rw [after0_2]
  exact block_eq m c t ((flush0_2 _ t).mp hf) y _ ((emb_2 (adm m (ok m)) t y 0).trans (by rw [block_2]; rfl)) ((emb_2 (adm m (ok m)) t y 1).trans (by rw [block_2]; rfl))

/-- The same sum is what the plain gradient reads. -/
theorem plain_apply (h : FTy.bits .bf16 < FTy.bits .f32) (a b : FVec Ideal S4096x4096 .bf16) (h1 h2 h3 h4) (i : S2048x4096.Idx) :
    truncf (F := Ideal) (φ := .f32) .bf16 (shapeCast S2048x4096 (extractStridedSlice Cert.Reference7Ideal.S4x512x4096 ![0, 0, 0] (shapeCast Cert.Reference7Ideal.S4x1024x4096
      (transpose S4096x4096 [1, 0]
        (Host.dotGeneral (F := Ideal) (φ₁ := .f32) (φ₂ := .f32) Cert.Reference7Ideal.dot_S4096x4096_S4096x4096_S4096x4096_0_0_1_1_n_n none (extf .f32 b h) (extf .f32 a h)) h1) h2) h3) h4) h i
      = ∑ k : Fin 4096, a (ix2 k (row (i 0))) * b (ix2 k (i 1)) := by
  have i0 : (i 0).val < 2048 := (i 0).isLt
  have i1 : (i 1).val < 4096 := (i 1).isLt
  pointwise [Cert.Reference7Ideal.dot_S4096x4096_S4096x4096_S4096x4096_0_0_1_1_n_n]
  exact Finset.sum_congr rfl fun k _ => mul_comm _ _

end Cert.GradOut.Keep

end
-- ==== Proof.GradIn.Keep0.lean ====
module

public import proofs.«01_k».proof.Proof.Gen.Kernel8.Frame
public import proofs.«01_k».proof.Proof.Gen.Kernel8Ideal.Frame
public import proofs.«01_k».proof.Proof.Gen.Reference8Ideal.Run
public import proofs.«01_k».proof.Proof.GradIn.Product
public import Idealize.ShloMosaic.Lib.Pipeline.ValueKit
public import Idealize.ShloMosaic.Lib.Pointwise

@[expose] public section

set_option maxRecDepth 16384

noncomputable section

/-! # The first tile of the kept half of the input projection's gradient

The call writes one tile of each group of 2048 rows, the other it leaves for the next call; which rows of the
result are about which half it reads from a table of one word, here zero. The stores are those of the sent half.
The host lines after the call take the written tile of each group. -/

namespace Cert.GradIn.Keep0

open Cert.Kernel8Ideal Cert.Kernel8Ideal.Gen Cert.Halves
open Idealize.ShloMosaic Idealize.ShloMosaic.TcCoe Idealize.SL.Sem

section Table

variable {F : FTy → Type} [FloatOps F] (m : (ℓ : Loc nD τ sig) → Buf (Elt F) ℓ)

theorem word (c : Dev nD) : (V m c main_v1 : S1.Idx → BitVec 32) = fun _ => 0#32 := by
  show StableHlo.after hostOps0 (fun b => m (c, b)) (Proc.devRef .tc main_v1) = _
  after_results_simp
  rfl

theorem at_0 (i : grid0.Coords) : cc0_transform_0 inb_S1_S1_0 numel1_S1 (tbl m) i = ![(i 2).val, (i 0).val] := by
  have e : (tbl m).at 0 (Rect.unit (s := S1) ![0] S1.size inb_S1_S1_0) numel1_S1 = 0#32 := congrFun (word m 0) _
  unfold cc0_transform_0
  rw [e]
  exact (by decide +kernel : ∀ i : grid0.Coords, (![(BitVec.ofNat 32 (i 2).val).toNat,
    (Scalar.addi (Scalar.addi (Scalar.muli (0#32 : BitVec 32) 2#32) 0#32) (BitVec.ofNat 32 (i 0).val)).toNat] : Fin 2 → ℕ) = ![(i 2).val, (i 0).val]) i

/-! Where a block's positions lie in its array, whatever the table holds. -/

theorem emb_0 (a : (pcfg0 (F := F)).Adm) (t : Fin (cfg0 a).N) (y : S2048x1024.Idx) (x : Fin 2) :
    ((show S4096x4096.Idx from (((cfg0 a).win 0).blk t).view.emb y) x).val = cc0_transform_0 inb_S1_S1_0 numel1_S1 a.1 (grid0.coords t) x * S2048x1024.size x + (y x).val :=
  Pipeline.Window.rect_emb_val ((cfg0 a).win 0) t y x rfl
theorem emb_1 (a : (pcfg0 (F := F)).Adm) (t : Fin (cfg0 a).N) (y : S2048x1792.Idx) (x : Fin 2) :
    ((show S4096x14336.Idx from (((cfg0 a).win 1).blk t).view.emb y) x).val = cc0_transform_1 (grid0.coords t) x * S2048x1792.size x + (y x).val :=
  Pipeline.Window.rect_emb_val ((cfg0 a).win 1) t y x rfl
theorem emb_2 (a : (pcfg0 (F := F)).Adm) (t : Fin (cfg0 a).N) (y : S1024x1792.Idx) (x : Fin 2) :
    ((show S8192x3584.Idx from (((cfg0 a).win 2).blk t).view.emb y) x).val = cc0_transform_2 (grid0.coords t) x * S1024x1792.size x + (y x).val :=
  Pipeline.Window.rect_emb_val ((cfg0 a).win 2) t y x rfl

theorem ok : Ok m := fun i => ⟨fun a => by
  rw [at_0]
  exact (by decide +kernel : ∀ (i : grid0.Coords) (a : Fin 2), ((![(i 2).val, (i 0).val] : Fin 2 → ℕ) a + 1) * S2048x1024.size a ≤ S4096x4096.size a) i a,
  .inr (Affine.block_words_dvd (of_decide_eq_true rfl) (by decide))⟩

end Table

variable (m : (ℓ : Loc nD τ sig) → Buf (Elt Ideal) ℓ)

/-- The two blocks point `t` reads. -/
abbrev left (c : Dev nD) (t : Fin (cfgM m (ok m)).N) : Vec Ideal S2048x1024 .bf16 := iblk m (ok m) c 0 t
abbrev right (c : Dev nD) (t : Fin (cfgM m (ok m)).N) : Vec Ideal S2048x1792 .bf16 := iblk m (ok m) c 1 t

theorem first (c : Dev nD) (t : Fin (cfgM m (ok m)).N) (h0 : t.val % 2 = 0) :
    (outsAt0 m (ok m) c t.val t.isLt).2 = k0_pay1 (left m c t) (right m c t) := by
  rw [outsAt0_A m (ok m) c t h0 (by omega) (by omega)]
  dsimp only
  unfold sout0_A_0 kernelRun0_A
  dsimp only
  sl_unfold_words
  simp only [Whole.load, Whole.stored, Whole.recov, read_unread_whole]
  exact congrArg₂ k0_pay1 (Memref.IsWhole.read_unread _ _) (Memref.IsWhole.read_unread _ _)

theorem second (c : Dev nD) (t : Fin (cfgM m (ok m)).N) (h1 : t.val % 2 = 1) :
    (outsAt0 m (ok m) c t.val t.isLt).1 = k0_pay3 (k0_pay2 (outsAt0 m (ok m) c (t.val - 1) (Nat.lt_of_le_of_lt (Nat.sub_le _ _) t.isLt)).2
      (left m c t) (right m c t)) := by
  rw [outsAt0_B m (ok m) c t (by omega) h1 h1]
  dsimp only
  unfold out0_B_2 kernelRun0_B
  dsimp only
  sl_unfold_words
  simp only [Whole.load, Whole.stored, Whole.recov, read_unread_whole]
  exact congrArg k0_pay3 (congrArg₂ (k0_pay2 _) (Memref.IsWhole.read_unread _ _) (Memref.IsWhole.read_unread _ _))

theorem block_0 (t : Fin grid0.N) : cc0_transform_0 inb_S1_S1_0 numel1_S1 (tbl m) (grid0.coords t) = ![t.val % 2, 0] :=
  (at_0 m (grid0.coords t)).trans ((by decide +kernel : ∀ t : Fin grid0.N, (![(grid0.coords t 2).val, (grid0.coords t 0).val] : Fin 2 → ℕ) = ![t.val % 2, 0]) t)
theorem block_1 : ∀ t : Fin grid0.N, cc0_transform_1 (grid0.coords t) = ![t.val % 2, t.val / 2] := by decide +kernel
theorem block_2 : ∀ t : Fin grid0.N, cc0_transform_2 (grid0.coords t) = ![t.val / 2 / 2 * 2, t.val / 2 % 2] := by decide +kernel

/-- The activations. -/
abbrev act (c : Dev nD) : S4096x4096.Idx → EReal := m ((c : Thread nD τ).loc main_arg0)
/-- The incoming gradient. -/
abbrev ct (c : Dev nD) : S4096x14336.Idx → EReal := m ((c : Thread nD τ).loc main_arg1)

/-- Point `t`'s block of the activations. -/
theorem in_0 (c : Dev nD) (t : Fin (cfgM m (ok m)).N) (z : S2048x1024.Idx) (i : S4096x4096.Idx)
    (h0 : (i 0).val = t.val % 2 * 2048 + (z 0).val) (h1 : (i 1).val = 0 * 1024 + (z 1).val) :
    left m c t z = act m c i := by
  have e : act m c = V m c main_arg0 := (V_main_arg0 m c).symm
  rw [e]
  refine congrArg (V m c main_arg0) (funext fun x => Fin.ext ((emb_0 (adm m (ok m)) t z x).trans ?_))
  rw [block_0]
  match x with
  | ⟨0, _⟩ => exact h0.symm
  | ⟨1, _⟩ => exact h1.symm

/-- Point `t`'s block of the incoming gradient. -/
theorem in_1 (c : Dev nD) (t : Fin (cfgM m (ok m)).N) (z : S2048x1792.Idx) (i : S4096x14336.Idx)
    (h0 : (i 0).val = t.val % 2 * 2048 + (z 0).val) (h1 : (i 1).val = t.val / 2 * 1792 + (z 1).val) :
    right m c t z = ct m c i := by
  have e : ct m c = V m c main_arg1 := (V_main_arg1 m c).symm
  rw [e]
  refine congrArg (V m c main_arg1) (funext fun x => Fin.ext ((emb_1 (adm m (ok m)) t z x).trans ?_))
  rw [block_1]
  match x with
  | ⟨0, _⟩ => exact h0.symm
  | ⟨1, _⟩ => exact h1.symm

/-- The column of the activations that row `r` of a group is about. -/
abbrev row (r : Fin 1024) : Fin 4096 := ⟨r.val, by omega⟩
/-- The column of the incoming gradient that column `s` of group `g` is about. -/
abbrev col (g : Fin 4) (s : Fin 3584) : Fin 14336 := ⟨g.val * 3584 + s.val, by omega⟩

/-- The result: in group `g`, at row `r` and column `s`, the sum over the 4096 rows. -/
abbrev whole (c : Dev nD) : S4x1024x3584.Idx → EReal := fun j => ∑ k : Fin 4096, act m c (ix2 k (row (j 1))) * ct m c (ix2 k (col (j 0) (j 2)))

/-- The place in a group's first tile of an index of the array the call writes. -/
abbrev place (i : S8192x3584.Idx) : S4x1024x3584.Idx :=
  ix3 ⟨(i 0).val / 2048, by have : (i 0).val < 8192 := (i 0).isLt; omega⟩ ⟨(i 0).val % 1024, Nat.mod_lt _ (by decide)⟩ (i 1)

/-- What the second point of a block writes out: the product of the two halves of the summed axis. -/
theorem block_eq (c : Dev nD) (t : Fin (cfgM m (ok m)).N) (ht : t.val % 2 = 1) (z : S1024x1792.Idx) (i : S8192x3584.Idx)
    (h0 : (i 0).val = t.val / 2 / 2 * 2 * 1024 + (z 0).val) (h1 : (i 1).val = t.val / 2 % 2 * 1792 + (z 1).val) :
    (outsAt0 m (ok m) c t.val t.isLt).1 z = whole m c (place i) := by
  have hz0 : (z 0).val < 1024 := (z 0).isLt
  obtain ⟨u, hu⟩ : ∃ u : Fin (cfgM m (ok m)).N, u.val = t.val - 1 := ⟨⟨_, Nat.lt_of_le_of_lt (Nat.sub_le _ _) t.isLt⟩, rfl⟩
  have m0 := fun q : Fin 2048 => mid_val (by decide : 0 < 2) q
  have m1 := fun q : Fin 2048 => mid_val (by decide : 1 < 2) q
  have e := (second m c t ht).trans (congrArg (fun x => k0_pay3 (k0_pay2 x (left m c t) (right m c t)))
    ((congrArg Prod.snd (by congr 1; exact hu.symm)).trans (first m c u (by omega))))
  rw [e]
  refine (GradIn.second_apply _ _ _ z).trans ((congrArg (· + _) (GradIn.first_apply _ _ z)).trans ?_)
  have hr : (row (place i 1)).val = 0 * 1024 + (z 0).val := by show (i 0).val % 1024 = _; omega
  have hs : (col (place i 0) (place i 2)).val = t.val / 2 * 1792 + (z 1).val := by show (i 0).val / 2048 * 3584 + (i 1).val = _; omega
  exact product (f := fun k => act m c (ix2 k (row (place i 1)))) (g := fun k => ct m c (ix2 k (col (place i 0) (place i 2))))
    (fun q => in_0 m c u _ _ (by rw [show u.val % 2 = 0 by omega]; exact m0 q) hr)
    (fun q => in_1 m c u _ _ (by rw [show u.val % 2 = 0 by omega]; exact m0 q) (by rw [show u.val / 2 = t.val / 2 by omega]; exact hs))
    (fun q => in_0 m c t _ _ (by rw [ht]; exact m1 q) hr) (fun q => in_1 m c t _ _ (by rw [ht]; exact m1 q) hs)

/-- Every index of a group's first tile lies in a block written back. -/
theorem covered (i : S8192x3584.Idx) (hi : (i 0).val % 2048 < 1024) :
    ∃ t : Fin (cfgM m (ok m)).N, ((cfgM m (ok m)).win 2).flush t = true ∧ i ∈ (((cfgM m (ok m)).win 2).blk t).view.set := by
  have h0 : (i 0).val < 8192 := (i 0).isLt
  have h1 : (i 1).val < 3584 := (i 1).isLt
  obtain ⟨s, hs⟩ : ∃ s, (i 0).val / 2048 * 4 + (i 1).val / 1792 * 2 + 1 = s := ⟨_, rfl⟩
  have s1 : s / 2 / 2 = (i 0).val / 2048 := by omega
  have s2 : s / 2 % 2 = (i 1).val / 1792 := by omega
  have hN : s < (cfgM m (ok m)).N := lt_of_lt_of_eq (by omega : s < 16) N_0.symm
  refine ⟨⟨s, hN⟩, (flush0_2 _ _).mpr (by show s % 2 = 1; omega), ?_⟩
  have e : i = (((cfgM m (ok m)).win 2).blk ⟨s, hN⟩).view.emb (ix2 ⟨(i 0).val % 1024, by omega⟩ ⟨(i 1).val % 1792, by omega⟩ : S1024x1792.Idx) := by
    funext a
    apply Fin.ext
    match a with
    | ⟨0, _⟩ => refine Eq.trans ?_ ((emb_2 (adm m (ok m)) ⟨s, hN⟩ _ 0).trans (by rw [block_2])).symm; show (i 0).val = s / 2 / 2 * 2 * 1024 + (i 0).val % 1024; omega
    | ⟨1, _⟩ => refine Eq.trans ?_ ((emb_2 (adm m (ok m)) ⟨s, hN⟩ _ 1).trans (by rw [block_2])).symm; show (i 1).val = s / 2 % 2 * 1792 + (i 1).val % 1792; omega
  rw [e]
  exact View.emb_mem_set _ _

/-- What the call leaves in a group's first tile. -/
theorem written (c : Dev nD) (i : S8192x3584.Idx) (hi : (i 0).val % 2048 < 1024) :
    ((dats m (ok m) 0 c).arrAt 2 (cfgM m (ok m)).N : S8192x3584.Idx → EReal) i = whole m c (place i) := by
  obtain ⟨t, hf, hm⟩ := covered m i hi
  refine (dats m (ok m) 0 c).arrAt_forall_of_flushed 2 (fun (j : S8192x3584.Idx) v => v = whole m c (place j)) (fun t hf y => ?_) (cfgM m (ok m)).N t i t.isLt hf hm
  show (dats m (ok m) 0 c).after 2 t (((cfgM m (ok m)).win 2).xinj (grid0.coords t) y) = _
  rw [after0_2]
  exact block_eq m c t ((flush0_2 _ t).mp hf) y _ ((emb_2 (adm m (ok m)) t y 0).trans (by rw [block_2]; rfl)) ((emb_2 (adm m (ok m)) t y 1).trans (by rw [block_2]; rfl))

/-- What the host lines after the call read from it. -/
theorem tail_apply (x : S8192x3584.Idx → EReal) (h1 h2) (j : S4x1024x3584.Idx) :
    extractStridedSlice (α := EReal) S4x1024x3584 ![0, 0, 0] (shapeCast (α := EReal) (s := S8192x3584) S4x2048x3584 x h1) h2 j
      = x (ix2 ⟨(j 0).val * 2048 + (j 1).val, by have : (j 0).val < 4 := (j 0).isLt; have : (j 1).val < 1024 := (j 1).isLt; omega⟩ (j 2)) := by
  have j0 : (j 0).val < 4 := (j 0).isLt
  have j1 : (j 1).val < 1024 := (j 1).isLt
  have j2 : (j 2).val < 3584 := (j 2).isLt
  pointwise []

theorem final (c : Dev nD) : Pipeline.afterTail pcfgs (fun _ => adm m (ok m)) (dats m (ok m)) 0 (V0 m) [hostOps1] c main_v4 = whole m c := by
  show StableHlo.after hostOps1 (Pipeline.withArrays spec0 c (V0 m c) fun w => (dats m (ok m) 0 c).arrAt w (cfgM m (ok m)).N) (Proc.devRef .tc main_v4) = _
  after_results_simp
  rw [Pipeline.withArrays_arr spec0 (by decide) c _ _ 2]
  funext j
  have j0 : (j 0).val < 4 := (j 0).isLt
  have j1 : (j 1).val < 1024 := (j 1).isLt
  refine (tail_apply _ _ _ j).trans ((written m c _ (by show ((j 0).val * 2048 + (j 1).val) % 2048 < 1024; omega)).trans (congrArg (whole m c) ?_))
  funext a
  apply Fin.ext
  match a with
  | ⟨0, _⟩ => show ((j 0).val * 2048 + (j 1).val) / 2048 = (j 0).val; omega
  | ⟨1, _⟩ => show ((j 0).val * 2048 + (j 1).val) % 1024 = (j 1).val; omega
  | ⟨2, _⟩ => rfl

/-- The same sum is what the plain gradient reads. -/
theorem plain_apply (h : FTy.bits .bf16 < FTy.bits .f32) (a : FVec Ideal S4096x4096 .bf16) (b : FVec Ideal S4096x14336 .bf16)
    (h1 h2 h3 h4) (j : S4x1024x3584.Idx) :
    truncf (F := Ideal) (φ := .f32) .bf16 (transpose S4x1024x3584 [1, 0, 2] (shapeCast Cert.Reference8Ideal.S1024x4x3584
      (extractStridedSlice Cert.Reference8Ideal.S1024x14336 ![0, 0] (transpose S4096x14336 [1, 0]
        (Host.dotGeneral (F := Ideal) (φ₁ := .f32) (φ₂ := .f32) Cert.Reference8Ideal.dot_S4096x14336_S4096x4096_S14336x4096_0_0_1_1_n_n none (extf .f32 b h) (extf .f32 a h)) h1) h2) h3) h4) h j
      = ∑ k : Fin 4096, a (ix2 k (row (j 1))) * b (ix2 k (col (j 0) (j 2))) := by
  have j0 : (j 0).val < 4 := (j 0).isLt
  have j1 : (j 1).val < 1024 := (j 1).isLt
  have j2 : (j 2).val < 3584 := (j 2).isLt
  pointwise [Cert.Reference8Ideal.dot_S4096x14336_S4096x4096_S14336x4096_0_0_1_1_n_n]
  exact Finset.sum_congr rfl fun k _ => mul_comm _ _

end Cert.GradIn.Keep0

end
-- ==== Proof.GradIn.Keep1.lean ====
module

public import proofs.«01_k».proof.Proof.Gen.Kernel9.Frame
public import proofs.«01_k».proof.Proof.Gen.Kernel9Ideal.Frame
public import proofs.«01_k».proof.Proof.Gen.Reference9Ideal.Run
public import proofs.«01_k».proof.Proof.GradIn.Product
public import Idealize.ShloMosaic.Lib.Pipeline.ValueKit
public import Idealize.ShloMosaic.Lib.Pointwise

@[expose] public section

set_option maxRecDepth 16384

noncomputable section

/-! # The second tile of the kept half of the input projection's gradient

The call writes the other tile of each group of 2048 rows and adds to it what came from the neighbour; the rows of
the first tile it leaves as it was handed them. Its table's word is zero here. The two points of a block are as in
the sent half, except for the block of the addend read at the second. -/

namespace Cert.GradIn.Keep1

open Cert.Kernel9Ideal Cert.Kernel9Ideal.Gen Cert.Halves
open Idealize.ShloMosaic Idealize.ShloMosaic.TcCoe Idealize.SL.Sem

section Table

variable {F : FTy → Type} [FloatOps F] (m : (ℓ : Loc nD τ sig) → Buf (Elt F) ℓ)

theorem word (c : Dev nD) : (V m c main_v1 : S1.Idx → BitVec 32) = fun _ => 0#32 := by
  unfold V
  after_results_simp
  rfl

theorem at_0 (i : grid0.Coords) : cc0_transform_0 inb_S1_S1_0 numel1_S1 (tbl m) i = ![(i 2).val, 1 + (i 0).val] := by
  have e : (tbl m).at 0 (Rect.unit (s := S1) ![0] S1.size inb_S1_S1_0) numel1_S1 = 0#32 := congrFun (word m 0) _
  unfold cc0_transform_0
  rw [e]
  exact (by decide +kernel : ∀ i : grid0.Coords, (![(BitVec.ofNat 32 (i 2).val).toNat,
    (Scalar.addi (Scalar.addi (Scalar.muli (0#32 : BitVec 32) 2#32) 1#32) (BitVec.ofNat 32 (i 0).val)).toNat] : Fin 2 → ℕ) = ![(i 2).val, 1 + (i 0).val]) i

/-! Where a block's positions lie in its array, whatever the table holds. -/

theorem emb_0 (a : (pcfg0 (F := F)).Adm) (t : Fin (cfg0 a).N) (y : S2048x1024.Idx) (x : Fin 2) :
    ((show S4096x4096.Idx from (((cfg0 a).win 0).blk t).view.emb y) x).val = cc0_transform_0 inb_S1_S1_0 numel1_S1 a.1 (grid0.coords t) x * S2048x1024.size x + (y x).val :=
  Pipeline.Window.rect_emb_val ((cfg0 a).win 0) t y x rfl
theorem emb_1 (a : (pcfg0 (F := F)).Adm) (t : Fin (cfg0 a).N) (y : S2048x1792.Idx) (x : Fin 2) :
    ((show S4096x14336.Idx from (((cfg0 a).win 1).blk t).view.emb y) x).val = cc0_transform_1 (grid0.coords t) x * S2048x1792.size x + (y x).val :=
  Pipeline.Window.rect_emb_val ((cfg0 a).win 1) t y x rfl
theorem emb_2 (a : (pcfg0 (F := F)).Adm) (t : Fin (cfg0 a).N) (y : S1024x1792.Idx) (x : Fin 2) :
    ((show S8192x3584.Idx from (((cfg0 a).win 2).blk t).view.emb y) x).val = cc0_transform_2 (grid0.coords t) x * S1024x1792.size x + (y x).val :=
  Pipeline.Window.rect_emb_val ((cfg0 a).win 2) t y x rfl

theorem emb_3 (a : (pcfg0 (F := F)).Adm) (t : Fin (cfg0 a).N) (y : S1024x1792.Idx) (x : Fin 2) :
    ((show S8192x3584.Idx from (((cfg0 a).win 3).blk t).view.emb y) x).val = cc0_transform_4 (grid0.coords t) x * S1024x1792.size x + (y x).val :=
  Pipeline.Window.rect_emb_val ((cfg0 a).win 3) t y x rfl

theorem ok : Ok m := fun i => ⟨fun a => by
  rw [at_0]
  exact (by decide +kernel : ∀ (i : grid0.Coords) (a : Fin 2), ((![(i 2).val, 1 + (i 0).val] : Fin 2 → ℕ) a + 1) * S2048x1024.size a ≤ S4096x4096.size a) i a,
  .inr (Affine.block_words_dvd (of_decide_eq_true rfl) (by decide))⟩

end Table

variable (m : (ℓ : Loc nD τ sig) → Buf (Elt Ideal) ℓ)

/-- The three blocks point `t` reads. -/
abbrev left (c : Dev nD) (t : Fin (cfgM m (ok m)).N) : Vec Ideal S2048x1024 .bf16 := iblk m (ok m) c 0 t
abbrev right (c : Dev nD) (t : Fin (cfgM m (ok m)).N) : Vec Ideal S2048x1792 .bf16 := iblk m (ok m) c 1 t
abbrev more (c : Dev nD) (t : Fin (cfgM m (ok m)).N) : Vec Ideal S1024x1792 .bf16 := iblk m (ok m) c 2 t

theorem first (c : Dev nD) (t : Fin (cfgM m (ok m)).N) (h0 : t.val % 2 = 0) :
    (outsAt0 m (ok m) c t.val t.isLt).2 = k0_pay1 (left m c t) (right m c t) := by
  rw [outsAt0_A m (ok m) c t h0 (by omega) (by omega)]
  dsimp only
  unfold sout0_A_0 kernelRun0_A
  dsimp only
  sl_unfold_words
  simp only [Whole.load, Whole.stored, Whole.recov, read_unread_whole]
  exact congrArg₂ k0_pay1 (Memref.IsWhole.read_unread _ _) (Memref.IsWhole.read_unread _ _)

theorem second (c : Dev nD) (t : Fin (cfgM m (ok m)).N) (h1 : t.val % 2 = 1) :
    (outsAt0 m (ok m) c t.val t.isLt).1 = k0_pay3 (k0_pay2 (outsAt0 m (ok m) c (t.val - 1) (Nat.lt_of_le_of_lt (Nat.sub_le _ _) t.isLt)).2
      (left m c t) (right m c t)) (more m c t) := by
  rw [outsAt0_B m (ok m) c t (by omega) h1 h1]
  dsimp only
  unfold out0_B_3 kernelRun0_B
  dsimp only
  sl_unfold_words
  simp only [Whole.load, Whole.stored, Whole.recov, read_unread_whole]
  exact congrArg₂ k0_pay3 (congrArg₂ (k0_pay2 _) (Memref.IsWhole.read_unread _ _) (Memref.IsWhole.read_unread _ _)) (Memref.IsWhole.read_unread _ _)

theorem block_0 (t : Fin grid0.N) : cc0_transform_0 inb_S1_S1_0 numel1_S1 (tbl m) (grid0.coords t) = ![t.val % 2, 1] :=
  (at_0 m (grid0.coords t)).trans ((by decide +kernel : ∀ t : Fin grid0.N, (![(grid0.coords t 2).val, 1 + (grid0.coords t 0).val] : Fin 2 → ℕ) = ![t.val % 2, 1]) t)
theorem block_1 : ∀ t : Fin grid0.N, cc0_transform_1 (grid0.coords t) = ![t.val % 2, t.val / 2] := by decide +kernel
theorem block_2 : ∀ t : Fin grid0.N, cc0_transform_2 (grid0.coords t) = ![t.val / 2 / 2 * 2 + 1, t.val / 2 % 2] := by decide +kernel
theorem block_3 : ∀ t : Fin grid0.N, cc0_transform_4 (grid0.coords t) = ![t.val / 2 / 2 * 2 + 1, t.val / 2 % 2] := by decide +kernel

/-- The activations. -/
abbrev act (c : Dev nD) : S4096x4096.Idx → EReal := m ((c : Thread nD τ).loc main_arg0)
/-- The incoming gradient. -/
abbrev ct (c : Dev nD) : S4096x14336.Idx → EReal := m ((c : Thread nD τ).loc main_arg1)
/-- What came from the neighbour, and what the array held before. -/
abbrev got (c : Dev nD) : S8192x3584.Idx → EReal := m ((c : Thread nD τ).loc main_arg2)
abbrev prev (c : Dev nD) : S8192x3584.Idx → EReal := m ((c : Thread nD τ).loc main_arg3)

/-- Point `t`'s block of the activations. -/
theorem in_0 (c : Dev nD) (t : Fin (cfgM m (ok m)).N) (z : S2048x1024.Idx) (i : S4096x4096.Idx)
    (h0 : (i 0).val = t.val % 2 * 2048 + (z 0).val) (h1 : (i 1).val = 1 * 1024 + (z 1).val) :
    left m c t z = act m c i := by
  have e : act m c = V m c main_arg0 := (V_main_arg0 m c).symm
  rw [e]
  refine congrArg (V m c main_arg0) (funext fun x => Fin.ext ((emb_0 (adm m (ok m)) t z x).trans ?_))
  rw [block_0]
  match x with
  | ⟨0, _⟩ => exact h0.symm
  | ⟨1, _⟩ => exact h1.symm

/-- Point `t`'s block of the incoming gradient. -/
theorem in_1 (c : Dev nD) (t : Fin (cfgM m (ok m)).N) (z : S2048x1792.Idx) (i : S4096x14336.Idx)
    (h0 : (i 0).val = t.val % 2 * 2048 + (z 0).val) (h1 : (i 1).val = t.val / 2 * 1792 + (z 1).val) :
    right m c t z = ct m c i := by
  have e : ct m c = V m c main_arg1 := (V_main_arg1 m c).symm
  rw [e]
  refine congrArg (V m c main_arg1) (funext fun x => Fin.ext ((emb_1 (adm m (ok m)) t z x).trans ?_))
  rw [block_1]
  match x with
  | ⟨0, _⟩ => exact h0.symm
  | ⟨1, _⟩ => exact h1.symm

/-- Point `t`'s block of what came from the neighbour. -/
theorem in_2 (c : Dev nD) (t : Fin (cfgM m (ok m)).N) (z : S1024x1792.Idx) (i : S8192x3584.Idx)
    (h0 : (i 0).val = (t.val / 2 / 2 * 2 + 1) * 1024 + (z 0).val) (h1 : (i 1).val = t.val / 2 % 2 * 1792 + (z 1).val) :
    more m c t z = got m c i := by
  have e : got m c = V m c main_arg2 := (V_main_arg2 m c).symm
  rw [e]
  refine congrArg (V m c main_arg2) (funext fun x => Fin.ext ((emb_2 (adm m (ok m)) t z x).trans ?_))
  rw [block_2]
  match x with
  | ⟨0, _⟩ => exact h0.symm
  | ⟨1, _⟩ => exact h1.symm

/-- The column of the activations that row `r` of the result is about. -/
abbrev row (r : Fin 8192) : Fin 4096 := ⟨r.val % 2048, by omega⟩

/-- What the second tiles hold. -/
abbrev added (c : Dev nD) : S8192x3584.Idx → EReal :=
  fun i => (∑ k : Fin 4096, act m c (ix2 k (row (i 0))) * ct m c (ix2 k (GradIn.col (i 0) (i 1)))) + got m c i

theorem last_apply (acc : Vec Ideal S1024x1792 .f32) (b : Vec Ideal S1024x1792 .bf16) (z : S1024x1792.Idx) : k0_pay3 acc b z = acc z + b z := by
  unfold k0_pay3
  pointwise []

/-- What the second point of a block writes out: the product of the two halves of the summed axis, and the addend. -/
theorem block_eq (c : Dev nD) (t : Fin (cfgM m (ok m)).N) (ht : t.val % 2 = 1) (z : S1024x1792.Idx) (i : S8192x3584.Idx)
    (h0 : (i 0).val = (t.val / 2 / 2 * 2 + 1) * 1024 + (z 0).val) (h1 : (i 1).val = t.val / 2 % 2 * 1792 + (z 1).val) :
    (outsAt0 m (ok m) c t.val t.isLt).1 z = added m c i := by
  have hz0 : (z 0).val < 1024 := (z 0).isLt
  obtain ⟨u, hu⟩ : ∃ u : Fin (cfgM m (ok m)).N, u.val = t.val - 1 := ⟨⟨_, Nat.lt_of_le_of_lt (Nat.sub_le _ _) t.isLt⟩, rfl⟩
  have m0 := fun q : Fin 2048 => mid_val (by decide : 0 < 2) q
  have m1 := fun q : Fin 2048 => mid_val (by decide : 1 < 2) q
  have e := (second m c t ht).trans (congrArg (fun x => k0_pay3 (k0_pay2 x (left m c t) (right m c t)) (more m c t))
    ((congrArg Prod.snd (by congr 1; exact hu.symm)).trans (first m c u (by omega))))
  rw [e]
  refine (last_apply _ _ z).trans (congrArg₂ (· + ·) ?_ (in_2 m c t z i h0 h1))
  refine (GradIn.second_apply _ _ _ z).trans ((congrArg (· + _) (GradIn.first_apply _ _ z)).trans ?_)
  have hr : (row (i 0)).val = 1 * 1024 + (z 0).val := by show (i 0).val % 2048 = _; omega
  have hs : (GradIn.col (i 0) (i 1)).val = t.val / 2 * 1792 + (z 1).val := by show (i 0).val / 2048 * 3584 + (i 1).val = _; omega
  exact product (f := fun k => act m c (ix2 k (row (i 0)))) (g := fun k => ct m c (ix2 k (GradIn.col (i 0) (i 1))))
    (fun q => in_0 m c u _ _ (by rw [show u.val % 2 = 0 by omega]; exact m0 q) hr)
    (fun q => in_1 m c u _ _ (by rw [show u.val % 2 = 0 by omega]; exact m0 q) (by rw [show u.val / 2 = t.val / 2 by omega]; exact hs))
    (fun q => in_0 m c t _ _ (by rw [ht]; exact m1 q) hr) (fun q => in_1 m c t _ _ (by rw [ht]; exact m1 q) hs)

/-- The indices of the second tiles are those in a block written back. -/
theorem covered (i : S8192x3584.Idx) (hi : ¬ (i 0).val % 2048 < 1024) :
    ∃ t : Fin (cfgM m (ok m)).N, ((cfgM m (ok m)).win 3).flush t = true ∧ i ∈ (((cfgM m (ok m)).win 3).blk t).view.set := by
  have h0 : (i 0).val < 8192 := (i 0).isLt
  have h1 : (i 1).val < 3584 := (i 1).isLt
  obtain ⟨s, hs⟩ : ∃ s, (i 0).val / 2048 * 4 + (i 1).val / 1792 * 2 + 1 = s := ⟨_, rfl⟩
  have s1 : s / 2 / 2 = (i 0).val / 2048 := by omega
  have s2 : s / 2 % 2 = (i 1).val / 1792 := by omega
  have hN : s < (cfgM m (ok m)).N := lt_of_lt_of_eq (by omega : s < 16) N_0.symm
  refine ⟨⟨s, hN⟩, (flush0_3 _ _).mpr (by show s % 2 = 1; omega), ?_⟩
  have e : i = (((cfgM m (ok m)).win 3).blk ⟨s, hN⟩).view.emb (ix2 ⟨(i 0).val % 1024, by omega⟩ ⟨(i 1).val % 1792, by omega⟩ : S1024x1792.Idx) := by
    funext a
    apply Fin.ext
    match a with
    | ⟨0, _⟩ => refine Eq.trans ?_ ((emb_3 (adm m (ok m)) ⟨s, hN⟩ _ 0).trans (by rw [block_3])).symm; show (i 0).val = (s / 2 / 2 * 2 + 1) * 1024 + (i 0).val % 1024; omega
    | ⟨1, _⟩ => refine Eq.trans ?_ ((emb_3 (adm m (ok m)) ⟨s, hN⟩ _ 1).trans (by rw [block_3])).symm; show (i 1).val = s / 2 % 2 * 1792 + (i 1).val % 1792; omega
  rw [e]
  exact View.emb_mem_set _ _

theorem kept (t : Fin (cfgM m (ok m)).N) (i : S8192x3584.Idx) (hi : (i 0).val % 2048 < 1024) : i ∉ (((cfgM m (ok m)).win 3).blk t).view.set := by
  intro hm
  obtain ⟨y, hy⟩ := View.exists_emb_of_mem_set _ hm
  have hy0 : ((show S1024x1792.Idx from y) 0).val < 1024 := ((show S1024x1792.Idx from y) 0).isLt
  have e : (i 0).val = (t.val / 2 / 2 * 2 + 1) * 1024 + ((show S1024x1792.Idx from y) 0).val :=
    (congrArg (fun j : S8192x3584.Idx => (j 0).val) hy.symm).trans ((emb_3 (adm m (ok m)) t y 0).trans (by rw [block_3]; rfl))
  omega

/-- What the array held before is what the second operand's buffer was handed. -/
theorem before (c : Dev nD) : (V m c main_v2 : S8192x3584.Idx → EReal) = prev m c := by
  unfold V
  after_results_simp
  rfl

/-- The result: first tiles as before, second tiles the product and what came from the neighbour. -/
abbrev whole (c : Dev nD) : S8192x3584.Idx → EReal := fun i => if (i 0).val % 2048 < 1024 then prev m c i else added m c i

theorem final (c : Dev nD) : (dats m (ok m) 0 c).arrAt 3 (cfgM m (ok m)).N = whole m c := by
  funext (i : S8192x3584.Idx)
  by_cases hi : (i 0).val % 2048 < 1024
  · exact ((dats m (ok m) 0 c).arrAt_apply_of_forall_not_mem 3 _ i fun t _ _ => kept m t i hi).trans
      ((congrFun (before m c) i).trans (if_pos hi).symm)
  · obtain ⟨t, hf, hm⟩ := covered m i hi
    refine ((dats m (ok m) 0 c).arrAt_forall_of_flushed 3 (fun (j : S8192x3584.Idx) v => v = added m c j) (fun t hf y => ?_)
      (cfgM m (ok m)).N t i t.isLt hf hm).trans (if_neg hi).symm
    show (dats m (ok m) 0 c).after 3 t (((cfgM m (ok m)).win 3).xinj (grid0.coords t) y) = _
    rw [after0_3]
    exact block_eq m c t ((flush0_3 _ t).mp hf) y _ ((emb_3 (adm m (ok m)) t y 0).trans (by rw [block_3]; rfl)) ((emb_3 (adm m (ok m)) t y 1).trans (by rw [block_3]; rfl))

/-- The plain gradient and the addend, over the second tiles of the old array. -/
theorem plain_apply (h : FTy.bits .bf16 < FTy.bits .f32) (a : FVec Ideal S4096x4096 .bf16) (b : FVec Ideal S4096x14336 .bf16)
    (g q : FVec Ideal S8192x3584 .bf16) (h1 h2 h3 h4 h5 h6 h7 h8 h9) (i : S8192x3584.Idx) :
    shapeCast (α := EReal) S8192x3584 (concatenate Cert.Reference9Ideal.S4x2048x3584 1 [⟨Cert.Reference9Ideal.S4x1024x3584, extractStridedSlice (α := EReal) Cert.Reference9Ideal.S4x1024x3584 ![0, 0, 0] (shapeCast (α := EReal) (s := S8192x3584) Cert.Reference9Ideal.S4x2048x3584 q h5) h6⟩,
      ⟨Cert.Reference9Ideal.S4x1024x3584, truncf (F := Ideal) (φ := .f32) .bf16 (addf (F := Ideal) (φ := .f32) (transpose Cert.Reference9Ideal.S4x1024x3584 [1, 0, 2] (shapeCast Cert.Reference9Ideal.S1024x4x3584
        (extractStridedSlice Cert.Reference9Ideal.S1024x14336 ![1024, 0] (transpose S4096x14336 [1, 0]
          (Host.dotGeneral (F := Ideal) (φ₁ := .f32) (φ₂ := .f32) Cert.Reference9Ideal.dot_S4096x14336_S4096x4096_S14336x4096_0_0_1_1_n_n none (extf .f32 b h) (extf .f32 a h)) h1) h2) h3) h4)
        (extractStridedSlice Cert.Reference9Ideal.S4x1024x3584 ![0, 1024, 0] (shapeCast Cert.Reference9Ideal.S4x2048x3584 (extf .f32 g h) h5) h7)) h⟩] h8) h9 i
      = if (i 0).val % 2048 < 1024 then q i else (∑ k : Fin 4096, a (ix2 k (row (i 0))) * b (ix2 k (GradIn.col (i 0) (i 1)))) + g i := by
  have i0 : (i 0).val < 8192 := (i 0).isLt
  have i1 : (i 1).val < 3584 := (i 1).isLt
  pointwise [Cert.Reference9Ideal.dot_S4096x14336_S4096x4096_S14336x4096_0_0_1_1_n_n]
  refine dite_congr rfl (fun _ => rfl) fun hi => ?_
  have hk : 1024 + ((i 0).val % 2048 - 1024) = (i 0).val % 2048 := by
    have : ¬ (i 0).val % 2048 < 1024 := hi
    omega
  refine congrArg₂ (· + ·) (Finset.sum_congr rfl fun k _ => (mul_comm _ _).trans (congrArg (· * _) (congrArg (fun r => a (ix2 k r)) (Fin.ext hk)))) (congrArg g (funext fun x => Fin.ext ?_))
  match x with
  | ⟨0, _⟩ => show (i 0).val / 2048 * 2048 + (1024 + ((i 0).val % 2048 - 1024)) = (i 0).val; omega
  | ⟨1, _⟩ => rfl

end Cert.GradIn.Keep1

end
-- ==== Proof.Weights.lean ====
/- The parts of the two weight gradients that are programs of their own: frames, and kernel and reference compute the
same. -/
module

public import proofs.«01_k».proof.Defs
public import proofs.«01_k».proof.Proof.GradOut.Send
public import proofs.«01_k».proof.Proof.GradOut.Keep
public import proofs.«01_k».proof.Proof.GradIn.Keep0
public import proofs.«01_k».proof.Proof.GradIn.Keep1

@[expose] public section

set_option maxRecDepth 16384

noncomputable section

open Idealize.ShloMosaic Idealize.SL.Sem

namespace Cert.GradOut.Send

/-- The table is one text in both programs. -/
theorem wordBits {F : FTy → Type} [FloatOps F] (m : (ℓ : Loc Cert.Kernel6.nD Cert.Kernel6.τ Cert.Kernel6.sig) → Buf (Elt F) ℓ) : Cert.Kernel6.Gen.Ok m := ok m

theorem frame : Cert.quiescent_Kernel6 := fun m ρ _ => Cert.Kernel6.Gen.frame m ρ (wordBits m)
theorem frameIdeal : Cert.quiescent_Kernel6Ideal := fun m ρ _ => Cert.Kernel6Ideal.Gen.frame m ρ (ok m)
theorem frameRef : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem value : Cert.algebraic_Kernel6Ideal_Reference6Ideal := by
  intro m g m' g' _ hag
  refine ⟨fun c => whole m c, (θ_run Cert.Kernel6Ideal.defs _ _).mono (fun r h c => ⟨((h.1 c).1 2).trans (final m c), h.2.1 c⟩)
    (θ_run_and (Cert.Kernel6Ideal.Gen.run_main (F := Ideal) m g (ok m)) (Cert.Kernel6Ideal.Gen.frame m g (ok m))), ?_⟩
  refine (θ_run Cert.Reference6Ideal.defs _ _).mono (fun r h c => ?_) (Cert.Reference6Ideal.Value.run (F := Ideal) m' g')
  obtain ⟨a0, a1⟩ := hag c
  obtain ⟨h0, hr⟩ := h c
  rw [a0, a1] at h0
  exact ⟨h0.trans (funext fun i => plain_apply _ _ _ _ _ _ _ i), hr⟩

end Cert.GradOut.Send

namespace Cert.GradOut.Keep

/-- The table is one text in both programs. -/
theorem wordBits {F : FTy → Type} [FloatOps F] (m : (ℓ : Loc Cert.Kernel7.nD Cert.Kernel7.τ Cert.Kernel7.sig) → Buf (Elt F) ℓ) : Cert.Kernel7.Gen.Ok m := ok m

theorem frame : Cert.quiescent_Kernel7 := fun m ρ _ => Cert.Kernel7.Gen.frame m ρ (wordBits m)
theorem frameIdeal : Cert.quiescent_Kernel7Ideal := fun m ρ _ => Cert.Kernel7Ideal.Gen.frame m ρ (ok m)
theorem frameRef : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem value : Cert.algebraic_Kernel7Ideal_Reference7Ideal := by
  intro m g m' g' _ hag
  refine ⟨fun c => whole m c, (θ_run Cert.Kernel7Ideal.defs _ _).mono (fun r h c => ⟨((h.1 c).1 2).trans (final m c), h.2.1 c⟩)
    (θ_run_and (Cert.Kernel7Ideal.Gen.run_main (F := Ideal) m g (ok m)) (Cert.Kernel7Ideal.Gen.frame m g (ok m))), ?_⟩
  refine (θ_run Cert.Reference7Ideal.defs _ _).mono (fun r h c => ?_) (Cert.Reference7Ideal.Value.run (F := Ideal) m' g')
  obtain ⟨a0, a1⟩ := hag c
  obtain ⟨h0, hr⟩ := h c
  rw [a0, a1] at h0
  exact ⟨h0.trans (funext fun i => plain_apply _ _ _ _ _ _ _ i), hr⟩

end Cert.GradOut.Keep

namespace Cert.GradIn.Keep0

/-- The table is one text in both programs. -/
theorem wordBits {F : FTy → Type} [FloatOps F] (m : (ℓ : Loc Cert.Kernel8.nD Cert.Kernel8.τ Cert.Kernel8.sig) → Buf (Elt F) ℓ) : Cert.Kernel8.Gen.Ok m := ok m

theorem frame : Cert.quiescent_Kernel8 := fun m ρ _ => Cert.Kernel8.Gen.frame m ρ (wordBits m)
theorem frameIdeal : Cert.quiescent_Kernel8Ideal := fun m ρ _ => Cert.Kernel8Ideal.Gen.frame m ρ (ok m)
theorem frameRef : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem value : Cert.algebraic_Kernel8Ideal_Reference8Ideal := by
  intro m g m' g' _ hag
  refine ⟨fun c => whole m c, (θ_run Cert.Kernel8Ideal.defs _ _).mono (fun r h c => ⟨((h.1 c).2 Cert.Kernel8Ideal.main_v4 (by decide : Cert.Kernel8Ideal.main_v4 ∈ Pipeline.restRefs Cert.Kernel8Ideal.sig Cert.Kernel8Ideal.spec0)).trans (final m c), h.2.1 c⟩)
    (θ_run_and (Cert.Kernel8Ideal.Gen.run_main (F := Ideal) m g (ok m)) (Cert.Kernel8Ideal.Gen.frame m g (ok m))), ?_⟩
  refine (θ_run Cert.Reference8Ideal.defs _ _).mono (fun r h c => ?_) (Cert.Reference8Ideal.Value.run (F := Ideal) m' g')
  obtain ⟨a0, a1⟩ := hag c
  obtain ⟨h0, hr⟩ := h c
  rw [a0, a1] at h0
  exact ⟨h0.trans (funext fun i => plain_apply _ _ _ _ _ _ _ i), hr⟩

end Cert.GradIn.Keep0

namespace Cert.GradIn.Keep1

/-- The table is one text in both programs. -/
theorem wordBits {F : FTy → Type} [FloatOps F] (m : (ℓ : Loc Cert.Kernel9.nD Cert.Kernel9.τ Cert.Kernel9.sig) → Buf (Elt F) ℓ) : Cert.Kernel9.Gen.Ok m := ok m

theorem frame : Cert.quiescent_Kernel9 := fun m ρ _ => Cert.Kernel9.Gen.frame m ρ (wordBits m)
theorem frameIdeal : Cert.quiescent_Kernel9Ideal := fun m ρ _ => Cert.Kernel9Ideal.Gen.frame m ρ (ok m)
theorem frameRef : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem value : Cert.algebraic_Kernel9Ideal_Reference9Ideal := by
  intro m g m' g' _ hag
  refine ⟨fun c => whole m c, (θ_run Cert.Kernel9Ideal.defs _ _).mono (fun r h c => ⟨((h.1 c).1 3).trans (final m c), h.2.1 c⟩)
    (θ_run_and (Cert.Kernel9Ideal.Gen.run_main (F := Ideal) m g (ok m)) (Cert.Kernel9Ideal.Gen.frame m g (ok m))), ?_⟩
  refine (θ_run Cert.Reference9Ideal.defs _ _).mono (fun r h c => ?_) (Cert.Reference9Ideal.Value.run (F := Ideal) m' g')
  obtain ⟨a0, a1, a2, a3⟩ := hag c
  obtain ⟨h0, hr⟩ := h c
  rw [a0, a1, a2, a3] at h0
  exact ⟨h0.trans (funext fun i => plain_apply _ _ _ _ _ _ _ _ _ _ _ _ _ _ i), hr⟩

end Cert.GradIn.Keep1

end
-- ==== Proof.Step.InputProj.lean ====
/- The optimiser's step of the input projection's weight: frames, and kernel and reference compute the same. -/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Dh.Opt

@[expose] public section

set_option maxRecDepth 16384

noncomputable section

namespace Cert.Step.InputProj

open Cert.Kernel10Ideal Cert.Kernel10Ideal.Gen Cert.Dh
open Idealize.ShloMosaic Idealize.ShloMosaic.TcCoe Idealize.SL.Sem

variable (m : (ℓ : Loc nD τ sig) → Buf (Elt Ideal) ℓ)

/-- The weight, its gradient and its two moments. -/
abbrev w (c : Dev nD) : S4096x3584.Idx → EReal := m ((c : Thread nD τ).loc main_arg0)
abbrev g (c : Dev nD) : S4096x3584.Idx → EReal := m ((c : Thread nD τ).loc main_arg1)
abbrev mu (c : Dev nD) : S4096x3584.Idx → EReal := m ((c : Thread nD τ).loc main_arg2)
abbrev nu (c : Dev nD) : S4096x3584.Idx → EReal := m ((c : Thread nD τ).loc main_arg3)

theorem final_4 (c : Dev nD) : (dats m 0 c).arrAt 4 cfg0.N = g m c := by
  refine (dats m 0 c).arrAt_eq_of_covers 4 _ (by decide +kernel) fun t hf y => ?_
  show (dats m 0 c).after 4 t ((cfg0.win 4).xinj (grid0.coords t) y) = _
  rw [after0_4]
  frame_out
  rfl

theorem final_5 (c : Dev nD) : (dats m 0 c).arrAt 5 cfg0.N = fun i => delta (w m c i) (g m c i) (mu m c i) (nu m c i) := by
  refine (dats m 0 c).arrAt_eq_of_covers 5 _ (by decide +kernel) fun t hf y => ?_
  show (dats m 0 c).after 5 t ((cfg0.win 5).xinj (grid0.coords t) y) = _
  rw [after0_5]
  frame_out
  rfl

theorem final_6 (c : Dev nD) : (dats m 0 c).arrAt 6 cfg0.N = fun i => mom (g m c i) (mu m c i) := by
  refine (dats m 0 c).arrAt_eq_of_covers 6 _ (by decide +kernel) fun t hf y => ?_
  show (dats m 0 c).after 6 t ((cfg0.win 6).xinj (grid0.coords t) y) = _
  rw [after0_6]
  frame_out
  rfl

theorem final_7 (c : Dev nD) : (dats m 0 c).arrAt 7 cfg0.N = fun i => var (g m c i) (nu m c i) := by
  refine (dats m 0 c).arrAt_eq_of_covers 7 _ (by decide +kernel) fun t hf y => ?_
  show (dats m 0 c).after 7 t ((cfg0.win 7).xinj (grid0.coords t) y) = _
  rw [after0_7]
  frame_out
  rfl

theorem frame : Cert.quiescent_Kernel10 := fun m ρ _ => Cert.Kernel10.Gen.frame m ρ
theorem frameIdeal : Cert.quiescent_Kernel10Ideal := fun m ρ _ => Cert.Kernel10Ideal.Gen.frame m ρ
theorem frameRef : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

theorem value : Cert.algebraic_Kernel10Ideal_Reference10Ideal := by
  intro m g m' g' _ hag
  refine ⟨_, _, _, _, Cert.Kernel10Ideal.Value.run_blocks (F := Ideal) m g, ?_⟩
  refine (θ_run Cert.Reference10Ideal.defs _ _).mono (fun r h c => ?_) (Cert.Reference10Ideal.Value.run (F := Ideal) m' g')
  obtain ⟨a0, a1, a2, a3⟩ := hag c
  obtain ⟨h0, h1, h2, h3, hr⟩ := h c
  rw [a1] at h0
  rw [a0, a1, a2, a3] at h1
  rw [a1, a2] at h2
  rw [a1, a3] at h3
  exact ⟨h0.trans (final_4 m c).symm, h1.trans (final_5 m c).symm, h2.trans (final_6 m c).symm, h3.trans (final_7 m c).symm, hr⟩

end Cert.Step.InputProj

end
-- ==== Proof.Step.Conv.lean ====
/- The optimiser's step of the convolution's taps: frames, and kernel and reference compute the same. -/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Dh.Opt

@[expose] public section

set_option maxRecDepth 16384

noncomputable section

namespace Cert.Step.Conv

open Cert.Kernel11Ideal Cert.Kernel11Ideal.Gen Cert.Dh
open Idealize.ShloMosaic Idealize.ShloMosaic.TcCoe Idealize.SL.Sem

variable (m : (ℓ : Loc nD τ sig) → Buf (Elt Ideal) ℓ)

/-- The weight, its gradient and its two moments. -/
abbrev w (c : Dev nD) : S3x384.Idx → EReal := m ((c : Thread nD τ).loc main_arg0)
abbrev g (c : Dev nD) : S3x384.Idx → EReal := m ((c : Thread nD τ).loc main_arg1)
abbrev mu (c : Dev nD) : S3x384.Idx → EReal := m ((c : Thread nD τ).loc main_arg2)
abbrev nu (c : Dev nD) : S3x384.Idx → EReal := m ((c : Thread nD τ).loc main_arg3)

theorem final_4 (c : Dev nD) : (dats m 0 c).arrAt 4 cfg0.N = g m c := by
  refine (dats m 0 c).arrAt_eq_of_covers 4 _ (by decide +kernel) fun t hf y => ?_
  show (dats m 0 c).after 4 t ((cfg0.win 4).xinj (grid0.coords t) y) = _
  rw [after0_4]
  frame_out
  rfl

theorem final_5 (c : Dev nD) : (dats m 0 c).arrAt 5 cfg0.N = fun i => delta (w m c i) (g m c i) (mu m c i) (nu m c i) := by
  refine (dats m 0 c).arrAt_eq_of_covers 5 _ (by decide +kernel) fun t hf y => ?_
  show (dats m 0 c).after 5 t ((cfg0.win 5).xinj (grid0.coords t) y) = _
  rw [after0_5]
  frame_out
  rfl

theorem final_6 (c : Dev nD) : (dats m 0 c).arrAt 6 cfg0.N = fun i => mom (g m c i) (mu m c i) := by
  refine (dats m 0 c).arrAt_eq_of_covers 6 _ (by decide +kernel) fun t hf y => ?_
  show (dats m 0 c).after 6 t ((cfg0.win 6).xinj (grid0.coords t) y) = _
  rw [after0_6]
  frame_out
  rfl

theorem final_7 (c : Dev nD) : (dats m 0 c).arrAt 7 cfg0.N = fun i => var (g m c i) (nu m c i) := by
  refine (dats m 0 c).arrAt_eq_of_covers 7 _ (by decide +kernel) fun t hf y => ?_
  show (dats m 0 c).after 7 t ((cfg0.win 7).xinj (grid0.coords t) y) = _
  rw [after0_7]
  frame_out
  rfl

theorem frame : Cert.quiescent_Kernel11 := fun m ρ _ => Cert.Kernel11.Gen.frame m ρ
theorem frameIdeal : Cert.quiescent_Kernel11Ideal := fun m ρ _ => Cert.Kernel11Ideal.Gen.frame m ρ
theorem frameRef : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

theorem value : Cert.algebraic_Kernel11Ideal_Reference11Ideal := by
  intro m g m' g' _ hag
  refine ⟨_, _, _, _, Cert.Kernel11Ideal.Value.run_blocks (F := Ideal) m g, ?_⟩
  refine (θ_run Cert.Reference11Ideal.defs _ _).mono (fun r h c => ?_) (Cert.Reference11Ideal.Value.run (F := Ideal) m' g')
  obtain ⟨a0, a1, a2, a3⟩ := hag c
  obtain ⟨h0, h1, h2, h3, hr⟩ := h c
  rw [a1] at h0
  rw [a0, a1, a2, a3] at h1
  rw [a1, a2] at h2
  rw [a1, a3] at h3
  exact ⟨h0.trans (final_4 m c).symm, h1.trans (final_5 m c).symm, h2.trans (final_6 m c).symm, h3.trans (final_7 m c).symm, hr⟩

end Cert.Step.Conv

end
-- ==== Proof.Step.Norms.lean ====
/- The optimiser's step of a norm's weight: frames, and kernel and reference compute the same. -/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.Dh.Opt

@[expose] public section

set_option maxRecDepth 16384

noncomputable section

namespace Cert.Step.Norms

open Cert.Kernel12Ideal Cert.Kernel12Ideal.Gen Cert.Dh
open Idealize.ShloMosaic Idealize.ShloMosaic.TcCoe Idealize.SL.Sem

variable (m : (ℓ : Loc nD τ sig) → Buf (Elt Ideal) ℓ)

/-- The weight, its gradient and its two moments. -/
abbrev w (c : Dev nD) : S1x4096.Idx → EReal := m ((c : Thread nD τ).loc main_arg0)
abbrev g (c : Dev nD) : S1x4096.Idx → EReal := m ((c : Thread nD τ).loc main_arg1)
abbrev mu (c : Dev nD) : S1x4096.Idx → EReal := m ((c : Thread nD τ).loc main_arg2)
abbrev nu (c : Dev nD) : S1x4096.Idx → EReal := m ((c : Thread nD τ).loc main_arg3)

theorem final_4 (c : Dev nD) : (dats m 0 c).arrAt 4 cfg0.N = g m c := by
  refine (dats m 0 c).arrAt_eq_of_covers 4 _ (by decide +kernel) fun t hf y => ?_
  show (dats m 0 c).after 4 t ((cfg0.win 4).xinj (grid0.coords t) y) = _
  rw [after0_4]
  frame_out
  rfl

theorem final_5 (c : Dev nD) : (dats m 0 c).arrAt 5 cfg0.N = fun i => delta (w m c i) (g m c i) (mu m c i) (nu m c i) := by
  refine (dats m 0 c).arrAt_eq_of_covers 5 _ (by decide +kernel) fun t hf y => ?_
  show (dats m 0 c).after 5 t ((cfg0.win 5).xinj (grid0.coords t) y) = _
  rw [after0_5]
  frame_out
  rfl

theorem final_6 (c : Dev nD) : (dats m 0 c).arrAt 6 cfg0.N = fun i => mom (g m c i) (mu m c i) := by
  refine (dats m 0 c).arrAt_eq_of_covers 6 _ (by decide +kernel) fun t hf y => ?_
  show (dats m 0 c).after 6 t ((cfg0.win 6).xinj (grid0.coords t) y) = _
  rw [after0_6]
  frame_out
  rfl

theorem final_7 (c : Dev nD) : (dats m 0 c).arrAt 7 cfg0.N = fun i => var (g m c i) (nu m c i) := by
  refine (dats m 0 c).arrAt_eq_of_covers 7 _ (by decide +kernel) fun t hf y => ?_
  show (dats m 0 c).after 7 t ((cfg0.win 7).xinj (grid0.coords t) y) = _
  rw [after0_7]
  frame_out
  rfl

theorem frame : Cert.quiescent_Kernel12 := fun m ρ _ => Cert.Kernel12.Gen.frame m ρ
theorem frameIdeal : Cert.quiescent_Kernel12Ideal := fun m ρ _ => Cert.Kernel12Ideal.Gen.frame m ρ
theorem frameRef : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

theorem value : Cert.algebraic_Kernel12Ideal_Reference12Ideal := by
  intro m g m' g' _ hag
  refine ⟨_, _, _, _, Cert.Kernel12Ideal.Value.run_blocks (F := Ideal) m g, ?_⟩
  refine (θ_run Cert.Reference12Ideal.defs _ _).mono (fun r h c => ?_) (Cert.Reference12Ideal.Value.run (F := Ideal) m' g')
  obtain ⟨a0, a1, a2, a3⟩ := hag c
  obtain ⟨h0, h1, h2, h3, hr⟩ := h c
  rw [a1] at h0
  rw [a0, a1, a2, a3] at h1
  rw [a1, a2] at h2
  rw [a1, a3] at h3
  exact ⟨h0.trans (final_4 m c).symm, h1.trans (final_5 m c).symm, h2.trans (final_6 m c).symm, h3.trans (final_7 m c).symm, hr⟩

end Cert.Step.Norms

end
-- ==== Proof.Proj.Body.lean ====
/- The body of the input projection's two remote parts, for any buffers and any carrier of values.

Both calls run the same body at a grid point and differ in their grids and in the blocks a point is handed. It is stated
here once, by its three conditions, with what it leaves at either of the two kinds of point. -/
module

public import proofs.«01_k».proof.Proof.Gen.Kernel13Ideal.Launch
public import proofs.«01_k».proof.Proof.Gen.Kernel13Ideal.Skeleton
public import proofs.«01_k».proof.Proof.Whole
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.Proj

open Cert.Kernel13Ideal (S1024x2048 S2048x1792 S1024x1792 nD τ)
open Cert.Kernel13Ideal.Gen (k0_pay1 k0_pay2 k0_pay3)
open Cert.Kernel13Ideal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {sig : RefSig} {Λ : Labels}

local notation "𝕄" => MT nD τ sig Unit (Elt F) ℕ (UR sig nD τ) ℕ

/-- Under `p` the scratch is set to the product of the two blocks, under `q` the product is added to it, and under `r` it is
    rounded into the output. -/
def body (p q r : Prop) [Decidable p] [Decidable q] [Decidable r] (a4 : Memref sig .tc .vmem S1024x2048 .bf16) (a5 : Memref sig .tc .vmem S2048x1792 .bf16)
    (a7 : Memref sig .tc .vmem S1024x1792 .bf16) (w7 : a7.IsWhole) (a8 : Memref sig .tc .vmem S1024x1792 .f32) : Prog (TpuEff nD τ sig (Elt F) Λ .tc) PUnit := do
  if p then do
    let x : Vec F S1024x2048 .bf16 ← Prog.lift (.load a4 (Rect.unit (s := S1024x2048) ![0, 0] S1024x2048.size inb_S1024x2048_S1024x2048_0_0).toLoadRect (View.loadsAt_vmem h_S1024x2048))
    let y : Vec F S2048x1792 .bf16 ← Prog.lift (.load a5 (Rect.unit (s := S2048x1792) ![0, 0] S2048x1792.size inb_S2048x1792_S2048x1792_0_0).toLoadRect (View.loadsAt_vmem h_S2048x1792))
    let _old : Vec F S1024x1792 .f32 ← Prog.lift (.load a8 (Rect.unit (s := S1024x1792) ![0, 0] S1024x1792.size inb_S1024x1792_S1024x1792_0_0).toLoadRect (View.loadsAt_vmem h_S1024x1792))
    Prog.lift (.store a8 (Rect.unit (s := S1024x1792) ![0, 0] S1024x1792.size inb_S1024x1792_S1024x1792_0_0) (k0_pay1 x y) Finset.univ (View.stores_vmem_bits_univ h_S1024x1792 rfl) (.inl rfl))
    pure ⟨⟩
  else pure ⟨⟩
  if q then do
    let s : Vec F S1024x1792 .f32 ← Prog.lift (.load a8 (Rect.unit (s := S1024x1792) ![0, 0] S1024x1792.size inb_S1024x1792_S1024x1792_0_0).toLoadRect (View.loadsAt_vmem h_S1024x1792))
    let x : Vec F S1024x2048 .bf16 ← Prog.lift (.load a4 (Rect.unit (s := S1024x2048) ![0, 0] S1024x2048.size inb_S1024x2048_S1024x2048_0_0).toLoadRect (View.loadsAt_vmem h_S1024x2048))
    let y : Vec F S2048x1792 .bf16 ← Prog.lift (.load a5 (Rect.unit (s := S2048x1792) ![0, 0] S2048x1792.size inb_S2048x1792_S2048x1792_0_0).toLoadRect (View.loadsAt_vmem h_S2048x1792))
    let _old : Vec F S1024x1792 .f32 ← Prog.lift (.load a8 (Rect.unit (s := S1024x1792) ![0, 0] S1024x1792.size inb_S1024x1792_S1024x1792_0_0).toLoadRect (View.loadsAt_vmem h_S1024x1792))
    Prog.lift (.store a8 (Rect.unit (s := S1024x1792) ![0, 0] S1024x1792.size inb_S1024x1792_S1024x1792_0_0) (k0_pay2 s x y) Finset.univ (View.stores_vmem_bits_univ h_S1024x1792 rfl) (.inl rfl))
    pure ⟨⟩
  else pure ⟨⟩
  if r then do
    let s : Vec F S1024x1792 .f32 ← Prog.lift (.load a8 (Rect.unit (s := S1024x1792) ![0, 0] S1024x1792.size inb_S1024x1792_S1024x1792_0_0).toLoadRect (View.loadsAt_vmem h_S1024x1792))
    let _old : Vec F S1024x1792 .bf16 ← Prog.lift (.load a7 (Rect.unit (s := S1024x1792) ![0, 0] S1024x1792.size inb_S1024x1792_S1024x1792_0_0).toLoadRect (View.loadsAt_vmem h_S1024x1792))
    Prog.lift (.store a7 (Rect.unit (s := S1024x1792) ![0, 0] S1024x1792.size inb_S1024x1792_S1024x1792_0_0) (k0_pay3 s) Finset.univ (View.stores_vmem h_S1024x1792 (w7.storeExact_slice rfl _ packedbf16_S1024x1792_S1024x1792_0_0) (fun _ => rfl)) (.inl rfl))
    pure ⟨⟩
  else pure ⟨⟩
  pure ⟨⟩

variable (D : Defs nD τ sig (Elt F) Λ)

/-- The first half of the summed axis: its product goes to the scratch, the output is left alone. -/
theorem half (c : Dev nD) {p q r : Prop} [Decidable p] [Decidable q] [Decidable r]
    (a4 : Memref sig .tc .vmem S1024x2048 .bf16) (w4 : a4.IsWhole) (a5 : Memref sig .tc .vmem S2048x1792 .bf16) (w5 : a5.IsWhole)
    (a7 : Memref sig .tc .vmem S1024x1792 .bf16) (w7 : a7.IsWhole) (a8 : Memref sig .tc .vmem S1024x1792 .f32) (hp : p) (hq : ¬ q) (hr : ¬ r)
    (x : Vec F S1024x2048 .bf16) (y : Vec F S2048x1792 .bf16) (z : Vec F S1024x1792 .bf16) (E : Set ℕ) (K : PUnit → sProp 𝕄) :
    iprop(owns (c : Thread nD τ) a4 fullShare x ∗ owns (c : Thread nD τ) a5 fullShare y ∗ owns (c : Thread nD τ) a7 fullShare z
        ∗ (∃ d, owns (c : Thread nD τ) a8 fullShare d)
        ∗ (iprop(owns (c : Thread nD τ) a4 fullShare x ∗ owns (c : Thread nD τ) a5 fullShare y ∗ owns (c : Thread nD τ) a7 fullShare z
            ∗ owns (c : Thread nD τ) a8 fullShare (k0_pay1 x y)) -∗ K ⟨⟩))
      ⊢ wp frame (wpE D Variants.none c none) E (body p q r a4 a5 a7 w7 a8) K := by
  unfold body
  unfold owns
  iintro ⟨⟨%f4, %hf4, H4⟩, ⟨%f5, %hf5, H5⟩, ⟨%f7, %hf7, H7⟩, ⟨%d8, %f8, -, H8⟩, Hk⟩
  obtain rfl := w4.eq_unread hf4; obtain rfl := w5.eq_unread hf5; obtain rfl := w7.eq_unread hf7
  sl_exec (disch := first | sl_exact hp | sl_exact hq | sl_exact hr)
  sl_step
  iapply Hk
  isplitl [H4]
  · iexists _; isplitr; · ipureintro; exact w4.read_unread _
    iexact H4
  isplitl [H5]
  · iexists _; isplitr; · ipureintro; exact w5.read_unread _
    iexact H5
  isplitl [H7]
  · iexists _; isplitr; · ipureintro; exact w7.read_unread _
    iexact H7
  · iexists _; isplitr; swap; · iexact H8
    ipureintro
    refine (View.read_writes_full _ _ _ _ _).trans ?_
    simp only [Whole.load, Memref.IsWhole.read_unread]

/-- The second half: its product is added to the scratch, and the sum, rounded, is the output's block. -/
theorem rest (c : Dev nD) {p q r : Prop} [Decidable p] [Decidable q] [Decidable r]
    (a4 : Memref sig .tc .vmem S1024x2048 .bf16) (w4 : a4.IsWhole) (a5 : Memref sig .tc .vmem S2048x1792 .bf16) (w5 : a5.IsWhole)
    (a7 : Memref sig .tc .vmem S1024x1792 .bf16) (w7 : a7.IsWhole) (a8 : Memref sig .tc .vmem S1024x1792 .f32) (w8 : a8.IsWhole) (hp : ¬ p) (hq : q) (hr : r)
    (x : Vec F S1024x2048 .bf16) (y : Vec F S2048x1792 .bf16) (s : Vec F S1024x1792 .f32) (E : Set ℕ) (K : PUnit → sProp 𝕄) :
    iprop(owns (c : Thread nD τ) a4 fullShare x ∗ owns (c : Thread nD τ) a5 fullShare y ∗ (∃ d, owns (c : Thread nD τ) a7 fullShare d)
        ∗ owns (c : Thread nD τ) a8 fullShare s
        ∗ (iprop(owns (c : Thread nD τ) a4 fullShare x ∗ owns (c : Thread nD τ) a5 fullShare y ∗ owns (c : Thread nD τ) a7 fullShare (k0_pay3 (k0_pay2 s x y))
            ∗ (∃ d, owns (c : Thread nD τ) a8 fullShare d)) -∗ K ⟨⟩))
      ⊢ wp frame (wpE D Variants.none c none) E (body p q r a4 a5 a7 w7 a8) K := by
  unfold body
  unfold owns
  iintro ⟨⟨%f4, %hf4, H4⟩, ⟨%f5, %hf5, H5⟩, ⟨%d7, %f7, -, H7⟩, ⟨%f8, %hf8, H8⟩, Hk⟩
  obtain rfl := w4.eq_unread hf4; obtain rfl := w5.eq_unread hf5; obtain rfl := w8.eq_unread hf8
  sl_exec (disch := first | sl_exact hp | sl_exact hq | sl_exact hr)
  sl_step
  iapply Hk
  isplitl [H4]
  · iexists _; isplitr; · ipureintro; exact w4.read_unread _
    iexact H4
  isplitl [H5]
  · iexists _; isplitr; · ipureintro; exact w5.read_unread _
    iexact H5
  isplitl [H7]
  · iexists _; isplitr; swap; · iexact H7
    ipureintro
    refine (View.read_writes_full _ _ _ _ _).trans ?_
    sl_unfold_words
    simp only [Whole.load, Whole.stored, Whole.recov, Memref.IsWhole.read_unread]
  · iexists _; iexists _; isplitr; swap; · iexact H8
    ipureintro
    rfl

/-! The same at a grid point, with what a point holds and does not touch. -/

theorem first_point (c : Dev nD) {p q r : Prop} [Decidable p] [Decidable q] [Decidable r] {α β γ : Type}
    (a4 : Memref sig .tc .vmem S1024x2048 .bf16) (w4 : a4.IsWhole) (a5 : Memref sig .tc .vmem S2048x1792 .bf16) (w5 : a5.IsWhole)
    (a7 : Memref sig .tc .vmem S1024x1792 .bf16) (w7 : a7.IsWhole) (a8 : Memref sig .tc .vmem S1024x1792 .f32) (hp : p) (hq : ¬ q) (hr : ¬ r)
    (x : Vec F S1024x2048 .bf16) (y : Vec F S2048x1792 .bf16) (z : γ → Vec F S1024x1792 .bf16) (G T O : sProp 𝕄) (E : Set ℕ) :
    iprop((((∃ d, owns (c : Thread nD τ) a8 fullShare d) ∗ G) ∗ T) ∗ O ∗ (∃ _ : α, owns (c : Thread nD τ) a4 fullShare x)
        ∗ (∃ _ : β, owns (c : Thread nD τ) a5 fullShare y) ∗ (∃ d : γ, owns (c : Thread nD τ) a7 fullShare (z d)))
      ⊢ wp frame (wpE D Variants.none c none) E (body p q r a4 a5 a7 w7 a8) fun _ =>
        iprop(((owns (c : Thread nD τ) a8 fullShare (k0_pay1 x y) ∗ G) ∗ T) ∗ O ∗ owns (c : Thread nD τ) a4 fullShare x
          ∗ owns (c : Thread nD τ) a5 fullShare y ∗ (∃ d : γ, owns (c : Thread nD τ) a7 fullShare (z d))) := by
  iintro ⟨⟨⟨HS, Hg⟩, HT⟩, Ho, ⟨%d0, H0⟩, ⟨%d1, H1⟩, ⟨%d2, H2⟩⟩
  iapply (half D c a4 w4 a5 w5 a7 w7 a8 hp hq hr x y _ E _)
  isplitl [H0]; · iexact H0
  isplitl [H1]; · iexact H1
  isplitl [H2]; · iexact H2
  isplitl [HS]; · iexact HS
  iintro ⟨H0, H1, H2, HS⟩
  isplitl [HS Hg HT]
  · isplitl [HS Hg]
    · isplitl [HS]; · iexact HS
      iexact Hg
    iexact HT
  isplitl [Ho]; · iexact Ho
  isplitl [H0]; · iexact H0
  isplitl [H1]; · iexact H1
  iexists _; iexact H2

theorem second_point (c : Dev nD) {p q r : Prop} [Decidable p] [Decidable q] [Decidable r] {α β γ : Type}
    (a4 : Memref sig .tc .vmem S1024x2048 .bf16) (w4 : a4.IsWhole) (a5 : Memref sig .tc .vmem S2048x1792 .bf16) (w5 : a5.IsWhole)
    (a7 : Memref sig .tc .vmem S1024x1792 .bf16) (w7 : a7.IsWhole) (a8 : Memref sig .tc .vmem S1024x1792 .f32) (w8 : a8.IsWhole) (hp : ¬ p) (hq : q) (hr : r)
    (x : Vec F S1024x2048 .bf16) (y : Vec F S2048x1792 .bf16) (s : Vec F S1024x1792 .f32) (z : γ → Vec F S1024x1792 .bf16) (G T O : sProp 𝕄) (E : Set ℕ) :
    iprop(((owns (c : Thread nD τ) a8 fullShare s ∗ G) ∗ T) ∗ O ∗ (∃ _ : α, owns (c : Thread nD τ) a4 fullShare x)
        ∗ (∃ _ : β, owns (c : Thread nD τ) a5 fullShare y) ∗ (∃ d : γ, owns (c : Thread nD τ) a7 fullShare (z d)))
      ⊢ wp frame (wpE D Variants.none c none) E (body p q r a4 a5 a7 w7 a8) fun _ =>
        iprop((((∃ d, owns (c : Thread nD τ) a8 fullShare d) ∗ G) ∗ T) ∗ O ∗ owns (c : Thread nD τ) a4 fullShare x
          ∗ owns (c : Thread nD τ) a5 fullShare y ∗ owns (c : Thread nD τ) a7 fullShare (k0_pay3 (k0_pay2 s x y))) := by
  iintro ⟨⟨⟨HS, Hg⟩, HT⟩, Ho, ⟨%d0, H0⟩, ⟨%d1, H1⟩, ⟨%d2, H2⟩⟩
  iapply (rest D c a4 w4 a5 w5 a7 w7 a8 w8 hp hq hr x y s E _)
  isplitl [H0]; · iexact H0
  isplitl [H1]; · iexact H1
  isplitl [H2]; · iexists _; iexact H2
  isplitl [HS]; · iexact HS
  iintro ⟨H0, H1, H2, HS⟩
  isplitl [HS Hg HT]
  · isplitl [HS Hg]
    · isplitl [HS]; · iexact HS
      iexact Hg
    iexact HT
  isplitl [Ho]; · iexact Ho
  isplitl [H0]; · iexact H0
  isplitl [H1]; · iexact H1
  iexact H2

end Cert.Proj

end
-- ==== Proof.Proj.Near.lean ====
/- The run of the near part of the input projection, for any carrier of values.

The array the call writes is cut into column blocks, and which of them a point writes is read from a table of one word. So
where the output is written back is known only once that word is: it is zero here, and the index maps are then plain
functions of the grid point. -/
module

public import proofs.«01_k».proof.Proof.Gen.Kernel13Ideal.Launch
public import proofs.«01_k».proof.Proof.Gen.Kernel13Ideal.Skeleton
public import proofs.«01_k».proof.Proof.Proj.Body
public import Idealize.ShloMosaic.Lib.Affine
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.TableIdle
public import Idealize.ShloMosaic.Lib.Claim

@[expose] public section

set_option maxRecDepth 16384

noncomputable section

namespace Cert.Proj.Near

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory at the call -/

/-- What core `c`'s buffers hold once the host operations before the call are done. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]
  repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh main_chain

/-- The host operations write four buffers, and an argument is none of them. -/
theorem untouched (c : Dev nD) {b : Ref sig .tc} (h0 : b ≠ main_c) (h1 : b ≠ main_v0) (h2 : b ≠ main_v1) (h3 : b ≠ main_v2) :
    V m c b = m ((c : Thread nD τ).loc b) :=
  StableHlo.after_of_forall_not_mem (b := Proc.devRef .tc b) _ _ (List.forall_iff_forall_mem.mp (by
    simp only [List.Forall, StableHlo.nullary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

theorem V_0 (c : Dev nD) : V m c main_arg0 = m ((c : Thread nD τ).loc main_arg0) := untouched m c (by decide) (by decide) (by decide) (by decide)
theorem V_1 (c : Dev nD) : V m c main_arg1 = m ((c : Thread nD τ).loc main_arg1) := untouched m c (by decide) (by decide) (by decide) (by decide)
theorem V_2 (c : Dev nD) : V m c main_arg2 = m ((c : Thread nD τ).loc main_arg2) := untouched m c (by decide) (by decide) (by decide) (by decide)

/-! ## The table, and the index maps at it -/

def tbl : pre0.Contents (Elt F) := fun j => V m (0 : Dev nD) (pre0.ref j)

theorem V_tbl (c : Dev nD) (j : Fin 1) : V m c (pre0.ref j) = tbl m j := by
  obtain rfl : c = 0 := Subsingleton.elim _ _
  rfl

theorem word (c : Dev nD) : (V m c main_v1 : S1.Idx → BitVec 32) = fun _ => 0#32 := by
  unfold V
  after_results_simp
  rfl

theorem tbl_at : (tbl m).at 0 (Rect.unit (s := S1) ![0] S1.size inb_S1_S1_0) numel1_S1 = 0#32 := congrFun (word m 0) _

/-- The weight's row blocks: those of the devices two and one away. -/
abbrev wIx (i : grid0.Coords) : Fin 2 → ℕ := ![(if (i 1).val < 2 then 4 else 2) + (i 2).val, (i 1).val % 2]
/-- The result's column blocks: theirs. -/
abbrev oIx (i : grid0.Coords) : Fin 2 → ℕ := ![(i 0).val, if (i 1).val < 2 then 4 + (i 1).val else (i 1).val]

theorem wIx_eq (i : grid0.Coords) : cc0_transform_1 inb_S1_S1_0 numel1_S1 (tbl m) i = wIx i := by
  unfold cc0_transform_1
  rw [tbl_at]
  revert i
  decide +kernel

theorem oIx_eq (i : grid0.Coords) : cc0_transform_3 inb_S1_S1_0 numel1_S1 (tbl m) i = oIx i := by
  unfold cc0_transform_3
  rw [tbl_at]
  revert i
  decide +kernel

theorem ok : ok0 (F := F) (tbl m) :=
  ⟨fun i => ⟨fun a => by
      rw [wIx_eq]
      exact (by decide +kernel : ∀ (i : grid0.Coords) (a : Fin 2), (wIx i a + 1) * S2048x1792.size a ≤ S16384x3584.size a) i a,
      .inr (Affine.block_words_dvd (of_decide_eq_true rfl) (by decide))⟩,
    fun i => ⟨fun a => by
      rw [oIx_eq]
      exact (by decide +kernel : ∀ (i : grid0.Coords) (a : Fin 2), (oIx i a + 1) * S1024x1792.size a ≤ S4096x14336.size a) i a,
      .inr (Affine.block_words_dvd (of_decide_eq_true rfl) (by decide))⟩⟩

abbrev adm : (pcfg0 (F := F)).Adm := ⟨tbl m, ok m⟩
abbrev pipe : Pipeline.Cfg sig Λ₀ := cfg0 (adm m)

theorem N_eq : (pipe m).N = 32 := N_0

/-- The output is written back after the odd points. -/
theorem flush_iff (t : Fin (pipe m).N) : ((pipe m).win 2).flush t = true ↔ t.val % 2 = 1 := by
  have e : ((pipe m).win 2).flush t = Pipeline.Window.flushOf grid0 true oIx t :=
    congrArg (fun ix => Pipeline.Window.flushOf grid0 true ix t) (funext (oIx_eq m))
  rw [e]
  exact (by decide +kernel : ∀ t : Fin grid0.N, Pipeline.Window.flushOf grid0 true oIx t = true ↔ t.val % 2 = 1) t

/-! ## The body -/

abbrev isFirst (i : grid0.Coords) : Prop := Scalar.cmpi .ne (Scalar.extui (Scalar.cmpi .eq (BitVec.ofNat 32 (i 2).val) 0#32)) 0#32 = 1#1
abbrev isLater (i : grid0.Coords) : Prop := Scalar.cmpi .ne (Scalar.extui (Scalar.cmpi .sgt (BitVec.ofNat 32 (i 2).val) 0#32)) 0#32 = 1#1

theorem isFirst_iff : ∀ t : Fin grid0.N, isFirst (grid0.coords t) ↔ t.val % 2 = 0 := by decide +kernel
theorem isLater_iff : ∀ t : Fin grid0.N, isLater (grid0.coords t) ↔ t.val % 2 = 1 := by decide +kernel
theorem isLast_iff : ∀ t : Fin grid0.N, k0_cond3 (grid0.coords t) = 1#1 ↔ t.val % 2 = 1 := by decide +kernel
theorem idle_even : ∀ t : Fin grid0.N, t.val % 2 = 0 → idle0 2 (grid0.coords t) = true := by decide +kernel
theorem live_odd : ∀ t : Fin grid0.N, t.val % 2 = 1 → idle0 2 (grid0.coords t) = false := by decide +kernel

/-! ## What is held between the points -/

/-- Window `w`'s block at point `t`, of its array as the call finds it. -/
def blk (c : Dev nD) (w : Fin (pipe m).W) (t : Fin (pipe m).N) : (((pipe m).win w).xblock ((pipe m).grid.coords t)).Idx → Elt F ((pipe m).win w).elt :=
  (((pipe m).win w).blk t).view.read (Elt F) (V m c (Pipeline.arrRef spec0 w))

abbrev lhs (c : Dev nD) (t : Fin (pipe m).N) : Vec F S1024x2048 .bf16 := blk m c 0 t
abbrev rhs (c : Dev nD) (t : Fin (pipe m).N) : Vec F S2048x1792 .bf16 := blk m c 1 t

/-- The point before `t`. -/
abbrev prior (t : Fin (pipe m).N) : Fin (pipe m).N := ⟨t.val - 1, Nat.lt_of_le_of_lt (Nat.sub_le _ _) t.isLt⟩

/-- The block the output holds after an odd point. -/
def outAt (c : Dev nD) (t : Fin (pipe m).N) : Vec F S1024x1792 .bf16 :=
  k0_pay3 (k0_pay2 (k0_pay1 (lhs m c (prior m t)) (rhs m c (prior m t))) (lhs m c t) (rhs m c t))

abbrev scM : Memref sig .tc .vmem S1024x1792 .f32 := Memref.whole cc0_scratch0

/-- Before an odd position the scratch holds the product of the first halves; before an even one anything. -/
def Phi (c : Dev nD) (n : Fin ((pipe m).N + 1)) : sProp 𝕄 :=
  if h : n.val % 2 = 1 then
    iprop((owns (c : Thread nD τ) scM fullShare (k0_pay1 (lhs m c ⟨n.val - 1, by omega⟩) (rhs m c ⟨n.val - 1, by omega⟩)) ∗ (∃ r, prngReg c r)) ∗ Pipeline.ΦT pre0 (tbl m) c)
  else iprop(Pipeline.ΦA spec0 c ∗ Pipeline.ΦT pre0 (tbl m) c)

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem Phi_even (c : Dev nD) (n : Fin ((pipe m).N + 1)) (h : n.val % 2 = 0) :
    Phi m c n = iprop(((∃ d, owns (c : Thread nD τ) scM fullShare d) ∗ (∃ r, prngReg c r)) ∗ Pipeline.ΦT pre0 (tbl m) c) :=
  (dif_neg (by omega)).trans (by rw [PhiA_eq])
theorem Phi_odd (c : Dev nD) (n : Fin ((pipe m).N + 1)) (h : n.val % 2 = 1) :
    Phi m c n = iprop((owns (c : Thread nD τ) scM fullShare (k0_pay1 (lhs m c ⟨n.val - 1, by omega⟩) (rhs m c ⟨n.val - 1, by omega⟩)) ∗ (∃ r, prngReg c r)) ∗ Pipeline.ΦT pre0 (tbl m) c) :=
  dif_pos h

def dats (_ : Fin 1) (c : Dev nD) : Dat τ (Elt F) Unit ℕ (UR sig nD τ) ℕ (pipe m) c where
  A w := V m c (Pipeline.arrRef spec0 w)
  after w t := match w with
    | ⟨0, _⟩ => blk m c 0 t
    | ⟨1, _⟩ => blk m c 1 t
    | ⟨2, _⟩ => outAt m c t
  Φ := Phi m c
  q _ := fullShare
  owed _ := 0

theorem A_eq (c : Dev nD) (w : Fin (pipe m).W) : (dats m 0 c).A w = V m c (Pipeline.arrRef spec0 w) := by dsimp only [dats]
theorem after_0 (c : Dev nD) (t : Fin (pipe m).N) : (dats m 0 c).after 0 t = blk m c 0 t := by dsimp only [dats]; try rfl
theorem after_1 (c : Dev nD) (t : Fin (pipe m).N) : (dats m 0 c).after 1 t = blk m c 1 t := by dsimp only [dats]; try rfl
theorem after_2 (c : Dev nD) (t : Fin (pipe m).N) : (dats m 0 c).after 2 t = outAt m c t := by dsimp only [dats]; try rfl

/-- Each operand's staged block is its block of the array, fetched at this point or before. -/
theorem before_0 (c : Dev nD) (t : Fin (pipe m).N) (d) : (dats m 0 c).before 0 t d = blk m c 0 t :=
  ((dats m 0 c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin (pipe m).N) (d) : (dats m 0 c).before 1 t d = blk m c 1 t :=
  ((dats m 0 c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)

/-! ## The body at a point -/

abbrev st0 (t : Fin (pipe m).N) : Memref sig .tc .vmem S1024x2048 .bf16 := spec0_0.stage ((pipe m).slots t 0)
abbrev st1 (t : Fin (pipe m).N) : Memref sig .tc .vmem S2048x1792 .bf16 := spec0_1.stage ((pipe m).slots t 1)
abbrev st2 (t : Fin (pipe m).N) : Memref sig .tc .vmem S1024x1792 .bf16 := spec0_2.stage ((pipe m).slots t 2)

/-- The body as the pipeline calls it at point `t`. -/
abbrev bodyAt (t : Fin (pipe m).N) : Prog (TpuEff nD τ sig (Elt F) Λ₀ .tc) PUnit :=
  cc0_proj_near (grid0.coords t) (Memref.whole main_v1) (Memref.isWhole_whole _) (st0 m t) (hstage0_0 (((pipe m).slots t 0).cast nbuf0_0))
    (st1 m t) (hstage0_1 (((pipe m).slots t 1).cast nbuf0_1)) (Memref.whole main_arg2) (Memref.isWhole_whole _)
    (st2 m t) (hstage0_2 (((pipe m).slots t 2).cast nbuf0_2)) scM (Memref.isWhole_whole _)

theorem bodyAt_eq (t : Fin (pipe m).N) : bodyAt m t = body (isFirst (grid0.coords t)) (isLater (grid0.coords t)) (k0_cond3 (grid0.coords t) = 1#1)
    (st0 m t) (st1 m t) (st2 m t) (hstage0_2 (((pipe m).slots t 2).cast nbuf0_2)) scM := by
  unfold bodyAt
  rw [cc0_proj_near_eq_skeleton]
  rfl

def bodyPre (c : Dev nD) (t : Fin (pipe m).N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d)))

def bodyPost (c : Dev nD) (t : Fin (pipe m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem leaves_0 (c : Dev nD) (t : Fin (pipe m).N) : (dats m 0 c).leavesExact 0 t = owns (c : Thread nD τ) (st0 m t) fullShare (blk m c 0 t) := by
  unfold Dat.leavesExact
  rw [show (pipe m).idle 0 ((pipe m).grid.coords t) = false from rfl, after_0]
  rfl
theorem leaves_1 (c : Dev nD) (t : Fin (pipe m).N) : (dats m 0 c).leavesExact 1 t = owns (c : Thread nD τ) (st1 m t) fullShare (blk m c 1 t) := by
  unfold Dat.leavesExact
  rw [show (pipe m).idle 1 ((pipe m).grid.coords t) = false from rfl, after_1]
  rfl
theorem leaves_even (c : Dev nD) (t : Fin (pipe m).N) (h : t.val % 2 = 0) :
    (dats m 0 c).leavesExact 2 t = iprop(∃ d, owns (c : Thread nD τ) (st2 m t) fullShare ((dats m 0 c).before 2 t d)) :=
  (dats m 0 c).leavesExact_idle 2 t (idle_even t h) (Bool.eq_false_iff.mpr fun e => by have := (flush_iff m t).mp e; omega)
theorem leaves_odd (c : Dev nD) (t : Fin (pipe m).N) (h : t.val % 2 = 1) :
    (dats m 0 c).leavesExact 2 t = owns (c : Thread nD τ) (st2 m t) fullShare (outAt m c t) := by
  unfold Dat.leavesExact
  rw [show (pipe m).idle 2 ((pipe m).grid.coords t) = false from live_odd t h, after_2]
  rfl

theorem owes_eq (c : Dev nD) (t : Fin (pipe m).N) : (dats m 0 c).owesAt () t.castSucc = (dats m 0 c).owesAt () t.succ := rfl
theorem Phi_eq (c : Dev nD) (n : Fin ((pipe m).N + 1)) : (dats m 0 c).Φ n = Phi m c n := rfl

theorem sound_even (c : Dev nD) (t : Fin (pipe m).N) (h : t.val % 2 = 0) :
    bodyPre m c t ⊢ wp frame (wpE (defs₀ (F := F)) Variants.none c none) Set.univ (bodyAt m t) fun _ => bodyPost m c t := by
  unfold bodyPre bodyPost
  simp only [before_0, before_1]
  rw [bodyAt_eq, Phi_eq, Phi_eq, Phi_even m c t.castSucc h, Phi_odd m c t.succ (by show (t.val + 1) % 2 = 1; omega), leaves_0, leaves_1, leaves_even m c t h]
  exact first_point defs₀ c (st0 m t) (hstage0_0 _) (st1 m t) (hstage0_1 _) (st2 m t) _ scM ((isFirst_iff t).mpr h) (fun e => by have := (isLater_iff t).mp e; omega)
    (fun e => by have := (isLast_iff t).mp e; omega) (blk m c 0 t) (blk m c 1 t) _ _ _ _ Set.univ

theorem sound_odd (c : Dev nD) (t : Fin (pipe m).N) (h : t.val % 2 = 1) :
    bodyPre m c t ⊢ wp frame (wpE (defs₀ (F := F)) Variants.none c none) Set.univ (bodyAt m t) fun _ => bodyPost m c t := by
  unfold bodyPre bodyPost
  simp only [before_0, before_1]
  rw [bodyAt_eq, Phi_eq, Phi_eq, Phi_odd m c t.castSucc h, Phi_even m c t.succ (by show (t.val + 1) % 2 = 0; omega), leaves_0, leaves_1, leaves_odd m c t h]
  exact second_point defs₀ c (st0 m t) (hstage0_0 _) (st1 m t) (hstage0_1 _) (st2 m t) _ scM (Memref.isWhole_whole _) (fun e => by have := (isFirst_iff t).mp e; omega)
    ((isLater_iff t).mpr h) ((isLast_iff t).mpr h) (blk m c 0 t) (blk m c 1 t) _ _ _ _ _ Set.univ

theorem sound (c : Dev nD) (t : Fin (pipe m).N) :
    bodyPre m c t ⊢ wp frame (wpE (defs₀ (F := F)) Variants.none c none) Set.univ (bodyAt m t) fun _ => bodyPost m c t :=
  (Nat.mod_two_eq_zero_or_one t.val).elim (sound_even m c t) (sound_odd m c t)

theorem defs_row (t : Fin (pipe m).N) : defs₀ (F := F) .tc (pipe m).body ((pipe m).bodyArgs t ((pipe m).slots t)) = bodyAt m t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (sound m c t) rfl .rfl fun _ => .rfl

/-! ## The run -/

theorem Phi_in (c : Dev nD) : iprop(Pipeline.ΦA spec0 c ∗ Pipeline.ΦT pre0 (tbl m) c) ⊢ (dats m 0 c).Φ 0 := by
  rw [Phi_eq, Phi_even m c 0 rfl, ← PhiA_eq]

theorem Phi_end (c : Dev nD) : (dats m 0 c).Φ (Fin.last (pipe m).N) ⊢ Pipeline.ΦA spec0 c := by
  rw [Phi_eq, Phi_even m c _ (by rw [Fin.val_last, N_eq]), PhiA_eq]
  iintro ⟨H, -⟩
  iexact H

set_option backward.isDefEq.respectTransparency.types false in
theorem run_quiet : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hpf := V_tbl m)
    (hin := Phi_in m) (hout := Phi_end m)

/-- The arguments end as they began, and every semaphore at zero. -/
theorem unmoved : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c).1 0 |>.trans (((dats m 0 c).arrAt_in 0 rfl _).trans ((A_eq m c 0).trans (V_0 m c))),
      (h.1 c).1 1 |>.trans (((dats m 0 c).arrAt_in 1 rfl _).trans ((A_eq m c 1).trans (V_1 m c))),
      (h.1 c).2 main_arg2 (by decide : main_arg2 ∈ Pipeline.restRefs sig spec0) |>.trans (V_2 m c)⟩, h.2⟩) (run_quiet m ρ)

end Cert.Proj.Near

end
-- ==== Proof.Proj.Product.lean ====
module

public import proofs.«01_k».proof.Proof.Proj.Body
public import proofs.«01_k».proof.Proof.Gen.Reference13Ideal.Run
public import proofs.«01_k».proof.Proof.Gen.Reference14Ideal.Run
public import proofs.«01_k».proof.Proof.Halves
public import Idealize.ShloMosaic.Lib.Pointwise

@[expose] public section

set_option maxRecDepth 16384

noncomputable section

/-! # The input projection, and one block of it

The weight comes as four pieces one below the other, each with the columns of one device; the product has those columns
side by side. -/

namespace Cert.Proj

open Cert.Kernel13Ideal (S1024x2048 S2048x1792 S1024x1792 S4096x4096 S16384x3584 S4096x14336)
open Cert.Kernel13Ideal.Gen (k0_pay1 k0_pay2 k0_pay3)
open Cert.Halves
open Idealize.ShloMosaic Idealize.SL.Sem

/-- Where row `k` of the weight's column `s` lies in the stacked pieces. -/
abbrev wrow (s : Fin 14336) (k : Fin 4096) : Fin 16384 := ⟨s.val / 3584 * 4096 + k.val, by omega⟩
abbrev wcol (s : Fin 14336) : Fin 3584 := ⟨s.val % 3584, Nat.mod_lt _ (by decide)⟩

/-- The product of the activations and the weight. -/
abbrev prod (a : S4096x4096.Idx → EReal) (w : S16384x3584.Idx → EReal) : S4096x14336.Idx → EReal :=
  fun i => ∑ k : Fin 4096, a (ix2 (i 0) k) * w (ix2 (wrow (i 1) k) (wcol (i 1)))

theorem first_apply (a : Vec Ideal S1024x2048 .bf16) (b : Vec Ideal S2048x1792 .bf16) (z : S1024x1792.Idx) :
    k0_pay1 a b z = ∑ q : Fin 2048, a (ix2 (z 0) q) * b (ix2 q (z 1)) := by
  unfold k0_pay1
  pointwise [Cert.Kernel13Ideal.dot_S1024x2048_S2048x1792_S1024x1792_1_0_0_1_n_n]

theorem second_apply (acc : Vec Ideal S1024x1792 .f32) (a : Vec Ideal S1024x2048 .bf16) (b : Vec Ideal S2048x1792 .bf16) (z : S1024x1792.Idx) :
    k0_pay2 acc a b z = acc z + ∑ q : Fin 2048, a (ix2 (z 0) q) * b (ix2 q (z 1)) := by
  unfold k0_pay2
  pointwise [Cert.Kernel13Ideal.dot_S1024x2048_S2048x1792_S1024x1792_1_0_0_1_n_n]

theorem last_apply (acc : Vec Ideal S1024x1792 .f32) (z : S1024x1792.Idx) : k0_pay3 acc z = acc z := by
  unfold k0_pay3
  pointwise []

/-- `x` is half `p` of row block `r` of the activations. -/
abbrev Act (a : S4096x4096.Idx → EReal) (r p : ℕ) (x : Vec Ideal S1024x2048 .bf16) : Prop :=
  ∀ (z : S1024x2048.Idx) (i : S4096x4096.Idx), (i 0).val = r * 1024 + (z 0).val → (i 1).val = p * 2048 + (z 1).val → x z = a i

/-- `y` is half `p` of column block `s` of the weight, two column blocks to a piece. -/
abbrev Wt (w : S16384x3584.Idx → EReal) (s p : ℕ) (y : Vec Ideal S2048x1792 .bf16) : Prop :=
  ∀ (z : S2048x1792.Idx) (i : S16384x3584.Idx), (i 0).val = (s / 2 * 2 + p) * 2048 + (z 0).val → (i 1).val = s % 2 * 1792 + (z 1).val → y z = w i

/-- What the body leaves of the two halves is a block of the product. -/
theorem tile {a : S4096x4096.Idx → EReal} {w : S16384x3584.Idx → EReal} {r s : ℕ} {x x' : Vec Ideal S1024x2048 .bf16} {y y' : Vec Ideal S2048x1792 .bf16}
    (hx : Act a r 0 x) (hy : Wt w s 0 y) (hx' : Act a r 1 x') (hy' : Wt w s 1 y') (z : S1024x1792.Idx) (i : S4096x14336.Idx)
    (h0 : (i 0).val = r * 1024 + (z 0).val) (h1 : (i 1).val = s * 1792 + (z 1).val) :
    k0_pay3 (k0_pay2 (k0_pay1 x y) x' y') z = prod a w i := by
  have z1 : (z 1).val < 1792 := (z 1).isLt
  have m0 := fun q : Fin 2048 => mid_val (by decide : 0 < 2) q
  have m1 := fun q : Fin 2048 => mid_val (by decide : 1 < 2) q
  have row : ∀ p, p < 2 → ∀ q : Fin 2048, (wrow (i 1) (mid p q)).val = (s / 2 * 2 + p) * 2048 + q.val := fun p hp q => by
    show (i 1).val / 3584 * 4096 + (mid p q).val = _
    rw [mid_val hp q]
    omega
  have col : (wcol (i 1)).val = s % 2 * 1792 + (z 1).val := by show (i 1).val % 3584 = _; omega
  refine (last_apply _ z).trans ((second_apply _ _ _ z).trans ((congrArg (· + _) (first_apply _ _ z)).trans ?_))
  exact product (f := fun k => a (ix2 (i 0) k)) (g := fun k => w (ix2 (wrow (i 1) k) (wcol (i 1))))
    (fun q => hx _ _ h0 (m0 q)) (fun q => hy _ _ (row 0 (by decide) q) col) (fun q => hx' _ _ h0 (m1 q)) (fun q => hy' _ _ (row 1 (by decide) q) col)

/-! ## The references -/

/-- The plain product, rounded, is the product. -/
theorem plain_apply (h : FTy.bits .bf16 < FTy.bits .f32) (a : FVec Ideal S4096x4096 .bf16) (w : FVec Ideal S16384x3584 .bf16) (h1 h2 h3) (i : S4096x14336.Idx) :
    truncf (F := Ideal) (φ := .f32) .bf16 (Host.dotGeneral (F := Ideal) (φ₁ := .f32) (φ₂ := .f32) Cert.Reference13Ideal.dot_S4096x4096_S4096x14336_S4096x14336_1_0_0_1_n_n none (extf .f32 a h)
      (extf .f32 (shapeCast S4096x14336 (transpose Cert.Reference13Ideal.S4096x4x3584 [1, 0, 2] (shapeCast Cert.Reference13Ideal.S4x4096x3584 w h1) h2) h3) h)) h i = prod a w i := by
  have i0 : (i 0).val < 4096 := (i 0).isLt
  have i1 : (i 1).val < 14336 := (i 1).isLt
  pointwise [Cert.Reference13Ideal.dot_S4096x4096_S4096x14336_S4096x14336_1_0_0_1_n_n]

theorem same (f : S4096x14336.Idx → EReal) (i : S4096x14336.Idx) (j : Fin 14336) (h : j.val = (i 1).val) : f (ix2 (i 0) j) = f i :=
  congrArg f (funext fun x => match x with
    | ⟨0, _⟩ => rfl
    | ⟨1, _⟩ => Fin.ext h)

/-- The two middle quarters of `q` between the outer ones of `p`. -/
theorem near_apply (p q : FVec Ideal S4096x14336 .bf16) (h1 h2 h3 h4) (i : S4096x14336.Idx) :
    concatenate (α := EReal) S4096x14336 1 [⟨Cert.Reference13Ideal.S4096x3584, extractStridedSlice (α := EReal) Cert.Reference13Ideal.S4096x3584 ![0, 0] p h1⟩,
      ⟨Cert.Reference13Ideal.S4096x7168, extractStridedSlice (α := EReal) Cert.Reference13Ideal.S4096x7168 ![0, 3584] q h2⟩,
      ⟨Cert.Reference13Ideal.S4096x3584, extractStridedSlice (α := EReal) Cert.Reference13Ideal.S4096x3584 ![0, 10752] p h3⟩] h4 i
      = if 3584 ≤ (i 1).val ∧ (i 1).val < 10752 then q i else p i := by
  have i0 : (i 0).val < 4096 := (i 0).isLt
  have i1 : (i 1).val < 14336 := (i 1).isLt
  pointwise []
  by_cases h5 : (i 1).val < 3584
  · exact (dif_pos h5).trans (if_neg (by omega)).symm
  by_cases h6 : (i 1).val - 3584 < 7168
  · refine ((dif_neg h5).trans ((dif_pos h6).trans (same q i _ ?_))).trans (if_pos (by omega)).symm
    dsimp only
    omega
  · refine ((dif_neg h5).trans ((dif_neg h6).trans (same p i _ ?_))).trans (if_neg (by omega)).symm
    dsimp only
    omega

/-- The last quarter of `q` after the first three of `p`. -/
theorem far_apply (p q : FVec Ideal S4096x14336 .bf16) (h1 h2 h3) (i : S4096x14336.Idx) :
    concatenate (α := EReal) S4096x14336 1 [⟨Cert.Reference14Ideal.S4096x10752, extractStridedSlice (α := EReal) Cert.Reference14Ideal.S4096x10752 ![0, 0] p h1⟩,
      ⟨Cert.Reference14Ideal.S4096x3584, extractStridedSlice (α := EReal) Cert.Reference14Ideal.S4096x3584 ![0, 10752] q h2⟩] h3 i
      = if 10752 ≤ (i 1).val then q i else p i := by
  have i0 : (i 0).val < 4096 := (i 0).isLt
  have i1 : (i 1).val < 14336 := (i 1).isLt
  pointwise []
  by_cases h5 : (i 1).val < 10752
  · exact (dif_pos h5).trans (if_neg (by omega)).symm
  · refine ((dif_neg h5).trans (same q i _ ?_)).trans (if_pos (by omega)).symm
    dsimp only
    omega

end Cert.Proj

end
-- ==== Proof.Proj.NearValue.lean ====
/- What the near part of the input projection leaves: the two middle quarters of the product, the rest as it was. -/
module

public import proofs.«01_k».proof.Defs
public import proofs.«01_k».proof.Proof.Proj.Near
public import proofs.«01_k».proof.Proof.Proj.Product
public import proofs.«01_k».proof.Proof.Gen.Kernel13.Launch
public import Idealize.ShloMosaic.Lib.Pipeline.ValueKit

@[expose] public section

set_option maxRecDepth 16384

noncomputable section

namespace Cert.Proj.Near

open Cert.Kernel13Ideal Cert.Kernel13Ideal.Gen
open Idealize.ShloMosaic Idealize.ShloMosaic.TcCoe Idealize.SL.Sem

section Places

variable {F : FTy → Type} [FloatOps F] (m : (ℓ : Loc nD τ sig) → Buf (Elt F) ℓ)

/-- The column block point `t` is about. -/
abbrev cb (t : ℕ) : ℕ := if t / 2 % 4 < 2 then 4 + t / 2 % 4 else t / 2 % 4

theorem block_0 : ∀ t : Fin grid0.N, cc0_transform_0 (grid0.coords t) = ![t.val / 8, t.val % 2] := by decide +kernel
theorem block_1 (t : Fin grid0.N) : cc0_transform_1 inb_S1_S1_0 numel1_S1 (tbl m) (grid0.coords t) = ![cb t.val / 2 * 2 + t.val % 2, cb t.val % 2] :=
  (wIx_eq m _).trans ((by decide +kernel : ∀ t : Fin grid0.N, wIx (grid0.coords t) = ![cb t.val / 2 * 2 + t.val % 2, cb t.val % 2]) t)
theorem block_2 (t : Fin grid0.N) : cc0_transform_3 inb_S1_S1_0 numel1_S1 (tbl m) (grid0.coords t) = ![t.val / 8, cb t.val] :=
  (oIx_eq m _).trans ((by decide +kernel : ∀ t : Fin grid0.N, oIx (grid0.coords t) = ![t.val / 8, cb t.val]) t)

/-! Where a block's positions lie in its array. -/

theorem emb_0 (t : Fin (pipe m).N) (y : S1024x2048.Idx) (x : Fin 2) :
    ((show S4096x4096.Idx from (((pipe m).win 0).blk t).view.emb y) x).val = (![t.val / 8, t.val % 2] : Fin 2 → ℕ) x * S1024x2048.size x + (y x).val :=
  (Pipeline.Window.rect_emb_val ((pipe m).win 0) t y x rfl).trans (congrArg (fun b : Fin 2 → ℕ => b x * S1024x2048.size x + (y x).val) (block_0 t))
theorem emb_1 (t : Fin (pipe m).N) (y : S2048x1792.Idx) (x : Fin 2) :
    ((show S16384x3584.Idx from (((pipe m).win 1).blk t).view.emb y) x).val
      = (![cb t.val / 2 * 2 + t.val % 2, cb t.val % 2] : Fin 2 → ℕ) x * S2048x1792.size x + (y x).val :=
  (Pipeline.Window.rect_emb_val ((pipe m).win 1) t y x rfl).trans (congrArg (fun b : Fin 2 → ℕ => b x * S2048x1792.size x + (y x).val) (block_1 m t))
theorem emb_2 (t : Fin (pipe m).N) (y : S1024x1792.Idx) (x : Fin 2) :
    ((show S4096x14336.Idx from (((pipe m).win 2).blk t).view.emb y) x).val = (![t.val / 8, cb t.val] : Fin 2 → ℕ) x * S1024x1792.size x + (y x).val :=
  (Pipeline.Window.rect_emb_val ((pipe m).win 2) t y x rfl).trans (congrArg (fun b : Fin 2 → ℕ => b x * S1024x1792.size x + (y x).val) (block_2 m t))

/-- The columns of the two middle quarters are those in a block written back. -/
theorem covered (i : S4096x14336.Idx) (hi : 3584 ≤ (i 1).val ∧ (i 1).val < 10752) :
    ∃ t : Fin (pipe m).N, ((pipe m).win 2).flush t = true ∧ i ∈ (((pipe m).win 2).blk t).view.set := by
  have h0 : (i 0).val < 4096 := (i 0).isLt
  obtain ⟨s, hs⟩ : ∃ s, (i 0).val / 1024 * 8 + (if (i 1).val / 1792 < 4 then (i 1).val / 1792 else (i 1).val / 1792 - 4) * 2 + 1 = s := ⟨_, rfl⟩
  have s1 : s / 8 = (i 0).val / 1024 := by split_ifs at hs <;> omega
  have s2 : cb s = (i 1).val / 1792 := by unfold cb; split_ifs at hs ⊢ <;> omega
  have hN : s < (pipe m).N := lt_of_lt_of_eq (by split_ifs at hs <;> omega : s < 32) (N_eq m).symm
  refine ⟨⟨s, hN⟩, (flush_iff m _).mpr (by show s % 2 = 1; omega), ?_⟩
  have e : i = (((pipe m).win 2).blk ⟨s, hN⟩).view.emb (ix2 ⟨(i 0).val % 1024, by omega⟩ ⟨(i 1).val % 1792, by omega⟩ : S1024x1792.Idx) := by
    funext a
    apply Fin.ext
    match a with
    | ⟨0, _⟩ => refine Eq.trans ?_ (emb_2 m ⟨s, hN⟩ _ 0).symm; show (i 0).val = s / 8 * 1024 + (i 0).val % 1024; omega
    | ⟨1, _⟩ => refine Eq.trans ?_ (emb_2 m ⟨s, hN⟩ _ 1).symm; show (i 1).val = cb s * 1792 + (i 1).val % 1792; omega
  rw [e]
  exact View.emb_mem_set _ _

theorem kept (t : Fin (pipe m).N) (i : S4096x14336.Idx) (hi : ¬ (3584 ≤ (i 1).val ∧ (i 1).val < 10752)) : i ∉ (((pipe m).win 2).blk t).view.set := by
  intro hm
  obtain ⟨y, hy⟩ := View.exists_emb_of_mem_set _ hm
  have hy1 : ((show S1024x1792.Idx from y) 1).val < 1792 := ((show S1024x1792.Idx from y) 1).isLt
  have e : (i 1).val = cb t.val * 1792 + ((show S1024x1792.Idx from y) 1).val :=
    (congrArg (fun j : S4096x14336.Idx => (j 1).val) hy.symm).trans (emb_2 m t y 1)
  have : 2 ≤ cb t.val ∧ cb t.val < 6 := by unfold cb; split_ifs <;> omega
  omega

/-- What the array held before is what the third operand's buffer was handed. -/
theorem before (c : Dev nD) : V m c main_v2 = m ((c : Thread nD τ).loc main_arg2) := by
  unfold V
  after_results_simp
  rfl

end Places

variable (m : (ℓ : Loc nD τ sig) → Buf (Elt Ideal) ℓ)

abbrev act (c : Dev nD) : S4096x4096.Idx → EReal := m ((c : Thread nD τ).loc main_arg0)
abbrev wt (c : Dev nD) : S16384x3584.Idx → EReal := m ((c : Thread nD τ).loc main_arg1)
abbrev prev (c : Dev nD) : S4096x14336.Idx → EReal := m ((c : Thread nD τ).loc main_arg2)

theorem in_0 (c : Dev nD) (t : Fin (pipe m).N) {r p : ℕ} (hr : t.val / 8 = r) (hp : t.val % 2 = p) : Act (act m c) r p (lhs m c t) := by
  intro z i h0 h1
  have e : act m c = V m c main_arg0 := (V_0 m c).symm
  rw [e]
  refine congrArg (V m c main_arg0) (funext fun x => Fin.ext ((emb_0 m t z x).trans ?_))
  subst hr hp
  match x with
  | ⟨0, _⟩ => exact h0.symm
  | ⟨1, _⟩ => exact h1.symm

theorem in_1 (c : Dev nD) (t : Fin (pipe m).N) {s p : ℕ} (hs : cb t.val = s) (hp : t.val % 2 = p) : Wt (wt m c) s p (rhs m c t) := by
  intro z i h0 h1
  have e : wt m c = V m c main_arg1 := (V_1 m c).symm
  rw [e]
  refine congrArg (V m c main_arg1) (funext fun x => Fin.ext ((emb_1 m t z x).trans ?_))
  subst hs hp
  match x with
  | ⟨0, _⟩ => exact h0.symm
  | ⟨1, _⟩ => exact h1.symm

/-- What an odd point writes back is its block of the product. -/
theorem block_eq (c : Dev nD) (t : Fin (pipe m).N) (ht : t.val % 2 = 1) (z : S1024x1792.Idx) (i : S4096x14336.Idx)
    (h0 : (i 0).val = t.val / 8 * 1024 + (z 0).val) (h1 : (i 1).val = cb t.val * 1792 + (z 1).val) : outAt m c t z = prod (act m c) (wt m c) i := by
  unfold outAt
  have p0 : (prior m t).val % 2 = 0 := by show (t.val - 1) % 2 = 0; omega
  have p1 : (prior m t).val / 8 = t.val / 8 := by show (t.val - 1) / 8 = _; omega
  have p2 : cb (prior m t).val = cb t.val := by unfold cb; rw [show (prior m t).val / 2 = t.val / 2 by show (t.val - 1) / 2 = _; omega]
  exact tile (in_0 m c _ p1 p0) (in_1 m c _ p2 p0) (in_0 m c t rfl ht) (in_1 m c t rfl ht) z i h0 h1

/-- The result: the two middle quarters the product, the others as before. -/
abbrev whole (c : Dev nD) : S4096x14336.Idx → EReal :=
  fun i => if 3584 ≤ (i 1).val ∧ (i 1).val < 10752 then prod (act m c) (wt m c) i else prev m c i

theorem final (c : Dev nD) : (dats m 0 c).arrAt 2 (pipe m).N = whole m c := by
  funext (i : S4096x14336.Idx)
  by_cases hi : 3584 ≤ (i 1).val ∧ (i 1).val < 10752
  · obtain ⟨t, hf, hm⟩ := covered m i hi
    refine ((dats m 0 c).arrAt_forall_of_flushed 2 (fun (j : S4096x14336.Idx) v => v = prod (act m c) (wt m c) j) (fun t hf y => ?_)
      (pipe m).N t i t.isLt hf hm).trans (if_pos hi).symm
    show (dats m 0 c).after 2 t (((pipe m).win 2).xinj (grid0.coords t) y) = _
    rw [after_2]
    exact block_eq m c t ((flush_iff m t).mp hf) y _ (emb_2 m t y 0) (emb_2 m t y 1)
  · exact ((dats m 0 c).arrAt_apply_of_forall_not_mem 2 _ i fun t _ _ => kept m t i hi).trans
      ((congrFun (before m c) i).trans (if_neg hi).symm)

/-! ## The claims -/

/-- The two programs' body tables are one text. -/
theorem table_eq {F : FTy → Type} [FloatOps F] : Cert.Kernel13.defs₀ (F := F) = Cert.Kernel13Ideal.defs₀ (F := F) := by
  unfold Cert.Kernel13.defs₀ Cert.Kernel13Ideal.defs₀
  refine congrArg Defs.onTc ?_
  funext l a
  match l, a with
  | ⟨0, _⟩, (t, s) => rfl
  | ⟨n + 1, h⟩, _ => exact absurd h (Nat.not_lt.2 (Nat.le_add_left _ _))

theorem defs_eq {F : FTy → Type} [FloatOps F] : Cert.Kernel13.defs (F := F) = Cert.Kernel13Ideal.defs (F := F) := congrArg (Pipeline.defs _) table_eq

theorem frame : Cert.quiescent_Kernel13 := fun m ρ _ => by
  have h := unmoved (F := Bits) m ρ
  rw [← defs_eq] at h
  exact h
theorem frameIdeal : Cert.quiescent_Kernel13Ideal := fun m ρ _ => unmoved (F := Ideal) m ρ
theorem frameRef : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem value : Cert.algebraic_Kernel13Ideal_Reference13Ideal := by
  intro m g m' g' _ hag
  refine ⟨fun c => whole m c, (θ_run Cert.Kernel13Ideal.defs _ _).mono (fun r h c => ⟨((h.1.1 c).1 2).trans (final m c), h.2.1 c⟩)
    (θ_run_and (run_quiet (F := Ideal) m g) (unmoved m g)), ?_⟩
  refine (θ_run Cert.Reference13Ideal.defs _ _).mono (fun r h c => ?_) (Cert.Reference13Ideal.Value.run (F := Ideal) m' g')
  obtain ⟨a0, a1, a2⟩ := hag c
  obtain ⟨h0, hr⟩ := h c
  rw [a0, a1, a2] at h0
  exact ⟨h0.trans (funext fun i => (near_apply _ _ _ _ _ _ i).trans (if_congr Iff.rfl (plain_apply _ _ _ _ _ _ i) rfl)), hr⟩

end Cert.Proj.Near

end
-- ==== Proof.Proj.Far.lean ====
/- The run of the far part of the input projection, for any carrier of values.

It goes as the near part's, over half the points: its blocks are those of the one device three away. What is the same text
is used from there. -/
module

public import proofs.«01_k».proof.Proof.Gen.Kernel14Ideal.Launch
public import proofs.«01_k».proof.Proof.Gen.Kernel14Ideal.Skeleton
public import proofs.«01_k».proof.Proof.Proj.Near
public import Idealize.ShloMosaic.Lib.Affine
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.TableIdle
public import Idealize.ShloMosaic.Lib.Claim

@[expose] public section

set_option maxRecDepth 16384

noncomputable section

namespace Cert.Proj.Far

open Cert.Kernel14Ideal Cert.Kernel14Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory at the call -/

/-- What core `c`'s buffers hold once the host operations before the call are done. -/
abbrev V (c : Dev nD) (b : Ref sig .tc) : Buf (Elt F) ((c : Thread nD τ).loc b) := StableHlo.after hostOps0 (fun b => m (c, b)) b

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub Near.fresh main_chain

theorem V_0 (c : Dev nD) : V m c main_arg0 = m ((c : Thread nD τ).loc main_arg0) := Near.V_0 m c
theorem V_1 (c : Dev nD) : V m c main_arg1 = m ((c : Thread nD τ).loc main_arg1) := Near.V_1 m c
theorem V_2 (c : Dev nD) : V m c main_arg2 = m ((c : Thread nD τ).loc main_arg2) := Near.V_2 m c

/-! ## The table, and the index maps at it -/

def tbl : pre0.Contents (Elt F) := fun j => V m (0 : Dev nD) (pre0.ref j)

theorem V_tbl (c : Dev nD) (j : Fin 1) : V m c (pre0.ref j) = tbl m j := by
  obtain rfl : c = 0 := Subsingleton.elim _ _
  rfl

theorem tbl_at : (tbl m).at 0 (Rect.unit (s := S1) ![0] S1.size inb_S1_S1_0) numel1_S1 = 0#32 := congrFun (Near.word m 0) _

/-- The weight's row blocks: those of the device three away. -/
abbrev wIx (i : grid0.Coords) : Fin 2 → ℕ := ![6 + (i 2).val, (i 1).val]
/-- The result's column blocks: theirs. -/
abbrev oIx (i : grid0.Coords) : Fin 2 → ℕ := ![(i 0).val, 6 + (i 1).val]

theorem wIx_eq (i : grid0.Coords) : cc0_transform_1 inb_S1_S1_0 numel1_S1 (tbl m) i = wIx i := by
  unfold cc0_transform_1
  rw [tbl_at]
  revert i
  decide +kernel

theorem oIx_eq (i : grid0.Coords) : cc0_transform_3 inb_S1_S1_0 numel1_S1 (tbl m) i = oIx i := by
  unfold cc0_transform_3
  rw [tbl_at]
  revert i
  decide +kernel

theorem ok : ok0 (F := F) (tbl m) :=
  ⟨fun i => ⟨fun a => by
      rw [wIx_eq]
      exact (by decide +kernel : ∀ (i : grid0.Coords) (a : Fin 2), (wIx i a + 1) * S2048x1792.size a ≤ S16384x3584.size a) i a,
      .inr (Affine.block_words_dvd (of_decide_eq_true rfl) (by decide))⟩,
    fun i => ⟨fun a => by
      rw [oIx_eq]
      exact (by decide +kernel : ∀ (i : grid0.Coords) (a : Fin 2), (oIx i a + 1) * S1024x1792.size a ≤ S4096x14336.size a) i a,
      .inr (Affine.block_words_dvd (of_decide_eq_true rfl) (by decide))⟩⟩

abbrev adm : (pcfg0 (F := F)).Adm := ⟨tbl m, ok m⟩
abbrev pipe : Pipeline.Cfg sig Λ₀ := cfg0 (adm m)

theorem N_eq : (pipe m).N = 16 := N_0

/-- The output is written back after the odd points. -/
theorem flush_iff (t : Fin (pipe m).N) : ((pipe m).win 2).flush t = true ↔ t.val % 2 = 1 := by
  have e : ((pipe m).win 2).flush t = Pipeline.Window.flushOf grid0 true oIx t :=
    congrArg (fun ix => Pipeline.Window.flushOf grid0 true ix t) (funext (oIx_eq m))
  rw [e]
  exact (by decide +kernel : ∀ t : Fin grid0.N, Pipeline.Window.flushOf grid0 true oIx t = true ↔ t.val % 2 = 1) t

/-! ## The body -/

abbrev isFirst (i : grid0.Coords) : Prop := Scalar.cmpi .ne (Scalar.extui (Scalar.cmpi .eq (BitVec.ofNat 32 (i 2).val) 0#32)) 0#32 = 1#1
abbrev isLater (i : grid0.Coords) : Prop := Scalar.cmpi .ne (Scalar.extui (Scalar.cmpi .sgt (BitVec.ofNat 32 (i 2).val) 0#32)) 0#32 = 1#1

theorem isFirst_iff : ∀ t : Fin grid0.N, isFirst (grid0.coords t) ↔ t.val % 2 = 0 := by decide +kernel
theorem isLater_iff : ∀ t : Fin grid0.N, isLater (grid0.coords t) ↔ t.val % 2 = 1 := by decide +kernel
theorem isLast_iff : ∀ t : Fin grid0.N, k0_cond3 (grid0.coords t) = 1#1 ↔ t.val % 2 = 1 := by decide +kernel
theorem idle_even : ∀ t : Fin grid0.N, t.val % 2 = 0 → idle0 2 (grid0.coords t) = true := by decide +kernel
theorem live_odd : ∀ t : Fin grid0.N, t.val % 2 = 1 → idle0 2 (grid0.coords t) = false := by decide +kernel

/-! ## What is held between the points -/

/-- Window `w`'s block at point `t`, of its array as the call finds it. -/
def blk (c : Dev nD) (w : Fin (pipe m).W) (t : Fin (pipe m).N) : (((pipe m).win w).xblock ((pipe m).grid.coords t)).Idx → Elt F ((pipe m).win w).elt :=
  (((pipe m).win w).blk t).view.read (Elt F) (V m c (Pipeline.arrRef spec0 w))

abbrev lhs (c : Dev nD) (t : Fin (pipe m).N) : Vec F S1024x2048 .bf16 := blk m c 0 t
abbrev rhs (c : Dev nD) (t : Fin (pipe m).N) : Vec F S2048x1792 .bf16 := blk m c 1 t

/-- The point before `t`. -/
abbrev prior (t : Fin (pipe m).N) : Fin (pipe m).N := ⟨t.val - 1, Nat.lt_of_le_of_lt (Nat.sub_le _ _) t.isLt⟩

/-- The block the output holds after an odd point. -/
def outAt (c : Dev nD) (t : Fin (pipe m).N) : Vec F S1024x1792 .bf16 :=
  k0_pay3 (k0_pay2 (k0_pay1 (lhs m c (prior m t)) (rhs m c (prior m t))) (lhs m c t) (rhs m c t))

abbrev scM : Memref sig .tc .vmem S1024x1792 .f32 := Memref.whole cc0_scratch0

/-- Before an odd position the scratch holds the product of the first halves; before an even one anything. -/
def Phi (c : Dev nD) (n : Fin ((pipe m).N + 1)) : sProp 𝕄 :=
  if h : n.val % 2 = 1 then
    iprop((owns (c : Thread nD τ) scM fullShare (k0_pay1 (lhs m c ⟨n.val - 1, by omega⟩) (rhs m c ⟨n.val - 1, by omega⟩)) ∗ (∃ r, prngReg c r)) ∗ Pipeline.ΦT pre0 (tbl m) c)
  else iprop(Pipeline.ΦA spec0 c ∗ Pipeline.ΦT pre0 (tbl m) c)

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem Phi_even (c : Dev nD) (n : Fin ((pipe m).N + 1)) (h : n.val % 2 = 0) :
    Phi m c n = iprop(((∃ d, owns (c : Thread nD τ) scM fullShare d) ∗ (∃ r, prngReg c r)) ∗ Pipeline.ΦT pre0 (tbl m) c) :=
  (dif_neg (by omega)).trans (by rw [PhiA_eq])
theorem Phi_odd (c : Dev nD) (n : Fin ((pipe m).N + 1)) (h : n.val % 2 = 1) :
    Phi m c n = iprop((owns (c : Thread nD τ) scM fullShare (k0_pay1 (lhs m c ⟨n.val - 1, by omega⟩) (rhs m c ⟨n.val - 1, by omega⟩)) ∗ (∃ r, prngReg c r)) ∗ Pipeline.ΦT pre0 (tbl m) c) :=
  dif_pos h

def dats (_ : Fin 1) (c : Dev nD) : Dat τ (Elt F) Unit ℕ (UR sig nD τ) ℕ (pipe m) c where
  A w := V m c (Pipeline.arrRef spec0 w)
  after w t := match w with
    | ⟨0, _⟩ => blk m c 0 t
    | ⟨1, _⟩ => blk m c 1 t
    | ⟨2, _⟩ => outAt m c t
  Φ := Phi m c
  q _ := fullShare
  owed _ := 0

theorem A_eq (c : Dev nD) (w : Fin (pipe m).W) : (dats m 0 c).A w = V m c (Pipeline.arrRef spec0 w) := by dsimp only [dats]
theorem after_0 (c : Dev nD) (t : Fin (pipe m).N) : (dats m 0 c).after 0 t = blk m c 0 t := by dsimp only [dats]; try rfl
theorem after_1 (c : Dev nD) (t : Fin (pipe m).N) : (dats m 0 c).after 1 t = blk m c 1 t := by dsimp only [dats]; try rfl
theorem after_2 (c : Dev nD) (t : Fin (pipe m).N) : (dats m 0 c).after 2 t = outAt m c t := by dsimp only [dats]; try rfl

/-- Each operand's staged block is its block of the array, fetched at this point or before. -/
theorem before_0 (c : Dev nD) (t : Fin (pipe m).N) (d) : (dats m 0 c).before 0 t d = blk m c 0 t :=
  ((dats m 0 c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin (pipe m).N) (d) : (dats m 0 c).before 1 t d = blk m c 1 t :=
  ((dats m 0 c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)

/-! ## The body at a point -/

abbrev st0 (t : Fin (pipe m).N) : Memref sig .tc .vmem S1024x2048 .bf16 := spec0_0.stage ((pipe m).slots t 0)
abbrev st1 (t : Fin (pipe m).N) : Memref sig .tc .vmem S2048x1792 .bf16 := spec0_1.stage ((pipe m).slots t 1)
abbrev st2 (t : Fin (pipe m).N) : Memref sig .tc .vmem S1024x1792 .bf16 := spec0_2.stage ((pipe m).slots t 2)

/-- The body as the pipeline calls it at point `t`. -/
abbrev bodyAt (t : Fin (pipe m).N) : Prog (TpuEff nD τ sig (Elt F) Λ₀ .tc) PUnit :=
  cc0_proj_far (grid0.coords t) (Memref.whole main_v1) (Memref.isWhole_whole _) (st0 m t) (hstage0_0 (((pipe m).slots t 0).cast nbuf0_0))
    (st1 m t) (hstage0_1 (((pipe m).slots t 1).cast nbuf0_1)) (Memref.whole main_arg2) (Memref.isWhole_whole _)
    (st2 m t) (hstage0_2 (((pipe m).slots t 2).cast nbuf0_2)) scM (Memref.isWhole_whole _)

theorem bodyAt_eq (t : Fin (pipe m).N) : bodyAt m t = body (isFirst (grid0.coords t)) (isLater (grid0.coords t)) (k0_cond3 (grid0.coords t) = 1#1)
    (st0 m t) (st1 m t) (st2 m t) (hstage0_2 (((pipe m).slots t 2).cast nbuf0_2)) scM := by
  unfold bodyAt
  rw [cc0_proj_far_eq_skeleton]
  rfl

def bodyPre (c : Dev nD) (t : Fin (pipe m).N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d)))

def bodyPost (c : Dev nD) (t : Fin (pipe m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem leaves_0 (c : Dev nD) (t : Fin (pipe m).N) : (dats m 0 c).leavesExact 0 t = owns (c : Thread nD τ) (st0 m t) fullShare (blk m c 0 t) := by
  unfold Dat.leavesExact
  rw [show (pipe m).idle 0 ((pipe m).grid.coords t) = false from rfl, after_0]
  rfl
theorem leaves_1 (c : Dev nD) (t : Fin (pipe m).N) : (dats m 0 c).leavesExact 1 t = owns (c : Thread nD τ) (st1 m t) fullShare (blk m c 1 t) := by
  unfold Dat.leavesExact
  rw [show (pipe m).idle 1 ((pipe m).grid.coords t) = false from rfl, after_1]
  rfl
theorem leaves_even (c : Dev nD) (t : Fin (pipe m).N) (h : t.val % 2 = 0) :
    (dats m 0 c).leavesExact 2 t = iprop(∃ d, owns (c : Thread nD τ) (st2 m t) fullShare ((dats m 0 c).before 2 t d)) :=
  (dats m 0 c).leavesExact_idle 2 t (idle_even t h) (Bool.eq_false_iff.mpr fun e => by have := (flush_iff m t).mp e; omega)
theorem leaves_odd (c : Dev nD) (t : Fin (pipe m).N) (h : t.val % 2 = 1) :
    (dats m 0 c).leavesExact 2 t = owns (c : Thread nD τ) (st2 m t) fullShare (outAt m c t) := by
  unfold Dat.leavesExact
  rw [show (pipe m).idle 2 ((pipe m).grid.coords t) = false from live_odd t h, after_2]
  rfl

theorem owes_eq (c : Dev nD) (t : Fin (pipe m).N) : (dats m 0 c).owesAt () t.castSucc = (dats m 0 c).owesAt () t.succ := rfl
theorem Phi_eq (c : Dev nD) (n : Fin ((pipe m).N + 1)) : (dats m 0 c).Φ n = Phi m c n := rfl

theorem sound_even (c : Dev nD) (t : Fin (pipe m).N) (h : t.val % 2 = 0) :
    bodyPre m c t ⊢ wp frame (wpE (defs₀ (F := F)) Variants.none c none) Set.univ (bodyAt m t) fun _ => bodyPost m c t := by
  unfold bodyPre bodyPost
  simp only [before_0, before_1]
  rw [bodyAt_eq, Phi_eq, Phi_eq, Phi_even m c t.castSucc h, Phi_odd m c t.succ (by show (t.val + 1) % 2 = 1; omega), leaves_0, leaves_1, leaves_even m c t h]
  exact first_point defs₀ c (st0 m t) (hstage0_0 _) (st1 m t) (hstage0_1 _) (st2 m t) _ scM ((isFirst_iff t).mpr h) (fun e => by have := (isLater_iff t).mp e; omega)
    (fun e => by have := (isLast_iff t).mp e; omega) (blk m c 0 t) (blk m c 1 t) _ _ _ _ Set.univ

theorem sound_odd (c : Dev nD) (t : Fin (pipe m).N) (h : t.val % 2 = 1) :
    bodyPre m c t ⊢ wp frame (wpE (defs₀ (F := F)) Variants.none c none) Set.univ (bodyAt m t) fun _ => bodyPost m c t := by
  unfold bodyPre bodyPost
  simp only [before_0, before_1]
  rw [bodyAt_eq, Phi_eq, Phi_eq, Phi_odd m c t.castSucc h, Phi_even m c t.succ (by show (t.val + 1) % 2 = 0; omega), leaves_0, leaves_1, leaves_odd m c t h]
  exact second_point defs₀ c (st0 m t) (hstage0_0 _) (st1 m t) (hstage0_1 _) (st2 m t) _ scM (Memref.isWhole_whole _) (fun e => by have := (isFirst_iff t).mp e; omega)
    ((isLater_iff t).mpr h) ((isLast_iff t).mpr h) (blk m c 0 t) (blk m c 1 t) _ _ _ _ _ Set.univ

theorem sound (c : Dev nD) (t : Fin (pipe m).N) :
    bodyPre m c t ⊢ wp frame (wpE (defs₀ (F := F)) Variants.none c none) Set.univ (bodyAt m t) fun _ => bodyPost m c t :=
  (Nat.mod_two_eq_zero_or_one t.val).elim (sound_even m c t) (sound_odd m c t)

theorem defs_row (t : Fin (pipe m).N) : defs₀ (F := F) .tc (pipe m).body ((pipe m).bodyArgs t ((pipe m).slots t)) = bodyAt m t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (sound m c t) rfl .rfl fun _ => .rfl

/-! ## The run -/

theorem Phi_in (c : Dev nD) : iprop(Pipeline.ΦA spec0 c ∗ Pipeline.ΦT pre0 (tbl m) c) ⊢ (dats m 0 c).Φ 0 := by
  rw [Phi_eq, Phi_even m c 0 rfl, ← PhiA_eq]

theorem Phi_end (c : Dev nD) : (dats m 0 c).Φ (Fin.last (pipe m).N) ⊢ Pipeline.ΦA spec0 c := by
  rw [Phi_eq, Phi_even m c _ (by rw [Fin.val_last, N_eq]), PhiA_eq]
  iintro ⟨H, -⟩
  iexact H

set_option backward.isDefEq.respectTransparency.types false in
theorem run_quiet : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hpf := V_tbl m)
    (hin := Phi_in m) (hout := Phi_end m)

/-- The arguments end as they began, and every semaphore at zero. -/
theorem unmoved : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c).1 0 |>.trans (((dats m 0 c).arrAt_in 0 rfl _).trans ((A_eq m c 0).trans (V_0 m c))),
      (h.1 c).1 1 |>.trans (((dats m 0 c).arrAt_in 1 rfl _).trans ((A_eq m c 1).trans (V_1 m c))),
      (h.1 c).2 main_arg2 (by decide : main_arg2 ∈ Pipeline.restRefs sig spec0) |>.trans (V_2 m c)⟩, h.2⟩) (run_quiet m ρ)

end Cert.Proj.Far

end
-- ==== Proof.Proj.FarValue.lean ====
/- What the far part of the input projection leaves: the last quarter of the product, the rest as it was. -/
module

public import proofs.«01_k».proof.Defs
public import proofs.«01_k».proof.Proof.Proj.Far
public import proofs.«01_k».proof.Proof.Proj.NearValue
public import proofs.«01_k».proof.Proof.Gen.Kernel14.Launch
public import Idealize.ShloMosaic.Lib.Pipeline.ValueKit

@[expose] public section

set_option maxRecDepth 16384

noncomputable section

namespace Cert.Proj.Far

open Cert.Kernel14Ideal Cert.Kernel14Ideal.Gen
open Idealize.ShloMosaic Idealize.ShloMosaic.TcCoe Idealize.SL.Sem

section Places

variable {F : FTy → Type} [FloatOps F] (m : (ℓ : Loc nD τ sig) → Buf (Elt F) ℓ)

/-- The column block point `t` is about. -/
abbrev cb (t : ℕ) : ℕ := 6 + t / 2 % 2

theorem block_0 : ∀ t : Fin grid0.N, cc0_transform_0 (grid0.coords t) = ![t.val / 4, t.val % 2] := by decide +kernel
theorem block_1 (t : Fin grid0.N) : cc0_transform_1 inb_S1_S1_0 numel1_S1 (tbl m) (grid0.coords t) = ![cb t.val / 2 * 2 + t.val % 2, cb t.val % 2] :=
  (wIx_eq m _).trans ((by decide +kernel : ∀ t : Fin grid0.N, wIx (grid0.coords t) = ![cb t.val / 2 * 2 + t.val % 2, cb t.val % 2]) t)
theorem block_2 (t : Fin grid0.N) : cc0_transform_3 inb_S1_S1_0 numel1_S1 (tbl m) (grid0.coords t) = ![t.val / 4, cb t.val] :=
  (oIx_eq m _).trans ((by decide +kernel : ∀ t : Fin grid0.N, oIx (grid0.coords t) = ![t.val / 4, cb t.val]) t)

/-! Where a block's positions lie in its array. -/

theorem emb_0 (t : Fin (pipe m).N) (y : S1024x2048.Idx) (x : Fin 2) :
    ((show S4096x4096.Idx from (((pipe m).win 0).blk t).view.emb y) x).val = (![t.val / 4, t.val % 2] : Fin 2 → ℕ) x * S1024x2048.size x + (y x).val :=
  (Pipeline.Window.rect_emb_val ((pipe m).win 0) t y x rfl).trans (congrArg (fun b : Fin 2 → ℕ => b x * S1024x2048.size x + (y x).val) (block_0 t))
theorem emb_1 (t : Fin (pipe m).N) (y : S2048x1792.Idx) (x : Fin 2) :
    ((show S16384x3584.Idx from (((pipe m).win 1).blk t).view.emb y) x).val
      = (![cb t.val / 2 * 2 + t.val % 2, cb t.val % 2] : Fin 2 → ℕ) x * S2048x1792.size x + (y x).val :=
  (Pipeline.Window.rect_emb_val ((pipe m).win 1) t y x rfl).trans (congrArg (fun b : Fin 2 → ℕ => b x * S2048x1792.size x + (y x).val) (block_1 m t))
theorem emb_2 (t : Fin (pipe m).N) (y : S1024x1792.Idx) (x : Fin 2) :
    ((show S4096x14336.Idx from (((pipe m).win 2).blk t).view.emb y) x).val = (![t.val / 4, cb t.val] : Fin 2 → ℕ) x * S1024x1792.size x + (y x).val :=
  (Pipeline.Window.rect_emb_val ((pipe m).win 2) t y x rfl).trans (congrArg (fun b : Fin 2 → ℕ => b x * S1024x1792.size x + (y x).val) (block_2 m t))

/-- The columns of the last quarter are those in a block written back. -/
theorem covered (i : S4096x14336.Idx) (hi : 10752 ≤ (i 1).val) :
    ∃ t : Fin (pipe m).N, ((pipe m).win 2).flush t = true ∧ i ∈ (((pipe m).win 2).blk t).view.set := by
  have h0 : (i 0).val < 4096 := (i 0).isLt
  have h1 : (i 1).val < 14336 := (i 1).isLt
  obtain ⟨s, hs⟩ : ∃ s, (i 0).val / 1024 * 4 + ((i 1).val / 1792 - 6) * 2 + 1 = s := ⟨_, rfl⟩
  have s1 : s / 4 = (i 0).val / 1024 := by omega
  have s2 : cb s = (i 1).val / 1792 := by unfold cb; omega
  have hN : s < (pipe m).N := lt_of_lt_of_eq (by omega : s < 16) (N_eq m).symm
  refine ⟨⟨s, hN⟩, (flush_iff m _).mpr (by show s % 2 = 1; omega), ?_⟩
  have e : i = (((pipe m).win 2).blk ⟨s, hN⟩).view.emb (ix2 ⟨(i 0).val % 1024, by omega⟩ ⟨(i 1).val % 1792, by omega⟩ : S1024x1792.Idx) := by
    funext a
    apply Fin.ext
    match a with
    | ⟨0, _⟩ => refine Eq.trans ?_ (emb_2 m ⟨s, hN⟩ _ 0).symm; show (i 0).val = s / 4 * 1024 + (i 0).val % 1024; omega
    | ⟨1, _⟩ => refine Eq.trans ?_ (emb_2 m ⟨s, hN⟩ _ 1).symm; show (i 1).val = cb s * 1792 + (i 1).val % 1792; omega
  rw [e]
  exact View.emb_mem_set _ _

theorem kept (t : Fin (pipe m).N) (i : S4096x14336.Idx) (hi : ¬ (10752 ≤ (i 1).val)) : i ∉ (((pipe m).win 2).blk t).view.set := by
  intro hm
  obtain ⟨y, hy⟩ := View.exists_emb_of_mem_set _ hm
  have hy1 : ((show S1024x1792.Idx from y) 1).val < 1792 := ((show S1024x1792.Idx from y) 1).isLt
  have e : (i 1).val = cb t.val * 1792 + ((show S1024x1792.Idx from y) 1).val :=
    (congrArg (fun j : S4096x14336.Idx => (j 1).val) hy.symm).trans (emb_2 m t y 1)
  have : 6 ≤ cb t.val := Nat.le_add_right _ _
  omega

/-- What the array held before is what the third operand's buffer was handed. -/
theorem before (c : Dev nD) : V m c main_v2 = m ((c : Thread nD τ).loc main_arg2) := Near.before m c

end Places

variable (m : (ℓ : Loc nD τ sig) → Buf (Elt Ideal) ℓ)

abbrev act (c : Dev nD) : S4096x4096.Idx → EReal := m ((c : Thread nD τ).loc main_arg0)
abbrev wt (c : Dev nD) : S16384x3584.Idx → EReal := m ((c : Thread nD τ).loc main_arg1)
abbrev prev (c : Dev nD) : S4096x14336.Idx → EReal := m ((c : Thread nD τ).loc main_arg2)

theorem in_0 (c : Dev nD) (t : Fin (pipe m).N) {r p : ℕ} (hr : t.val / 4 = r) (hp : t.val % 2 = p) : Act (act m c) r p (lhs m c t) := by
  intro z i h0 h1
  have e : act m c = V m c main_arg0 := (V_0 m c).symm
  rw [e]
  refine congrArg (V m c main_arg0) (funext fun x => Fin.ext ((emb_0 m t z x).trans ?_))
  subst hr hp
  match x with
  | ⟨0, _⟩ => exact h0.symm
  | ⟨1, _⟩ => exact h1.symm

theorem in_1 (c : Dev nD) (t : Fin (pipe m).N) {s p : ℕ} (hs : cb t.val = s) (hp : t.val % 2 = p) : Wt (wt m c) s p (rhs m c t) := by
  intro z i h0 h1
  have e : wt m c = V m c main_arg1 := (V_1 m c).symm
  rw [e]
  refine congrArg (V m c main_arg1) (funext fun x => Fin.ext ((emb_1 m t z x).trans ?_))
  subst hs hp
  match x with
  | ⟨0, _⟩ => exact h0.symm
  | ⟨1, _⟩ => exact h1.symm

/-- What an odd point writes back is its block of the product. -/
theorem block_eq (c : Dev nD) (t : Fin (pipe m).N) (ht : t.val % 2 = 1) (z : S1024x1792.Idx) (i : S4096x14336.Idx)
    (h0 : (i 0).val = t.val / 4 * 1024 + (z 0).val) (h1 : (i 1).val = cb t.val * 1792 + (z 1).val) : outAt m c t z = prod (act m c) (wt m c) i := by
  unfold outAt
  have p0 : (prior m t).val % 2 = 0 := by show (t.val - 1) % 2 = 0; omega
  have p1 : (prior m t).val / 4 = t.val / 4 := by show (t.val - 1) / 4 = _; omega
  have p2 : cb (prior m t).val = cb t.val := by unfold cb; rw [show (prior m t).val / 2 = t.val / 2 by show (t.val - 1) / 2 = _; omega]
  exact tile (in_0 m c _ p1 p0) (in_1 m c _ p2 p0) (in_0 m c t rfl ht) (in_1 m c t rfl ht) z i h0 h1

/-- The result: the last quarter the product, the others as before. -/
abbrev whole (c : Dev nD) : S4096x14336.Idx → EReal :=
  fun i => if 10752 ≤ (i 1).val then prod (act m c) (wt m c) i else prev m c i

theorem final (c : Dev nD) : (dats m 0 c).arrAt 2 (pipe m).N = whole m c := by
  funext (i : S4096x14336.Idx)
  by_cases hi : 10752 ≤ (i 1).val
  · obtain ⟨t, hf, hm⟩ := covered m i hi
    refine ((dats m 0 c).arrAt_forall_of_flushed 2 (fun (j : S4096x14336.Idx) v => v = prod (act m c) (wt m c) j) (fun t hf y => ?_)
      (pipe m).N t i t.isLt hf hm).trans (if_pos hi).symm
    show (dats m 0 c).after 2 t (((pipe m).win 2).xinj (grid0.coords t) y) = _
    rw [after_2]
    exact block_eq m c t ((flush_iff m t).mp hf) y _ (emb_2 m t y 0) (emb_2 m t y 1)
  · exact ((dats m 0 c).arrAt_apply_of_forall_not_mem 2 _ i fun t _ _ => kept m t i hi).trans
      ((congrFun (before m c) i).trans (if_neg hi).symm)

/-! ## The claims -/

/-- The two programs' body tables are one text. -/
theorem table_eq {F : FTy → Type} [FloatOps F] : Cert.Kernel14.defs₀ (F := F) = Cert.Kernel14Ideal.defs₀ (F := F) := by
  unfold Cert.Kernel14.defs₀ Cert.Kernel14Ideal.defs₀
  refine congrArg Defs.onTc ?_
  funext l a
  match l, a with
  | ⟨0, _⟩, (t, s) => rfl
  | ⟨n + 1, h⟩, _ => exact absurd h (Nat.not_lt.2 (Nat.le_add_left _ _))

theorem defs_eq {F : FTy → Type} [FloatOps F] : Cert.Kernel14.defs (F := F) = Cert.Kernel14Ideal.defs (F := F) := congrArg (Pipeline.defs _) table_eq

theorem frame : Cert.quiescent_Kernel14 := fun m ρ _ => by
  have h := unmoved (F := Bits) m ρ
  rw [← defs_eq] at h
  exact h
theorem frameIdeal : Cert.quiescent_Kernel14Ideal := fun m ρ _ => unmoved (F := Ideal) m ρ
theorem frameRef : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem value : Cert.algebraic_Kernel14Ideal_Reference14Ideal := by
  intro m g m' g' _ hag
  refine ⟨fun c => whole m c, (θ_run Cert.Kernel14Ideal.defs _ _).mono (fun r h c => ⟨((h.1.1 c).1 2).trans (final m c), h.2.1 c⟩)
    (θ_run_and (run_quiet (F := Ideal) m g) (unmoved m g)), ?_⟩
  refine (θ_run Cert.Reference14Ideal.defs _ _).mono (fun r h c => ?_) (Cert.Reference14Ideal.Value.run (F := Ideal) m' g')
  obtain ⟨a0, a1, a2⟩ := hag c
  obtain ⟨h0, hr⟩ := h c
  rw [a0, a1, a2] at h0
  exact ⟨h0.trans (funext fun i => (far_apply _ _ _ _ _ i).trans (if_congr Iff.rfl (plain_apply _ _ _ _ _ _ i) rfl)), hr⟩

end Cert.Proj.Far

end
-- ==== Proof.Proj.Own.lean ====
/- The run of the own part of the input projection, for any carrier of values.

It goes as the far part's, with two differences: the array it writes is not handed to it, and its own columns are cut out of
that array once the call is done. -/
module

public import proofs.«01_k».proof.Proof.Gen.Kernel15Ideal.Launch
public import proofs.«01_k».proof.Proof.Gen.Kernel15Ideal.Skeleton
public import proofs.«01_k».proof.Proof.Proj.Body
public import Idealize.ShloMosaic.Lib.Affine
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pipeline.TableIdle
public import Idealize.ShloMosaic.Lib.Claim

@[expose] public section

set_option maxRecDepth 16384

noncomputable section

namespace Cert.Proj.Own

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory at the call -/

/-- What core `c`'s buffers hold once the host operations before the call are done. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem fresh : (hostOps0 : List (HloOp τ sig (Elt F))).Forall fun op => op.fresh = ∅ := by
  simp only [List.Forall]
  repeat' constructor

theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] hostOps0_sub fresh main_chain

/-! The one operation after the call reads the array it wrote, and writes a buffer of its own. -/

theorem tail_mem {ops : List (HloOp τ sig (Elt F))} (h : ops ∈ ([hostOps1] : List (List (HloOp τ sig (Elt F))))) {op : HloOp τ sig (Elt F)} (ho : op ∈ ops) :
    op ∈ (hostOps1 : List (HloOp τ sig (Elt F))) := List.mem_singleton.mp h ▸ ho

theorem tail_sub : ∀ ops ∈ ([hostOps1] : List (List (HloOp τ sig (Elt F)))), ∀ op ∈ ops, op.bufs ⊆ Pipeline.tailRefs sig pre0 spec0 := by
  intro ops hops op hop
  have ho := tail_mem hops hop
  refine Pipeline.sub_tailRefs pre0 spec0 op ((List.forall_iff_forall_mem.mp hostOps1_sub) op ho) ?_
  obtain rfl := List.mem_singleton.mp ho
  intro j
  obtain rfl : j = 0 := Subsingleton.elim _ _
  simp only [StableHlo.unary_bufs, Finset.mem_insert, Finset.mem_singleton, not_or]
  and_intros <;> exact StableHlo.devRef_ne_of_ne (by decide)

theorem tail_fresh : ∀ ops ∈ ([hostOps1] : List (List (HloOp τ sig (Elt F)))), ∀ op ∈ ops, op.fresh = ∅ := by
  intro ops hops op hop
  obtain rfl := List.mem_singleton.mp (tail_mem hops hop)
  rfl

theorem tail_keeps : ∀ ops ∈ ([hostOps1] : List (List (HloOp τ sig (Elt F)))), ∀ op ∈ ops, ∀ w, Proc.devRef .tc (Pipeline.arrRef spec0 w) ∉ op.writes := by
  intro ops hops op hop w
  obtain rfl := List.mem_singleton.mp (tail_mem hops hop)
  rw [StableHlo.unary_writes, Finset.mem_singleton]
  exact StableHlo.devRef_ne_of_ne ((by decide : ∀ w, Pipeline.arrRef spec0 w ≠ main_v3) w)

/-- The host operations before it write three buffers, and an argument is none of them. -/
theorem untouched (c : Dev nD) {b : Ref sig .tc} (h0 : b ≠ main_c) (h1 : b ≠ main_v0) (h2 : b ≠ main_v1) :
    V m c b = m ((c : Thread nD τ).loc b) :=
  StableHlo.after_of_forall_not_mem (b := Proc.devRef .tc b) _ _ (List.forall_iff_forall_mem.mp (by
    simp only [List.flatten_cons, List.flatten_nil, List.append_nil, List.cons_append, List.nil_append, List.Forall, StableHlo.nullary_writes, StableHlo.unary_writes, StableHlo.reshape_writes, Finset.mem_singleton]
    exact ⟨StableHlo.devRef_ne_of_ne h0, StableHlo.devRef_ne_of_ne h1, StableHlo.devRef_ne_of_ne h2⟩))

theorem V_0 (c : Dev nD) : V m c main_arg0 = m ((c : Thread nD τ).loc main_arg0) := untouched m c (by decide) (by decide) (by decide)
theorem V_1 (c : Dev nD) : V m c main_arg1 = m ((c : Thread nD τ).loc main_arg1) := untouched m c (by decide) (by decide) (by decide)

/-! ## The table, and the index maps at it -/

def tbl : pre0.Contents (Elt F) := fun j => V m (0 : Dev nD) (pre0.ref j)

theorem V_tbl (c : Dev nD) (j : Fin 1) : V m c (pre0.ref j) = tbl m j := by
  obtain rfl : c = 0 := Subsingleton.elim _ _
  rfl

theorem word (c : Dev nD) : (V m c main_v1 : S1.Idx → BitVec 32) = fun _ => 0#32 := by
  show StableHlo.after hostOps0 (fun b => m (c, b)) (Proc.devRef .tc main_v1) = _
  after_results_simp
  rfl

theorem tbl_at : (tbl m).at 0 (Rect.unit (s := S1) ![0] S1.size inb_S1_S1_0) numel1_S1 = 0#32 := congrFun (word m 0) _

/-- The weight's row blocks: the device's own. -/
abbrev wIx (i : grid0.Coords) : Fin 2 → ℕ := ![(i 2).val, (i 1).val]
/-- The result's column blocks: its own. -/
abbrev oIx (i : grid0.Coords) : Fin 2 → ℕ := ![(i 0).val, (i 1).val]

theorem wIx_eq (i : grid0.Coords) : cc0_transform_1 inb_S1_S1_0 numel1_S1 (tbl m) i = wIx i := by
  unfold cc0_transform_1
  rw [tbl_at]
  revert i
  decide +kernel

theorem oIx_eq (i : grid0.Coords) : cc0_transform_2 inb_S1_S1_0 numel1_S1 (tbl m) i = oIx i := by
  unfold cc0_transform_2
  rw [tbl_at]
  revert i
  decide +kernel

theorem ok : ok0 (F := F) (tbl m) :=
  ⟨fun i => ⟨fun a => by
      rw [wIx_eq]
      exact (by decide +kernel : ∀ (i : grid0.Coords) (a : Fin 2), (wIx i a + 1) * S2048x1792.size a ≤ S16384x3584.size a) i a,
      .inr (Affine.block_words_dvd (of_decide_eq_true rfl) (by decide))⟩,
    fun i => ⟨fun a => by
      rw [oIx_eq]
      exact (by decide +kernel : ∀ (i : grid0.Coords) (a : Fin 2), (oIx i a + 1) * S1024x1792.size a ≤ S4096x14336.size a) i a,
      .inr (Affine.block_words_dvd (of_decide_eq_true rfl) (by decide))⟩⟩

abbrev adm : (pcfg0 (F := F)).Adm := ⟨tbl m, ok m⟩
abbrev pipe : Pipeline.Cfg sig Λ₀ := cfg0 (adm m)

theorem N_eq : (pipe m).N = 16 := N_0

/-- The output is written back after the odd points. -/
theorem flush_iff (t : Fin (pipe m).N) : ((pipe m).win 2).flush t = true ↔ t.val % 2 = 1 := by
  have e : ((pipe m).win 2).flush t = Pipeline.Window.flushOf grid0 true oIx t :=
    congrArg (fun ix => Pipeline.Window.flushOf grid0 true ix t) (funext (oIx_eq m))
  rw [e]
  exact (by decide +kernel : ∀ t : Fin grid0.N, Pipeline.Window.flushOf grid0 true oIx t = true ↔ t.val % 2 = 1) t

/-! ## The body -/

abbrev isFirst (i : grid0.Coords) : Prop := Scalar.cmpi .ne (Scalar.extui (Scalar.cmpi .eq (BitVec.ofNat 32 (i 2).val) 0#32)) 0#32 = 1#1
abbrev isLater (i : grid0.Coords) : Prop := Scalar.cmpi .ne (Scalar.extui (Scalar.cmpi .sgt (BitVec.ofNat 32 (i 2).val) 0#32)) 0#32 = 1#1

theorem isFirst_iff : ∀ t : Fin grid0.N, isFirst (grid0.coords t) ↔ t.val % 2 = 0 := by decide +kernel
theorem isLater_iff : ∀ t : Fin grid0.N, isLater (grid0.coords t) ↔ t.val % 2 = 1 := by decide +kernel
theorem isLast_iff : ∀ t : Fin grid0.N, k0_cond3 (grid0.coords t) = 1#1 ↔ t.val % 2 = 1 := by decide +kernel
theorem idle_even : ∀ t : Fin grid0.N, t.val % 2 = 0 → idle0 2 (grid0.coords t) = true := by decide +kernel
theorem live_odd : ∀ t : Fin grid0.N, t.val % 2 = 1 → idle0 2 (grid0.coords t) = false := by decide +kernel

/-! ## What is held between the points -/

/-- Window `w`'s block at point `t`, of its array as the call finds it. -/
def blk (c : Dev nD) (w : Fin (pipe m).W) (t : Fin (pipe m).N) : (((pipe m).win w).xblock ((pipe m).grid.coords t)).Idx → Elt F ((pipe m).win w).elt :=
  (((pipe m).win w).blk t).view.read (Elt F) (V m c (Pipeline.arrRef spec0 w))

abbrev lhs (c : Dev nD) (t : Fin (pipe m).N) : Vec F S1024x2048 .bf16 := blk m c 0 t
abbrev rhs (c : Dev nD) (t : Fin (pipe m).N) : Vec F S2048x1792 .bf16 := blk m c 1 t

/-- The point before `t`. -/
abbrev prior (t : Fin (pipe m).N) : Fin (pipe m).N := ⟨t.val - 1, Nat.lt_of_le_of_lt (Nat.sub_le _ _) t.isLt⟩

/-- The block the output holds after an odd point. -/
def outAt (c : Dev nD) (t : Fin (pipe m).N) : Vec F S1024x1792 .bf16 :=
  k0_pay3 (k0_pay2 (k0_pay1 (lhs m c (prior m t)) (rhs m c (prior m t))) (lhs m c t) (rhs m c t))

abbrev scM : Memref sig .tc .vmem S1024x1792 .f32 := Memref.whole cc0_scratch0

/-- Before an odd position the scratch holds the product of the first halves; before an even one anything. -/
def Phi (c : Dev nD) (n : Fin ((pipe m).N + 1)) : sProp 𝕄 :=
  if h : n.val % 2 = 1 then
    iprop((owns (c : Thread nD τ) scM fullShare (k0_pay1 (lhs m c ⟨n.val - 1, by omega⟩) (rhs m c ⟨n.val - 1, by omega⟩)) ∗ (∃ r, prngReg c r)) ∗ Pipeline.ΦT pre0 (tbl m) c)
  else iprop(Pipeline.ΦA spec0 c ∗ Pipeline.ΦT pre0 (tbl m) c)

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem Phi_even (c : Dev nD) (n : Fin ((pipe m).N + 1)) (h : n.val % 2 = 0) :
    Phi m c n = iprop(((∃ d, owns (c : Thread nD τ) scM fullShare d) ∗ (∃ r, prngReg c r)) ∗ Pipeline.ΦT pre0 (tbl m) c) :=
  (dif_neg (by omega)).trans (by rw [PhiA_eq])
theorem Phi_odd (c : Dev nD) (n : Fin ((pipe m).N + 1)) (h : n.val % 2 = 1) :
    Phi m c n = iprop((owns (c : Thread nD τ) scM fullShare (k0_pay1 (lhs m c ⟨n.val - 1, by omega⟩) (rhs m c ⟨n.val - 1, by omega⟩)) ∗ (∃ r, prngReg c r)) ∗ Pipeline.ΦT pre0 (tbl m) c) :=
  dif_pos h

def dats (_ : Fin 1) (c : Dev nD) : Dat τ (Elt F) Unit ℕ (UR sig nD τ) ℕ (pipe m) c where
  A w := V m c (Pipeline.arrRef spec0 w)
  after w t := match w with
    | ⟨0, _⟩ => blk m c 0 t
    | ⟨1, _⟩ => blk m c 1 t
    | ⟨2, _⟩ => outAt m c t
  Φ := Phi m c
  q _ := fullShare
  owed _ := 0

theorem A_eq (c : Dev nD) (w : Fin (pipe m).W) : (dats m 0 c).A w = V m c (Pipeline.arrRef spec0 w) := by dsimp only [dats]
theorem after_0 (c : Dev nD) (t : Fin (pipe m).N) : (dats m 0 c).after 0 t = blk m c 0 t := by dsimp only [dats]; try rfl
theorem after_1 (c : Dev nD) (t : Fin (pipe m).N) : (dats m 0 c).after 1 t = blk m c 1 t := by dsimp only [dats]; try rfl
theorem after_2 (c : Dev nD) (t : Fin (pipe m).N) : (dats m 0 c).after 2 t = outAt m c t := by dsimp only [dats]; try rfl

/-- Each operand's staged block is its block of the array, fetched at this point or before. -/
theorem before_0 (c : Dev nD) (t : Fin (pipe m).N) (d) : (dats m 0 c).before 0 t d = blk m c 0 t :=
  ((dats m 0 c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin (pipe m).N) (d) : (dats m 0 c).before 1 t d = blk m c 1 t :=
  ((dats m 0 c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)

/-! ## The body at a point -/

abbrev st0 (t : Fin (pipe m).N) : Memref sig .tc .vmem S1024x2048 .bf16 := spec0_0.stage ((pipe m).slots t 0)
abbrev st1 (t : Fin (pipe m).N) : Memref sig .tc .vmem S2048x1792 .bf16 := spec0_1.stage ((pipe m).slots t 1)
abbrev st2 (t : Fin (pipe m).N) : Memref sig .tc .vmem S1024x1792 .bf16 := spec0_2.stage ((pipe m).slots t 2)

/-- The body as the pipeline calls it at point `t`. -/
abbrev bodyAt (t : Fin (pipe m).N) : Prog (TpuEff nD τ sig (Elt F) Λ₀ .tc) PUnit :=
  cc0_proj_own (grid0.coords t) (Memref.whole main_v1) (Memref.isWhole_whole _) (st0 m t) (hstage0_0 (((pipe m).slots t 0).cast nbuf0_0))
    (st1 m t) (hstage0_1 (((pipe m).slots t 1).cast nbuf0_1))
    (st2 m t) (hstage0_2 (((pipe m).slots t 2).cast nbuf0_2)) scM (Memref.isWhole_whole _)

theorem bodyAt_eq (t : Fin (pipe m).N) : bodyAt m t = body (isFirst (grid0.coords t)) (isLater (grid0.coords t)) (k0_cond3 (grid0.coords t) = 1#1)
    (st0 m t) (st1 m t) (st2 m t) (hstage0_2 (((pipe m).slots t 2).cast nbuf0_2)) scM := by
  unfold bodyAt
  rw [cc0_proj_own_eq_skeleton]
  rfl

def bodyPre (c : Dev nD) (t : Fin (pipe m).N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d)))

def bodyPost (c : Dev nD) (t : Fin (pipe m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem leaves_0 (c : Dev nD) (t : Fin (pipe m).N) : (dats m 0 c).leavesExact 0 t = owns (c : Thread nD τ) (st0 m t) fullShare (blk m c 0 t) := by
  unfold Dat.leavesExact
  rw [show (pipe m).idle 0 ((pipe m).grid.coords t) = false from rfl, after_0]
  rfl
theorem leaves_1 (c : Dev nD) (t : Fin (pipe m).N) : (dats m 0 c).leavesExact 1 t = owns (c : Thread nD τ) (st1 m t) fullShare (blk m c 1 t) := by
  unfold Dat.leavesExact
  rw [show (pipe m).idle 1 ((pipe m).grid.coords t) = false from rfl, after_1]
  rfl
theorem leaves_even (c : Dev nD) (t : Fin (pipe m).N) (h : t.val % 2 = 0) :
    (dats m 0 c).leavesExact 2 t = iprop(∃ d, owns (c : Thread nD τ) (st2 m t) fullShare ((dats m 0 c).before 2 t d)) :=
  (dats m 0 c).leavesExact_idle 2 t (idle_even t h) (Bool.eq_false_iff.mpr fun e => by have := (flush_iff m t).mp e; omega)
theorem leaves_odd (c : Dev nD) (t : Fin (pipe m).N) (h : t.val % 2 = 1) :
    (dats m 0 c).leavesExact 2 t = owns (c : Thread nD τ) (st2 m t) fullShare (outAt m c t) := by
  unfold Dat.leavesExact
  rw [show (pipe m).idle 2 ((pipe m).grid.coords t) = false from live_odd t h, after_2]
  rfl

theorem owes_eq (c : Dev nD) (t : Fin (pipe m).N) : (dats m 0 c).owesAt () t.castSucc = (dats m 0 c).owesAt () t.succ := rfl
theorem Phi_eq (c : Dev nD) (n : Fin ((pipe m).N + 1)) : (dats m 0 c).Φ n = Phi m c n := rfl

theorem sound_even (c : Dev nD) (t : Fin (pipe m).N) (h : t.val % 2 = 0) :
    bodyPre m c t ⊢ wp frame (wpE (defs₀ (F := F)) Variants.none c none) Set.univ (bodyAt m t) fun _ => bodyPost m c t := by
  unfold bodyPre bodyPost
  simp only [before_0, before_1]
  rw [bodyAt_eq, Phi_eq, Phi_eq, Phi_even m c t.castSucc h, Phi_odd m c t.succ (by show (t.val + 1) % 2 = 1; omega), leaves_0, leaves_1, leaves_even m c t h]
  exact first_point defs₀ c (st0 m t) (hstage0_0 _) (st1 m t) (hstage0_1 _) (st2 m t) _ scM ((isFirst_iff t).mpr h) (fun e => by have := (isLater_iff t).mp e; omega)
    (fun e => by have := (isLast_iff t).mp e; omega) (blk m c 0 t) (blk m c 1 t) _ _ _ _ Set.univ

theorem sound_odd (c : Dev nD) (t : Fin (pipe m).N) (h : t.val % 2 = 1) :
    bodyPre m c t ⊢ wp frame (wpE (defs₀ (F := F)) Variants.none c none) Set.univ (bodyAt m t) fun _ => bodyPost m c t := by
  unfold bodyPre bodyPost
  simp only [before_0, before_1]
  rw [bodyAt_eq, Phi_eq, Phi_eq, Phi_odd m c t.castSucc h, Phi_even m c t.succ (by show (t.val + 1) % 2 = 0; omega), leaves_0, leaves_1, leaves_odd m c t h]
  exact second_point defs₀ c (st0 m t) (hstage0_0 _) (st1 m t) (hstage0_1 _) (st2 m t) _ scM (Memref.isWhole_whole _) (fun e => by have := (isFirst_iff t).mp e; omega)
    ((isLater_iff t).mpr h) ((isLast_iff t).mpr h) (blk m c 0 t) (blk m c 1 t) _ _ _ _ _ Set.univ

theorem sound (c : Dev nD) (t : Fin (pipe m).N) :
    bodyPre m c t ⊢ wp frame (wpE (defs₀ (F := F)) Variants.none c none) Set.univ (bodyAt m t) fun _ => bodyPost m c t :=
  (Nat.mod_two_eq_zero_or_one t.val).elim (sound_even m c t) (sound_odd m c t)

theorem defs_row (t : Fin (pipe m).N) : defs₀ (F := F) .tc (pipe m).body ((pipe m).bodyArgs t ((pipe m).slots t)) = bodyAt m t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (sound m c t) rfl .rfl fun _ => .rfl

/-! ## The run -/

theorem Phi_in (c : Dev nD) : iprop(Pipeline.ΦA spec0 c ∗ Pipeline.ΦT pre0 (tbl m) c) ⊢ (dats m 0 c).Φ 0 := by
  rw [Phi_eq, Phi_even m c 0 rfl, ← PhiA_eq]

theorem Phi_end (c : Dev nD) : (dats m 0 c).Φ (Fin.last (pipe m).N) ⊢ Pipeline.ΦA spec0 c := by
  rw [Phi_eq, Phi_even m c _ (by rw [Fin.val_last, N_eq]), PhiA_eq]
  iintro ⟨H, -⟩
  iexact H

/-- What core `c`'s buffers hold at the end. -/
abbrev ends (c : Dev nD) (b : Ref sig .tc) : Buf (Elt F) ((c : Thread nD τ).loc b) :=
  Pipeline.afterTail pcfgs (fun _ => adm m) (dats m) 0 (V0 m) [hostOps1] c b

set_option backward.isDefEq.respectTransparency.types false in
theorem run_quiet : θ_run defs (onTc (τ := τ) (main (F := F))) (s₀ m ρ)
    (fun r => (Pipeline.FramePost (Pipeline.pin pcfgs fun _ => adm m) (dats m) 0 (Pipeline.afterTail pcfgs (fun _ => adm m) (dats m) 0 (V0 m) [hostOps1])) r
      ∧ r.2.sem = fun _ => 0) :=
  Pipeline.θ_run_frameP_around_track (Q' := _) pcfgs (fun _ => adm m) (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hpf := V_tbl m) (hin := Phi_in m) (hout := Phi_end m)

/-- The arguments end as they began, and every semaphore at zero. -/
theorem unmoved : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c).1 0 |>.trans (((dats m 0 c).arrAt_in 0 rfl _).trans ((A_eq m c 0).trans (V_0 m c))),
      (h.1 c).1 1 |>.trans (((dats m 0 c).arrAt_in 1 rfl _).trans ((A_eq m c 1).trans (V_1 m c)))⟩, h.2⟩) (run_quiet m ρ)

end Cert.Proj.Own

end
-- ==== Proof.Proj.OwnValue.lean ====
/- What the own part of the input projection leaves: the first quarter of the product. -/
module

public import proofs.«01_k».proof.Defs
public import proofs.«01_k».proof.Proof.Proj.Own
public import proofs.«01_k».proof.Proof.Proj.Product
public import proofs.«01_k».proof.Proof.Gen.Kernel15.Launch
public import proofs.«01_k».proof.Proof.Gen.Reference15Ideal.Run
public import Idealize.ShloMosaic.Lib.Pipeline.ValueKit

@[expose] public section

set_option maxRecDepth 16384

noncomputable section

namespace Cert.Proj.Own

open Cert.Kernel15Ideal Cert.Kernel15Ideal.Gen
open Idealize.ShloMosaic Idealize.ShloMosaic.TcCoe Idealize.SL.Sem

section Places

variable {F : FTy → Type} [FloatOps F] (m : (ℓ : Loc nD τ sig) → Buf (Elt F) ℓ)

/-- The column block point `t` is about. -/
abbrev cb (t : ℕ) : ℕ := t / 2 % 2

theorem block_0 : ∀ t : Fin grid0.N, cc0_transform_0 (grid0.coords t) = ![t.val / 4, t.val % 2] := by decide +kernel
theorem block_1 (t : Fin grid0.N) : cc0_transform_1 inb_S1_S1_0 numel1_S1 (tbl m) (grid0.coords t) = ![cb t.val / 2 * 2 + t.val % 2, cb t.val % 2] :=
  (wIx_eq m _).trans ((by decide +kernel : ∀ t : Fin grid0.N, wIx (grid0.coords t) = ![cb t.val / 2 * 2 + t.val % 2, cb t.val % 2]) t)
theorem block_2 (t : Fin grid0.N) : cc0_transform_2 inb_S1_S1_0 numel1_S1 (tbl m) (grid0.coords t) = ![t.val / 4, cb t.val] :=
  (oIx_eq m _).trans ((by decide +kernel : ∀ t : Fin grid0.N, oIx (grid0.coords t) = ![t.val / 4, cb t.val]) t)

/-! Where a block's positions lie in its array. -/

theorem emb_0 (t : Fin (pipe m).N) (y : S1024x2048.Idx) (x : Fin 2) :
    ((show S4096x4096.Idx from (((pipe m).win 0).blk t).view.emb y) x).val = (![t.val / 4, t.val % 2] : Fin 2 → ℕ) x * S1024x2048.size x + (y x).val :=
  (Pipeline.Window.rect_emb_val ((pipe m).win 0) t y x rfl).trans (congrArg (fun b : Fin 2 → ℕ => b x * S1024x2048.size x + (y x).val) (block_0 t))
theorem emb_1 (t : Fin (pipe m).N) (y : S2048x1792.Idx) (x : Fin 2) :
    ((show S16384x3584.Idx from (((pipe m).win 1).blk t).view.emb y) x).val
      = (![cb t.val / 2 * 2 + t.val % 2, cb t.val % 2] : Fin 2 → ℕ) x * S2048x1792.size x + (y x).val :=
  (Pipeline.Window.rect_emb_val ((pipe m).win 1) t y x rfl).trans (congrArg (fun b : Fin 2 → ℕ => b x * S2048x1792.size x + (y x).val) (block_1 m t))
theorem emb_2 (t : Fin (pipe m).N) (y : S1024x1792.Idx) (x : Fin 2) :
    ((show S4096x14336.Idx from (((pipe m).win 2).blk t).view.emb y) x).val = (![t.val / 4, cb t.val] : Fin 2 → ℕ) x * S1024x1792.size x + (y x).val :=
  (Pipeline.Window.rect_emb_val ((pipe m).win 2) t y x rfl).trans (congrArg (fun b : Fin 2 → ℕ => b x * S1024x1792.size x + (y x).val) (block_2 m t))

/-- The columns of the first quarter are in a block written back. -/
theorem covered (i : S4096x14336.Idx) (hi : (i 1).val < 3584) :
    ∃ t : Fin (pipe m).N, ((pipe m).win 2).flush t = true ∧ i ∈ (((pipe m).win 2).blk t).view.set := by
  have h0 : (i 0).val < 4096 := (i 0).isLt
  have h1 : (i 1).val < 14336 := (i 1).isLt
  obtain ⟨s, hs⟩ : ∃ s, (i 0).val / 1024 * 4 + (i 1).val / 1792 * 2 + 1 = s := ⟨_, rfl⟩
  have s1 : s / 4 = (i 0).val / 1024 := by omega
  have s2 : cb s = (i 1).val / 1792 := by unfold cb; omega
  have hN : s < (pipe m).N := lt_of_lt_of_eq (by omega : s < 16) (N_eq m).symm
  refine ⟨⟨s, hN⟩, (flush_iff m _).mpr (by show s % 2 = 1; omega), ?_⟩
  have e : i = (((pipe m).win 2).blk ⟨s, hN⟩).view.emb (ix2 ⟨(i 0).val % 1024, by omega⟩ ⟨(i 1).val % 1792, by omega⟩ : S1024x1792.Idx) := by
    funext a
    apply Fin.ext
    match a with
    | ⟨0, _⟩ => refine Eq.trans ?_ (emb_2 m ⟨s, hN⟩ _ 0).symm; show (i 0).val = s / 4 * 1024 + (i 0).val % 1024; omega
    | ⟨1, _⟩ => refine Eq.trans ?_ (emb_2 m ⟨s, hN⟩ _ 1).symm; show (i 1).val = cb s * 1792 + (i 1).val % 1792; omega
  rw [e]
  exact View.emb_mem_set _ _

end Places

variable (m : (ℓ : Loc nD τ sig) → Buf (Elt Ideal) ℓ)

abbrev act (c : Dev nD) : S4096x4096.Idx → EReal := m ((c : Thread nD τ).loc main_arg0)
abbrev wt (c : Dev nD) : S16384x3584.Idx → EReal := m ((c : Thread nD τ).loc main_arg1)

theorem in_0 (c : Dev nD) (t : Fin (pipe m).N) {r p : ℕ} (hr : t.val / 4 = r) (hp : t.val % 2 = p) : Act (act m c) r p (lhs m c t) := by
  intro z i h0 h1
  have e : act m c = V m c main_arg0 := (V_0 m c).symm
  rw [e]
  refine congrArg (V m c main_arg0) (funext fun x => Fin.ext ((emb_0 m t z x).trans ?_))
  subst hr hp
  match x with
  | ⟨0, _⟩ => exact h0.symm
  | ⟨1, _⟩ => exact h1.symm

theorem in_1 (c : Dev nD) (t : Fin (pipe m).N) {s p : ℕ} (hs : cb t.val = s) (hp : t.val % 2 = p) : Wt (wt m c) s p (rhs m c t) := by
  intro z i h0 h1
  have e : wt m c = V m c main_arg1 := (V_1 m c).symm
  rw [e]
  refine congrArg (V m c main_arg1) (funext fun x => Fin.ext ((emb_1 m t z x).trans ?_))
  subst hs hp
  match x with
  | ⟨0, _⟩ => exact h0.symm
  | ⟨1, _⟩ => exact h1.symm

/-- What an odd point writes back is its block of the product. -/
theorem block_eq (c : Dev nD) (t : Fin (pipe m).N) (ht : t.val % 2 = 1) (z : S1024x1792.Idx) (i : S4096x14336.Idx)
    (h0 : (i 0).val = t.val / 4 * 1024 + (z 0).val) (h1 : (i 1).val = cb t.val * 1792 + (z 1).val) : outAt m c t z = prod (act m c) (wt m c) i := by
  unfold outAt
  have p0 : (prior m t).val % 2 = 0 := by show (t.val - 1) % 2 = 0; omega
  have p1 : (prior m t).val / 4 = t.val / 4 := by show (t.val - 1) / 4 = _; omega
  have p2 : cb (prior m t).val = cb t.val := by unfold cb; rw [show (prior m t).val / 2 = t.val / 2 by show (t.val - 1) / 2 = _; omega]
  exact tile (in_0 m c _ p1 p0) (in_1 m c _ p2 p0) (in_0 m c t rfl ht) (in_1 m c t rfl ht) z i h0 h1

/-- Where a position of the first quarter lies in the whole. -/
abbrev place (j : S4096x3584.Idx) : S4096x14336.Idx := ix2 (j 0) ⟨(j 1).val, Nat.lt_trans (j 1).isLt (by decide)⟩

/-- The result: the product's first quarter. -/
abbrev whole (c : Dev nD) : S4096x3584.Idx → EReal := fun j => prod (act m c) (wt m c) (place j)

/-- What the call leaves in the first quarter. -/
theorem written (c : Dev nD) (i : S4096x14336.Idx) (hi : (i 1).val < 3584) :
    ((dats m 0 c).arrAt 2 (pipe m).N : S4096x14336.Idx → EReal) i = prod (act m c) (wt m c) i := by
  obtain ⟨t, hf, hm⟩ := covered m i hi
  refine (dats m 0 c).arrAt_forall_of_flushed 2 (fun (j : S4096x14336.Idx) v => v = prod (act m c) (wt m c) j) (fun t hf y => ?_)
    (pipe m).N t i t.isLt hf hm
  show (dats m 0 c).after 2 t (((pipe m).win 2).xinj (grid0.coords t) y) = _
  rw [after_2]
  exact block_eq m c t ((flush_iff m t).mp hf) y _ (emb_2 m t y 0) (emb_2 m t y 1)

/-- The cut the call, and the plain product, end with. -/
theorem cut_apply (x : S4096x14336.Idx → EReal) (h) (j : S4096x3584.Idx) : extractStridedSlice (α := EReal) S4096x3584 ![0, 0] x h j = x (place j) := by
  have j0 : (j 0).val < 4096 := (j 0).isLt
  have j1 : (j 1).val < 3584 := (j 1).isLt
  pointwise []

theorem final (c : Dev nD) : ends m c main_v3 = whole m c := by
  show StableHlo.after hostOps1 (Pipeline.withArrays spec0 c (V0 m c) fun w => (dats m 0 c).arrAt w (pipe m).N) (Proc.devRef .tc main_v3) = _
  after_results_simp
  rw [Pipeline.withArrays_arr spec0 (by decide) c _ _ 2]
  exact funext fun j => (cut_apply _ _ j).trans (written m c _ (j 1).isLt)

/-! ## The claims -/

/-- The two programs' body tables are one text. -/
theorem table_eq {F : FTy → Type} [FloatOps F] : Cert.Kernel15.defs₀ (F := F) = Cert.Kernel15Ideal.defs₀ (F := F) := by
  unfold Cert.Kernel15.defs₀ Cert.Kernel15Ideal.defs₀
  refine congrArg Defs.onTc ?_
  funext l a
  match l, a with
  | ⟨0, _⟩, (t, s) => rfl
  | ⟨n + 1, h⟩, _ => exact absurd h (Nat.not_lt.2 (Nat.le_add_left _ _))

theorem defs_eq {F : FTy → Type} [FloatOps F] : Cert.Kernel15.defs (F := F) = Cert.Kernel15Ideal.defs (F := F) := congrArg (Pipeline.defs _) table_eq

theorem frame : Cert.quiescent_Kernel15 := fun m ρ _ => by
  have h := unmoved (F := Bits) m ρ
  rw [← defs_eq] at h
  exact h
theorem frameIdeal : Cert.quiescent_Kernel15Ideal := fun m ρ _ => unmoved (F := Ideal) m ρ
theorem frameRef : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem value : Cert.algebraic_Kernel15Ideal_Reference15Ideal := by
  intro m g m' g' _ hag
  refine ⟨fun c => whole m c, (θ_run Cert.Kernel15Ideal.defs _ _).mono (fun r h c => ⟨((h.1.1 c).2 main_v3 (by decide : main_v3 ∈ Pipeline.restRefs sig spec0)).trans (final m c), h.2.1 c⟩)
    (θ_run_and (run_quiet (F := Ideal) m g) (unmoved m g)), ?_⟩
  refine (θ_run Cert.Reference15Ideal.defs _ _).mono (fun r h c => ?_) (Cert.Reference15Ideal.Value.run (F := Ideal) m' g')
  obtain ⟨a0, a1⟩ := hag c
  obtain ⟨h0, hr⟩ := h c
  rw [a0, a1] at h0
  exact ⟨h0.trans (funext fun j => (cut_apply _ _ j).trans (plain_apply _ _ _ _ _ _ (place j))), hr⟩

end Cert.Proj.Own

end
-- ==== Proof.Norm.Math.lean ====
/- The gradient of a root mean square norm of one row, over the extended reals: two ways to write it, which agree for any row.

Where the row has an infinite entry, the inverse root is zero, and so are both; elsewhere it is a positive real number, by
which sums and differences may be multiplied term by term. -/
module

public import Idealize.ShloMosaic.PureOps.Ideal.Laws
public import Idealize.ShloMosaic.Lib.Pointwise
public import proofs.«01_k».proof.Proof.Cross.Math

@[expose] public section

noncomputable section

namespace Cert.Norm

open Idealize.ShloMosaic

/-! ## The constants -/

abbrev width : EReal := Ideal.ofBits .f32 0x45800000#32
abbrev small : EReal := Ideal.ofBits .f32 0x358637BD#32
abbrev minusHalf : EReal := Ideal.ofBits .f32 0xBF000000#32

theorem width_eq : width = ((4096 : ℝ) : EReal) := by
  simp [width, Ideal.ofBits, Ideal.ieee, -EReal.coe_mul]; norm_num
theorem minusHalf_eq : minusHalf = ((-(1 / 2) : ℝ) : EReal) := by
  simp [minusHalf, Ideal.ofBits, Ideal.ieee, -EReal.coe_mul]; norm_num
theorem small_eq : ∃ e : ℝ, 0 < e ∧ small = (e : EReal) := by
  refine ⟨8796093 * 2 ^ (-43 : ℤ), by positivity, ?_⟩
  simp [small, Ideal.ofBits, Ideal.ieee, -EReal.coe_mul]

/-! ## Sums and real factors -/

/-- A real factor that is not negative comes out of a sum. -/
theorem sum_mul {ι : Type*} (s : Finset ι) (f : ι → EReal) {r : ℝ} (h : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (by exact_mod_cast h) (EReal.coe_ne_top r)]

theorem twice (x : EReal) : x + x = ((2 : ℝ) : EReal) * x := by
  induction x with
  | bot => simp [EReal.coe_mul_bot_of_pos]
  | top => simp [EReal.coe_mul_top_of_pos]
  | coe r => rw [← EReal.coe_add, ← EReal.coe_mul]; congr 1; ring

theorem square_nonneg (x : EReal) : 0 ≤ x * x := by
  induction x with
  | bot => simp
  | top => simp
  | coe r => rw [← EReal.coe_mul]; exact_mod_cast mul_self_nonneg r

/-! ## The norm of a row -/

variable (x d : Fin 4096 → EReal)

/-- The mean of the squares, and a little. -/
def ms : EReal := Ideal.div (∑ k, x k * x k) width + small
/-- The inverse of its root. -/
def inv : EReal := Ideal.rsqrt (ms x)

/-- A row has an infinite entry and its inverse root is zero, or it is real, and the inverse root and the mean are positive. -/
theorem cases_inv : (inv x = 0 ∧ ms x = ⊤) ∨
    (∃ ξ : Fin 4096 → ℝ, ∀ k, x k = (ξ k : EReal)) ∧ ∃ r w : ℝ, 0 < r ∧ r * r * w = 1 ∧ inv x = (r : EReal) ∧ ms x = (w : EReal) := by
  obtain ⟨e, he, hs⟩ := small_eq
  have h0 : ∀ k, 0 ≤ x k * x k := fun k => square_nonneg _
  by_cases ht : ∑ k, x k * x k = ⊤
  · left
    have : ms x = ⊤ := by
      unfold ms
      rw [ht, hs, width_eq, Ideal.div_coe (by norm_num), EReal.top_mul_coe_of_pos (by norm_num), EReal.top_add_coe]
    exact ⟨by unfold inv; rw [this]; rfl, this⟩
  · right
    have real : ∀ k, ∃ r : ℝ, x k = (r : EReal) := fun k => by
      have hk : x k * x k ≠ ⊤ := fun h => ht (top_le_iff.mp (h ▸ Finset.single_le_sum (fun i _ => h0 i) (Finset.mem_univ k)))
      generalize x k = z at hk
      induction z with
      | bot => exact absurd (by simp) hk
      | top => exact absurd (by simp) hk
      | coe r => exact ⟨r, rfl⟩
    choose ξ hξ using real
    have hn : 0 ≤ ∑ k, ξ k * ξ k := Finset.sum_nonneg fun k _ => mul_self_nonneg _
    have hsum : ∑ k, x k * x k = ((∑ k, ξ k * ξ k : ℝ) : EReal) := by
      rw [Cross.coe_sum]
      exact Finset.sum_congr rfl fun k _ => by rw [hξ, EReal.coe_mul]
    have hw : ms x = (((∑ k, ξ k * ξ k) * (1 / 4096) + e : ℝ) : EReal) := by
      unfold ms
      rw [hsum, hs, width_eq, Ideal.div_coe (by norm_num), EReal.coe_add, EReal.coe_mul]
    have pos : 0 < (∑ k, ξ k * ξ k) * (1 / 4096) + e := by positivity
    refine ⟨⟨ξ, hξ⟩, (Real.sqrt ((∑ k, ξ k * ξ k) * (1 / 4096) + e))⁻¹, _, inv_pos.mpr (Real.sqrt_pos.mpr pos), ?_, ?_, hw⟩
    · rw [← mul_inv, Real.mul_self_sqrt pos.le, inv_mul_cancel₀ pos.ne']
    · unfold inv
      rw [hw, Ideal.rsqrt_coe, if_neg pos.le.not_gt, if_neg pos.ne']

/-- The derivative of the inverse root, times what it meets. -/
def slope : EReal := Ideal.div ((∑ k, x k * d k) * (minusHalf * Ideal.div (inv x) (ms x))) width

/-- The gradient with the mean of the products, and with the derivative of the inverse root. -/
theorem grad_eq (j : Fin 4096) :
    inv x * (d j - (x j * inv x) * Ideal.div (∑ k, d k * (x k * inv x)) width) = (d j * inv x + x j * slope x d) + slope x d * x j := by
  unfold slope
  rcases cases_inv x with ⟨h0, hT⟩ | ⟨⟨ξ, hξ⟩, r, w, hr, hrw, hi, hm⟩
  · have e : Ideal.div 0 ⊤ = 0 := by simp [Ideal.div]
    rw [h0, hT, e, width_eq, Ideal.div_coe (by norm_num), Ideal.div_coe (by norm_num)]
    simp
  · have hw : w ≠ 0 := fun h => by rw [h] at hrw; simp at hrw
    have hc : r * (1 / w) = r * r * r := by field_simp; linarith
    have hS : ∑ k, d k * (x k * (r : EReal)) = (∑ k, x k * d k) * (r : EReal) := by
      rw [← sum_mul _ _ hr.le]
      exact Finset.sum_congr rfl fun k _ => by rw [← mul_assoc, mul_comm (d k)]
    rw [hi, hm, hS, width_eq, minusHalf_eq, Ideal.div_coe hw, Ideal.div_coe (by norm_num), Ideal.div_coe (by norm_num), hξ j]
    generalize ∑ k, x k * d k = S
    have e1 : (r : EReal) * (d j - ((ξ j : EReal) * (r : EReal)) * (S * (r : EReal) * ((1 / 4096 : ℝ) : EReal)))
        = d j * (r : EReal) + ((-(ξ j * r * r * r * (1 / 4096)) : ℝ) : EReal) * S := by
      rw [sub_eq_add_neg, EReal.left_distrib_of_nonneg_of_ne_top (by exact_mod_cast hr.le) (EReal.coe_ne_top r), mul_comm (r : EReal) (d j)]
      congr 1
      rw [EReal.coe_neg, neg_mul, mul_neg]
      congr 1
      push_cast
      ac_rfl
    have e2 : S * (((-(1 / 2) : ℝ) : EReal) * ((r : EReal) * ((1 / w : ℝ) : EReal))) * ((1 / 4096 : ℝ) : EReal)
        = ((-(1 / 2) * (r * r * r) * (1 / 4096) : ℝ) : EReal) * S := by
      rw [← EReal.coe_mul r, hc, ← EReal.coe_mul, mul_assoc, ← EReal.coe_mul, mul_comm]
    rw [e1, e2, add_assoc, mul_comm _ (ξ j : EReal), ← mul_assoc, ← EReal.coe_mul, twice, ← mul_assoc, ← EReal.coe_mul]
    congr 3
    ring

end Cert.Norm

end
-- ==== Proof.Norm.PreNorm.lean ====
/- The gradients of the pre-norm: frames, and kernel and reference compute the same. -/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import proofs.«01_k».proof.Proof.Norm.Math
public import proofs.«01_k».proof.Proof.Whole
public import Idealize.ShloMosaic.Lib.Pipeline.ValueKit

@[expose] public section

set_option maxRecDepth 16384

noncomputable section

/-! # The gradients of the pre-norm

A grid point holds 256 whole rows, so a row's gradient is one point's work. The weight's gradient is accumulated over the
points: the first starts it at zero, and each adds its own rows' terms. -/

namespace Cert.Norm

open Cert.Kernel16Ideal Cert.Kernel16Ideal.Gen
open Idealize.ShloMosaic Idealize.ShloMosaic.TcCoe Idealize.SL.Sem

variable (m : (ℓ : Loc nD τ sig) → Buf (Elt Ideal) ℓ)

theorem at_0 (t : Fin cfg0.N) : win0_0.index t = ![t.val, 0] :=
  (by decide +kernel : ∀ t : Fin grid0.N, win0_0.index t = ![t.val, 0]) t
theorem at_1 (t : Fin cfg0.N) : win0_1.index t = ![t.val, 0] :=
  (by decide +kernel : ∀ t : Fin grid0.N, win0_1.index t = ![t.val, 0]) t
theorem at_2 (t : Fin cfg0.N) : win0_2.index t = ![0, 0] :=
  (by decide +kernel : ∀ t : Fin grid0.N, win0_2.index t = ![0, 0]) t
theorem at_3 (t : Fin cfg0.N) : win0_3.index t = ![t.val, 0] :=
  (by decide +kernel : ∀ t : Fin grid0.N, win0_3.index t = ![t.val, 0]) t
theorem at_4 (t : Fin cfg0.N) : win0_4.index t = ![t.val, 0] :=
  (by decide +kernel : ∀ t : Fin grid0.N, win0_4.index t = ![t.val, 0]) t
theorem at_5 (t : Fin cfg0.N) : win0_5.index t = ![0, 0] :=
  (by decide +kernel : ∀ t : Fin grid0.N, win0_5.index t = ![0, 0]) t

/-- The gradient of the normed rows, the rows, the norm's weight, and the residual's gradient. -/
abbrev dh (c : Dev nD) : S4096x4096.Idx → EReal := m ((c : Thread nD τ).loc main_arg0)
abbrev xs (c : Dev nD) : S4096x4096.Idx → EReal := m ((c : Thread nD τ).loc main_arg1)
abbrev wt (c : Dev nD) : S1x4096.Idx → EReal := m ((c : Thread nD τ).loc main_arg2)
abbrev res (c : Dev nD) : S4096x4096.Idx → EReal := m ((c : Thread nD τ).loc main_arg3)

/-- An index of a matrix is its row and its column. -/
theorem split {a b : ℕ} (z : (⟨2, ![a, b]⟩ : Shape).Idx) : ∃ (p : Fin a) (q : Fin b), z = ix2 p q :=
  ⟨z 0, z 1, funext fun d => match d with | ⟨0, _⟩ => rfl | ⟨1, _⟩ => rfl⟩

/-! ## The blocks -/

theorem in_0 (c : Dev nD) (t : Fin cfg0.N) (z : S256x4096.Idx) (i : S4096x4096.Idx)
    (h0 : (i 0).val = t.val * 256 + (z 0).val) (h1 : (i 1).val = (z 1).val) : iblk m c 0 t z = dh m c i := by
  have e : dh m c = V m c main_arg0 := (V_main_arg0 m c).symm
  rw [e]
  blk_ext [iblk, at_0]
theorem in_1 (c : Dev nD) (t : Fin cfg0.N) (z : S256x4096.Idx) (i : S4096x4096.Idx)
    (h0 : (i 0).val = t.val * 256 + (z 0).val) (h1 : (i 1).val = (z 1).val) : iblk m c 1 t z = xs m c i := by
  have e : xs m c = V m c main_arg1 := (V_main_arg1 m c).symm
  rw [e]
  blk_ext [iblk, at_1]
theorem in_2 (c : Dev nD) (t : Fin cfg0.N) (z : S1x4096.Idx) : iblk m c 2 t z = wt m c z := by
  have e : wt m c = V m c main_arg2 := (V_main_arg2 m c).symm
  rw [e]
  blk_ext [iblk, at_2]
theorem in_3 (c : Dev nD) (t : Fin cfg0.N) (z : S256x4096.Idx) (i : S4096x4096.Idx)
    (h0 : (i 0).val = t.val * 256 + (z 0).val) (h1 : (i 1).val = (z 1).val) : iblk m c 3 t z = res m c i := by
  have e : res m c = V m c main_arg3 := (V_main_arg3 m c).symm
  rw [e]
  blk_ext [iblk, at_3]

/-! ## What a point computes -/

theorem root_apply (x : Vec Ideal S256x4096 .f32) (z : S256x1.Idx) : k0_pay4 x z = inv fun k => x (ix2 (z 0) k) := by
  unfold k0_pay4 inv ms
  pointwise

theorem unit_apply (x : Vec Ideal S256x4096 .f32) (z : S256x4096.Idx) : k0_pay5 x z = x z * inv fun k => x (ix2 (z 0) k) := by
  unfold k0_pay5
  pointwise
  rw [root_apply]
  rfl

/-- A row's gradient with the mean of the products, the residual's added. -/
def gradOf (x d : Fin 4096 → EReal) (o : EReal) (j : Fin 4096) : EReal :=
  o + inv x * (d j - (x j * inv x) * Ideal.div (∑ k, d k * (x k * inv x)) width)

theorem grad_apply (a : Vec Ideal S256x4096 .bf16) (x : Vec Ideal S256x4096 .f32) (g : Vec Ideal S1x4096 .f32) (o : Vec Ideal S256x4096 .bf16) (z : S256x4096.Idx) :
    k0_pay1 (k0_pay7 o) (k0_pay8 x a g) (k0_pay9 x) z
      = gradOf (fun k => x (ix2 (z 0) k)) (fun k => a (ix2 (z 0) k) * g (ix2 0 k)) (o z) (z 1) := by
  obtain ⟨p, q, rfl⟩ := split z
  unfold k0_pay1 k0_pay7 k0_pay8 k0_pay9 k0_pay3 gradOf
  pointwise
  simp only [root_apply, unit_apply]
  rfl

theorem weight_apply (a : Vec Ideal S256x4096 .bf16) (x : Vec Ideal S256x4096 .f32) (acc : Vec Ideal S1x4096 .f32) (z : S1x4096.Idx) :
    k0_pay6 x a acc z = acc z + ∑ q : Fin 256, a (ix2 q (z 1)) * (x (ix2 q (z 1)) * inv fun k => x (ix2 q k)) := by
  unfold k0_pay6 k0_pay3
  pointwise
  simp only [unit_apply]
  rfl

theorem first (c : Dev nD) (t : Fin cfg0.N) (h0 : t.val % 16 = 0) :
    outsAt0 m c t.val t.isLt = (k0_pay1 (k0_pay7 (iblk m c 3 t)) (k0_pay8 (iblk m c 1 t) (iblk m c 0 t) (iblk m c 2 t)) (k0_pay9 (iblk m c 1 t)),
      k0_pay6 (iblk m c 1 t) (iblk m c 0 t) (k0_pay2 (F := Ideal))) := by
  rw [outsAt0_A m c t h0]; unfold out0_A_4 out0_A_5 kernelRun0_A; dsimp only; sl_unfold_words
  simp only [Whole.load, Whole.stored, Whole.recov, read_unread_whole, Memref.IsWhole.read_unread]

theorem later (c : Dev nD) (t : Fin cfg0.N) (h0 : ¬t.val % 16 = 0) :
    outsAt0 m c t.val t.isLt = (k0_pay1 (k0_pay7 (iblk m c 3 t)) (k0_pay8 (iblk m c 1 t) (iblk m c 0 t) (iblk m c 2 t)) (k0_pay9 (iblk m c 1 t)),
      k0_pay6 (iblk m c 1 t) (iblk m c 0 t) (outsAt0 m c (t.val - 1) (Nat.lt_of_le_of_lt (Nat.sub_le _ _) t.isLt)).2) := by
  rw [outsAt0_B m c t h0]; unfold out0_B_4 out0_B_5 kernelRun0_B; dsimp only; sl_unfold_words
  simp only [Whole.load, Whole.stored, Whole.recov, read_unread_whole, Memref.IsWhole.read_unread]

/-! ## The results -/

/-- The gradient of the rows at `i`. -/
def gx (c : Dev nD) (i : S4096x4096.Idx) : EReal :=
  gradOf (fun k => xs m c (ix2 (i 0) k)) (fun k => dh m c (ix2 (i 0) k) * wt m c (ix2 0 k)) (res m c i) (i 1)

/-- A row's term of the weight's gradient. -/
def term (c : Dev nD) (j : Fin 4096) (r : Fin 4096) : EReal :=
  dh m c (ix2 r j) * (xs m c (ix2 r j) * inv fun k => xs m c (ix2 r k))

/-- Row `q` of block `p`. -/
abbrev row (p : ℕ) (q : Fin 256) : Fin 4096 := ⟨(p * 256 + q.val) % 4096, Nat.mod_lt _ (by decide)⟩

/-- The terms of block `p`. -/
def block (c : Dev nD) (j : Fin 4096) (p : ℕ) : EReal := ∑ q : Fin 256, term m c j (row p q)

theorem rows_at (c : Dev nD) (t : Fin cfg0.N) (q : Fin 256) (i : Fin 4096) (h : i.val = t.val * 256 + q.val) :
    (fun k => (show S256x4096.Idx → EReal from iblk m c 1 t) (ix2 q k)) = fun k => xs m c (ix2 i k) :=
  funext fun k => in_1 m c t _ _ h rfl

theorem block_eq (c : Dev nD) (t : Fin cfg0.N) (j : Fin 4096) :
    ∑ q : Fin 256, (show S256x4096.Idx → EReal from iblk m c 0 t) (ix2 q j) * ((show S256x4096.Idx → EReal from iblk m c 1 t) (ix2 q j) * inv fun k => (show S256x4096.Idx → EReal from iblk m c 1 t) (ix2 q k))
      = block m c j t.val := by
  refine Finset.sum_congr rfl fun q _ => ?_
  have hq := q.isLt
  have ht : t.val < 16 := lt_of_lt_of_eq t.isLt (show cfg0.N = 16 from N_0)
  have hr : (row t.val q).val = t.val * 256 + q.val := Nat.mod_eq_of_lt (by omega)
  rw [rows_at m c t q _ hr]
  exact congrArg₂ (· * ·) (in_0 m c t _ _ hr rfl) (congrArg (· * _) (in_1 m c t _ _ hr rfl))

/-- The weight's gradient after point `t`: the terms of the blocks up to the point's. -/
theorem acc_at (c : Dev nD) : ∀ (n : ℕ) (t : Fin cfg0.N) (_ : t.val = n) (z : S1x4096.Idx),
    (outsAt0 m c t.val t.isLt).2 z = ∑ p ∈ Finset.range (n + 1), block m c (z 1) p := by
  intro n
  induction n with
  | zero =>
    intro t ht z
    rw [first m c t (by omega)]
    dsimp only
    rw [weight_apply, Finset.sum_range_one, ← ht]
    have e : (k0_pay2 (F := Ideal)) z = 0 := by
      unfold k0_pay2
      pointwise
    rw [e, zero_add]
    exact block_eq m c t (z 1)
  | succ n ih =>
    intro t ht z
    have hN : t.val < 16 := lt_of_lt_of_eq t.isLt (show cfg0.N = 16 from N_0)
    rw [later m c t (by omega)]
    dsimp only
    rw [weight_apply, Finset.sum_range_succ]
    have e := ih ⟨t.val - 1, Nat.lt_of_le_of_lt (Nat.sub_le _ _) t.isLt⟩ (by show t.val - 1 = n; omega) z
    have e' := block_eq m c t (z 1)
    rw [ht] at e'
    exact congrArg₂ (· + ·) e e'

theorem blocks_eq (c : Dev nD) (j : Fin 4096) : ∑ p ∈ Finset.range 16, block m c j p = ∑ r : Fin 4096, term m c j r := by
  rw [Fin.sum_univ_tiles 16 256 (by decide), Finset.sum_range]
  refine Finset.sum_congr rfl fun p _ => Finset.sum_congr rfl fun q _ => ?_
  have hp := p.isLt
  have hq := q.isLt
  have hr : row p.val q = ⟨p.val * 256 + q.val, by omega⟩ := Fin.ext (Nat.mod_eq_of_lt (by omega))
  rw [hr]

theorem grad_at (c : Dev nD) (t : Fin cfg0.N) : (outsAt0 m c t.val t.isLt).1
    = k0_pay1 (k0_pay7 (iblk m c 3 t)) (k0_pay8 (iblk m c 1 t) (iblk m c 0 t) (iblk m c 2 t)) (k0_pay9 (iblk m c 1 t)) := by
  by_cases h0 : t.val % 16 = 0
  · rw [first m c t h0]
  · rw [later m c t h0]

theorem final_4 (c : Dev nD) : (dats m 0 c).arrAt 4 cfg0.N = gx m c := by
  refine (dats m 0 c).arrAt_eq_of_covers 4 _ (by decide +kernel) fun t hf y => ?_
  show (dats m 0 c).after 4 t ((cfg0.win 4).xinj (grid0.coords t) y) = _
  rw [after0_4, grad_at, grad_apply]
  generalize hi : ((cfg0.win 4).blk t).view.emb y = i
  generalize hz : (cfg0.win 4).xinj (grid0.coords t) y = z
  have h0 : (i 0).val = t.val * 256 + (z 0).val := by subst hi hz; blk_simp [at_4]
  have h1 : (i 1).val = (z 1).val := by subst hi hz; blk_simp [at_4]
  show _ = gx m c i
  unfold gx
  have e1 : i 1 = z 1 := Fin.ext h1
  rw [rows_at m c t (z 0) (i 0) h0, e1]
  congr 1
  · funext k
    exact congrArg₂ (· * ·) (in_0 m c t _ _ h0 rfl) (in_2 m c t _)
  · exact in_3 m c t z i h0 h1

theorem final_5 (c : Dev nD) : (dats m 0 c).arrAt 5 cfg0.N = fun i : S1x4096.Idx => ∑ r : Fin 4096, term m c (i 1) r := by
  refine (dats m 0 c).arrAt_eq_of_covers 5 _ (by decide +kernel) fun t hf y => ?_
  show (dats m 0 c).after 5 t ((cfg0.win 5).xinj (grid0.coords t) y) = _
  have ht : t.val = 15 := by
    have hN : t.val < 16 := lt_of_lt_of_eq t.isLt (show cfg0.N = 16 from N_0)
    have := (flush0_5 t).mp hf
    omega
  rw [after0_5]
  generalize hi : ((cfg0.win 5).blk t).view.emb y = i
  generalize hz : (cfg0.win 5).xinj (grid0.coords t) y = z
  have e : (show S1x4096.Idx from i) 1 = (show S1x4096.Idx from z) 1 := Fin.ext (by subst hi hz; blk_simp [at_5])
  exact (acc_at m c 15 t ht z).trans ((blocks_eq m c _).trans (congrArg (fun j => ∑ r : Fin 4096, term m c j r) e.symm))

/-! ## Frames and the value -/

theorem frame : Cert.quiescent_Kernel16 := fun m ρ _ => Cert.Kernel16.Gen.frame m ρ
theorem frameIdeal : Cert.quiescent_Kernel16Ideal := fun m ρ _ => Cert.Kernel16Ideal.Gen.frame m ρ
theorem frameRef : Cert.quiescent_Reference16Ideal := fun m ρ _ =>
  (θ_run Cert.Reference16Ideal.defs _ _).mono (fun r h => ⟨fun c => (h c).2.2, sem_eq_zero_of_no_sems (by decide) r.2⟩)
    (Cert.Reference16Ideal.Value.run (F := Ideal) m ρ)

theorem value : Cert.algebraic_Kernel16Ideal_Reference16Ideal := by
  intro m g m' g' _ hag
  refine ⟨_, _, Cert.Kernel16Ideal.Value.run_blocks (F := Ideal) m g, ?_⟩
  refine (θ_run Cert.Reference16Ideal.defs _ _).mono (fun r h c => ?_) (Cert.Reference16Ideal.Value.run (F := Ideal) m' g')
  obtain ⟨a0, a1, a2, a3⟩ := hag c
  obtain ⟨h0, h1, hr⟩ := h c
  rw [a0, a1, a2, a3] at h0
  rw [a0, a1] at h1
  refine ⟨h0.trans ?_, h1.trans ?_, hr⟩
  · rw [final_4]
    funext i
    pointwise
    simp only [Fin.sum_univ_one]
    obtain ⟨p, q, rfl⟩ := split i
    exact congrArg (res m c (ix2 p q) + ·) (grad_eq (fun k => xs m c (ix2 p k)) (fun k => dh m c (ix2 p k) * wt m c (ix2 0 k)) q).symm
  · rw [final_5]
    funext i
    pointwise
    exact Finset.sum_congr rfl fun r _ => mul_comm _ _

end Cert.Norm

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Frame
public import proofs.«01_k».proof.Proof.Cross.Run
public import proofs.«01_k».proof.Proof.Gen.Pre_finite
public import proofs.«01_k».proof.Proof.Cross.Claim
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.Frames
public import proofs.«01_k».proof.Proof.Dh.Claim
public import proofs.«01_k».proof.Proof.Products
public import proofs.«01_k».proof.Proof.Weights
public import proofs.«01_k».proof.Proof.Gen.Kernel3Ideal
public import proofs.«01_k».proof.Proof.Gen.Kernel3Ideal.Frame
public import proofs.«01_k».proof.Proof.Gen.Kernel4Ideal
public import proofs.«01_k».proof.Proof.Gen.Kernel4Ideal.Frame
public import proofs.«01_k».proof.Proof.Gen.Kernel5Ideal.Frame
public import proofs.«01_k».proof.Proof.Gen.Kernel5Ideal.Value
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.Gen.Reference5Ideal.Run
public import proofs.«01_k».proof.Proof.Gen.Kernel4Ideal.Value
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Kernel6Ideal
public import proofs.«01_k».proof.Proof.Gen.Kernel6Ideal.Frame
public import proofs.«01_k».proof.Proof.Gen.Kernel6
public import proofs.«01_k».proof.Proof.Gen.Kernel6.Frame
public import proofs.«01_k».proof.Proof.Gen.Kernel7Ideal
public import proofs.«01_k».proof.Proof.Gen.Kernel7Ideal.Frame
public import proofs.«01_k».proof.Proof.Gen.Kernel7
public import proofs.«01_k».proof.Proof.Gen.Kernel7.Frame
public import proofs.«01_k».proof.Proof.Gen.Kernel8Ideal
public import proofs.«01_k».proof.Proof.Gen.Kernel8Ideal.Frame
public import proofs.«01_k».proof.Proof.Gen.Kernel8
public import proofs.«01_k».proof.Proof.Gen.Kernel8.Frame
public import proofs.«01_k».proof.Proof.Gen.Reference8Ideal
public import proofs.«01_k».proof.Proof.Gen.Reference8Ideal.Run
public import proofs.«01_k».proof.Proof.Gen.Kernel9Ideal
public import proofs.«01_k».proof.Proof.Gen.Kernel9Ideal.Frame
public import proofs.«01_k».proof.Proof.Gen.Kernel9
public import proofs.«01_k».proof.Proof.Gen.Kernel9.Frame
public import proofs.«01_k».proof.Proof.Gen.Reference9Ideal
public import proofs.«01_k».proof.Proof.Gen.Reference9Ideal.Run
public import proofs.«01_k».proof.Proof.Gen.Reference6Ideal
public import proofs.«01_k».proof.Proof.Gen.Reference6Ideal.Run
public import proofs.«01_k».proof.Proof.Gen.Reference7Ideal
public import proofs.«01_k».proof.Proof.Gen.Reference7Ideal.Run
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Kernel10
public import proofs.«01_k».proof.Proof.Gen.Kernel10.Frame
public import proofs.«01_k».proof.Proof.Gen.Kernel11
public import proofs.«01_k».proof.Proof.Gen.Kernel11.Frame
public import proofs.«01_k».proof.Proof.Gen.Kernel12
public import proofs.«01_k».proof.Proof.Gen.Kernel12.Frame
public import proofs.«01_k».proof.Proof.Gen.Reference10Ideal
public import proofs.«01_k».proof.Proof.Gen.Reference10Ideal.Run
public import proofs.«01_k».proof.Proof.Gen.Reference11Ideal
public import proofs.«01_k».proof.Proof.Gen.Reference11Ideal.Run
public import proofs.«01_k».proof.Proof.Gen.Reference12Ideal
public import proofs.«01_k».proof.Proof.Gen.Reference12Ideal.Run
public import proofs.«01_k».proof.Proof.Step.InputProj
public import proofs.«01_k».proof.Proof.Step.Conv
public import proofs.«01_k».proof.Proof.Step.Norms
public import proofs.«01_k».proof.Proof.Proj.NearValue
public import proofs.«01_k».proof.Proof.Proj.FarValue
public import proofs.«01_k».proof.Proof.Proj.OwnValue
public import proofs.«01_k».proof.Proof.Norm.PreNorm
public import proofs.«01_k».proof.Proof.Gen.Kernel13Ideal
public import proofs.«01_k».proof.Proof.Gen.Kernel13Ideal.Launch
public import proofs.«01_k».proof.Proof.Gen.Kernel13Ideal.Skeleton
public import proofs.«01_k».proof.Proof.Gen.Kernel13
public import proofs.«01_k».proof.Proof.Gen.Kernel13.Launch
public import proofs.«01_k».proof.Proof.Gen.Kernel13.Skeleton
public import proofs.«01_k».proof.Proof.Gen.Kernel14Ideal
public import proofs.«01_k».proof.Proof.Gen.Kernel14Ideal.Launch
public import proofs.«01_k».proof.Proof.Gen.Kernel14Ideal.Skeleton
public import proofs.«01_k».proof.Proof.Gen.Kernel14
public import proofs.«01_k».proof.Proof.Gen.Kernel14.Launch
public import proofs.«01_k».proof.Proof.Gen.Kernel14.Skeleton
public import proofs.«01_k».proof.Proof.Gen.Reference13Ideal
public import proofs.«01_k».proof.Proof.Gen.Reference13Ideal.Run
public import proofs.«01_k».proof.Proof.Gen.Reference14Ideal
public import proofs.«01_k».proof.Proof.Gen.Reference14Ideal.Run
public import proofs.«01_k».proof.Proof.Gen.Kernel15Ideal
public import proofs.«01_k».proof.Proof.Gen.Kernel15Ideal.Launch
public import proofs.«01_k».proof.Proof.Gen.Kernel15Ideal.Skeleton
public import proofs.«01_k».proof.Proof.Gen.Kernel15
public import proofs.«01_k».proof.Proof.Gen.Kernel15.Launch
public import proofs.«01_k».proof.Proof.Gen.Kernel15.Skeleton
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Pre_finite.Gen.facts,
  Cert.Frames.cross, Cert.Frames.crossIdeal, Cert.Frames.crossIdealFinite, Cert.Frames.crossRef, Cert.Frames.crossRefFinite, Cert.Frames.dh, Cert.Frames.dhIdeal, Cert.Frames.dhRef,
  Cert.GradIn.frame, Cert.GradIn.frameIdeal, Cert.GradIn.frameRef, Cert.Out.frame, Cert.Out.frameIdeal, Cert.Out.frameRef,
  Cert.Dcat.frame, Cert.Dcat.frameIdeal, Cert.Dcat.frameRef,
  Cert.GradOut.Send.frame, Cert.GradOut.Send.frameIdeal, Cert.GradOut.Send.frameRef,
  Cert.GradOut.Keep.frame, Cert.GradOut.Keep.frameIdeal, Cert.GradOut.Keep.frameRef,
  Cert.GradIn.Keep0.frame, Cert.GradIn.Keep0.frameIdeal, Cert.GradIn.Keep0.frameRef,
  Cert.GradIn.Keep1.frame, Cert.GradIn.Keep1.frameIdeal, Cert.GradIn.Keep1.frameRef,
  Cert.Step.InputProj.frame, Cert.Step.InputProj.frameIdeal, Cert.Step.InputProj.frameRef,
  Cert.Step.Conv.frame, Cert.Step.Conv.frameIdeal, Cert.Step.Conv.frameRef,
  Cert.Step.Norms.frame, Cert.Step.Norms.frameIdeal, Cert.Step.Norms.frameRef,
  Cert.Proj.Near.frame, Cert.Proj.Near.frameIdeal, Cert.Proj.Near.frameRef,
  Cert.Proj.Far.frame, Cert.Proj.Far.frameIdeal, Cert.Proj.Far.frameRef,
  Cert.Proj.Own.frame, Cert.Proj.Own.frameIdeal, Cert.Proj.Own.frameRef,
  Cert.Norm.frame, Cert.Norm.frameIdeal, Cert.Norm.frameRef,
  trivial, Cert.Cross.value, trivial, Cert.Dh.value,
  trivial, Cert.GradIn.value, trivial, Cert.Out.value, trivial, Cert.Dcat.value,
  trivial, Cert.GradOut.Send.value, trivial, Cert.GradOut.Keep.value, trivial, Cert.GradIn.Keep0.value, trivial, Cert.GradIn.Keep1.value,
  trivial, Cert.Step.InputProj.value, trivial, Cert.Step.Conv.value, trivial, Cert.Step.Norms.value,
  trivial, Cert.Proj.Near.value, trivial, Cert.Proj.Far.value, trivial, Cert.Proj.Own.value, trivial, Cert.Norm.value⟩

end Cert.Proof

end
